-- ==== Defs.lean ====
def Pre_Pointwise1x1 (m : (ℓ : Loc Cert.Pointwise1x1.nD Cert.Pointwise1x1.τ Cert.Pointwise1x1.sig) → Buf (Elt Bits) ℓ) : Prop :=
  True

def Pre_Pointwise1x1Ideal (m : (ℓ : Loc Cert.Pointwise1x1Ideal.nD Cert.Pointwise1x1Ideal.τ Cert.Pointwise1x1Ideal.sig) → Buf (Elt Ideal) ℓ) : Prop :=
  True

def Pre_Pointwise1x1RefIdeal (m : (ℓ : Loc Cert.Pointwise1x1RefIdeal.nD Cert.Pointwise1x1RefIdeal.τ Cert.Pointwise1x1RefIdeal.sig) → Buf (Elt Ideal) ℓ) : Prop :=
  True

def Pre_Depthwise (m : (ℓ : Loc Cert.Depthwise.nD Cert.Depthwise.τ Cert.Depthwise.sig) → Buf (Elt Bits) ℓ) : Prop :=
  True

def Pre_DepthwiseIdeal (m : (ℓ : Loc Cert.DepthwiseIdeal.nD Cert.DepthwiseIdeal.τ Cert.DepthwiseIdeal.sig) → Buf (Elt Ideal) ℓ) : Prop :=
  True

def Pre_DepthwiseRefIdeal (m : (ℓ : Loc Cert.DepthwiseRefIdeal.nD Cert.DepthwiseRefIdeal.τ Cert.DepthwiseRefIdeal.sig) → Buf (Elt Ideal) ℓ) : Prop :=
  True

def Pre_Spatial (m : (ℓ : Loc Cert.Spatial.nD Cert.Spatial.τ Cert.Spatial.sig) → Buf (Elt Bits) ℓ) : Prop :=
  True

def Pre_SpatialIdeal (m : (ℓ : Loc Cert.SpatialIdeal.nD Cert.SpatialIdeal.τ Cert.SpatialIdeal.sig) → Buf (Elt Ideal) ℓ) : Prop :=
  True

def Pre_SpatialIdeal_finite3 [hPre_finite3 : Cert.Pre_finite3.Facts] (m : (ℓ : Loc Cert.SpatialIdeal.nD Cert.SpatialIdeal.τ Cert.SpatialIdeal.sig) → Buf (Elt Ideal) ℓ) : Prop :=
  ∀ c : Dev Cert.SpatialIdeal.nD,
    (Cert.Pre_finite3.fn (F := Ideal) (m ((c.tc : Thread Cert.SpatialIdeal.nD Cert.SpatialIdeal.τ).loc Cert.SpatialIdeal.main_arg0)) (m ((c.tc : Thread Cert.SpatialIdeal.nD Cert.SpatialIdeal.τ).loc Cert.SpatialIdeal.main_arg1)) (m ((c.tc : Thread Cert.SpatialIdeal.nD Cert.SpatialIdeal.τ).loc Cert.SpatialIdeal.main_arg2)) (m ((c.tc : Thread Cert.SpatialIdeal.nD Cert.SpatialIdeal.τ).loc Cert.SpatialIdeal.main_arg3)) (m ((c.tc : Thread Cert.SpatialIdeal.nD Cert.SpatialIdeal.τ).loc Cert.SpatialIdeal.main_arg4)) (m ((c.tc : Thread Cert.SpatialIdeal.nD Cert.SpatialIdeal.τ).loc Cert.SpatialIdeal.main_arg5)) (m ((c.tc : Thread Cert.SpatialIdeal.nD Cert.SpatialIdeal.τ).loc Cert.SpatialIdeal.main_arg6)) (m ((c.tc : Thread Cert.SpatialIdeal.nD Cert.SpatialIdeal.τ).loc Cert.SpatialIdeal.main_arg7))).1 = (fun _ => 1#1)
    ∧ (Cert.Pre_finite3.fn (F := Ideal) (m ((c.tc : Thread Cert.SpatialIdeal.nD Cert.SpatialIdeal.τ).loc Cert.SpatialIdeal.main_arg0)) (m ((c.tc : Thread Cert.SpatialIdeal.nD Cert.SpatialIdeal.τ).loc Cert.SpatialIdeal.main_arg1)) (m ((c.tc : Thread Cert.SpatialIdeal.nD Cert.SpatialIdeal.τ).loc Cert.SpatialIdeal.main_arg2)) (m ((c.tc : Thread Cert.SpatialIdeal.nD Cert.SpatialIdeal.τ).loc Cert.SpatialIdeal.main_arg3)) (m ((c.tc : Thread Cert.SpatialIdeal.nD Cert.SpatialIdeal.τ).loc Cert.SpatialIdeal.main_arg4)) (m ((c.tc : Thread Cert.SpatialIdeal.nD Cert.SpatialIdeal.τ).loc Cert.SpatialIdeal.main_arg5)) (m ((c.tc : Thread Cert.SpatialIdeal.nD Cert.SpatialIdeal.τ).loc Cert.SpatialIdeal.main_arg6)) (m ((c.tc : Thread Cert.SpatialIdeal.nD Cert.SpatialIdeal.τ).loc Cert.SpatialIdeal.main_arg7))).2.1 = (fun _ => 1#1)
    ∧ (Cert.Pre_finite3.fn (F := Ideal) (m ((c.tc : Thread Cert.SpatialIdeal.nD Cert.SpatialIdeal.τ).loc Cert.SpatialIdeal.main_arg0)) (m ((c.tc : Thread Cert.SpatialIdeal.nD Cert.SpatialIdeal.τ).loc Cert.SpatialIdeal.main_arg1)) (m ((c.tc : Thread Cert.SpatialIdeal.nD Cert.SpatialIdeal.τ).loc Cert.SpatialIdeal.main_arg2)) (m ((c.tc : Thread Cert.SpatialIdeal.nD Cert.SpatialIdeal.τ).loc Cert.SpatialIdeal.main_arg3)) (m ((c.tc : Thread Cert.SpatialIdeal.nD Cert.SpatialIdeal.τ).loc Cert.SpatialIdeal.main_arg4)) (m ((c.tc : Thread Cert.SpatialIdeal.nD Cert.SpatialIdeal.τ).loc Cert.SpatialIdeal.main_arg5)) (m ((c.tc : Thread Cert.SpatialIdeal.nD Cert.SpatialIdeal.τ).loc Cert.SpatialIdeal.main_arg6)) (m ((c.tc : Thread Cert.SpatialIdeal.nD Cert.SpatialIdeal.τ).loc Cert.SpatialIdeal.main_arg7))).2.2.1 = (fun _ => 1#1)
    ∧ (Cert.Pre_finite3.fn (F := Ideal) (m ((c.tc : Thread Cert.SpatialIdeal.nD Cert.SpatialIdeal.τ).loc Cert.SpatialIdeal.main_arg0)) (m ((c.tc : Thread Cert.SpatialIdeal.nD Cert.SpatialIdeal.τ).loc Cert.SpatialIdeal.main_arg1)) (m ((c.tc : Thread Cert.SpatialIdeal.nD Cert.SpatialIdeal.τ).loc Cert.SpatialIdeal.main_arg2)) (m ((c.tc : Thread Cert.SpatialIdeal.nD Cert.SpatialIdeal.τ).loc Cert.SpatialIdeal.main_arg3)) (m ((c.tc : Thread Cert.SpatialIdeal.nD Cert.SpatialIdeal.τ).loc Cert.SpatialIdeal.main_arg4)) (m ((c.tc : Thread Cert.SpatialIdeal.nD Cert.SpatialIdeal.τ).loc Cert.SpatialIdeal.main_arg5)) (m ((c.tc : Thread Cert.SpatialIdeal.nD Cert.SpatialIdeal.τ).loc Cert.SpatialIdeal.main_arg6)) (m ((c.tc : Thread Cert.SpatialIdeal.nD Cert.SpatialIdeal.τ).loc Cert.SpatialIdeal.main_arg7))).2.2.2.1 = (fun _ => 1#1)
    ∧ (Cert.Pre_finite3.fn (F := Ideal) (m ((c.tc : Thread Cert.SpatialIdeal.nD Cert.SpatialIdeal.τ).loc Cert.SpatialIdeal.main_arg0)) (m ((c.tc : Thread Cert.SpatialIdeal.nD Cert.SpatialIdeal.τ).loc Cert.SpatialIdeal.main_arg1)) (m ((c.tc : Thread Cert.SpatialIdeal.nD Cert.SpatialIdeal.τ).loc Cert.SpatialIdeal.main_arg2)) (m ((c.tc : Thread Cert.SpatialIdeal.nD Cert.SpatialIdeal.τ).loc Cert.SpatialIdeal.main_arg3)) (m ((c.tc : Thread Cert.SpatialIdeal.nD Cert.SpatialIdeal.τ).loc Cert.SpatialIdeal.main_arg4)) (m ((c.tc : Thread Cert.SpatialIdeal.nD Cert.SpatialIdeal.τ).loc Cert.SpatialIdeal.main_arg5)) (m ((c.tc : Thread Cert.SpatialIdeal.nD Cert.SpatialIdeal.τ).loc Cert.SpatialIdeal.main_arg6)) (m ((c.tc : Thread Cert.SpatialIdeal.nD Cert.SpatialIdeal.τ).loc Cert.SpatialIdeal.main_arg7))).2.2.2.2.1 = (fun _ => 1#1)
    ∧ (Cert.Pre_finite3.fn (F := Ideal) (m ((c.tc : Thread Cert.SpatialIdeal.nD Cert.SpatialIdeal.τ).loc Cert.SpatialIdeal.main_arg0)) (m ((c.tc : Thread Cert.SpatialIdeal.nD Cert.SpatialIdeal.τ).loc Cert.SpatialIdeal.main_arg1)) (m ((c.tc : Thread Cert.SpatialIdeal.nD Cert.SpatialIdeal.τ).loc Cert.SpatialIdeal.main_arg2)) (m ((c.tc : Thread Cert.SpatialIdeal.nD Cert.SpatialIdeal.τ).loc Cert.SpatialIdeal.main_arg3)) (m ((c.tc : Thread Cert.SpatialIdeal.nD Cert.SpatialIdeal.τ).loc Cert.SpatialIdeal.main_arg4)) (m ((c.tc : Thread Cert.SpatialIdeal.nD Cert.SpatialIdeal.τ).loc Cert.SpatialIdeal.main_arg5)) (m ((c.tc : Thread Cert.SpatialIdeal.nD Cert.SpatialIdeal.τ).loc Cert.SpatialIdeal.main_arg6)) (m ((c.tc : Thread Cert.SpatialIdeal.nD Cert.SpatialIdeal.τ).loc Cert.SpatialIdeal.main_arg7))).2.2.2.2.2 = (fun _ => 1#1)

def Pre_SpatialRefIdeal (m : (ℓ : Loc Cert.SpatialRefIdeal.nD Cert.SpatialRefIdeal.τ Cert.SpatialRefIdeal.sig) → Buf (Elt Ideal) ℓ) : Prop :=
  True

def Pre_SpatialRefIdeal_finite3 [hPre_finite3 : Cert.Pre_finite3.Facts] (m : (ℓ : Loc Cert.SpatialRefIdeal.nD Cert.SpatialRefIdeal.τ Cert.SpatialRefIdeal.sig) → Buf (Elt Ideal) ℓ) : Prop :=
  ∀ c : Dev Cert.SpatialRefIdeal.nD,
    (Cert.Pre_finite3.fn (F := Ideal) (m ((c.tc : Thread Cert.SpatialRefIdeal.nD Cert.SpatialRefIdeal.τ).loc Cert.SpatialRefIdeal.main_arg0)) (m ((c.tc : Thread Cert.SpatialRefIdeal.nD Cert.SpatialRefIdeal.τ).loc Cert.SpatialRefIdeal.main_arg1)) (m ((c.tc : Thread Cert.SpatialRefIdeal.nD Cert.SpatialRefIdeal.τ).loc Cert.SpatialRefIdeal.main_arg2)) (m ((c.tc : Thread Cert.SpatialRefIdeal.nD Cert.SpatialRefIdeal.τ).loc Cert.SpatialRefIdeal.main_arg3)) (m ((c.tc : Thread Cert.SpatialRefIdeal.nD Cert.SpatialRefIdeal.τ).loc Cert.SpatialRefIdeal.main_arg4)) (m ((c.tc : Thread Cert.SpatialRefIdeal.nD Cert.SpatialRefIdeal.τ).loc Cert.SpatialRefIdeal.main_arg5)) (m ((c.tc : Thread Cert.SpatialRefIdeal.nD Cert.SpatialRefIdeal.τ).loc Cert.SpatialRefIdeal.main_arg6)) (m ((c.tc : Thread Cert.SpatialRefIdeal.nD Cert.SpatialRefIdeal.τ).loc Cert.SpatialRefIdeal.main_arg7))).1 = (fun _ => 1#1)
    ∧ (Cert.Pre_finite3.fn (F := Ideal) (m ((c.tc : Thread Cert.SpatialRefIdeal.nD Cert.SpatialRefIdeal.τ).loc Cert.SpatialRefIdeal.main_arg0)) (m ((c.tc : Thread Cert.SpatialRefIdeal.nD Cert.SpatialRefIdeal.τ).loc Cert.SpatialRefIdeal.main_arg1)) (m ((c.tc : Thread Cert.SpatialRefIdeal.nD Cert.SpatialRefIdeal.τ).loc Cert.SpatialRefIdeal.main_arg2)) (m ((c.tc : Thread Cert.SpatialRefIdeal.nD Cert.SpatialRefIdeal.τ).loc Cert.SpatialRefIdeal.main_arg3)) (m ((c.tc : Thread Cert.SpatialRefIdeal.nD Cert.SpatialRefIdeal.τ).loc Cert.SpatialRefIdeal.main_arg4)) (m ((c.tc : Thread Cert.SpatialRefIdeal.nD Cert.SpatialRefIdeal.τ).loc Cert.SpatialRefIdeal.main_arg5)) (m ((c.tc : Thread Cert.SpatialRefIdeal.nD Cert.SpatialRefIdeal.τ).loc Cert.SpatialRefIdeal.main_arg6)) (m ((c.tc : Thread Cert.SpatialRefIdeal.nD Cert.SpatialRefIdeal.τ).loc Cert.SpatialRefIdeal.main_arg7))).2.1 = (fun _ => 1#1)
    ∧ (Cert.Pre_finite3.fn (F := Ideal) (m ((c.tc : Thread Cert.SpatialRefIdeal.nD Cert.SpatialRefIdeal.τ).loc Cert.SpatialRefIdeal.main_arg0)) (m ((c.tc : Thread Cert.SpatialRefIdeal.nD Cert.SpatialRefIdeal.τ).loc Cert.SpatialRefIdeal.main_arg1)) (m ((c.tc : Thread Cert.SpatialRefIdeal.nD Cert.SpatialRefIdeal.τ).loc Cert.SpatialRefIdeal.main_arg2)) (m ((c.tc : Thread Cert.SpatialRefIdeal.nD Cert.SpatialRefIdeal.τ).loc Cert.SpatialRefIdeal.main_arg3)) (m ((c.tc : Thread Cert.SpatialRefIdeal.nD Cert.SpatialRefIdeal.τ).loc Cert.SpatialRefIdeal.main_arg4)) (m ((c.tc : Thread Cert.SpatialRefIdeal.nD Cert.SpatialRefIdeal.τ).loc Cert.SpatialRefIdeal.main_arg5)) (m ((c.tc : Thread Cert.SpatialRefIdeal.nD Cert.SpatialRefIdeal.τ).loc Cert.SpatialRefIdeal.main_arg6)) (m ((c.tc : Thread Cert.SpatialRefIdeal.nD Cert.SpatialRefIdeal.τ).loc Cert.SpatialRefIdeal.main_arg7))).2.2.1 = (fun _ => 1#1)
    ∧ (Cert.Pre_finite3.fn (F := Ideal) (m ((c.tc : Thread Cert.SpatialRefIdeal.nD Cert.SpatialRefIdeal.τ).loc Cert.SpatialRefIdeal.main_arg0)) (m ((c.tc : Thread Cert.SpatialRefIdeal.nD Cert.SpatialRefIdeal.τ).loc Cert.SpatialRefIdeal.main_arg1)) (m ((c.tc : Thread Cert.SpatialRefIdeal.nD Cert.SpatialRefIdeal.τ).loc Cert.SpatialRefIdeal.main_arg2)) (m ((c.tc : Thread Cert.SpatialRefIdeal.nD Cert.SpatialRefIdeal.τ).loc Cert.SpatialRefIdeal.main_arg3)) (m ((c.tc : Thread Cert.SpatialRefIdeal.nD Cert.SpatialRefIdeal.τ).loc Cert.SpatialRefIdeal.main_arg4)) (m ((c.tc : Thread Cert.SpatialRefIdeal.nD Cert.SpatialRefIdeal.τ).loc Cert.SpatialRefIdeal.main_arg5)) (m ((c.tc : Thread Cert.SpatialRefIdeal.nD Cert.SpatialRefIdeal.τ).loc Cert.SpatialRefIdeal.main_arg6)) (m ((c.tc : Thread Cert.SpatialRefIdeal.nD Cert.SpatialRefIdeal.τ).loc Cert.SpatialRefIdeal.main_arg7))).2.2.2.1 = (fun _ => 1#1)
    ∧ (Cert.Pre_finite3.fn (F := Ideal) (m ((c.tc : Thread Cert.SpatialRefIdeal.nD Cert.SpatialRefIdeal.τ).loc Cert.SpatialRefIdeal.main_arg0)) (m ((c.tc : Thread Cert.SpatialRefIdeal.nD Cert.SpatialRefIdeal.τ).loc Cert.SpatialRefIdeal.main_arg1)) (m ((c.tc : Thread Cert.SpatialRefIdeal.nD Cert.SpatialRefIdeal.τ).loc Cert.SpatialRefIdeal.main_arg2)) (m ((c.tc : Thread Cert.SpatialRefIdeal.nD Cert.SpatialRefIdeal.τ).loc Cert.SpatialRefIdeal.main_arg3)) (m ((c.tc : Thread Cert.SpatialRefIdeal.nD Cert.SpatialRefIdeal.τ).loc Cert.SpatialRefIdeal.main_arg4)) (m ((c.tc : Thread Cert.SpatialRefIdeal.nD Cert.SpatialRefIdeal.τ).loc Cert.SpatialRefIdeal.main_arg5)) (m ((c.tc : Thread Cert.SpatialRefIdeal.nD Cert.SpatialRefIdeal.τ).loc Cert.SpatialRefIdeal.main_arg6)) (m ((c.tc : Thread Cert.SpatialRefIdeal.nD Cert.SpatialRefIdeal.τ).loc Cert.SpatialRefIdeal.main_arg7))).2.2.2.2.1 = (fun _ => 1#1)
    ∧ (Cert.Pre_finite3.fn (F := Ideal) (m ((c.tc : Thread Cert.SpatialRefIdeal.nD Cert.SpatialRefIdeal.τ).loc Cert.SpatialRefIdeal.main_arg0)) (m ((c.tc : Thread Cert.SpatialRefIdeal.nD Cert.SpatialRefIdeal.τ).loc Cert.SpatialRefIdeal.main_arg1)) (m ((c.tc : Thread Cert.SpatialRefIdeal.nD Cert.SpatialRefIdeal.τ).loc Cert.SpatialRefIdeal.main_arg2)) (m ((c.tc : Thread Cert.SpatialRefIdeal.nD Cert.SpatialRefIdeal.τ).loc Cert.SpatialRefIdeal.main_arg3)) (m ((c.tc : Thread Cert.SpatialRefIdeal.nD Cert.SpatialRefIdeal.τ).loc Cert.SpatialRefIdeal.main_arg4)) (m ((c.tc : Thread Cert.SpatialRefIdeal.nD Cert.SpatialRefIdeal.τ).loc Cert.SpatialRefIdeal.main_arg5)) (m ((c.tc : Thread Cert.SpatialRefIdeal.nD Cert.SpatialRefIdeal.τ).loc Cert.SpatialRefIdeal.main_arg6)) (m ((c.tc : Thread Cert.SpatialRefIdeal.nD Cert.SpatialRefIdeal.τ).loc Cert.SpatialRefIdeal.main_arg7))).2.2.2.2.2 = (fun _ => 1#1)

def Pre_Channel (m : (ℓ : Loc Cert.Channel.nD Cert.Channel.τ Cert.Channel.sig) → Buf (Elt Bits) ℓ) : Prop :=
  True

def Pre_ChannelIdeal (m : (ℓ : Loc Cert.ChannelIdeal.nD Cert.ChannelIdeal.τ Cert.ChannelIdeal.sig) → Buf (Elt Ideal) ℓ) : Prop :=
  True

def Pre_ChannelIdeal_finite4 [hPre_finite4 : Cert.Pre_finite4.Facts] (m : (ℓ : Loc Cert.ChannelIdeal.nD Cert.ChannelIdeal.τ Cert.ChannelIdeal.sig) → Buf (Elt Ideal) ℓ) : Prop :=
  ∀ c : Dev Cert.ChannelIdeal.nD,
    (Cert.Pre_finite4.fn (F := Ideal) (m ((c.tc : Thread Cert.ChannelIdeal.nD Cert.ChannelIdeal.τ).loc Cert.ChannelIdeal.main_arg0)) (m ((c.tc : Thread Cert.ChannelIdeal.nD Cert.ChannelIdeal.τ).loc Cert.ChannelIdeal.main_arg1)) (m ((c.tc : Thread Cert.ChannelIdeal.nD Cert.ChannelIdeal.τ).loc Cert.ChannelIdeal.main_arg2)) (m ((c.tc : Thread Cert.ChannelIdeal.nD Cert.ChannelIdeal.τ).loc Cert.ChannelIdeal.main_arg3)) (m ((c.tc : Thread Cert.ChannelIdeal.nD Cert.ChannelIdeal.τ).loc Cert.ChannelIdeal.main_arg4)) (m ((c.tc : Thread Cert.ChannelIdeal.nD Cert.ChannelIdeal.τ).loc Cert.ChannelIdeal.main_arg5)) (m ((c.tc : Thread Cert.ChannelIdeal.nD Cert.ChannelIdeal.τ).loc Cert.ChannelIdeal.main_arg6)) (m ((c.tc : Thread Cert.ChannelIdeal.nD Cert.ChannelIdeal.τ).loc Cert.ChannelIdeal.main_arg7)) (m ((c.tc : Thread Cert.ChannelIdeal.nD Cert.ChannelIdeal.τ).loc Cert.ChannelIdeal.main_arg8))).1 = (fun _ => 1#1)
    ∧ (Cert.Pre_finite4.fn (F := Ideal) (m ((c.tc : Thread Cert.ChannelIdeal.nD Cert.ChannelIdeal.τ).loc Cert.ChannelIdeal.main_arg0)) (m ((c.tc : Thread Cert.ChannelIdeal.nD Cert.ChannelIdeal.τ).loc Cert.ChannelIdeal.main_arg1)) (m ((c.tc : Thread Cert.ChannelIdeal.nD Cert.ChannelIdeal.τ).loc Cert.ChannelIdeal.main_arg2)) (m ((c.tc : Thread Cert.ChannelIdeal.nD Cert.ChannelIdeal.τ).loc Cert.ChannelIdeal.main_arg3)) (m ((c.tc : Thread Cert.ChannelIdeal.nD Cert.ChannelIdeal.τ).loc Cert.ChannelIdeal.main_arg4)) (m ((c.tc : Thread Cert.ChannelIdeal.nD Cert.ChannelIdeal.τ).loc Cert.ChannelIdeal.main_arg5)) (m ((c.tc : Thread Cert.ChannelIdeal.nD Cert.ChannelIdeal.τ).loc Cert.ChannelIdeal.main_arg6)) (m ((c.tc : Thread Cert.ChannelIdeal.nD Cert.ChannelIdeal.τ).loc Cert.ChannelIdeal.main_arg7)) (m ((c.tc : Thread Cert.ChannelIdeal.nD Cert.ChannelIdeal.τ).loc Cert.ChannelIdeal.main_arg8))).2.1 = (fun _ => 1#1)
    ∧ (Cert.Pre_finite4.fn (F := Ideal) (m ((c.tc : Thread Cert.ChannelIdeal.nD Cert.ChannelIdeal.τ).loc Cert.ChannelIdeal.main_arg0)) (m ((c.tc : Thread Cert.ChannelIdeal.nD Cert.ChannelIdeal.τ).loc Cert.ChannelIdeal.main_arg1)) (m ((c.tc : Thread Cert.ChannelIdeal.nD Cert.ChannelIdeal.τ).loc Cert.ChannelIdeal.main_arg2)) (m ((c.tc : Thread Cert.ChannelIdeal.nD Cert.ChannelIdeal.τ).loc Cert.ChannelIdeal.main_arg3)) (m ((c.tc : Thread Cert.ChannelIdeal.nD Cert.ChannelIdeal.τ).loc Cert.ChannelIdeal.main_arg4)) (m ((c.tc : Thread Cert.ChannelIdeal.nD Cert.ChannelIdeal.τ).loc Cert.ChannelIdeal.main_arg5)) (m ((c.tc : Thread Cert.ChannelIdeal.nD Cert.ChannelIdeal.τ).loc Cert.ChannelIdeal.main_arg6)) (m ((c.tc : Thread Cert.ChannelIdeal.nD Cert.ChannelIdeal.τ).loc Cert.ChannelIdeal.main_arg7)) (m ((c.tc : Thread Cert.ChannelIdeal.nD Cert.ChannelIdeal.τ).loc Cert.ChannelIdeal.main_arg8))).2.2 = (fun _ => 1#1)

def Pre_ChannelRefIdeal (m : (ℓ : Loc Cert.ChannelRefIdeal.nD Cert.ChannelRefIdeal.τ Cert.ChannelRefIdeal.sig) → Buf (Elt Ideal) ℓ) : Prop :=
  True

def Pre_ChannelRefIdeal_finite4 [hPre_finite4 : Cert.Pre_finite4.Facts] (m : (ℓ : Loc Cert.ChannelRefIdeal.nD Cert.ChannelRefIdeal.τ Cert.ChannelRefIdeal.sig) → Buf (Elt Ideal) ℓ) : Prop :=
  ∀ c : Dev Cert.ChannelRefIdeal.nD,
    (Cert.Pre_finite4.fn (F := Ideal) (m ((c.tc : Thread Cert.ChannelRefIdeal.nD Cert.ChannelRefIdeal.τ).loc Cert.ChannelRefIdeal.main_arg0)) (m ((c.tc : Thread Cert.ChannelRefIdeal.nD Cert.ChannelRefIdeal.τ).loc Cert.ChannelRefIdeal.main_arg1)) (m ((c.tc : Thread Cert.ChannelRefIdeal.nD Cert.ChannelRefIdeal.τ).loc Cert.ChannelRefIdeal.main_arg2)) (m ((c.tc : Thread Cert.ChannelRefIdeal.nD Cert.ChannelRefIdeal.τ).loc Cert.ChannelRefIdeal.main_arg3)) (m ((c.tc : Thread Cert.ChannelRefIdeal.nD Cert.ChannelRefIdeal.τ).loc Cert.ChannelRefIdeal.main_arg4)) (m ((c.tc : Thread Cert.ChannelRefIdeal.nD Cert.ChannelRefIdeal.τ).loc Cert.ChannelRefIdeal.main_arg5)) (m ((c.tc : Thread Cert.ChannelRefIdeal.nD Cert.ChannelRefIdeal.τ).loc Cert.ChannelRefIdeal.main_arg6)) (m ((c.tc : Thread Cert.ChannelRefIdeal.nD Cert.ChannelRefIdeal.τ).loc Cert.ChannelRefIdeal.main_arg7)) (m ((c.tc : Thread Cert.ChannelRefIdeal.nD Cert.ChannelRefIdeal.τ).loc Cert.ChannelRefIdeal.main_arg8))).1 = (fun _ => 1#1)
    ∧ (Cert.Pre_finite4.fn (F := Ideal) (m ((c.tc : Thread Cert.ChannelRefIdeal.nD Cert.ChannelRefIdeal.τ).loc Cert.ChannelRefIdeal.main_arg0)) (m ((c.tc : Thread Cert.ChannelRefIdeal.nD Cert.ChannelRefIdeal.τ).loc Cert.ChannelRefIdeal.main_arg1)) (m ((c.tc : Thread Cert.ChannelRefIdeal.nD Cert.ChannelRefIdeal.τ).loc Cert.ChannelRefIdeal.main_arg2)) (m ((c.tc : Thread Cert.ChannelRefIdeal.nD Cert.ChannelRefIdeal.τ).loc Cert.ChannelRefIdeal.main_arg3)) (m ((c.tc : Thread Cert.ChannelRefIdeal.nD Cert.ChannelRefIdeal.τ).loc Cert.ChannelRefIdeal.main_arg4)) (m ((c.tc : Thread Cert.ChannelRefIdeal.nD Cert.ChannelRefIdeal.τ).loc Cert.ChannelRefIdeal.main_arg5)) (m ((c.tc : Thread Cert.ChannelRefIdeal.nD Cert.ChannelRefIdeal.τ).loc Cert.ChannelRefIdeal.main_arg6)) (m ((c.tc : Thread Cert.ChannelRefIdeal.nD Cert.ChannelRefIdeal.τ).loc Cert.ChannelRefIdeal.main_arg7)) (m ((c.tc : Thread Cert.ChannelRefIdeal.nD Cert.ChannelRefIdeal.τ).loc Cert.ChannelRefIdeal.main_arg8))).2.1 = (fun _ => 1#1)
    ∧ (Cert.Pre_finite4.fn (F := Ideal) (m ((c.tc : Thread Cert.ChannelRefIdeal.nD Cert.ChannelRefIdeal.τ).loc Cert.ChannelRefIdeal.main_arg0)) (m ((c.tc : Thread Cert.ChannelRefIdeal.nD Cert.ChannelRefIdeal.τ).loc Cert.ChannelRefIdeal.main_arg1)) (m ((c.tc : Thread Cert.ChannelRefIdeal.nD Cert.ChannelRefIdeal.τ).loc Cert.ChannelRefIdeal.main_arg2)) (m ((c.tc : Thread Cert.ChannelRefIdeal.nD Cert.ChannelRefIdeal.τ).loc Cert.ChannelRefIdeal.main_arg3)) (m ((c.tc : Thread Cert.ChannelRefIdeal.nD Cert.ChannelRefIdeal.τ).loc Cert.ChannelRefIdeal.main_arg4)) (m ((c.tc : Thread Cert.ChannelRefIdeal.nD Cert.ChannelRefIdeal.τ).loc Cert.ChannelRefIdeal.main_arg5)) (m ((c.tc : Thread Cert.ChannelRefIdeal.nD Cert.ChannelRefIdeal.τ).loc Cert.ChannelRefIdeal.main_arg6)) (m ((c.tc : Thread Cert.ChannelRefIdeal.nD Cert.ChannelRefIdeal.τ).loc Cert.ChannelRefIdeal.main_arg7)) (m ((c.tc : Thread Cert.ChannelRefIdeal.nD Cert.ChannelRefIdeal.τ).loc Cert.ChannelRefIdeal.main_arg8))).2.2 = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def quiescent_Pointwise1x1 [hPointwise1x1 : Cert.Pointwise1x1.Facts] : Prop :=
  ∀ (m : (ℓ : Loc Cert.Pointwise1x1.nD Cert.Pointwise1x1.τ Cert.Pointwise1x1.sig) → Buf (Elt Bits) ℓ) (g : Dev Cert.Pointwise1x1.nD → PrngReg), Pre_Pointwise1x1 m →
    θ_run (Cert.Pointwise1x1.defs (F := Bits)) (onTc (τ := Cert.Pointwise1x1.τ) (Cert.Pointwise1x1.main (F := Bits))) ⟨m, fun _ => 0, g⟩ (fun r => (∀ c : Dev Cert.Pointwise1x1.nD,
      r.2.mem ((c.tc : Thread Cert.Pointwise1x1.nD Cert.Pointwise1x1.τ).loc Cert.Pointwise1x1.main_arg0) = m ((c.tc : Thread Cert.Pointwise1x1.nD Cert.Pointwise1x1.τ).loc Cert.Pointwise1x1.main_arg0)
      ∧ r.2.mem ((c.tc : Thread Cert.Pointwise1x1.nD Cert.Pointwise1x1.τ).loc Cert.Pointwise1x1.main_arg1) = m ((c.tc : Thread Cert.Pointwise1x1.nD Cert.Pointwise1x1.τ).loc Cert.Pointwise1x1.main_arg1))
      ∧ r.2.sem = fun _ => 0)

def quiescent_Pointwise1x1Ideal [hPointwise1x1Ideal : Cert.Pointwise1x1Ideal.Facts] : Prop :=
  ∀ (m : (ℓ : Loc Cert.Pointwise1x1Ideal.nD Cert.Pointwise1x1Ideal.τ Cert.Pointwise1x1Ideal.sig) → Buf (Elt Ideal) ℓ) (g : Dev Cert.Pointwise1x1Ideal.nD → PrngReg), Pre_Pointwise1x1Ideal m →
    θ_run (Cert.Pointwise1x1Ideal.defs (F := Ideal)) (onTc (τ := Cert.Pointwise1x1Ideal.τ) (Cert.Pointwise1x1Ideal.main (F := Ideal))) ⟨m, fun _ => 0, g⟩ (fun r => (∀ c : Dev Cert.Pointwise1x1Ideal.nD,
      r.2.mem ((c.tc : Thread Cert.Pointwise1x1Ideal.nD Cert.Pointwise1x1Ideal.τ).loc Cert.Pointwise1x1Ideal.main_arg0) = m ((c.tc : Thread Cert.Pointwise1x1Ideal.nD Cert.Pointwise1x1Ideal.τ).loc Cert.Pointwise1x1Ideal.main_arg0)
      ∧ r.2.mem ((c.tc : Thread Cert.Pointwise1x1Ideal.nD Cert.Pointwise1x1Ideal.τ).loc Cert.Pointwise1x1Ideal.main_arg1) = m ((c.tc : Thread Cert.Pointwise1x1Ideal.nD Cert.Pointwise1x1Ideal.τ).loc Cert.Pointwise1x1Ideal.main_arg1))
      ∧ r.2.sem = fun _ => 0)

def quiescent_Pointwise1x1RefIdeal [hPointwise1x1RefIdeal : Cert.Pointwise1x1RefIdeal.Facts] : Prop :=
  ∀ (m : (ℓ : Loc Cert.Pointwise1x1RefIdeal.nD Cert.Pointwise1x1RefIdeal.τ Cert.Pointwise1x1RefIdeal.sig) → Buf (Elt Ideal) ℓ) (g : Dev Cert.Pointwise1x1RefIdeal.nD → PrngReg), Pre_Pointwise1x1RefIdeal m →
    θ_run (Cert.Pointwise1x1RefIdeal.defs (F := Ideal)) (onTc (τ := Cert.Pointwise1x1RefIdeal.τ) (Cert.Pointwise1x1RefIdeal.main (F := Ideal))) ⟨m, fun _ => 0, g⟩ (fun r => (∀ c : Dev Cert.Pointwise1x1RefIdeal.nD,
      r.2.mem ((c.tc : Thread Cert.Pointwise1x1RefIdeal.nD Cert.Pointwise1x1RefIdeal.τ).loc Cert.Pointwise1x1RefIdeal.main_arg0) = m ((c.tc : Thread Cert.Pointwise1x1RefIdeal.nD Cert.Pointwise1x1RefIdeal.τ).loc Cert.Pointwise1x1RefIdeal.main_arg0)
      ∧ r.2.mem ((c.tc : Thread Cert.Pointwise1x1RefIdeal.nD Cert.Pointwise1x1RefIdeal.τ).loc Cert.Pointwise1x1RefIdeal.main_arg1) = m ((c.tc : Thread Cert.Pointwise1x1RefIdeal.nD Cert.Pointwise1x1RefIdeal.τ).loc Cert.Pointwise1x1RefIdeal.main_arg1))
      ∧ r.2.sem = fun _ => 0)

def quiescent_Depthwise [hDepthwise : Cert.Depthwise.Facts] : Prop :=
  ∀ (m : (ℓ : Loc Cert.Depthwise.nD Cert.Depthwise.τ Cert.Depthwise.sig) → Buf (Elt Bits) ℓ) (g : Dev Cert.Depthwise.nD → PrngReg), Pre_Depthwise m →
    θ_run (Cert.Depthwise.defs (F := Bits)) (onTc (τ := Cert.Depthwise.τ) (Cert.Depthwise.main (F := Bits))) ⟨m, fun _ => 0, g⟩ (fun r => (∀ c : Dev Cert.Depthwise.nD,
      r.2.mem ((c.tc : Thread Cert.Depthwise.nD Cert.Depthwise.τ).loc Cert.Depthwise.main_arg0) = m ((c.tc : Thread Cert.Depthwise.nD Cert.Depthwise.τ).loc Cert.Depthwise.main_arg0)
      ∧ r.2.mem ((c.tc : Thread Cert.Depthwise.nD Cert.Depthwise.τ).loc Cert.Depthwise.main_arg1) = m ((c.tc : Thread Cert.Depthwise.nD Cert.Depthwise.τ).loc Cert.Depthwise.main_arg1))
      ∧ r.2.sem = fun _ => 0)

def quiescent_DepthwiseIdeal [hDepthwiseIdeal : Cert.DepthwiseIdeal.Facts] : Prop :=
  ∀ (m : (ℓ : Loc Cert.DepthwiseIdeal.nD Cert.DepthwiseIdeal.τ Cert.DepthwiseIdeal.sig) → Buf (Elt Ideal) ℓ) (g : Dev Cert.DepthwiseIdeal.nD → PrngReg), Pre_DepthwiseIdeal m →
    θ_run (Cert.DepthwiseIdeal.defs (F := Ideal)) (onTc (τ := Cert.DepthwiseIdeal.τ) (Cert.DepthwiseIdeal.main (F := Ideal))) ⟨m, fun _ => 0, g⟩ (fun r => (∀ c : Dev Cert.DepthwiseIdeal.nD,
      r.2.mem ((c.tc : Thread Cert.DepthwiseIdeal.nD Cert.DepthwiseIdeal.τ).loc Cert.DepthwiseIdeal.main_arg0) = m ((c.tc : Thread Cert.DepthwiseIdeal.nD Cert.DepthwiseIdeal.τ).loc Cert.DepthwiseIdeal.main_arg0)
      ∧ r.2.mem ((c.tc : Thread Cert.DepthwiseIdeal.nD Cert.DepthwiseIdeal.τ).loc Cert.DepthwiseIdeal.main_arg1) = m ((c.tc : Thread Cert.DepthwiseIdeal.nD Cert.DepthwiseIdeal.τ).loc Cert.DepthwiseIdeal.main_arg1))
      ∧ r.2.sem = fun _ => 0)

def quiescent_DepthwiseRefIdeal [hDepthwiseRefIdeal : Cert.DepthwiseRefIdeal.Facts] : Prop :=
  ∀ (m : (ℓ : Loc Cert.DepthwiseRefIdeal.nD Cert.DepthwiseRefIdeal.τ Cert.DepthwiseRefIdeal.sig) → Buf (Elt Ideal) ℓ) (g : Dev Cert.DepthwiseRefIdeal.nD → PrngReg), Pre_DepthwiseRefIdeal m →
    θ_run (Cert.DepthwiseRefIdeal.defs (F := Ideal)) (onTc (τ := Cert.DepthwiseRefIdeal.τ) (Cert.DepthwiseRefIdeal.main (F := Ideal))) ⟨m, fun _ => 0, g⟩ (fun r => (∀ c : Dev Cert.DepthwiseRefIdeal.nD,
      r.2.mem ((c.tc : Thread Cert.DepthwiseRefIdeal.nD Cert.DepthwiseRefIdeal.τ).loc Cert.DepthwiseRefIdeal.main_arg0) = m ((c.tc : Thread Cert.DepthwiseRefIdeal.nD Cert.DepthwiseRefIdeal.τ).loc Cert.DepthwiseRefIdeal.main_arg0)
      ∧ r.2.mem ((c.tc : Thread Cert.DepthwiseRefIdeal.nD Cert.DepthwiseRefIdeal.τ).loc Cert.DepthwiseRefIdeal.main_arg1) = m ((c.tc : Thread Cert.DepthwiseRefIdeal.nD Cert.DepthwiseRefIdeal.τ).loc Cert.DepthwiseRefIdeal.main_arg1))
      ∧ r.2.sem = fun _ => 0)

def quiescent_Spatial [hSpatial : Cert.Spatial.Facts] : Prop :=
  ∀ (m : (ℓ : Loc Cert.Spatial.nD Cert.Spatial.τ Cert.Spatial.sig) → Buf (Elt Bits) ℓ) (g : Dev Cert.Spatial.nD → PrngReg), Pre_Spatial m →
    θ_run (Cert.Spatial.defs (F := Bits)) (onTc (τ := Cert.Spatial.τ) (Cert.Spatial.main (F := Bits))) ⟨m, fun _ => 0, g⟩ (fun r => (∀ c : Dev Cert.Spatial.nD,
      r.2.mem ((c.tc : Thread Cert.Spatial.nD Cert.Spatial.τ).loc Cert.Spatial.main_arg0) = m ((c.tc : Thread Cert.Spatial.nD Cert.Spatial.τ).loc Cert.Spatial.main_arg0)
      ∧ r.2.mem ((c.tc : Thread Cert.Spatial.nD Cert.Spatial.τ).loc Cert.Spatial.main_arg1) = m ((c.tc : Thread Cert.Spatial.nD Cert.Spatial.τ).loc Cert.Spatial.main_arg1)
      ∧ r.2.mem ((c.tc : Thread Cert.Spatial.nD Cert.Spatial.τ).loc Cert.Spatial.main_arg2) = m ((c.tc : Thread Cert.Spatial.nD Cert.Spatial.τ).loc Cert.Spatial.main_arg2)
      ∧ r.2.mem ((c.tc : Thread Cert.Spatial.nD Cert.Spatial.τ).loc Cert.Spatial.main_arg3) = m ((c.tc : Thread Cert.Spatial.nD Cert.Spatial.τ).loc Cert.Spatial.main_arg3)
      ∧ r.2.mem ((c.tc : Thread Cert.Spatial.nD Cert.Spatial.τ).loc Cert.Spatial.main_arg4) = m ((c.tc : Thread Cert.Spatial.nD Cert.Spatial.τ).loc Cert.Spatial.main_arg4)
      ∧ r.2.mem ((c.tc : Thread Cert.Spatial.nD Cert.Spatial.τ).loc Cert.Spatial.main_arg5) = m ((c.tc : Thread Cert.Spatial.nD Cert.Spatial.τ).loc Cert.Spatial.main_arg5)
      ∧ r.2.mem ((c.tc : Thread Cert.Spatial.nD Cert.Spatial.τ).loc Cert.Spatial.main_arg6) = m ((c.tc : Thread Cert.Spatial.nD Cert.Spatial.τ).loc Cert.Spatial.main_arg6)
      ∧ r.2.mem ((c.tc : Thread Cert.Spatial.nD Cert.Spatial.τ).loc Cert.Spatial.main_arg7) = m ((c.tc : Thread Cert.Spatial.nD Cert.Spatial.τ).loc Cert.Spatial.main_arg7))
      ∧ r.2.sem = fun _ => 0)

def quiescent_SpatialIdeal [hSpatialIdeal : Cert.SpatialIdeal.Facts] : Prop :=
  ∀ (m : (ℓ : Loc Cert.SpatialIdeal.nD Cert.SpatialIdeal.τ Cert.SpatialIdeal.sig) → Buf (Elt Ideal) ℓ) (g : Dev Cert.SpatialIdeal.nD → PrngReg), Pre_SpatialIdeal m →
    θ_run (Cert.SpatialIdeal.defs (F := Ideal)) (onTc (τ := Cert.SpatialIdeal.τ) (Cert.SpatialIdeal.main (F := Ideal))) ⟨m, fun _ => 0, g⟩ (fun r => (∀ c : Dev Cert.SpatialIdeal.nD,
      r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
      ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
      ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
      ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3)
      ∧ r.2.mem ((c.tc : Thread Cert.SpatialIdeal.nD Cert.SpatialIdeal.τ).loc Cert.SpatialIdeal.main_arg4) = m ((c.tc : Thread Cert.SpatialIdeal.nD Cert.SpatialIdeal.τ).loc Cert.SpatialIdeal.main_arg4)
      ∧ r.2.mem ((c.tc : Thread Cert.SpatialIdeal.nD Cert.SpatialIdeal.τ).loc Cert.SpatialIdeal.main_arg5) = m ((c.tc : Thread Cert.SpatialIdeal.nD Cert.SpatialIdeal.τ).loc Cert.SpatialIdeal.main_arg5)
      ∧ r.2.mem ((c.tc : Thread Cert.SpatialIdeal.nD Cert.SpatialIdeal.τ).loc Cert.SpatialIdeal.main_arg6) = m ((c.tc : Thread Cert.SpatialIdeal.nD Cert.SpatialIdeal.τ).loc Cert.SpatialIdeal.main_arg6)
      ∧ r.2.mem ((c.tc : Thread Cert.SpatialIdeal.nD Cert.SpatialIdeal.τ).loc Cert.SpatialIdeal.main_arg7) = m ((c.tc : Thread Cert.SpatialIdeal.nD Cert.SpatialIdeal.τ).loc Cert.SpatialIdeal.main_arg7))
      ∧ r.2.sem = fun _ => 0)

def quiescent_SpatialIdeal_pre_finite3 [hSpatialIdeal : Cert.SpatialIdeal.Facts] [hPre_finite3 : Cert.Pre_finite3.Facts] : Prop :=
  ∀ (m : (ℓ : Loc Cert.SpatialIdeal.nD Cert.SpatialIdeal.τ Cert.SpatialIdeal.sig) → Buf (Elt Ideal) ℓ) (g : Dev Cert.SpatialIdeal.nD → PrngReg), Pre_SpatialIdeal_finite3 m →
    θ_run (Cert.SpatialIdeal.defs (F := Ideal)) (onTc (τ := Cert.SpatialIdeal.τ) (Cert.SpatialIdeal.main (F := Ideal))) ⟨m, fun _ => 0, g⟩ (fun r => (∀ c : Dev Cert.SpatialIdeal.nD,
      r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
      ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
      ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
      ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3)
      ∧ r.2.mem ((c.tc : Thread Cert.SpatialIdeal.nD Cert.SpatialIdeal.τ).loc Cert.SpatialIdeal.main_arg4) = m ((c.tc : Thread Cert.SpatialIdeal.nD Cert.SpatialIdeal.τ).loc Cert.SpatialIdeal.main_arg4)
      ∧ r.2.mem ((c.tc : Thread Cert.SpatialIdeal.nD Cert.SpatialIdeal.τ).loc Cert.SpatialIdeal.main_arg5) = m ((c.tc : Thread Cert.SpatialIdeal.nD Cert.SpatialIdeal.τ).loc Cert.SpatialIdeal.main_arg5)
      ∧ r.2.mem ((c.tc : Thread Cert.SpatialIdeal.nD Cert.SpatialIdeal.τ).loc Cert.SpatialIdeal.main_arg6) = m ((c.tc : Thread Cert.SpatialIdeal.nD Cert.SpatialIdeal.τ).loc Cert.SpatialIdeal.main_arg6)
      ∧ r.2.mem ((c.tc : Thread Cert.SpatialIdeal.nD Cert.SpatialIdeal.τ).loc Cert.SpatialIdeal.main_arg7) = m ((c.tc : Thread Cert.SpatialIdeal.nD Cert.SpatialIdeal.τ).loc Cert.SpatialIdeal.main_arg7))
      ∧ r.2.sem = fun _ => 0)

def quiescent_SpatialRefIdeal [hSpatialRefIdeal : Cert.SpatialRefIdeal.Facts] : Prop :=
  ∀ (m : (ℓ : Loc Cert.SpatialRefIdeal.nD Cert.SpatialRefIdeal.τ Cert.SpatialRefIdeal.sig) → Buf (Elt Ideal) ℓ) (g : Dev Cert.SpatialRefIdeal.nD → PrngReg), Pre_SpatialRefIdeal m →
    θ_run (Cert.SpatialRefIdeal.defs (F := Ideal)) (onTc (τ := Cert.SpatialRefIdeal.τ) (Cert.SpatialRefIdeal.main (F := Ideal))) ⟨m, fun _ => 0, g⟩ (fun r => (∀ c : Dev Cert.SpatialRefIdeal.nD,
      r.2.mem ((c.tc : Thread Cert.SpatialRefIdeal.nD Cert.SpatialRefIdeal.τ).loc Cert.SpatialRefIdeal.main_arg0) = m ((c.tc : Thread Cert.SpatialRefIdeal.nD Cert.SpatialRefIdeal.τ).loc Cert.SpatialRefIdeal.main_arg0)
      ∧ r.2.mem ((c.tc : Thread Cert.SpatialRefIdeal.nD Cert.SpatialRefIdeal.τ).loc Cert.SpatialRefIdeal.main_arg1) = m ((c.tc : Thread Cert.SpatialRefIdeal.nD Cert.SpatialRefIdeal.τ).loc Cert.SpatialRefIdeal.main_arg1)
      ∧ r.2.mem ((c.tc : Thread Cert.SpatialRefIdeal.nD Cert.SpatialRefIdeal.τ).loc Cert.SpatialRefIdeal.main_arg2) = m ((c.tc : Thread Cert.SpatialRefIdeal.nD Cert.SpatialRefIdeal.τ).loc Cert.SpatialRefIdeal.main_arg2)
      ∧ r.2.mem ((c.tc : Thread Cert.SpatialRefIdeal.nD Cert.SpatialRefIdeal.τ).loc Cert.SpatialRefIdeal.main_arg3) = m ((c.tc : Thread Cert.SpatialRefIdeal.nD Cert.SpatialRefIdeal.τ).loc Cert.SpatialRefIdeal.main_arg3)
      ∧ r.2.mem ((c.tc : Thread Cert.SpatialRefIdeal.nD Cert.SpatialRefIdeal.τ).loc Cert.SpatialRefIdeal.main_arg4) = m ((c.tc : Thread Cert.SpatialRefIdeal.nD Cert.SpatialRefIdeal.τ).loc Cert.SpatialRefIdeal.main_arg4)
      ∧ r.2.mem ((c.tc : Thread Cert.SpatialRefIdeal.nD Cert.SpatialRefIdeal.τ).loc Cert.SpatialRefIdeal.main_arg5) = m ((c.tc : Thread Cert.SpatialRefIdeal.nD Cert.SpatialRefIdeal.τ).loc Cert.SpatialRefIdeal.main_arg5)
      ∧ r.2.mem ((c.tc : Thread Cert.SpatialRefIdeal.nD Cert.SpatialRefIdeal.τ).loc Cert.SpatialRefIdeal.main_arg6) = m ((c.tc : Thread Cert.SpatialRefIdeal.nD Cert.SpatialRefIdeal.τ).loc Cert.SpatialRefIdeal.main_arg6)
      ∧ r.2.mem ((c.tc : Thread Cert.SpatialRefIdeal.nD Cert.SpatialRefIdeal.τ).loc Cert.SpatialRefIdeal.main_arg7) = m ((c.tc : Thread Cert.SpatialRefIdeal.nD Cert.SpatialRefIdeal.τ).loc Cert.SpatialRefIdeal.main_arg7))
      ∧ r.2.sem = fun _ => 0)

def quiescent_SpatialRefIdeal_pre_finite3 [hSpatialRefIdeal : Cert.SpatialRefIdeal.Facts] [hPre_finite3 : Cert.Pre_finite3.Facts] : Prop :=
  ∀ (m : (ℓ : Loc Cert.SpatialRefIdeal.nD Cert.SpatialRefIdeal.τ Cert.SpatialRefIdeal.sig) → Buf (Elt Ideal) ℓ) (g : Dev Cert.SpatialRefIdeal.nD → PrngReg), Pre_SpatialRefIdeal_finite3 m →
    θ_run (Cert.SpatialRefIdeal.defs (F := Ideal)) (onTc (τ := Cert.SpatialRefIdeal.τ) (Cert.SpatialRefIdeal.main (F := Ideal))) ⟨m, fun _ => 0, g⟩ (fun r => (∀ c : Dev Cert.SpatialRefIdeal.nD,
      r.2.mem ((c.tc : Thread Cert.SpatialRefIdeal.nD Cert.SpatialRefIdeal.τ).loc Cert.SpatialRefIdeal.main_arg0) = m ((c.tc : Thread Cert.SpatialRefIdeal.nD Cert.SpatialRefIdeal.τ).loc Cert.SpatialRefIdeal.main_arg0)
      ∧ r.2.mem ((c.tc : Thread Cert.SpatialRefIdeal.nD Cert.SpatialRefIdeal.τ).loc Cert.SpatialRefIdeal.main_arg1) = m ((c.tc : Thread Cert.SpatialRefIdeal.nD Cert.SpatialRefIdeal.τ).loc Cert.SpatialRefIdeal.main_arg1)
      ∧ r.2.mem ((c.tc : Thread Cert.SpatialRefIdeal.nD Cert.SpatialRefIdeal.τ).loc Cert.SpatialRefIdeal.main_arg2) = m ((c.tc : Thread Cert.SpatialRefIdeal.nD Cert.SpatialRefIdeal.τ).loc Cert.SpatialRefIdeal.main_arg2)
      ∧ r.2.mem ((c.tc : Thread Cert.SpatialRefIdeal.nD Cert.SpatialRefIdeal.τ).loc Cert.SpatialRefIdeal.main_arg3) = m ((c.tc : Thread Cert.SpatialRefIdeal.nD Cert.SpatialRefIdeal.τ).loc Cert.SpatialRefIdeal.main_arg3)
      ∧ r.2.mem ((c.tc : Thread Cert.SpatialRefIdeal.nD Cert.SpatialRefIdeal.τ).loc Cert.SpatialRefIdeal.main_arg4) = m ((c.tc : Thread Cert.SpatialRefIdeal.nD Cert.SpatialRefIdeal.τ).loc Cert.SpatialRefIdeal.main_arg4)
      ∧ r.2.mem ((c.tc : Thread Cert.SpatialRefIdeal.nD Cert.SpatialRefIdeal.τ).loc Cert.SpatialRefIdeal.main_arg5) = m ((c.tc : Thread Cert.SpatialRefIdeal.nD Cert.SpatialRefIdeal.τ).loc Cert.SpatialRefIdeal.main_arg5)
      ∧ r.2.mem ((c.tc : Thread Cert.SpatialRefIdeal.nD Cert.SpatialRefIdeal.τ).loc Cert.SpatialRefIdeal.main_arg6) = m ((c.tc : Thread Cert.SpatialRefIdeal.nD Cert.SpatialRefIdeal.τ).loc Cert.SpatialRefIdeal.main_arg6)
      ∧ r.2.mem ((c.tc : Thread Cert.SpatialRefIdeal.nD Cert.SpatialRefIdeal.τ).loc Cert.SpatialRefIdeal.main_arg7) = m ((c.tc : Thread Cert.SpatialRefIdeal.nD Cert.SpatialRefIdeal.τ).loc Cert.SpatialRefIdeal.main_arg7))
      ∧ r.2.sem = fun _ => 0)

def quiescent_Channel [hChannel : Cert.Channel.Facts] : Prop :=
  ∀ (m : (ℓ : Loc Cert.Channel.nD Cert.Channel.τ Cert.Channel.sig) → Buf (Elt Bits) ℓ) (g : Dev Cert.Channel.nD → PrngReg), Pre_Channel m →
    θ_run (Cert.Channel.defs (F := Bits)) (onTc (τ := Cert.Channel.τ) (Cert.Channel.main (F := Bits))) ⟨m, fun _ => 0, g⟩ (fun r => (∀ c : Dev Cert.Channel.nD,
      r.2.mem ((c.tc : Thread Cert.Channel.nD Cert.Channel.τ).loc Cert.Channel.main_arg0) = m ((c.tc : Thread Cert.Channel.nD Cert.Channel.τ).loc Cert.Channel.main_arg0)
      ∧ r.2.mem ((c.tc : Thread Cert.Channel.nD Cert.Channel.τ).loc Cert.Channel.main_arg1) = m ((c.tc : Thread Cert.Channel.nD Cert.Channel.τ).loc Cert.Channel.main_arg1)
      ∧ r.2.mem ((c.tc : Thread Cert.Channel.nD Cert.Channel.τ).loc Cert.Channel.main_arg2) = m ((c.tc : Thread Cert.Channel.nD Cert.Channel.τ).loc Cert.Channel.main_arg2)
      ∧ r.2.mem ((c.tc : Thread Cert.Channel.nD Cert.Channel.τ).loc Cert.Channel.main_arg3) = m ((c.tc : Thread Cert.Channel.nD Cert.Channel.τ).loc Cert.Channel.main_arg3)
      ∧ r.2.mem ((c.tc : Thread Cert.Channel.nD Cert.Channel.τ).loc Cert.Channel.main_arg4) = m ((c.tc : Thread Cert.Channel.nD Cert.Channel.τ).loc Cert.Channel.main_arg4)
      ∧ r.2.mem ((c.tc : Thread Cert.Channel.nD Cert.Channel.τ).loc Cert.Channel.main_arg5) = m ((c.tc : Thread Cert.Channel.nD Cert.Channel.τ).loc Cert.Channel.main_arg5)
      ∧ r.2.mem ((c.tc : Thread Cert.Channel.nD Cert.Channel.τ).loc Cert.Channel.main_arg6) = m ((c.tc : Thread Cert.Channel.nD Cert.Channel.τ).loc Cert.Channel.main_arg6)
      ∧ r.2.mem ((c.tc : Thread Cert.Channel.nD Cert.Channel.τ).loc Cert.Channel.main_arg7) = m ((c.tc : Thread Cert.Channel.nD Cert.Channel.τ).loc Cert.Channel.main_arg7)
      ∧ r.2.mem ((c.tc : Thread Cert.Channel.nD Cert.Channel.τ).loc Cert.Channel.main_arg8) = m ((c.tc : Thread Cert.Channel.nD Cert.Channel.τ).loc Cert.Channel.main_arg8))
      ∧ r.2.sem = fun _ => 0)

def quiescent_ChannelIdeal [hChannelIdeal : Cert.ChannelIdeal.Facts] : Prop :=
  ∀ (m : (ℓ : Loc Cert.ChannelIdeal.nD Cert.ChannelIdeal.τ Cert.ChannelIdeal.sig) → Buf (Elt Ideal) ℓ) (g : Dev Cert.ChannelIdeal.nD → PrngReg), Pre_ChannelIdeal m →
    θ_run (Cert.ChannelIdeal.defs (F := Ideal)) (onTc (τ := Cert.ChannelIdeal.τ) (Cert.ChannelIdeal.main (F := Ideal))) ⟨m, fun _ => 0, g⟩ (fun r => (∀ c : Dev Cert.ChannelIdeal.nD,
      r.2.mem ((c.tc : Thread Cert.ChannelIdeal.nD Cert.ChannelIdeal.τ).loc Cert.ChannelIdeal.main_arg0) = m ((c.tc : Thread Cert.ChannelIdeal.nD Cert.ChannelIdeal.τ).loc Cert.ChannelIdeal.main_arg0)
      ∧ r.2.mem ((c.tc : Thread Cert.ChannelIdeal.nD Cert.ChannelIdeal.τ).loc Cert.ChannelIdeal.main_arg1) = m ((c.tc : Thread Cert.ChannelIdeal.nD Cert.ChannelIdeal.τ).loc Cert.ChannelIdeal.main_arg1)
      ∧ r.2.mem ((c.tc : Thread Cert.ChannelIdeal.nD Cert.ChannelIdeal.τ).loc Cert.ChannelIdeal.main_arg2) = m ((c.tc : Thread Cert.ChannelIdeal.nD Cert.ChannelIdeal.τ).loc Cert.ChannelIdeal.main_arg2)
      ∧ r.2.mem ((c.tc : Thread Cert.ChannelIdeal.nD Cert.ChannelIdeal.τ).loc Cert.ChannelIdeal.main_arg3) = m ((c.tc : Thread Cert.ChannelIdeal.nD Cert.ChannelIdeal.τ).loc Cert.ChannelIdeal.main_arg3)
      ∧ r.2.mem ((c.tc : Thread Cert.ChannelIdeal.nD Cert.ChannelIdeal.τ).loc Cert.ChannelIdeal.main_arg4) = m ((c.tc : Thread Cert.ChannelIdeal.nD Cert.ChannelIdeal.τ).loc Cert.ChannelIdeal.main_arg4)
      ∧ r.2.mem ((c.tc : Thread Cert.ChannelIdeal.nD Cert.ChannelIdeal.τ).loc Cert.ChannelIdeal.main_arg5) = m ((c.tc : Thread Cert.ChannelIdeal.nD Cert.ChannelIdeal.τ).loc Cert.ChannelIdeal.main_arg5)
      ∧ r.2.mem ((c.tc : Thread Cert.ChannelIdeal.nD Cert.ChannelIdeal.τ).loc Cert.ChannelIdeal.main_arg6) = m ((c.tc : Thread Cert.ChannelIdeal.nD Cert.ChannelIdeal.τ).loc Cert.ChannelIdeal.main_arg6)
      ∧ r.2.mem ((c.tc : Thread Cert.ChannelIdeal.nD Cert.ChannelIdeal.τ).loc Cert.ChannelIdeal.main_arg7) = m ((c.tc : Thread Cert.ChannelIdeal.nD Cert.ChannelIdeal.τ).loc Cert.ChannelIdeal.main_arg7)
      ∧ r.2.mem ((c.tc : Thread Cert.ChannelIdeal.nD Cert.ChannelIdeal.τ).loc Cert.ChannelIdeal.main_arg8) = m ((c.tc : Thread Cert.ChannelIdeal.nD Cert.ChannelIdeal.τ).loc Cert.ChannelIdeal.main_arg8))
      ∧ r.2.sem = fun _ => 0)

def quiescent_ChannelIdeal_pre_finite4 [hChannelIdeal : Cert.ChannelIdeal.Facts] [hPre_finite4 : Cert.Pre_finite4.Facts] : Prop :=
  ∀ (m : (ℓ : Loc Cert.ChannelIdeal.nD Cert.ChannelIdeal.τ Cert.ChannelIdeal.sig) → Buf (Elt Ideal) ℓ) (g : Dev Cert.ChannelIdeal.nD → PrngReg), Pre_ChannelIdeal_finite4 m →
    θ_run (Cert.ChannelIdeal.defs (F := Ideal)) (onTc (τ := Cert.ChannelIdeal.τ) (Cert.ChannelIdeal.main (F := Ideal))) ⟨m, fun _ => 0, g⟩ (fun r => (∀ c : Dev Cert.ChannelIdeal.nD,
      r.2.mem ((c.tc : Thread Cert.ChannelIdeal.nD Cert.ChannelIdeal.τ).loc Cert.ChannelIdeal.main_arg0) = m ((c.tc : Thread Cert.ChannelIdeal.nD Cert.ChannelIdeal.τ).loc Cert.ChannelIdeal.main_arg0)
      ∧ r.2.mem ((c.tc : Thread Cert.ChannelIdeal.nD Cert.ChannelIdeal.τ).loc Cert.ChannelIdeal.main_arg1) = m ((c.tc : Thread Cert.ChannelIdeal.nD Cert.ChannelIdeal.τ).loc Cert.ChannelIdeal.main_arg1)
      ∧ r.2.mem ((c.tc : Thread Cert.ChannelIdeal.nD Cert.ChannelIdeal.τ).loc Cert.ChannelIdeal.main_arg2) = m ((c.tc : Thread Cert.ChannelIdeal.nD Cert.ChannelIdeal.τ).loc Cert.ChannelIdeal.main_arg2)
      ∧ r.2.mem ((c.tc : Thread Cert.ChannelIdeal.nD Cert.ChannelIdeal.τ).loc Cert.ChannelIdeal.main_arg3) = m ((c.tc : Thread Cert.ChannelIdeal.nD Cert.ChannelIdeal.τ).loc Cert.ChannelIdeal.main_arg3)
      ∧ r.2.mem ((c.tc : Thread Cert.ChannelIdeal.nD Cert.ChannelIdeal.τ).loc Cert.ChannelIdeal.main_arg4) = m ((c.tc : Thread Cert.ChannelIdeal.nD Cert.ChannelIdeal.τ).loc Cert.ChannelIdeal.main_arg4)
      ∧ r.2.mem ((c.tc : Thread Cert.ChannelIdeal.nD Cert.ChannelIdeal.τ).loc Cert.ChannelIdeal.main_arg5) = m ((c.tc : Thread Cert.ChannelIdeal.nD Cert.ChannelIdeal.τ).loc Cert.ChannelIdeal.main_arg5)
      ∧ r.2.mem ((c.tc : Thread Cert.ChannelIdeal.nD Cert.ChannelIdeal.τ).loc Cert.ChannelIdeal.main_arg6) = m ((c.tc : Thread Cert.ChannelIdeal.nD Cert.ChannelIdeal.τ).loc Cert.ChannelIdeal.main_arg6)
      ∧ r.2.mem ((c.tc : Thread Cert.ChannelIdeal.nD Cert.ChannelIdeal.τ).loc Cert.ChannelIdeal.main_arg7) = m ((c.tc : Thread Cert.ChannelIdeal.nD Cert.ChannelIdeal.τ).loc Cert.ChannelIdeal.main_arg7)
      ∧ r.2.mem ((c.tc : Thread Cert.ChannelIdeal.nD Cert.ChannelIdeal.τ).loc Cert.ChannelIdeal.main_arg8) = m ((c.tc : Thread Cert.ChannelIdeal.nD Cert.ChannelIdeal.τ).loc Cert.ChannelIdeal.main_arg8))
      ∧ r.2.sem = fun _ => 0)

def quiescent_ChannelRefIdeal [hChannelRefIdeal : Cert.ChannelRefIdeal.Facts] : Prop :=
  ∀ (m : (ℓ : Loc Cert.ChannelRefIdeal.nD Cert.ChannelRefIdeal.τ Cert.ChannelRefIdeal.sig) → Buf (Elt Ideal) ℓ) (g : Dev Cert.ChannelRefIdeal.nD → PrngReg), Pre_ChannelRefIdeal m →
    θ_run (Cert.ChannelRefIdeal.defs (F := Ideal)) (onTc (τ := Cert.ChannelRefIdeal.τ) (Cert.ChannelRefIdeal.main (F := Ideal))) ⟨m, fun _ => 0, g⟩ (fun r => (∀ c : Dev Cert.ChannelRefIdeal.nD,
      r.2.mem ((c.tc : Thread Cert.ChannelRefIdeal.nD Cert.ChannelRefIdeal.τ).loc Cert.ChannelRefIdeal.main_arg0) = m ((c.tc : Thread Cert.ChannelRefIdeal.nD Cert.ChannelRefIdeal.τ).loc Cert.ChannelRefIdeal.main_arg0)
      ∧ r.2.mem ((c.tc : Thread Cert.ChannelRefIdeal.nD Cert.ChannelRefIdeal.τ).loc Cert.ChannelRefIdeal.main_arg1) = m ((c.tc : Thread Cert.ChannelRefIdeal.nD Cert.ChannelRefIdeal.τ).loc Cert.ChannelRefIdeal.main_arg1)
      ∧ r.2.mem ((c.tc : Thread Cert.ChannelRefIdeal.nD Cert.ChannelRefIdeal.τ).loc Cert.ChannelRefIdeal.main_arg2) = m ((c.tc : Thread Cert.ChannelRefIdeal.nD Cert.ChannelRefIdeal.τ).loc Cert.ChannelRefIdeal.main_arg2)
      ∧ r.2.mem ((c.tc : Thread Cert.ChannelRefIdeal.nD Cert.ChannelRefIdeal.τ).loc Cert.ChannelRefIdeal.main_arg3) = m ((c.tc : Thread Cert.ChannelRefIdeal.nD Cert.ChannelRefIdeal.τ).loc Cert.ChannelRefIdeal.main_arg3)
      ∧ r.2.mem ((c.tc : Thread Cert.ChannelRefIdeal.nD Cert.ChannelRefIdeal.τ).loc Cert.ChannelRefIdeal.main_arg4) = m ((c.tc : Thread Cert.ChannelRefIdeal.nD Cert.ChannelRefIdeal.τ).loc Cert.ChannelRefIdeal.main_arg4)
      ∧ r.2.mem ((c.tc : Thread Cert.ChannelRefIdeal.nD Cert.ChannelRefIdeal.τ).loc Cert.ChannelRefIdeal.main_arg5) = m ((c.tc : Thread Cert.ChannelRefIdeal.nD Cert.ChannelRefIdeal.τ).loc Cert.ChannelRefIdeal.main_arg5)
      ∧ r.2.mem ((c.tc : Thread Cert.ChannelRefIdeal.nD Cert.ChannelRefIdeal.τ).loc Cert.ChannelRefIdeal.main_arg6) = m ((c.tc : Thread Cert.ChannelRefIdeal.nD Cert.ChannelRefIdeal.τ).loc Cert.ChannelRefIdeal.main_arg6)
      ∧ r.2.mem ((c.tc : Thread Cert.ChannelRefIdeal.nD Cert.ChannelRefIdeal.τ).loc Cert.ChannelRefIdeal.main_arg7) = m ((c.tc : Thread Cert.ChannelRefIdeal.nD Cert.ChannelRefIdeal.τ).loc Cert.ChannelRefIdeal.main_arg7)
      ∧ r.2.mem ((c.tc : Thread Cert.ChannelRefIdeal.nD Cert.ChannelRefIdeal.τ).loc Cert.ChannelRefIdeal.main_arg8) = m ((c.tc : Thread Cert.ChannelRefIdeal.nD Cert.ChannelRefIdeal.τ).loc Cert.ChannelRefIdeal.main_arg8))
      ∧ r.2.sem = fun _ => 0)

def quiescent_ChannelRefIdeal_pre_finite4 [hChannelRefIdeal : Cert.ChannelRefIdeal.Facts] [hPre_finite4 : Cert.Pre_finite4.Facts] : Prop :=
  ∀ (m : (ℓ : Loc Cert.ChannelRefIdeal.nD Cert.ChannelRefIdeal.τ Cert.ChannelRefIdeal.sig) → Buf (Elt Ideal) ℓ) (g : Dev Cert.ChannelRefIdeal.nD → PrngReg), Pre_ChannelRefIdeal_finite4 m →
    θ_run (Cert.ChannelRefIdeal.defs (F := Ideal)) (onTc (τ := Cert.ChannelRefIdeal.τ) (Cert.ChannelRefIdeal.main (F := Ideal))) ⟨m, fun _ => 0, g⟩ (fun r => (∀ c : Dev Cert.ChannelRefIdeal.nD,
      r.2.mem ((c.tc : Thread Cert.ChannelRefIdeal.nD Cert.ChannelRefIdeal.τ).loc Cert.ChannelRefIdeal.main_arg0) = m ((c.tc : Thread Cert.ChannelRefIdeal.nD Cert.ChannelRefIdeal.τ).loc Cert.ChannelRefIdeal.main_arg0)
      ∧ r.2.mem ((c.tc : Thread Cert.ChannelRefIdeal.nD Cert.ChannelRefIdeal.τ).loc Cert.ChannelRefIdeal.main_arg1) = m ((c.tc : Thread Cert.ChannelRefIdeal.nD Cert.ChannelRefIdeal.τ).loc Cert.ChannelRefIdeal.main_arg1)
      ∧ r.2.mem ((c.tc : Thread Cert.ChannelRefIdeal.nD Cert.ChannelRefIdeal.τ).loc Cert.ChannelRefIdeal.main_arg2) = m ((c.tc : Thread Cert.ChannelRefIdeal.nD Cert.ChannelRefIdeal.τ).loc Cert.ChannelRefIdeal.main_arg2)
      ∧ r.2.mem ((c.tc : Thread Cert.ChannelRefIdeal.nD Cert.ChannelRefIdeal.τ).loc Cert.ChannelRefIdeal.main_arg3) = m ((c.tc : Thread Cert.ChannelRefIdeal.nD Cert.ChannelRefIdeal.τ).loc Cert.ChannelRefIdeal.main_arg3)
      ∧ r.2.mem ((c.tc : Thread Cert.ChannelRefIdeal.nD Cert.ChannelRefIdeal.τ).loc Cert.ChannelRefIdeal.main_arg4) = m ((c.tc : Thread Cert.ChannelRefIdeal.nD Cert.ChannelRefIdeal.τ).loc Cert.ChannelRefIdeal.main_arg4)
      ∧ r.2.mem ((c.tc : Thread Cert.ChannelRefIdeal.nD Cert.ChannelRefIdeal.τ).loc Cert.ChannelRefIdeal.main_arg5) = m ((c.tc : Thread Cert.ChannelRefIdeal.nD Cert.ChannelRefIdeal.τ).loc Cert.ChannelRefIdeal.main_arg5)
      ∧ r.2.mem ((c.tc : Thread Cert.ChannelRefIdeal.nD Cert.ChannelRefIdeal.τ).loc Cert.ChannelRefIdeal.main_arg6) = m ((c.tc : Thread Cert.ChannelRefIdeal.nD Cert.ChannelRefIdeal.τ).loc Cert.ChannelRefIdeal.main_arg6)
      ∧ r.2.mem ((c.tc : Thread Cert.ChannelRefIdeal.nD Cert.ChannelRefIdeal.τ).loc Cert.ChannelRefIdeal.main_arg7) = m ((c.tc : Thread Cert.ChannelRefIdeal.nD Cert.ChannelRefIdeal.τ).loc Cert.ChannelRefIdeal.main_arg7)
      ∧ r.2.mem ((c.tc : Thread Cert.ChannelRefIdeal.nD Cert.ChannelRefIdeal.τ).loc Cert.ChannelRefIdeal.main_arg8) = m ((c.tc : Thread Cert.ChannelRefIdeal.nD Cert.ChannelRefIdeal.τ).loc Cert.ChannelRefIdeal.main_arg8))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3))
      ∧ r.2.sem = fun _ => 0)

def preserves_Pointwise1x1_Pointwise1x1Ideal : Prop :=
  True

def algebraic_Pointwise1x1Ideal_Pointwise1x1RefIdeal [hPointwise1x1Ideal : Cert.Pointwise1x1Ideal.Facts] [hPointwise1x1RefIdeal : Cert.Pointwise1x1RefIdeal.Facts] : Prop :=
  ∀ (m : (ℓ : Loc Cert.Pointwise1x1Ideal.nD Cert.Pointwise1x1Ideal.τ Cert.Pointwise1x1Ideal.sig) → Buf (Elt Ideal) ℓ) (g : Dev Cert.Pointwise1x1Ideal.nD → PrngReg)
    (m' : (ℓ : Loc Cert.Pointwise1x1RefIdeal.nD Cert.Pointwise1x1RefIdeal.τ Cert.Pointwise1x1RefIdeal.sig) → Buf (Elt Ideal) ℓ) (g' : Dev Cert.Pointwise1x1RefIdeal.nD → PrngReg), Pre_Pointwise1x1Ideal m →
    (∀ c : Dev Cert.Pointwise1x1Ideal.nD,
      m' ((c.tc : Thread Cert.Pointwise1x1RefIdeal.nD Cert.Pointwise1x1RefIdeal.τ).loc Cert.Pointwise1x1RefIdeal.main_arg0) = m ((c.tc : Thread Cert.Pointwise1x1Ideal.nD Cert.Pointwise1x1Ideal.τ).loc Cert.Pointwise1x1Ideal.main_arg0)
      ∧ m' ((c.tc : Thread Cert.Pointwise1x1RefIdeal.nD Cert.Pointwise1x1RefIdeal.τ).loc Cert.Pointwise1x1RefIdeal.main_arg1) = m ((c.tc : Thread Cert.Pointwise1x1Ideal.nD Cert.Pointwise1x1Ideal.τ).loc Cert.Pointwise1x1Ideal.main_arg1)) →
    ∃ (v0 : (c : Dev Cert.Pointwise1x1Ideal.nD) → Buf (Elt Ideal) ((c.tc : Thread Cert.Pointwise1x1Ideal.nD Cert.Pointwise1x1Ideal.τ).loc Cert.Pointwise1x1Ideal.main_v2)),
      θ_run (Cert.Pointwise1x1Ideal.defs (F := Ideal)) (onTc (τ := Cert.Pointwise1x1Ideal.τ) (Cert.Pointwise1x1Ideal.main (F := Ideal))) ⟨m, fun _ => 0, g⟩ (fun r => ∀ c : Dev Cert.Pointwise1x1Ideal.nD,
          r.2.mem ((c.tc : Thread Cert.Pointwise1x1Ideal.nD Cert.Pointwise1x1Ideal.τ).loc Cert.Pointwise1x1Ideal.main_v2) = v0 c
          ∧ r.2.mem ((c.tc : Thread Cert.Pointwise1x1Ideal.nD Cert.Pointwise1x1Ideal.τ).loc Cert.Pointwise1x1Ideal.main_arg0) = m ((c.tc : Thread Cert.Pointwise1x1Ideal.nD Cert.Pointwise1x1Ideal.τ).loc Cert.Pointwise1x1Ideal.main_arg0)
          ∧ r.2.mem ((c.tc : Thread Cert.Pointwise1x1Ideal.nD Cert.Pointwise1x1Ideal.τ).loc Cert.Pointwise1x1Ideal.main_arg1) = m ((c.tc : Thread Cert.Pointwise1x1Ideal.nD Cert.Pointwise1x1Ideal.τ).loc Cert.Pointwise1x1Ideal.main_arg1))
      ∧ θ_run (Cert.Pointwise1x1RefIdeal.defs (F := Ideal)) (onTc (τ := Cert.Pointwise1x1RefIdeal.τ) (Cert.Pointwise1x1RefIdeal.main (F := Ideal))) ⟨m', fun _ => 0, g'⟩ (fun r => ∀ c : Dev Cert.Pointwise1x1RefIdeal.nD,
          r.2.mem ((c.tc : Thread Cert.Pointwise1x1RefIdeal.nD Cert.Pointwise1x1RefIdeal.τ).loc Cert.Pointwise1x1RefIdeal.main_v4) = v0 c
          ∧ r.2.mem ((c.tc : Thread Cert.Pointwise1x1RefIdeal.nD Cert.Pointwise1x1RefIdeal.τ).loc Cert.Pointwise1x1RefIdeal.main_arg0) = m' ((c.tc : Thread Cert.Pointwise1x1RefIdeal.nD Cert.Pointwise1x1RefIdeal.τ).loc Cert.Pointwise1x1RefIdeal.main_arg0)
          ∧ r.2.mem ((c.tc : Thread Cert.Pointwise1x1RefIdeal.nD Cert.Pointwise1x1RefIdeal.τ).loc Cert.Pointwise1x1RefIdeal.main_arg1) = m' ((c.tc : Thread Cert.Pointwise1x1RefIdeal.nD Cert.Pointwise1x1RefIdeal.τ).loc Cert.Pointwise1x1RefIdeal.main_arg1))

def preserves_Depthwise_DepthwiseIdeal : Prop :=
  True

def algebraic_DepthwiseIdeal_DepthwiseRefIdeal [hDepthwiseIdeal : Cert.DepthwiseIdeal.Facts] [hDepthwiseRefIdeal : Cert.DepthwiseRefIdeal.Facts] : Prop :=
  ∀ (m : (ℓ : Loc Cert.DepthwiseIdeal.nD Cert.DepthwiseIdeal.τ Cert.DepthwiseIdeal.sig) → Buf (Elt Ideal) ℓ) (g : Dev Cert.DepthwiseIdeal.nD → PrngReg)
    (m' : (ℓ : Loc Cert.DepthwiseRefIdeal.nD Cert.DepthwiseRefIdeal.τ Cert.DepthwiseRefIdeal.sig) → Buf (Elt Ideal) ℓ) (g' : Dev Cert.DepthwiseRefIdeal.nD → PrngReg), Pre_DepthwiseIdeal m →
    (∀ c : Dev Cert.DepthwiseIdeal.nD,
      m' ((c.tc : Thread Cert.DepthwiseRefIdeal.nD Cert.DepthwiseRefIdeal.τ).loc Cert.DepthwiseRefIdeal.main_arg0) = m ((c.tc : Thread Cert.DepthwiseIdeal.nD Cert.DepthwiseIdeal.τ).loc Cert.DepthwiseIdeal.main_arg0)
      ∧ m' ((c.tc : Thread Cert.DepthwiseRefIdeal.nD Cert.DepthwiseRefIdeal.τ).loc Cert.DepthwiseRefIdeal.main_arg1) = m ((c.tc : Thread Cert.DepthwiseIdeal.nD Cert.DepthwiseIdeal.τ).loc Cert.DepthwiseIdeal.main_arg1)) →
    ∃ (v0 : (c : Dev Cert.DepthwiseIdeal.nD) → Buf (Elt Ideal) ((c.tc : Thread Cert.DepthwiseIdeal.nD Cert.DepthwiseIdeal.τ).loc Cert.DepthwiseIdeal.main_v3_0)) (v1 : (c : Dev Cert.DepthwiseIdeal.nD) → Buf (Elt Ideal) ((c.tc : Thread Cert.DepthwiseIdeal.nD Cert.DepthwiseIdeal.τ).loc Cert.DepthwiseIdeal.main_v3_1)),
      θ_run (Cert.DepthwiseIdeal.defs (F := Ideal)) (onTc (τ := Cert.DepthwiseIdeal.τ) (Cert.DepthwiseIdeal.main (F := Ideal))) ⟨m, fun _ => 0, g⟩ (fun r => ∀ c : Dev Cert.DepthwiseIdeal.nD,
          r.2.mem ((c.tc : Thread Cert.DepthwiseIdeal.nD Cert.DepthwiseIdeal.τ).loc Cert.DepthwiseIdeal.main_v3_0) = v0 c
          ∧ r.2.mem ((c.tc : Thread Cert.DepthwiseIdeal.nD Cert.DepthwiseIdeal.τ).loc Cert.DepthwiseIdeal.main_v3_1) = v1 c
          ∧ r.2.mem ((c.tc : Thread Cert.DepthwiseIdeal.nD Cert.DepthwiseIdeal.τ).loc Cert.DepthwiseIdeal.main_arg0) = m ((c.tc : Thread Cert.DepthwiseIdeal.nD Cert.DepthwiseIdeal.τ).loc Cert.DepthwiseIdeal.main_arg0)
          ∧ r.2.mem ((c.tc : Thread Cert.DepthwiseIdeal.nD Cert.DepthwiseIdeal.τ).loc Cert.DepthwiseIdeal.main_arg1) = m ((c.tc : Thread Cert.DepthwiseIdeal.nD Cert.DepthwiseIdeal.τ).loc Cert.DepthwiseIdeal.main_arg1))
      ∧ θ_run (Cert.DepthwiseRefIdeal.defs (F := Ideal)) (onTc (τ := Cert.DepthwiseRefIdeal.τ) (Cert.DepthwiseRefIdeal.main (F := Ideal))) ⟨m', fun _ => 0, g'⟩ (fun r => ∀ c : Dev Cert.DepthwiseRefIdeal.nD,
          r.2.mem ((c.tc : Thread Cert.DepthwiseRefIdeal.nD Cert.DepthwiseRefIdeal.τ).loc Cert.DepthwiseRefIdeal.main_v66) = v0 c
          ∧ r.2.mem ((c.tc : Thread Cert.DepthwiseRefIdeal.nD Cert.DepthwiseRefIdeal.τ).loc Cert.DepthwiseRefIdeal.main_v69) = v1 c
          ∧ r.2.mem ((c.tc : Thread Cert.DepthwiseRefIdeal.nD Cert.DepthwiseRefIdeal.τ).loc Cert.DepthwiseRefIdeal.main_arg0) = m' ((c.tc : Thread Cert.DepthwiseRefIdeal.nD Cert.DepthwiseRefIdeal.τ).loc Cert.DepthwiseRefIdeal.main_arg0)
          ∧ r.2.mem ((c.tc : Thread Cert.DepthwiseRefIdeal.nD Cert.DepthwiseRefIdeal.τ).loc Cert.DepthwiseRefIdeal.main_arg1) = m' ((c.tc : Thread Cert.DepthwiseRefIdeal.nD Cert.DepthwiseRefIdeal.τ).loc Cert.DepthwiseRefIdeal.main_arg1))

def preserves_Spatial_SpatialIdeal : Prop :=
  True

def algebraic_SpatialIdeal_SpatialRefIdeal_pre_finite3 [hSpatialIdeal : Cert.SpatialIdeal.Facts] [hSpatialRefIdeal : Cert.SpatialRefIdeal.Facts] [hPre_finite3 : Cert.Pre_finite3.Facts] : Prop :=
  ∀ (m : (ℓ : Loc Cert.SpatialIdeal.nD Cert.SpatialIdeal.τ Cert.SpatialIdeal.sig) → Buf (Elt Ideal) ℓ) (g : Dev Cert.SpatialIdeal.nD → PrngReg)
    (m' : (ℓ : Loc Cert.SpatialRefIdeal.nD Cert.SpatialRefIdeal.τ Cert.SpatialRefIdeal.sig) → Buf (Elt Ideal) ℓ) (g' : Dev Cert.SpatialRefIdeal.nD → PrngReg), Pre_SpatialIdeal_finite3 m →
    (∀ c : Dev Cert.SpatialIdeal.nD,
      m' ((c.tc : Thread Cert.SpatialRefIdeal.nD Cert.SpatialRefIdeal.τ).loc Cert.SpatialRefIdeal.main_arg0) = m ((c.tc : Thread Cert.SpatialIdeal.nD Cert.SpatialIdeal.τ).loc Cert.SpatialIdeal.main_arg0)
      ∧ m' ((c.tc : Thread Cert.SpatialRefIdeal.nD Cert.SpatialRefIdeal.τ).loc Cert.SpatialRefIdeal.main_arg1) = m ((c.tc : Thread Cert.SpatialIdeal.nD Cert.SpatialIdeal.τ).loc Cert.SpatialIdeal.main_arg1)
      ∧ m' ((c.tc : Thread Cert.SpatialRefIdeal.nD Cert.SpatialRefIdeal.τ).loc Cert.SpatialRefIdeal.main_arg2) = m ((c.tc : Thread Cert.SpatialIdeal.nD Cert.SpatialIdeal.τ).loc Cert.SpatialIdeal.main_arg2)
      ∧ m' ((c.tc : Thread Cert.SpatialRefIdeal.nD Cert.SpatialRefIdeal.τ).loc Cert.SpatialRefIdeal.main_arg3) = m ((c.tc : Thread Cert.SpatialIdeal.nD Cert.SpatialIdeal.τ).loc Cert.SpatialIdeal.main_arg3)
      ∧ m' ((c.tc : Thread Cert.SpatialRefIdeal.nD Cert.SpatialRefIdeal.τ).loc Cert.SpatialRefIdeal.main_arg4) = m ((c.tc : Thread Cert.SpatialIdeal.nD Cert.SpatialIdeal.τ).loc Cert.SpatialIdeal.main_arg4)
      ∧ m' ((c.tc : Thread Cert.SpatialRefIdeal.nD Cert.SpatialRefIdeal.τ).loc Cert.SpatialRefIdeal.main_arg5) = m ((c.tc : Thread Cert.SpatialIdeal.nD Cert.SpatialIdeal.τ).loc Cert.SpatialIdeal.main_arg5)
      ∧ m' ((c.tc : Thread Cert.SpatialRefIdeal.nD Cert.SpatialRefIdeal.τ).loc Cert.SpatialRefIdeal.main_arg6) = m ((c.tc : Thread Cert.SpatialIdeal.nD Cert.SpatialIdeal.τ).loc Cert.SpatialIdeal.main_arg6)
      ∧ m' ((c.tc : Thread Cert.SpatialRefIdeal.nD Cert.SpatialRefIdeal.τ).loc Cert.SpatialRefIdeal.main_arg7) = m ((c.tc : Thread Cert.SpatialIdeal.nD Cert.SpatialIdeal.τ).loc Cert.SpatialIdeal.main_arg7)) →
    ∃ (v0 : (c : Dev Cert.SpatialIdeal.nD) → Buf (Elt Ideal) ((c.tc : Thread Cert.SpatialIdeal.nD Cert.SpatialIdeal.τ).loc Cert.SpatialIdeal.main_v43)),
      θ_run (Cert.SpatialIdeal.defs (F := Ideal)) (onTc (τ := Cert.SpatialIdeal.τ) (Cert.SpatialIdeal.main (F := Ideal))) ⟨m, fun _ => 0, g⟩ (fun r => ∀ c : Dev Cert.SpatialIdeal.nD,
          r.2.mem ((c.tc : Thread Cert.SpatialIdeal.nD Cert.SpatialIdeal.τ).loc Cert.SpatialIdeal.main_v43) = v0 c
          ∧ r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
          ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
          ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
          ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3)
          ∧ r.2.mem ((c.tc : Thread Cert.SpatialIdeal.nD Cert.SpatialIdeal.τ).loc Cert.SpatialIdeal.main_arg4) = m ((c.tc : Thread Cert.SpatialIdeal.nD Cert.SpatialIdeal.τ).loc Cert.SpatialIdeal.main_arg4)
          ∧ r.2.mem ((c.tc : Thread Cert.SpatialIdeal.nD Cert.SpatialIdeal.τ).loc Cert.SpatialIdeal.main_arg5) = m ((c.tc : Thread Cert.SpatialIdeal.nD Cert.SpatialIdeal.τ).loc Cert.SpatialIdeal.main_arg5)
          ∧ r.2.mem ((c.tc : Thread Cert.SpatialIdeal.nD Cert.SpatialIdeal.τ).loc Cert.SpatialIdeal.main_arg6) = m ((c.tc : Thread Cert.SpatialIdeal.nD Cert.SpatialIdeal.τ).loc Cert.SpatialIdeal.main_arg6)
          ∧ r.2.mem ((c.tc : Thread Cert.SpatialIdeal.nD Cert.SpatialIdeal.τ).loc Cert.SpatialIdeal.main_arg7) = m ((c.tc : Thread Cert.SpatialIdeal.nD Cert.SpatialIdeal.τ).loc Cert.SpatialIdeal.main_arg7))
      ∧ θ_run (Cert.SpatialRefIdeal.defs (F := Ideal)) (onTc (τ := Cert.SpatialRefIdeal.τ) (Cert.SpatialRefIdeal.main (F := Ideal))) ⟨m', fun _ => 0, g'⟩ (fun r => ∀ c : Dev Cert.SpatialRefIdeal.nD,
          r.2.mem ((c.tc : Thread Cert.SpatialRefIdeal.nD Cert.SpatialRefIdeal.τ).loc Cert.SpatialRefIdeal.main_v190) = v0 c
          ∧ r.2.mem ((c.tc : Thread Cert.SpatialRefIdeal.nD Cert.SpatialRefIdeal.τ).loc Cert.SpatialRefIdeal.main_arg0) = m' ((c.tc : Thread Cert.SpatialRefIdeal.nD Cert.SpatialRefIdeal.τ).loc Cert.SpatialRefIdeal.main_arg0)
          ∧ r.2.mem ((c.tc : Thread Cert.SpatialRefIdeal.nD Cert.SpatialRefIdeal.τ).loc Cert.SpatialRefIdeal.main_arg1) = m' ((c.tc : Thread Cert.SpatialRefIdeal.nD Cert.SpatialRefIdeal.τ).loc Cert.SpatialRefIdeal.main_arg1)
          ∧ r.2.mem ((c.tc : Thread Cert.SpatialRefIdeal.nD Cert.SpatialRefIdeal.τ).loc Cert.SpatialRefIdeal.main_arg2) = m' ((c.tc : Thread Cert.SpatialRefIdeal.nD Cert.SpatialRefIdeal.τ).loc Cert.SpatialRefIdeal.main_arg2)
          ∧ r.2.mem ((c.tc : Thread Cert.SpatialRefIdeal.nD Cert.SpatialRefIdeal.τ).loc Cert.SpatialRefIdeal.main_arg3) = m' ((c.tc : Thread Cert.SpatialRefIdeal.nD Cert.SpatialRefIdeal.τ).loc Cert.SpatialRefIdeal.main_arg3)
          ∧ r.2.mem ((c.tc : Thread Cert.SpatialRefIdeal.nD Cert.SpatialRefIdeal.τ).loc Cert.SpatialRefIdeal.main_arg4) = m' ((c.tc : Thread Cert.SpatialRefIdeal.nD Cert.SpatialRefIdeal.τ).loc Cert.SpatialRefIdeal.main_arg4)
          ∧ r.2.mem ((c.tc : Thread Cert.SpatialRefIdeal.nD Cert.SpatialRefIdeal.τ).loc Cert.SpatialRefIdeal.main_arg5) = m' ((c.tc : Thread Cert.SpatialRefIdeal.nD Cert.SpatialRefIdeal.τ).loc Cert.SpatialRefIdeal.main_arg5)
          ∧ r.2.mem ((c.tc : Thread Cert.SpatialRefIdeal.nD Cert.SpatialRefIdeal.τ).loc Cert.SpatialRefIdeal.main_arg6) = m' ((c.tc : Thread Cert.SpatialRefIdeal.nD Cert.SpatialRefIdeal.τ).loc Cert.SpatialRefIdeal.main_arg6)
          ∧ r.2.mem ((c.tc : Thread Cert.SpatialRefIdeal.nD Cert.SpatialRefIdeal.τ).loc Cert.SpatialRefIdeal.main_arg7) = m' ((c.tc : Thread Cert.SpatialRefIdeal.nD Cert.SpatialRefIdeal.τ).loc Cert.SpatialRefIdeal.main_arg7))

def preserves_Channel_ChannelIdeal : Prop :=
  True

def algebraic_ChannelIdeal_ChannelRefIdeal_pre_finite4 [hChannelIdeal : Cert.ChannelIdeal.Facts] [hChannelRefIdeal : Cert.ChannelRefIdeal.Facts] [hPre_finite4 : Cert.Pre_finite4.Facts] : Prop :=
  ∀ (m : (ℓ : Loc Cert.ChannelIdeal.nD Cert.ChannelIdeal.τ Cert.ChannelIdeal.sig) → Buf (Elt Ideal) ℓ) (g : Dev Cert.ChannelIdeal.nD → PrngReg)
    (m' : (ℓ : Loc Cert.ChannelRefIdeal.nD Cert.ChannelRefIdeal.τ Cert.ChannelRefIdeal.sig) → Buf (Elt Ideal) ℓ) (g' : Dev Cert.ChannelRefIdeal.nD → PrngReg), Pre_ChannelIdeal_finite4 m →
    (∀ c : Dev Cert.ChannelIdeal.nD,
      m' ((c.tc : Thread Cert.ChannelRefIdeal.nD Cert.ChannelRefIdeal.τ).loc Cert.ChannelRefIdeal.main_arg0) = m ((c.tc : Thread Cert.ChannelIdeal.nD Cert.ChannelIdeal.τ).loc Cert.ChannelIdeal.main_arg0)
      ∧ m' ((c.tc : Thread Cert.ChannelRefIdeal.nD Cert.ChannelRefIdeal.τ).loc Cert.ChannelRefIdeal.main_arg1) = m ((c.tc : Thread Cert.ChannelIdeal.nD Cert.ChannelIdeal.τ).loc Cert.ChannelIdeal.main_arg1)
      ∧ m' ((c.tc : Thread Cert.ChannelRefIdeal.nD Cert.ChannelRefIdeal.τ).loc Cert.ChannelRefIdeal.main_arg2) = m ((c.tc : Thread Cert.ChannelIdeal.nD Cert.ChannelIdeal.τ).loc Cert.ChannelIdeal.main_arg2)
      ∧ m' ((c.tc : Thread Cert.ChannelRefIdeal.nD Cert.ChannelRefIdeal.τ).loc Cert.ChannelRefIdeal.main_arg3) = m ((c.tc : Thread Cert.ChannelIdeal.nD Cert.ChannelIdeal.τ).loc Cert.ChannelIdeal.main_arg3)
      ∧ m' ((c.tc : Thread Cert.ChannelRefIdeal.nD Cert.ChannelRefIdeal.τ).loc Cert.ChannelRefIdeal.main_arg4) = m ((c.tc : Thread Cert.ChannelIdeal.nD Cert.ChannelIdeal.τ).loc Cert.ChannelIdeal.main_arg4)
      ∧ m' ((c.tc : Thread Cert.ChannelRefIdeal.nD Cert.ChannelRefIdeal.τ).loc Cert.ChannelRefIdeal.main_arg5) = m ((c.tc : Thread Cert.ChannelIdeal.nD Cert.ChannelIdeal.τ).loc Cert.ChannelIdeal.main_arg5)
      ∧ m' ((c.tc : Thread Cert.ChannelRefIdeal.nD Cert.ChannelRefIdeal.τ).loc Cert.ChannelRefIdeal.main_arg6) = m ((c.tc : Thread Cert.ChannelIdeal.nD Cert.ChannelIdeal.τ).loc Cert.ChannelIdeal.main_arg6)
      ∧ m' ((c.tc : Thread Cert.ChannelRefIdeal.nD Cert.ChannelRefIdeal.τ).loc Cert.ChannelRefIdeal.main_arg7) = m ((c.tc : Thread Cert.ChannelIdeal.nD Cert.ChannelIdeal.τ).loc Cert.ChannelIdeal.main_arg7)
      ∧ m' ((c.tc : Thread Cert.ChannelRefIdeal.nD Cert.ChannelRefIdeal.τ).loc Cert.ChannelRefIdeal.main_arg8) = m ((c.tc : Thread Cert.ChannelIdeal.nD Cert.ChannelIdeal.τ).loc Cert.ChannelIdeal.main_arg8)) →
    ∃ (v0 : (c : Dev Cert.ChannelIdeal.nD) → Buf (Elt Ideal) ((c.tc : Thread Cert.ChannelIdeal.nD Cert.ChannelIdeal.τ).loc Cert.ChannelIdeal.main_v2)),
      θ_run (Cert.ChannelIdeal.defs (F := Ideal)) (onTc (τ := Cert.ChannelIdeal.τ) (Cert.ChannelIdeal.main (F := Ideal))) ⟨m, fun _ => 0, g⟩ (fun r => ∀ c : Dev Cert.ChannelIdeal.nD,
          r.2.mem ((c.tc : Thread Cert.ChannelIdeal.nD Cert.ChannelIdeal.τ).loc Cert.ChannelIdeal.main_v2) = v0 c
          ∧ r.2.mem ((c.tc : Thread Cert.ChannelIdeal.nD Cert.ChannelIdeal.τ).loc Cert.ChannelIdeal.main_arg0) = m ((c.tc : Thread Cert.ChannelIdeal.nD Cert.ChannelIdeal.τ).loc Cert.ChannelIdeal.main_arg0)
          ∧ r.2.mem ((c.tc : Thread Cert.ChannelIdeal.nD Cert.ChannelIdeal.τ).loc Cert.ChannelIdeal.main_arg1) = m ((c.tc : Thread Cert.ChannelIdeal.nD Cert.ChannelIdeal.τ).loc Cert.ChannelIdeal.main_arg1)
          ∧ r.2.mem ((c.tc : Thread Cert.ChannelIdeal.nD Cert.ChannelIdeal.τ).loc Cert.ChannelIdeal.main_arg2) = m ((c.tc : Thread Cert.ChannelIdeal.nD Cert.ChannelIdeal.τ).loc Cert.ChannelIdeal.main_arg2)
          ∧ r.2.mem ((c.tc : Thread Cert.ChannelIdeal.nD Cert.ChannelIdeal.τ).loc Cert.ChannelIdeal.main_arg3) = m ((c.tc : Thread Cert.ChannelIdeal.nD Cert.ChannelIdeal.τ).loc Cert.ChannelIdeal.main_arg3)
          ∧ r.2.mem ((c.tc : Thread Cert.ChannelIdeal.nD Cert.ChannelIdeal.τ).loc Cert.ChannelIdeal.main_arg4) = m ((c.tc : Thread Cert.ChannelIdeal.nD Cert.ChannelIdeal.τ).loc Cert.ChannelIdeal.main_arg4)
          ∧ r.2.mem ((c.tc : Thread Cert.ChannelIdeal.nD Cert.ChannelIdeal.τ).loc Cert.ChannelIdeal.main_arg5) = m ((c.tc : Thread Cert.ChannelIdeal.nD Cert.ChannelIdeal.τ).loc Cert.ChannelIdeal.main_arg5)
          ∧ r.2.mem ((c.tc : Thread Cert.ChannelIdeal.nD Cert.ChannelIdeal.τ).loc Cert.ChannelIdeal.main_arg6) = m ((c.tc : Thread Cert.ChannelIdeal.nD Cert.ChannelIdeal.τ).loc Cert.ChannelIdeal.main_arg6)
          ∧ r.2.mem ((c.tc : Thread Cert.ChannelIdeal.nD Cert.ChannelIdeal.τ).loc Cert.ChannelIdeal.main_arg7) = m ((c.tc : Thread Cert.ChannelIdeal.nD Cert.ChannelIdeal.τ).loc Cert.ChannelIdeal.main_arg7)
          ∧ r.2.mem ((c.tc : Thread Cert.ChannelIdeal.nD Cert.ChannelIdeal.τ).loc Cert.ChannelIdeal.main_arg8) = m ((c.tc : Thread Cert.ChannelIdeal.nD Cert.ChannelIdeal.τ).loc Cert.ChannelIdeal.main_arg8))
      ∧ θ_run (Cert.ChannelRefIdeal.defs (F := Ideal)) (onTc (τ := Cert.ChannelRefIdeal.τ) (Cert.ChannelRefIdeal.main (F := Ideal))) ⟨m', fun _ => 0, g'⟩ (fun r => ∀ c : Dev Cert.ChannelRefIdeal.nD,
          r.2.mem ((c.tc : Thread Cert.ChannelRefIdeal.nD Cert.ChannelRefIdeal.τ).loc Cert.ChannelRefIdeal.main_v175) = v0 c
          ∧ r.2.mem ((c.tc : Thread Cert.ChannelRefIdeal.nD Cert.ChannelRefIdeal.τ).loc Cert.ChannelRefIdeal.main_arg0) = m' ((c.tc : Thread Cert.ChannelRefIdeal.nD Cert.ChannelRefIdeal.τ).loc Cert.ChannelRefIdeal.main_arg0)
          ∧ r.2.mem ((c.tc : Thread Cert.ChannelRefIdeal.nD Cert.ChannelRefIdeal.τ).loc Cert.ChannelRefIdeal.main_arg1) = m' ((c.tc : Thread Cert.ChannelRefIdeal.nD Cert.ChannelRefIdeal.τ).loc Cert.ChannelRefIdeal.main_arg1)
          ∧ r.2.mem ((c.tc : Thread Cert.ChannelRefIdeal.nD Cert.ChannelRefIdeal.τ).loc Cert.ChannelRefIdeal.main_arg2) = m' ((c.tc : Thread Cert.ChannelRefIdeal.nD Cert.ChannelRefIdeal.τ).loc Cert.ChannelRefIdeal.main_arg2)
          ∧ r.2.mem ((c.tc : Thread Cert.ChannelRefIdeal.nD Cert.ChannelRefIdeal.τ).loc Cert.ChannelRefIdeal.main_arg3) = m' ((c.tc : Thread Cert.ChannelRefIdeal.nD Cert.ChannelRefIdeal.τ).loc Cert.ChannelRefIdeal.main_arg3)
          ∧ r.2.mem ((c.tc : Thread Cert.ChannelRefIdeal.nD Cert.ChannelRefIdeal.τ).loc Cert.ChannelRefIdeal.main_arg4) = m' ((c.tc : Thread Cert.ChannelRefIdeal.nD Cert.ChannelRefIdeal.τ).loc Cert.ChannelRefIdeal.main_arg4)
          ∧ r.2.mem ((c.tc : Thread Cert.ChannelRefIdeal.nD Cert.ChannelRefIdeal.τ).loc Cert.ChannelRefIdeal.main_arg5) = m' ((c.tc : Thread Cert.ChannelRefIdeal.nD Cert.ChannelRefIdeal.τ).loc Cert.ChannelRefIdeal.main_arg5)
          ∧ r.2.mem ((c.tc : Thread Cert.ChannelRefIdeal.nD Cert.ChannelRefIdeal.τ).loc Cert.ChannelRefIdeal.main_arg6) = m' ((c.tc : Thread Cert.ChannelRefIdeal.nD Cert.ChannelRefIdeal.τ).loc Cert.ChannelRefIdeal.main_arg6)
          ∧ r.2.mem ((c.tc : Thread Cert.ChannelRefIdeal.nD Cert.ChannelRefIdeal.τ).loc Cert.ChannelRefIdeal.main_arg7) = m' ((c.tc : Thread Cert.ChannelRefIdeal.nD Cert.ChannelRefIdeal.τ).loc Cert.ChannelRefIdeal.main_arg7)
          ∧ r.2.mem ((c.tc : Thread Cert.ChannelRefIdeal.nD Cert.ChannelRefIdeal.τ).loc Cert.ChannelRefIdeal.main_arg8) = m' ((c.tc : Thread Cert.ChannelRefIdeal.nD Cert.ChannelRefIdeal.τ).loc Cert.ChannelRefIdeal.main_arg8))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v1) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v7) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3))

def Claim : Prop :=
  ∃ (hPointwise1x1 : Cert.Pointwise1x1.Facts) (hPointwise1x1Ideal : Cert.Pointwise1x1Ideal.Facts) (hPointwise1x1RefIdeal : Cert.Pointwise1x1RefIdeal.Facts) (hDepthwise : Cert.Depthwise.Facts) (hDepthwiseIdeal : Cert.DepthwiseIdeal.Facts) (hDepthwiseRefIdeal : Cert.DepthwiseRefIdeal.Facts) (hSpatial : Cert.Spatial.Facts) (hSpatialIdeal : Cert.SpatialIdeal.Facts) (hSpatialRefIdeal : Cert.SpatialRefIdeal.Facts) (hChannel : Cert.Channel.Facts) (hChannelIdeal : Cert.ChannelIdeal.Facts) (hChannelRefIdeal : Cert.ChannelRefIdeal.Facts) (hProject : Cert.Project.Facts) (hProjectIdeal : Cert.ProjectIdeal.Facts) (hProjectRefIdeal : Cert.ProjectRefIdeal.Facts) (hPre_finite3 : Cert.Pre_finite3.Facts) (hPre_finite4 : Cert.Pre_finite4.Facts),
    quiescent_Pointwise1x1 (hPointwise1x1 := hPointwise1x1)
    ∧ quiescent_Pointwise1x1Ideal (hPointwise1x1Ideal := hPointwise1x1Ideal)
    ∧ quiescent_Pointwise1x1RefIdeal (hPointwise1x1RefIdeal := hPointwise1x1RefIdeal)
    ∧ quiescent_Depthwise (hDepthwise := hDepthwise)
    ∧ quiescent_DepthwiseIdeal (hDepthwiseIdeal := hDepthwiseIdeal)
    ∧ quiescent_DepthwiseRefIdeal (hDepthwiseRefIdeal := hDepthwiseRefIdeal)
    ∧ quiescent_Spatial (hSpatial := hSpatial)
    ∧ quiescent_SpatialIdeal (hSpatialIdeal := hSpatialIdeal)
    ∧ quiescent_SpatialIdeal_pre_finite3 (hSpatialIdeal := hSpatialIdeal) (hPre_finite3 := hPre_finite3)
    ∧ quiescent_SpatialRefIdeal (hSpatialRefIdeal := hSpatialRefIdeal)
    ∧ quiescent_SpatialRefIdeal_pre_finite3 (hSpatialRefIdeal := hSpatialRefIdeal) (hPre_finite3 := hPre_finite3)
    ∧ quiescent_Channel (hChannel := hChannel)
    ∧ quiescent_ChannelIdeal (hChannelIdeal := hChannelIdeal)
    ∧ quiescent_ChannelIdeal_pre_finite4 (hChannelIdeal := hChannelIdeal) (hPre_finite4 := hPre_finite4)
    ∧ quiescent_ChannelRefIdeal (hChannelRefIdeal := hChannelRefIdeal)
    ∧ quiescent_ChannelRefIdeal_pre_finite4 (hChannelRefIdeal := hChannelRefIdeal) (hPre_finite4 := hPre_finite4)
    ∧ quiescent_Project (hProject := hProject)
    ∧ quiescent_ProjectIdeal (hProjectIdeal := hProjectIdeal)
    ∧ quiescent_ProjectRefIdeal (hProjectRefIdeal := hProjectRefIdeal)
    ∧ preserves_Pointwise1x1_Pointwise1x1Ideal
    ∧ algebraic_Pointwise1x1Ideal_Pointwise1x1RefIdeal (hPointwise1x1Ideal := hPointwise1x1Ideal) (hPointwise1x1RefIdeal := hPointwise1x1RefIdeal)
    ∧ preserves_Depthwise_DepthwiseIdeal
    ∧ algebraic_DepthwiseIdeal_DepthwiseRefIdeal (hDepthwiseIdeal := hDepthwiseIdeal) (hDepthwiseRefIdeal := hDepthwiseRefIdeal)
    ∧ preserves_Spatial_SpatialIdeal
    ∧ algebraic_SpatialIdeal_SpatialRefIdeal_pre_finite3 (hSpatialIdeal := hSpatialIdeal) (hSpatialRefIdeal := hSpatialRefIdeal) (hPre_finite3 := hPre_finite3)
    ∧ preserves_Channel_ChannelIdeal
    ∧ algebraic_ChannelIdeal_ChannelRefIdeal_pre_finite4 (hChannelIdeal := hChannelIdeal) (hChannelRefIdeal := hChannelRefIdeal) (hPre_finite4 := hPre_finite4)
    ∧ preserves_Project_ProjectIdeal
    ∧ algebraic_ProjectIdeal_ProjectRefIdeal (hProjectIdeal := hProjectIdeal) (hProjectRefIdeal := hProjectRefIdeal)
-- ==== Pre_finite3.lean ====
abbrev S200704x48 : Shape := ⟨2, ![200704, 48]⟩
abbrev S4x1x1 : Shape := ⟨3, ![4, 1, 1]⟩
abbrev S1 : Shape := ⟨1, ![1]⟩
abbrev S_ : Shape := ⟨0, ![]⟩

class Facts : Prop where
  bitsLt_bf16_f32 : FTy.bits .bf16 < FTy.bits .f32
  bcast_S_S200704x48 : S_.BroadcastsInDim S200704x48 (![] : Fin 0 → Fin S200704x48.rank)
  bcast_S_S4x1x1 : S_.BroadcastsInDim S4x1x1 (![] : Fin 0 → Fin S4x1x1.rank)
  bcast_S_S1 : S_.BroadcastsInDim S1 (![] : Fin 0 → Fin S1.rank)

variable [Facts]

def fn_part1 {F : FTy → Type} [FloatOps F] (main_v3 : IVec S200704x48 1) (main_v6 : IVec S4x1x1 1) (main_v9 : IVec S1 1) (main_v12 : IVec S1 1) (main_v15 : IVec S1 1) (main_v16 : FVec F S1 .f32) (main_v17 : FVec F S1 .f32) : IVec S200704x48 1 × IVec S4x1x1 1 × IVec S1 1 × IVec S1 1 × IVec S1 1 × IVec S1 1 :=
  let main_v18 : IVec S1 1 := cmpf .olt main_v16 main_v17
  (main_v3, main_v6, main_v9, main_v12, main_v15, main_v18)

def fn {F : FTy → Type} [FloatOps F] (main_arg0 : FVec F S200704x48 .f32) (main_arg1 : FVec F S200704x48 .f32) (main_arg2 : FVec F S200704x48 .bf16) (main_arg3 : FVec F S4x1x1 .f32) (main_arg4 : FVec F S1 .f32) (main_arg5 : FVec F S1 .f32) (main_arg6 : FVec F S1 .f32) (main_arg7 : FVec F S1 .f32) : IVec S200704x48 1 × IVec S4x1x1 1 × IVec S1 1 × IVec S1 1 × IVec S1 1 × IVec S1 1 :=
  let main_v0 : FVec F S200704x48 .f32 := (extf .f32 · bitsLt_bf16_f32) main_arg2
  let main_v1 : FVec F S200704x48 .f32 := Host.absf main_v0
  let main_cst : FVec F S_ .f32 := constant S_ .f32 0x7F800000#32
  let main_v2 : FVec F S200704x48 .f32 := broadcastInDim S200704x48 ![] bcast_S_S200704x48 main_cst
  let main_v3 : IVec S200704x48 1 := cmpf .olt main_v1 main_v2
  let main_v4 : FVec F S4x1x1 .f32 := Host.absf main_arg3
  let main_cst_0 : FVec F S_ .f32 := constant S_ .f32 0x7F800000#32
  let main_v5 : FVec F S4x1x1 .f32 := broadcastInDim S4x1x1 ![] bcast_S_S4x1x1 main_cst_0
  let main_v6 : IVec S4x1x1 1 := cmpf .olt main_v4 main_v5
  let main_v7 : FVec F S1 .f32 := Host.absf main_arg4
  let main_cst_1 : FVec F S_ .f32 := constant S_ .f32 0x7F800000#32
  let main_v8 : FVec F S1 .f32 := broadcastInDim S1 ![] bcast_S_S1 main_cst_1
  let main_v9 : IVec S1 1 := cmpf .olt main_v7 main_v8
  let main_v10 : FVec F S1 .f32 := Host.absf main_arg5
  let main_cst_2 : FVec F S_ .f32 := constant S_ .f32 0x7F800000#32
  let main_v11 : FVec F S1 .f32 := broadcastInDim S1 ![] bcast_S_S1 main_cst_2
  let main_v12 : IVec S1 1 := cmpf .olt main_v10 main_v11
  let main_v13 : FVec F S1 .f32 := Host.absf main_arg6
  let main_cst_3 : FVec F S_ .f32 := constant S_ .f32 0x7F800000#32
  let main_v14 : FVec F S1 .f32 := broadcastInDim S1 ![] bcast_S_S1 main_cst_3
  let main_v15 : IVec S1 1 := cmpf .olt main_v13 main_v14
  let main_v16 : FVec F S1 .f32 := Host.absf main_arg7
  let main_cst_4 : FVec F S_ .f32 := constant S_ .f32 0x7F800000#32
  let main_v17 : FVec F S1 .f32 := broadcastInDim S1 ![] bcast_S_S1 main_cst_4
  fn_part1 (F := F) main_v3 main_v6 main_v9 main_v12 main_v15 main_v16 main_v17
-- ==== Pre_finite4.lean ====
abbrev S4x1x1 : Shape := ⟨3, ![4, 1, 1]⟩
abbrev S1 : Shape := ⟨1, ![1]⟩
abbrev S192x1 : Shape := ⟨2, ![192, 1]⟩
abbrev S192x50176 : Shape := ⟨2, ![192, 50176]⟩
abbrev S_ : Shape := ⟨0, ![]⟩

class Facts : Prop where
  bcast_S_S4x1x1 : S_.BroadcastsInDim S4x1x1 (![] : Fin 0 → Fin S4x1x1.rank)
  bcast_S_S192x50176 : S_.BroadcastsInDim S192x50176 (![] : Fin 0 → Fin S192x50176.rank)

variable [Facts]

def fn {F : FTy → Type} [FloatOps F] (main_arg0 : FVec F S4x1x1 .f32) (main_arg1 : FVec F S1 .f32) (main_arg2 : FVec F S1 .f32) (main_arg3 : FVec F S1 .f32) (main_arg4 : FVec F S1 .f32) (main_arg5 : FVec F S192x1 .f32) (main_arg6 : FVec F S192x1 .f32) (main_arg7 : FVec F S192x50176 .f32) (main_arg8 : FVec F S192x50176 .f32) : IVec S4x1x1 1 × IVec S192x50176 1 × IVec S192x50176 1 :=
  let main_v0 : FVec F S4x1x1 .f32 := Host.absf main_arg0
  let main_cst : FVec F S_ .f32 := constant S_ .f32 0x7F800000#32
  let main_v1 : FVec F S4x1x1 .f32 := broadcastInDim S4x1x1 ![] bcast_S_S4x1x1 main_cst
  let main_v2 : IVec S4x1x1 1 := cmpf .olt main_v0 main_v1
  let main_v3 : FVec F S192x50176 .f32 := Host.absf main_arg7
  let main_cst_0 : FVec F S_ .f32 := constant S_ .f32 0x7F800000#32
  let main_v4 : FVec F S192x50176 .f32 := broadcastInDim S192x50176 ![] bcast_S_S192x50176 main_cst_0
  let main_v5 : IVec S192x50176 1 := cmpf .olt main_v3 main_v4
  let main_v6 : FVec F S192x50176 .f32 := Host.absf main_arg8
  let main_cst_1 : FVec F S_ .f32 := constant S_ .f32 0x7F800000#32
  let main_v7 : FVec F S192x50176 .f32 := broadcastInDim S192x50176 ![] bcast_S_S192x50176 main_cst_1
  let main_v8 : IVec S192x50176 1 := cmpf .olt main_v6 main_v7
  (main_v2, main_v5, main_v8)
-- ==== Pointwise1x1.lean ====
abbrev S1x192x224x224 : Shape := ⟨4, ![1, 192, 224, 224]⟩
abbrev S576x192x1x1 : Shape := ⟨4, ![576, 192, 1, 1]⟩
abbrev S192x50176 : Shape := ⟨2, ![192, 50176]⟩
abbrev S576x192 : Shape := ⟨2, ![576, 192]⟩
abbrev S576x50176 : Shape := ⟨2, ![576, 50176]⟩
abbrev S192x3584 : Shape := ⟨2, ![192, 3584]⟩
abbrev S576x3584 : Shape := ⟨2, ![576, 3584]⟩
abbrev S192x512 : Shape := ⟨2, ![192, 512]⟩
abbrev S576x512 : Shape := ⟨2, ![576, 512]⟩

abbrev nBuf : Space → Nat
  | .hbm => 5
  | .vmem => 5
  | .smem => 0
  | _ => 0

abbrev bufTy : (tb : Table) → Fin (tcTables nBuf tb) → BufTy
  | .hbm, ⟨0, _⟩ => ⟨S1x192x224x224, .f32⟩
  | .hbm, ⟨1, _⟩ => ⟨S576x192x1x1, .f32⟩
  | .hbm, ⟨2, _⟩ => ⟨S192x50176, .f32⟩
  | .hbm, ⟨3, _⟩ => ⟨S576x192, .f32⟩
  | .hbm, ⟨4, _⟩ => ⟨S576x50176, .bf16⟩
  | .local _ .vmem, ⟨0, _⟩ => ⟨S576x192, .f32⟩
  | .local _ .vmem, ⟨1, _⟩ => ⟨S192x3584, .f32⟩
  | .local _ .vmem, ⟨2, _⟩ => ⟨S192x3584, .f32⟩
  | .local _ .vmem, ⟨3, _⟩ => ⟨S576x3584, .bf16⟩
  | .local _ .vmem, ⟨4, _⟩ => ⟨S576x3584, .bf16⟩
  | _, _ => ⟨S1x192x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S576x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S192x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S576x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Pointwise1x1RefIdeal.lean ====
abbrev S1x192x224x224 : Shape := ⟨4, ![1, 192, 224, 224]⟩
abbrev S576x192x1x1 : Shape := ⟨4, ![576, 192, 1, 1]⟩
abbrev S576x192 : Shape := ⟨2, ![576, 192]⟩
abbrev S1x224x224x576 : Shape := ⟨4, ![1, 224, 224, 576]⟩
abbrev S1x576x224x224 : Shape := ⟨4, ![1, 576, 224, 224]⟩
abbrev S576x50176 : Shape := ⟨2, ![576, 50176]⟩

abbrev nBuf : Space → Nat
  | .hbm => 7
  | .vmem => 0
  | .smem => 0
  | _ => 0

abbrev bufTy : (tb : Table) → Fin (tcTables nBuf tb) → BufTy
  | .hbm, ⟨0, _⟩ => ⟨S1x192x224x224, .f32⟩
  | .hbm, ⟨1, _⟩ => ⟨S576x192x1x1, .f32⟩
  | .hbm, ⟨2, _⟩ => ⟨S576x192, .f32⟩
  | .hbm, ⟨3, _⟩ => ⟨S1x224x224x576, .f32⟩
  | .hbm, ⟨4, _⟩ => ⟨S1x576x224x224, .f32⟩
  | .hbm, ⟨5, _⟩ => ⟨S576x50176, .f32⟩
  | .hbm, ⟨6, _⟩ => ⟨S576x50176, .bf16⟩
  | _, _ => ⟨S1x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Depthwise.lean ====
abbrev S576x50176 : Shape := ⟨2, ![576, 50176]⟩
abbrev S576x1x3x3 : Shape := ⟨4, ![576, 1, 3, 3]⟩
abbrev S576x224x224 : Shape := ⟨3, ![576, 224, 224]⟩
abbrev S_ : Shape := ⟨0, ![]⟩
abbrev S576x226x226 : Shape := ⟨3, ![576, 226, 226]⟩
abbrev S576x9 : Shape := ⟨2, ![576, 9]⟩
abbrev S576x1x1 : Shape := ⟨3, ![576, 1, 1]⟩
abbrev S16x226x226 : Shape := ⟨3, ![16, 226, 226]⟩
abbrev S16x9 : Shape := ⟨2, ![16, 9]⟩
abbrev S16x224x224 : Shape := ⟨3, ![16, 224, 224]⟩
abbrev S16x1x1 : Shape := ⟨3, ![16, 1, 1]⟩
abbrev S16x16x224 : Shape := ⟨3, ![16, 16, 224]⟩
abbrev S16x1 : Shape := ⟨2, ![16, 1]⟩
abbrev S16 : Shape := ⟨1, ![16]⟩

abbrev nBuf : Space → Nat
  | .hbm => 9
  | .vmem => 8
  | .smem => 0
  | _ => 0

abbrev bufTy : (tb : Table) → Fin (tcTables nBuf tb) → BufTy
  | .hbm, ⟨0, _⟩ => ⟨S576x50176, .bf16⟩
  | .hbm, ⟨1, _⟩ => ⟨S576x1x3x3, .f32⟩
  | .hbm, ⟨2, _⟩ => ⟨S576x224x224, .bf16⟩
  | .hbm, ⟨3, _⟩ => ⟨S_, .i32⟩
  | .hbm, ⟨4, _⟩ => ⟨S_, .bf16⟩
  | .hbm, ⟨5, _⟩ => ⟨S576x226x226, .bf16⟩
  | .hbm, ⟨6, _⟩ => ⟨S576x9, .f32⟩
  | .hbm, ⟨7, _⟩ => ⟨S576x224x224, .f32⟩
  | .hbm, ⟨8, _⟩ => ⟨S576x1x1, .f32⟩
  | .local _ .vmem, ⟨0, _⟩ => ⟨S16x226x226, .bf16⟩
  | .local _ .vmem, ⟨1, _⟩ => ⟨S16x226x226, .bf16⟩
  | .local _ .vmem, ⟨2, _⟩ => ⟨S16x9, .f32⟩
  | .local _ .vmem, ⟨3, _⟩ => ⟨S16x9, .f32⟩
  | .local _ .vmem, ⟨4, _⟩ => ⟨S16x224x224, .f32⟩
  | .local _ .vmem, ⟨5, _⟩ => ⟨S16x224x224, .f32⟩
  | .local _ .vmem, ⟨6, _⟩ => ⟨S16x1x1, .f32⟩
  | .local _ .vmem, ⟨7, _⟩ => ⟨S16x1x1, .f32⟩
  | _, _ => ⟨S576x50176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![36], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x226x226 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DepthwiseRefIdeal.lean ====
abbrev S576x50176 : Shape := ⟨2, ![576, 50176]⟩
abbrev S576x1x3x3 : Shape := ⟨4, ![576, 1, 3, 3]⟩
abbrev S576x224x224 : Shape := ⟨3, ![576, 224, 224]⟩
abbrev S_ : Shape := ⟨0, ![]⟩
abbrev S576x226x226 : Shape := ⟨3, ![576, 226, 226]⟩
abbrev S576x1x1x1 : Shape := ⟨4, ![576, 1, 1, 1]⟩
abbrev S576 : Shape := ⟨1, ![576]⟩
abbrev S576x1x1 : Shape := ⟨3, ![576, 1, 1]⟩

abbrev nBuf : Space → Nat
  | .hbm => 76
  | .vmem => 0
  | .smem => 0
  | _ => 0

abbrev bufTy : (tb : Table) → Fin (tcTables nBuf tb) → BufTy
  | .hbm, ⟨0, _⟩ => ⟨S576x50176, .bf16⟩
  | .hbm, ⟨1, _⟩ => ⟨S576x1x3x3, .f32⟩
  | .hbm, ⟨2, _⟩ => ⟨S576x224x224, .bf16⟩
  | .hbm, ⟨3, _⟩ => ⟨S576x224x224, .f32⟩
  | .hbm, ⟨4, _⟩ => ⟨S_, .i32⟩
  | .hbm, ⟨5, _⟩ => ⟨S_, .f32⟩
  | .hbm, ⟨6, _⟩ => ⟨S576x226x226, .f32⟩
  | .hbm, ⟨7, _⟩ => ⟨S576x224x224, .f32⟩
  | .hbm, ⟨8, _⟩ => ⟨S576x1x1x1, .f32⟩
  | .hbm, ⟨9, _⟩ => ⟨S576, .f32⟩
  | .hbm, ⟨10, _⟩ => ⟨S576x1x1, .f32⟩
  | .hbm, ⟨11, _⟩ => ⟨S576x224x224, .f32⟩
  | .hbm, ⟨12, _⟩ => ⟨S576x224x224, .f32⟩
  | .hbm, ⟨13, _⟩ => ⟨S_, .f32⟩
  | .hbm, ⟨14, _⟩ => ⟨S576x224x224, .f32⟩
  | .hbm, ⟨15, _⟩ => ⟨S576x224x224, .f32⟩
  | .hbm, ⟨16, _⟩ => ⟨S576x224x224, .f32⟩
  | .hbm, ⟨17, _⟩ => ⟨S576x1x1x1, .f32⟩
  | .hbm, ⟨18, _⟩ => ⟨S576, .f32⟩
  | .hbm, ⟨19, _⟩ => ⟨S576x1x1, .f32⟩
  | .hbm, ⟨20, _⟩ => ⟨S576x224x224, .f32⟩
  | .hbm, ⟨21, _⟩ => ⟨S576x224x224, .f32⟩
  | .hbm, ⟨22, _⟩ => ⟨S576x224x224, .f32⟩
  | .hbm, ⟨23, _⟩ => ⟨S576x224x224, .f32⟩
  | .hbm, ⟨24, _⟩ => ⟨S576x1x1x1, .f32⟩
  | .hbm, ⟨25, _⟩ => ⟨S576, .f32⟩
  | .hbm, ⟨26, _⟩ => ⟨S576x1x1, .f32⟩
  | .hbm, ⟨27, _⟩ => ⟨S576x224x224, .f32⟩
  | .hbm, ⟨28, _⟩ => ⟨S576x224x224, .f32⟩
  | .hbm, ⟨29, _⟩ => ⟨S576x224x224, .f32⟩
  | .hbm, ⟨30, _⟩ => ⟨S576x224x224, .f32⟩
  | .hbm, ⟨31, _⟩ => ⟨S576x1x1x1, .f32⟩
  | .hbm, ⟨32, _⟩ => ⟨S576, .f32⟩
  | .hbm, ⟨33, _⟩ => ⟨S576x1x1, .f32⟩
  | .hbm, ⟨34, _⟩ => ⟨S576x224x224, .f32⟩
  | .hbm, ⟨35, _⟩ => ⟨S576x224x224, .f32⟩
  | .hbm, ⟨36, _⟩ => ⟨S576x224x224, .f32⟩
  | .hbm, ⟨37, _⟩ => ⟨S576x224x224, .f32⟩
  | .hbm, ⟨38, _⟩ => ⟨S576x1x1x1, .f32⟩
  | .hbm, ⟨39, _⟩ => ⟨S576, .f32⟩
  | .hbm, ⟨40, _⟩ => ⟨S576x1x1, .f32⟩
  | .hbm, ⟨41, _⟩ => ⟨S576x224x224, .f32⟩
  | .hbm, ⟨42, _⟩ => ⟨S576x224x224, .f32⟩
  | .hbm, ⟨43, _⟩ => ⟨S576x224x224, .f32⟩
  | .hbm, ⟨44, _⟩ => ⟨S576x224x224, .f32⟩
  | .hbm, ⟨45, _⟩ => ⟨S576x1x1x1, .f32⟩
  | .hbm, ⟨46, _⟩ => ⟨S576, .f32⟩
  | .hbm, ⟨47, _⟩ => ⟨S576x1x1, .f32⟩
  | .hbm, ⟨48, _⟩ => ⟨S576x224x224, .f32⟩
  | .hbm, ⟨49, _⟩ => ⟨S576x224x224, .f32⟩
  | .hbm, ⟨50, _⟩ => ⟨S576x224x224, .f32⟩
  | .hbm, ⟨51, _⟩ => ⟨S576x224x224, .f32⟩
  | .hbm, ⟨52, _⟩ => ⟨S576x1x1x1, .f32⟩
  | .hbm, ⟨53, _⟩ => ⟨S576, .f32⟩
  | .hbm, ⟨54, _⟩ => ⟨S576x1x1, .f32⟩
  | .hbm, ⟨55, _⟩ => ⟨S576x224x224, .f32⟩
  | .hbm, ⟨56, _⟩ => ⟨S576x224x224, .f32⟩
  | .hbm, ⟨57, _⟩ => ⟨S576x224x224, .f32⟩
  | .hbm, ⟨58, _⟩ => ⟨S576x224x224, .f32⟩
  | .hbm, ⟨59, _⟩ => ⟨S576x1x1x1, .f32⟩
  | .hbm, ⟨60, _⟩ => ⟨S576, .f32⟩
  | .hbm, ⟨61, _⟩ => ⟨S576x1x1, .f32⟩
  | .hbm, ⟨62, _⟩ => ⟨S576x224x224, .f32⟩
  | .hbm, ⟨63, _⟩ => ⟨S576x224x224, .f32⟩
  | .hbm, ⟨64, _⟩ => ⟨S576x224x224, .f32⟩
  | .hbm, ⟨65, _⟩ => ⟨S576x224x224, .f32⟩
  | .hbm, ⟨66, _⟩ => ⟨S576x1x1x1, .f32⟩
  | .hbm, ⟨67, _⟩ => ⟨S576, .f32⟩
  | .hbm, ⟨68, _⟩ => ⟨S576x1x1, .f32⟩
  | .hbm, ⟨69, _⟩ => ⟨S576x224x224, .f32⟩
  | .hbm, ⟨70, _⟩ => ⟨S576x224x224, .f32⟩
  | .hbm, ⟨71, _⟩ => ⟨S576x224x224, .f32⟩
  | .hbm, ⟨72, _⟩ => ⟨S576x224x224, .f32⟩
  | .hbm, ⟨73, _⟩ => ⟨S_, .f32⟩
  | .hbm, ⟨74, _⟩ => ⟨S576, .f32⟩
  | .hbm, ⟨75, _⟩ => ⟨S576x1x1, .f32⟩
  | _, _ => ⟨S576x50176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_cst_0 : Ref sig .tc := ⟨.hbm, 73, rfl⟩
abbrev main_v68 : Ref sig .tc := ⟨.hbm, 74, rfl⟩
abbrev main_v69 : Ref sig .tc := ⟨.hbm, 75, rfl⟩

abbrev nD : Nat := 1
abbrev τ : Topo := Topo.v7x

variable {F : FTy → Type} [FloatOps F]
-- ==== Spatial.lean ====
abbrev S200704x48 : Shape := ⟨2, ![200704, 48]⟩
abbrev S4x1x1 : Shape := ⟨3, ![4, 1, 1]⟩
abbrev S1 : Shape := ⟨1, ![1]⟩
abbrev S4 : Shape := ⟨1, ![4]⟩
abbrev S8 : Shape := ⟨1, ![8]⟩
abbrev S_ : Shape := ⟨0, ![]⟩
abbrev S8x1 : Shape := ⟨2, ![8, 1]⟩
abbrev S8x64 : Shape := ⟨2, ![8, 64]⟩
abbrev S512 : Shape := ⟨1, ![512]⟩
abbrev S512x1 : Shape := ⟨2, ![512, 1]⟩
abbrev S1x64 : Shape := ⟨2, ![1, 64]⟩
abbrev S512x64 : Shape := ⟨2, ![512, 64]⟩
abbrev S512x128 : Shape := ⟨2, ![512, 128]⟩
abbrev S100352x96 : Shape := ⟨2, ![100352, 96]⟩
abbrev S1024x48 : Shape := ⟨2, ![1024, 48]⟩
abbrev S512x96 : Shape := ⟨2, ![512, 96]⟩
abbrev S1024 : Shape := ⟨1, ![1024]⟩
abbrev S1024x1 : Shape := ⟨2, ![1024, 1]⟩
abbrev S64x48 : Shape := ⟨2, ![64, 48]⟩
abbrev S64x64 : Shape := ⟨2, ![64, 64]⟩
abbrev S64x128 : Shape := ⟨2, ![64, 128]⟩
abbrev S512x63 : Shape := ⟨2, ![512, 63]⟩
abbrev S512x62 : Shape := ⟨2, ![512, 62]⟩
abbrev S512x2 : Shape := ⟨2, ![512, 2]⟩
abbrev S512x61 : Shape := ⟨2, ![512, 61]⟩
abbrev S512x3 : Shape := ⟨2, ![512, 3]⟩
abbrev S512x60 : Shape := ⟨2, ![512, 60]⟩
abbrev S512x4 : Shape := ⟨2, ![512, 4]⟩
abbrev S512x59 : Shape := ⟨2, ![512, 59]⟩
abbrev S512x5 : Shape := ⟨2, ![512, 5]⟩
abbrev S512x58 : Shape := ⟨2, ![512, 58]⟩
abbrev S512x6 : Shape := ⟨2, ![512, 6]⟩
abbrev S512x57 : Shape := ⟨2, ![512, 57]⟩
abbrev S512x7 : Shape := ⟨2, ![512, 7]⟩
abbrev S512x56 : Shape := ⟨2, ![512, 56]⟩
abbrev S512x8 : Shape := ⟨2, ![512, 8]⟩
abbrev S512x55 : Shape := ⟨2, ![512, 55]⟩
abbrev S512x9 : Shape := ⟨2, ![512, 9]⟩
abbrev S512x54 : Shape := ⟨2, ![512, 54]⟩
abbrev S512x10 : Shape := ⟨2, ![512, 10]⟩
abbrev S512x53 : Shape := ⟨2, ![512, 53]⟩
abbrev S512x11 : Shape := ⟨2, ![512, 11]⟩
abbrev S512x52 : Shape := ⟨2, ![512, 52]⟩
abbrev S512x12 : Shape := ⟨2, ![512, 12]⟩
abbrev S512x51 : Shape := ⟨2, ![512, 51]⟩
abbrev S512x13 : Shape := ⟨2, ![512, 13]⟩
abbrev S512x50 : Shape := ⟨2, ![512, 50]⟩
abbrev S512x14 : Shape := ⟨2, ![512, 14]⟩
abbrev S512x49 : Shape := ⟨2, ![512, 49]⟩
abbrev S512x15 : Shape := ⟨2, ![512, 15]⟩
abbrev S512x48 : Shape := ⟨2, ![512, 48]⟩
abbrev S512x16 : Shape := ⟨2, ![512, 16]⟩
abbrev S512x47 : Shape := ⟨2, ![512, 47]⟩
abbrev S512x17 : Shape := ⟨2, ![512, 17]⟩
abbrev S512x46 : Shape := ⟨2, ![512, 46]⟩
abbrev S512x18 : Shape := ⟨2, ![512, 18]⟩
abbrev S512x45 : Shape := ⟨2, ![512, 45]⟩
abbrev S512x19 : Shape := ⟨2, ![512, 19]⟩
abbrev S512x44 : Shape := ⟨2, ![512, 44]⟩
abbrev S512x20 : Shape := ⟨2, ![512, 20]⟩
abbrev S512x43 : Shape := ⟨2, ![512, 43]⟩
abbrev S512x21 : Shape := ⟨2, ![512, 21]⟩
abbrev S512x42 : Shape := ⟨2, ![512, 42]⟩
abbrev S512x22 : Shape := ⟨2, ![512, 22]⟩
abbrev S512x41 : Shape := ⟨2, ![512, 41]⟩
abbrev S512x23 : Shape := ⟨2, ![512, 23]⟩
abbrev S512x40 : Shape := ⟨2, ![512, 40]⟩
abbrev S512x24 : Shape := ⟨2, ![512, 24]⟩
abbrev S512x39 : Shape := ⟨2, ![512, 39]⟩
abbrev S512x25 : Shape := ⟨2, ![512, 25]⟩
abbrev S512x38 : Shape := ⟨2, ![512, 38]⟩
abbrev S512x26 : Shape := ⟨2, ![512, 26]⟩
abbrev S512x37 : Shape := ⟨2, ![512, 37]⟩
abbrev S512x27 : Shape := ⟨2, ![512, 27]⟩
abbrev S512x36 : Shape := ⟨2, ![512, 36]⟩
abbrev S512x28 : Shape := ⟨2, ![512, 28]⟩
abbrev S512x35 : Shape := ⟨2, ![512, 35]⟩
abbrev S512x29 : Shape := ⟨2, ![512, 29]⟩
abbrev S512x34 : Shape := ⟨2, ![512, 34]⟩
abbrev S512x30 : Shape := ⟨2, ![512, 30]⟩
abbrev S512x33 : Shape := ⟨2, ![512, 33]⟩
abbrev S512x31 : Shape := ⟨2, ![512, 31]⟩
abbrev S512x32 : Shape := ⟨2, ![512, 32]⟩
abbrev S64x96 : Shape := ⟨2, ![64, 96]⟩
abbrev S128x96 : Shape := ⟨2, ![128, 96]⟩

abbrev nBuf : Space → Nat
  | .hbm => 103
  | .vmem => 9
  | .smem => 1
  | _ => 0

abbrev bufTy : (tb : Table) → Fin (tcTables nBuf tb) → BufTy
  | .hbm, ⟨0, _⟩ => ⟨S200704x48, .f32⟩
  | .hbm, ⟨1, _⟩ => ⟨S200704x48, .f32⟩
  | .hbm, ⟨2, _⟩ => ⟨S200704x48, .bf16⟩
  | .hbm, ⟨3, _⟩ => ⟨S4x1x1, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S4, .f32⟩
  | .hbm, ⟨9, _⟩ => ⟨S8, .f32⟩
  | .hbm, ⟨10, _⟩ => ⟨S4, .f32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S8, .i32⟩
  | .hbm, ⟨28, _⟩ => ⟨S8, .i1⟩
  | .hbm, ⟨29, _⟩ => ⟨S_, .i32⟩
  | .hbm, ⟨30, _⟩ => ⟨S8, .i32⟩
  | .hbm, ⟨31, _⟩ => ⟨S8, .i1⟩
  | .hbm, ⟨32, _⟩ => ⟨S_, .i32⟩
  | .hbm, ⟨33, _⟩ => ⟨S_, .i1⟩
  | .hbm, ⟨34, _⟩ => ⟨S8, .i1⟩
  | .hbm, ⟨35, _⟩ => ⟨S8, .i1⟩
  | .hbm, ⟨36, _⟩ => ⟨S8, .i1⟩
  | .hbm, ⟨37, _⟩ => ⟨S8, .i32⟩
  | .hbm, ⟨38, _⟩ => ⟨S8, .i32⟩
  | .hbm, ⟨39, _⟩ => ⟨S8, .i32⟩
  | .hbm, ⟨40, _⟩ => ⟨S_, .i32⟩
  | .hbm, ⟨41, _⟩ => ⟨S8, .i32⟩
  | .hbm, ⟨42, _⟩ => ⟨S8, .i1⟩
  | .hbm, ⟨43, _⟩ => ⟨S_, .i32⟩
  | .hbm, ⟨44, _⟩ => ⟨S8, .i32⟩
  | .hbm, ⟨45, _⟩ => ⟨S8, .i32⟩
  | .hbm, ⟨46, _⟩ => ⟨S8, .i32⟩
  | .hbm, ⟨47, _⟩ => ⟨S8x1, .i32⟩
  | .hbm, ⟨48, _⟩ => ⟨S8, .f32⟩
  | .hbm, ⟨49, _⟩ => ⟨S8x64, .f32⟩
  | .hbm, ⟨50, _⟩ => ⟨S512, .f32⟩
  | .hbm, ⟨51, _⟩ => ⟨S512x1, .f32⟩
  | .hbm, ⟨52, _⟩ => ⟨S8, .i32⟩
  | .hbm, ⟨53, _⟩ => ⟨S_, .i32⟩
  | .hbm, ⟨54, _⟩ => ⟨S8, .i32⟩
  | .hbm, ⟨55, _⟩ => ⟨S8, .i32⟩
  | .hbm, ⟨56, _⟩ => ⟨S_, .i32⟩
  | .hbm, ⟨57, _⟩ => ⟨S8, .i32⟩
  | .hbm, ⟨58, _⟩ => ⟨S8, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S8, .i32⟩
  | .hbm, ⟨66, _⟩ => ⟨S8, .i32⟩
  | .hbm, ⟨67, _⟩ => ⟨S_, .i32⟩
  | .hbm, ⟨68, _⟩ => ⟨S8, .i32⟩
  | .hbm, ⟨69, _⟩ => ⟨S8, .i1⟩
  | .hbm, ⟨70, _⟩ => ⟨S_, .i32⟩
  | .hbm, ⟨71, _⟩ => ⟨S8, .i32⟩
  | .hbm, ⟨72, _⟩ => ⟨S8, .i1⟩
  | .hbm, ⟨73, _⟩ => ⟨S_, .i32⟩
  | .hbm, ⟨74, _⟩ => ⟨S_, .i1⟩
  | .hbm, ⟨75, _⟩ => ⟨S8, .i1⟩
  | .hbm, ⟨76, _⟩ => ⟨S8, .i1⟩
  | .hbm, ⟨77, _⟩ => ⟨S8, .i1⟩
  | .hbm, ⟨78, _⟩ => ⟨S8, .i32⟩
  | .hbm, ⟨79, _⟩ => ⟨S8, .i32⟩
  | .hbm, ⟨80, _⟩ => ⟨S8, .i32⟩
  | .hbm, ⟨81, _⟩ => ⟨S_, .i32⟩
  | .hbm, ⟨82, _⟩ => ⟨S8, .i32⟩
  | .hbm, ⟨83, _⟩ => ⟨S8, .i1⟩
  | .hbm, ⟨84, _⟩ => ⟨S_, .i32⟩
  | .hbm, ⟨85, _⟩ => ⟨S8, .i32⟩
  | .hbm, ⟨86, _⟩ => ⟨S8, .i32⟩
  | .hbm, ⟨87, _⟩ => ⟨S8, .i32⟩
  | .hbm, ⟨88, _⟩ => ⟨S8x1, .i32⟩
  | .hbm, ⟨89, _⟩ => ⟨S8, .f32⟩
  | .hbm, ⟨90, _⟩ => ⟨S8x64, .f32⟩
  | .hbm, ⟨91, _⟩ => ⟨S512, .f32⟩
  | .hbm, ⟨92, _⟩ => ⟨S512x1, .f32⟩
  | .hbm, ⟨93, _⟩ => ⟨S_, .f32⟩
  | .hbm, ⟨94, _⟩ => ⟨S1x64, .f32⟩
  | .hbm, ⟨95, _⟩ => ⟨S512x64, .f32⟩
  | .hbm, ⟨96, _⟩ => ⟨S512x64, .f32⟩
  | .hbm, ⟨97, _⟩ => ⟨S512x64, .f32⟩
  | .hbm, ⟨98, _⟩ => ⟨S512x64, .f32⟩
  | .hbm, ⟨99, _⟩ => ⟨S512x64, .f32⟩
  | .hbm, ⟨100, _⟩ => ⟨S512x64, .f32⟩
  | .hbm, ⟨101, _⟩ => ⟨S512x128, .f32⟩
  | .hbm, ⟨102, _⟩ => ⟨S100352x96, .f32⟩
  | .local _ .vmem, ⟨0, _⟩ => ⟨S512x128, .f32⟩
  | .local _ .vmem, ⟨1, _⟩ => ⟨S1024x48, .f32⟩
  | .local _ .vmem, ⟨2, _⟩ => ⟨S1024x48, .f32⟩
  | .local _ .vmem, ⟨3, _⟩ => ⟨S1024x48, .f32⟩
  | .local _ .vmem, ⟨4, _⟩ => ⟨S1024x48, .f32⟩
  | .local _ .vmem, ⟨5, _⟩ => ⟨S1024x48, .bf16⟩
  | .local _ .vmem, ⟨6, _⟩ => ⟨S1024x48, .bf16⟩
  | .local _ .vmem, ⟨7, _⟩ => ⟨S512x96, .f32⟩
  | .local _ .vmem, ⟨8, _⟩ => ⟨S512x96, .f32⟩
  | .local _ .smem, ⟨0, _⟩ => ⟨S8, .f32⟩
  | _, _ => ⟨S200704x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v8 : Ref sig .tc := ⟨.hbm, 39, rfl⟩
abbrev main_c_2 : Ref sig .tc := ⟨.hbm, 40, rfl⟩
abbrev main_v9 : Ref sig .tc := ⟨.hbm, 41, rfl⟩
abbrev main_v10 : Ref sig .tc := ⟨.hbm, 42, rfl⟩
abbrev main_c_3 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_c_4 : Ref sig .tc := ⟨.hbm, 53, rfl⟩
abbrev main_v20 : Ref sig .tc := ⟨.hbm, 54, rfl⟩
abbrev main_v21 : Ref sig .tc := ⟨.hbm, 55, rfl⟩
abbrev main_c_5 : Ref sig .tc := ⟨.hbm, 56, rfl⟩
abbrev main_v22 : Ref sig .tc := ⟨.hbm, 57, rfl⟩
abbrev main_v23 : Ref sig .tc := ⟨.hbm, 58, rfl⟩
abbrev main_c_6 : Ref sig .tc := ⟨.hbm, 59, rfl⟩
abbrev main_call1_v0 : Ref sig .tc := ⟨.hbm, 60, rfl⟩
abbrev main_call1_c : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_c_1 : Ref sig .tc := ⟨.hbm, 67, rfl⟩
abbrev main_call1_v5 : Ref sig .tc := ⟨.hbm, 68, rfl⟩
abbrev main_call1_v6 : Ref sig .tc := ⟨.hbm, 69, rfl⟩
abbrev main_call1_c_2 : Ref sig .tc := ⟨.hbm, 70, rfl⟩
abbrev main_call1_v7 : Ref sig .tc := ⟨.hbm, 71, rfl⟩
abbrev main_call1_v8 : Ref sig .tc := ⟨.hbm, 72, rfl⟩
abbrev main_call1_c_3 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_v24 : Ref sig .tc := ⟨.hbm, 80, rfl⟩
abbrev main_c_7 : Ref sig .tc := ⟨.hbm, 81, rfl⟩
abbrev main_v25 : Ref sig .tc := ⟨.hbm, 82, rfl⟩
abbrev main_v26 : Ref sig .tc := ⟨.hbm, 83, rfl⟩
abbrev main_c_8 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_cst : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![196], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x48 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SpatialRefIdeal.lean ====
abbrev S200704x48 : Shape := ⟨2, ![200704, 48]⟩
abbrev S4x1x1 : Shape := ⟨3, ![4, 1, 1]⟩
abbrev S1 : Shape := ⟨1, ![1]⟩
abbrev S784x4x64x48 : Shape := ⟨4, ![784, 4, 64, 48]⟩
abbrev S_ : Shape := ⟨0, ![]⟩
abbrev S784x4x64 : Shape := ⟨3, ![784, 4, 64]⟩
abbrev S784x4x64x1 : Shape := ⟨4, ![784, 4, 64, 1]⟩
abbrev S784x4x48x64 : Shape := ⟨4, ![784, 4, 48, 64]⟩
abbrev S784x4x64x64 : Shape := ⟨4, ![784, 4, 64, 64]⟩
abbrev S1x4x1x1 : Shape := ⟨4, ![1, 4, 1, 1]⟩
abbrev S784x4x64x32 : Shape := ⟨4, ![784, 4, 64, 32]⟩
abbrev S200704x64 : Shape := ⟨2, ![200704, 64]⟩
abbrev S200704 : Shape := ⟨1, ![200704]⟩
abbrev S200704x1 : Shape := ⟨2, ![200704, 1]⟩
abbrev S200704x32 : Shape := ⟨2, ![200704, 32]⟩
abbrev S200704x32x1 : Shape := ⟨3, ![200704, 32, 1]⟩
abbrev S200704x32x2 : Shape := ⟨3, ![200704, 32, 2]⟩
abbrev S784x4x64x42 : Shape := ⟨4, ![784, 4, 64, 42]⟩
abbrev S200704x42 : Shape := ⟨2, ![200704, 42]⟩
abbrev S200704x42x1 : Shape := ⟨3, ![200704, 42, 1]⟩
abbrev S200704x42x2 : Shape := ⟨3, ![200704, 42, 2]⟩
abbrev S200704x48x1 : Shape := ⟨3, ![200704, 48, 1]⟩
abbrev S200704x48x2 : Shape := ⟨3, ![200704, 48, 2]⟩
abbrev S784x4x64x51 : Shape := ⟨4, ![784, 4, 64, 51]⟩
abbrev S200704x51 : Shape := ⟨2, ![200704, 51]⟩
abbrev S200704x51x1 : Shape := ⟨3, ![200704, 51, 1]⟩
abbrev S200704x51x2 : Shape := ⟨3, ![200704, 51, 2]⟩
abbrev S1x1x1x1 : Shape := ⟨4, ![1, 1, 1, 1]⟩
abbrev S1568x2x64x48 : Shape := ⟨4, ![1568, 2, 64, 48]⟩
abbrev S1568x64x2x48 : Shape := ⟨4, ![1568, 64, 2, 48]⟩
abbrev S100352x96 : Shape := ⟨2, ![100352, 96]⟩

abbrev nBuf : Space → Nat
  | .hbm => 263
  | .vmem => 0
  | .smem => 0
  | _ => 0

abbrev hbmTy0_0 (i : Nat) : BufTy := match i % 128 with
  | 0 => ⟨S200704x48, .f32⟩
  | 1 => ⟨S200704x48, .f32⟩
  | 2 => ⟨S200704x48, .bf16⟩
  | 3 => ⟨S4x1x1, .f32⟩
  | 4 => ⟨S1, .f32⟩
  | 5 => ⟨S1, .f32⟩
  | 6 => ⟨S1, .f32⟩
  | 7 => ⟨S1, .f32⟩
  | 8 => ⟨S784x4x64x48, .f32⟩
  | 9 => ⟨S784x4x64x48, .f32⟩
  | 10 => ⟨S_, .f32⟩
  | 11 => ⟨S784x4x64, .f32⟩
  | 12 => ⟨S784x4x64x1, .f32⟩
  | 13 => ⟨S784x4x64x1, .f32⟩
  | 14 => ⟨S_, .f32⟩
  | 15 => ⟨S784x4x64x1, .f32⟩
  | 16 => ⟨S784x4x64x1, .f32⟩
  | 17 => ⟨S784x4x64x48, .f32⟩
  | 18 => ⟨S784x4x64x48, .f32⟩
  | 19 => ⟨S784x4x64x48, .f32⟩
  | 20 => ⟨S784x4x64x48, .f32⟩
  | 21 => ⟨S_, .f32⟩
  | 22 => ⟨S784x4x64, .f32⟩
  | 23 => ⟨S784x4x64x1, .f32⟩
  | 24 => ⟨S784x4x64x1, .f32⟩
  | 25 => ⟨S_, .f32⟩
  | 26 => ⟨S784x4x64x1, .f32⟩
  | 27 => ⟨S784x4x64x1, .f32⟩
  | 28 => ⟨S784x4x64x48, .f32⟩
  | 29 => ⟨S784x4x64x48, .f32⟩
  | 30 => ⟨S200704x48, .f32⟩
  | 31 => ⟨S784x4x64x48, .f32⟩
  | 32 => ⟨S784x4x48x64, .f32⟩
  | 33 => ⟨S784x4x64x64, .f32⟩
  | 34 => ⟨S1x4x1x1, .f32⟩
  | 35 => ⟨S784x4x64x64, .f32⟩
  | 36 => ⟨S784x4x64x64, .f32⟩
  | 37 => ⟨S784x4x64x32, .f32⟩
  | 38 => ⟨S784x4x64x32, .i32⟩
  | 39 => ⟨S200704x64, .f32⟩
  | 40 => ⟨S200704, .i32⟩
  | 41 => ⟨S200704x1, .i32⟩
  | 42 => ⟨S_, .f32⟩
  | 43 => ⟨S200704x64, .f32⟩
  | 44 => ⟨S200704x32, .i32⟩
  | 45 => ⟨S_, .i32⟩
  | 46 => ⟨S200704x1, .i32⟩
  | 47 => ⟨S200704x1, .i1⟩
  | 48 => ⟨S_, .i32⟩
  | 49 => ⟨S200704x1, .i32⟩
  | 50 => ⟨S200704x1, .i32⟩
  | 51 => ⟨S200704x1, .i32⟩
  | 52 => ⟨S_, .i32⟩
  | 53 => ⟨S200704x32, .i32⟩
  | 54 => ⟨S200704x32, .i1⟩
  | 55 => ⟨S_, .i32⟩
  | 56 => ⟨S200704x32, .i32⟩
  | 57 => ⟨S200704x32, .i32⟩
  | 58 => ⟨S200704x32, .i32⟩
  | 59 => ⟨S200704x32, .i32⟩
  | 60 => ⟨S200704x32x1, .i32⟩
  | 61 => ⟨S200704x32x1, .i32⟩
  | 62 => ⟨S200704x32x2, .i32⟩
  | 63 => ⟨S_, .f32⟩
  | 64 => ⟨S200704x32, .f32⟩
  | 65 => ⟨S200704x64, .f32⟩
  | 66 => ⟨S784x4x64x64, .f32⟩
  | 67 => ⟨S_, .f32⟩
  | 68 => ⟨S784x4x64x64, .f32⟩
  | 69 => ⟨S784x4x64x64, .i1⟩
  | 70 => ⟨S_, .f32⟩
  | 71 => ⟨S_, .f32⟩
  | 72 => ⟨S784x4x64x64, .f32⟩
  | 73 => ⟨S784x4x64x64, .f32⟩
  | 74 => ⟨S_, .f32⟩
  | 75 => ⟨S784x4x64, .f32⟩
  | 76 => ⟨S_, .f32⟩
  | 77 => ⟨S784x4x64, .f32⟩
  | 78 => ⟨S784x4x64, .f32⟩
  | 79 => ⟨S784x4x64x1, .f32⟩
  | 80 => ⟨S784x4x64x64, .f32⟩
  | 81 => ⟨S784x4x64x64, .f32⟩
  | 82 => ⟨S784x4x64x64, .f32⟩
  | 83 => ⟨S_, .f32⟩
  | 84 => ⟨S784x4x64, .f32⟩
  | 85 => ⟨S784x4x64x1, .f32⟩
  | 86 => ⟨S784x4x64x64, .f32⟩
  | 87 => ⟨S784x4x64x64, .f32⟩
  | 88 => ⟨S784x4x64x42, .f32⟩
  | 89 => ⟨S784x4x64x42, .i32⟩
  | 90 => ⟨S200704x64, .f32⟩
  | 91 => ⟨S200704, .i32⟩
  | 92 => ⟨S200704x1, .i32⟩
  | 93 => ⟨S_, .f32⟩
  | 94 => ⟨S200704x64, .f32⟩
  | 95 => ⟨S200704x42, .i32⟩
  | 96 => ⟨S_, .i32⟩
  | 97 => ⟨S200704x1, .i32⟩
  | 98 => ⟨S200704x1, .i1⟩
  | 99 => ⟨S_, .i32⟩
  | 100 => ⟨S200704x1, .i32⟩
  | 101 => ⟨S200704x1, .i32⟩
  | 102 => ⟨S200704x1, .i32⟩
  | 103 => ⟨S_, .i32⟩
  | 104 => ⟨S200704x42, .i32⟩
  | 105 => ⟨S200704x42, .i1⟩
  | 106 => ⟨S_, .i32⟩
  | 107 => ⟨S200704x42, .i32⟩
  | 108 => ⟨S200704x42, .i32⟩
  | 109 => ⟨S200704x42, .i32⟩
  | 110 => ⟨S200704x42, .i32⟩
  | 111 => ⟨S200704x42x1, .i32⟩
  | 112 => ⟨S200704x42x1, .i32⟩
  | 113 => ⟨S200704x42x2, .i32⟩
  | 114 => ⟨S_, .f32⟩
  | 115 => ⟨S200704x42, .f32⟩
  | 116 => ⟨S200704x64, .f32⟩
  | 117 => ⟨S784x4x64x64, .f32⟩
  | 118 => ⟨S_, .f32⟩
  | 119 => ⟨S784x4x64x64, .f32⟩
  | 120 => ⟨S784x4x64x64, .i1⟩
  | 121 => ⟨S_, .f32⟩
  | 122 => ⟨S_, .f32⟩
  | 123 => ⟨S784x4x64x64, .f32⟩
  | 124 => ⟨S784x4x64x64, .f32⟩
  | 125 => ⟨S_, .f32⟩
  | 126 => ⟨S784x4x64, .f32⟩
  | 127 => ⟨S_, .f32⟩
  | _ => ⟨S200704x48, .f32⟩

abbrev hbmTy0_1 (i : Nat) : BufTy := match i % 128 with
  | 0 => ⟨S784x4x64, .f32⟩
  | 1 => ⟨S784x4x64, .f32⟩
  | 2 => ⟨S784x4x64x1, .f32⟩
  | 3 => ⟨S784x4x64x64, .f32⟩
  | 4 => ⟨S784x4x64x64, .f32⟩
  | 5 => ⟨S784x4x64x64, .f32⟩
  | 6 => ⟨S_, .f32⟩
  | 7 => ⟨S784x4x64, .f32⟩
  | 8 => ⟨S784x4x64x1, .f32⟩
  | 9 => ⟨S784x4x64x64, .f32⟩
  | 10 => ⟨S784x4x64x64, .f32⟩
  | 11 => ⟨S784x4x64x48, .f32⟩
  | 12 => ⟨S784x4x64x48, .i32⟩
  | 13 => ⟨S200704x64, .f32⟩
  | 14 => ⟨S200704, .i32⟩
  | 15 => ⟨S200704x1, .i32⟩
  | 16 => ⟨S_, .f32⟩
  | 17 => ⟨S200704x64, .f32⟩
  | 18 => ⟨S200704x48, .i32⟩
  | 19 => ⟨S_, .i32⟩
  | 20 => ⟨S200704x1, .i32⟩
  | 21 => ⟨S200704x1, .i1⟩
  | 22 => ⟨S_, .i32⟩
  | 23 => ⟨S200704x1, .i32⟩
  | 24 => ⟨S200704x1, .i32⟩
  | 25 => ⟨S200704x1, .i32⟩
  | 26 => ⟨S_, .i32⟩
  | 27 => ⟨S200704x48, .i32⟩
  | 28 => ⟨S200704x48, .i1⟩
  | 29 => ⟨S_, .i32⟩
  | 30 => ⟨S200704x48, .i32⟩
  | 31 => ⟨S200704x48, .i32⟩
  | 32 => ⟨S200704x48, .i32⟩
  | 33 => ⟨S200704x48, .i32⟩
  | 34 => ⟨S200704x48x1, .i32⟩
  | 35 => ⟨S200704x48x1, .i32⟩
  | 36 => ⟨S200704x48x2, .i32⟩
  | 37 => ⟨S_, .f32⟩
  | 38 => ⟨S200704x48, .f32⟩
  | 39 => ⟨S200704x64, .f32⟩
  | 40 => ⟨S784x4x64x64, .f32⟩
  | 41 => ⟨S_, .f32⟩
  | 42 => ⟨S784x4x64x64, .f32⟩
  | 43 => ⟨S784x4x64x64, .i1⟩
  | 44 => ⟨S_, .f32⟩
  | 45 => ⟨S_, .f32⟩
  | 46 => ⟨S784x4x64x64, .f32⟩
  | 47 => ⟨S784x4x64x64, .f32⟩
  | 48 => ⟨S_, .f32⟩
  | 49 => ⟨S784x4x64, .f32⟩
  | 50 => ⟨S_, .f32⟩
  | 51 => ⟨S784x4x64, .f32⟩
  | 52 => ⟨S784x4x64, .f32⟩
  | 53 => ⟨S784x4x64x1, .f32⟩
  | 54 => ⟨S784x4x64x64, .f32⟩
  | 55 => ⟨S784x4x64x64, .f32⟩
  | 56 => ⟨S784x4x64x64, .f32⟩
  | 57 => ⟨S_, .f32⟩
  | 58 => ⟨S784x4x64, .f32⟩
  | 59 => ⟨S784x4x64x1, .f32⟩
  | 60 => ⟨S784x4x64x64, .f32⟩
  | 61 => ⟨S784x4x64x64, .f32⟩
  | 62 => ⟨S784x4x64x51, .f32⟩
  | 63 => ⟨S784x4x64x51, .i32⟩
  | 64 => ⟨S200704x64, .f32⟩
  | 65 => ⟨S200704, .i32⟩
  | 66 => ⟨S200704x1, .i32⟩
  | 67 => ⟨S_, .f32⟩
  | 68 => ⟨S200704x64, .f32⟩
  | 69 => ⟨S200704x51, .i32⟩
  | 70 => ⟨S_, .i32⟩
  | 71 => ⟨S200704x1, .i32⟩
  | 72 => ⟨S200704x1, .i1⟩
  | 73 => ⟨S_, .i32⟩
  | 74 => ⟨S200704x1, .i32⟩
  | 75 => ⟨S200704x1, .i32⟩
  | 76 => ⟨S200704x1, .i32⟩
  | 77 => ⟨S_, .i32⟩
  | 78 => ⟨S200704x51, .i32⟩
  | 79 => ⟨S200704x51, .i1⟩
  | 80 => ⟨S_, .i32⟩
  | 81 => ⟨S200704x51, .i32⟩
  | 82 => ⟨S200704x51, .i32⟩
  | 83 => ⟨S200704x51, .i32⟩
  | 84 => ⟨S200704x51, .i32⟩
  | 85 => ⟨S200704x51x1, .i32⟩
  | 86 => ⟨S200704x51x1, .i32⟩
  | 87 => ⟨S200704x51x2, .i32⟩
  | 88 => ⟨S_, .f32⟩
  | 89 => ⟨S200704x51, .f32⟩
  | 90 => ⟨S200704x64, .f32⟩
  | 91 => ⟨S784x4x64x64, .f32⟩
  | 92 => ⟨S_, .f32⟩
  | 93 => ⟨S784x4x64x64, .f32⟩
  | 94 => ⟨S784x4x64x64, .i1⟩
  | 95 => ⟨S_, .f32⟩
  | 96 => ⟨S_, .f32⟩
  | 97 => ⟨S784x4x64x64, .f32⟩
  | 98 => ⟨S784x4x64x64, .f32⟩
  | 99 => ⟨S_, .f32⟩
  | 100 => ⟨S784x4x64, .f32⟩
  | 101 => ⟨S_, .f32⟩
  | 102 => ⟨S784x4x64, .f32⟩
  | 103 => ⟨S784x4x64, .f32⟩
  | 104 => ⟨S784x4x64x1, .f32⟩
  | 105 => ⟨S784x4x64x64, .f32⟩
  | 106 => ⟨S784x4x64x64, .f32⟩
  | 107 => ⟨S784x4x64x64, .f32⟩
  | 108 => ⟨S_, .f32⟩
  | 109 => ⟨S784x4x64, .f32⟩
  | 110 => ⟨S784x4x64x1, .f32⟩
  | 111 => ⟨S784x4x64x64, .f32⟩
  | 112 => ⟨S784x4x64x64, .f32⟩
  | 113 => ⟨S784x4x64x48, .f32⟩
  | 114 => ⟨S1x1x1x1, .f32⟩
  | 115 => ⟨S784x4x64x48, .f32⟩
  | 116 => ⟨S784x4x64x48, .f32⟩
  | 117 => ⟨S784x4x64x48, .f32⟩
  | 118 => ⟨S1x1x1x1, .f32⟩
  | 119 => ⟨S784x4x64x48, .f32⟩
  | 120 => ⟨S784x4x64x48, .f32⟩
  | 121 => ⟨S784x4x64x48, .f32⟩
  | 122 => ⟨S784x4x64x48, .f32⟩
  | 123 => ⟨S1x1x1x1, .f32⟩
  | 124 => ⟨S784x4x64x48, .f32⟩
  | 125 => ⟨S784x4x64x48, .f32⟩
  | 126 => ⟨S784x4x64x48, .f32⟩
  | 127 => ⟨S784x4x64x48, .f32⟩
  | _ => ⟨S200704x48, .f32⟩

abbrev hbmTy0_2 (i : Nat) : BufTy := match i % 128 with
  | 0 => ⟨S1x1x1x1, .f32⟩
  | 1 => ⟨S784x4x64x48, .f32⟩
  | 2 => ⟨S784x4x64x48, .f32⟩
  | 3 => ⟨S784x4x64x48, .f32⟩
  | 4 => ⟨S1568x2x64x48, .f32⟩
  | 5 => ⟨S1568x64x2x48, .f32⟩
  | 6 => ⟨S100352x96, .f32⟩
  | _ => ⟨S200704x48, .f32⟩

abbrev hbmTy (i : Nat) : BufTy := match i / 128 with
  | 0 => hbmTy0_0 i
  | 1 => hbmTy0_1 i
  | 2 => hbmTy0_2 i
  | _ => ⟨S200704x48, .f32⟩

abbrev bufTy : (tb : Table) → Fin (tcTables nBuf tb) → BufTy
  | .hbm, ⟨i, _⟩ => hbmTy i
  | _, _ => ⟨S200704x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_values : Ref sig .tc := ⟨.hbm, 37, rfl⟩
abbrev main_indices : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_call0_v0 : Ref sig .tc := ⟨.hbm, 71, rfl⟩
abbrev main_call0_v1 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_values_13 : Ref sig .tc := ⟨.hbm, 88, rfl⟩
abbrev main_indices_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_18 : Ref sig .tc := ⟨.hbm, 103, rfl⟩
abbrev main_v71 : Ref sig .tc := ⟨.hbm, 104, rfl⟩
abbrev main_v72 : Ref sig .tc := ⟨.hbm, 105, rfl⟩
abbrev main_c_19 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_20 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_21 : Ref sig .tc := ⟨.hbm, 118, rfl⟩
abbrev main_v83 : Ref sig .tc := ⟨.hbm, 119, rfl⟩
abbrev main_v84 : Ref sig .tc := ⟨.hbm, 120, rfl⟩
abbrev main_cst_22 : Ref sig .tc := ⟨.hbm, 121, rfl⟩
abbrev main_call1_v0 : Ref sig .tc := ⟨.hbm, 122, rfl⟩
abbrev main_call1_v1 : Ref sig .tc := ⟨.hbm, 123, rfl⟩
abbrev main_v85 : Ref sig .tc := ⟨.hbm, 124, rfl⟩
abbrev main_cst_23 : Ref sig .tc := ⟨.hbm, 125, rfl⟩
abbrev main_v86 : Ref sig .tc := ⟨.hbm, 126, rfl⟩
abbrev main_cst_24 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_25 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_values_26 : Ref sig .tc := ⟨.hbm, 139, rfl⟩
abbrev main_indices_27 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_28 : Ref sig .tc := ⟨.hbm, 144, rfl⟩
abbrev main_v100 : Ref sig .tc := ⟨.hbm, 145, rfl⟩
abbrev main_v101 : Ref sig .tc := ⟨.hbm, 146, rfl⟩
abbrev main_c_29 : Ref sig .tc := ⟨.hbm, 147, rfl⟩
abbrev main_v102 : Ref sig .tc := ⟨.hbm, 148, rfl⟩
abbrev main_v103 : Ref sig .tc := ⟨.hbm, 149, rfl⟩
abbrev main_c_30 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_c_31 : Ref sig .tc := ⟨.hbm, 154, rfl⟩
abbrev main_v107 : Ref sig .tc := ⟨.hbm, 155, rfl⟩
abbrev main_v108 : Ref sig .tc := ⟨.hbm, 156, rfl⟩
abbrev main_c_32 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_33 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_cst_34 : Ref sig .tc := ⟨.hbm, 169, rfl⟩
abbrev main_v119 : Ref sig .tc := ⟨.hbm, 170, rfl⟩
abbrev main_v120 : Ref sig .tc := ⟨.hbm, 171, rfl⟩
abbrev main_cst_35 : Ref sig .tc := ⟨.hbm, 172, rfl⟩
abbrev main_call2_v0 : Ref sig .tc := ⟨.hbm, 173, rfl⟩
abbrev main_call2_v1 : Ref sig .tc := ⟨.hbm, 174, rfl⟩
abbrev main_v121 : Ref sig .tc := ⟨.hbm, 175, rfl⟩
abbrev main_cst_36 : Ref sig .tc := ⟨.hbm, 176, rfl⟩
abbrev main_v122 : Ref sig .tc := ⟨.hbm, 177, rfl⟩
abbrev main_cst_37 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_cst_38 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_values_39 : Ref sig .tc := ⟨.hbm, 190, rfl⟩
abbrev main_indices_40 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_cst_41 : Ref sig .tc := ⟨.hbm, 195, rfl⟩
abbrev main_v136 : Ref sig .tc := ⟨.hbm, 196, rfl⟩
abbrev main_v137 : Ref sig .tc := ⟨.hbm, 197, rfl⟩
abbrev main_c_42 : Ref sig .tc := ⟨.hbm, 198, rfl⟩
abbrev main_v138 : Ref sig .tc := ⟨.hbm, 199, rfl⟩
abbrev main_v139 : Ref sig .tc := ⟨.hbm, 200, rfl⟩
abbrev main_c_43 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_c_44 : Ref sig .tc := ⟨.hbm, 205, rfl⟩
abbrev main_v143 : Ref sig .tc := ⟨.hbm, 206, rfl⟩
abbrev main_v144 : Ref sig .tc := ⟨.hbm, 207, rfl⟩
abbrev main_c_45 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_cst_46 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_cst_47 : Ref sig .tc := ⟨.hbm, 220, rfl⟩
abbrev main_v155 : Ref sig .tc := ⟨.hbm, 221, rfl⟩
abbrev main_v156 : Ref sig .tc := ⟨.hbm, 222, rfl⟩
abbrev main_cst_48 : Ref sig .tc := ⟨.hbm, 223, rfl⟩
abbrev main_call3_v0 : Ref sig .tc := ⟨.hbm, 224, rfl⟩
abbrev main_call3_v1 : Ref sig .tc := ⟨.hbm, 225, rfl⟩
abbrev main_v157 : Ref sig .tc := ⟨.hbm, 226, rfl⟩
abbrev main_cst_49 : Ref sig .tc := ⟨.hbm, 227, rfl⟩
abbrev main_v158 : Ref sig .tc := ⟨.hbm, 228, rfl⟩
abbrev main_cst_50 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_cst_51 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩

abbrev nD : Nat := 1
abbrev τ : Topo := Topo.v7x

variable {F : FTy → Type} [FloatOps F]
-- ==== Channel.lean ====
abbrev S4x1x1 : Shape := ⟨3, ![4, 1, 1]⟩
abbrev S1 : Shape := ⟨1, ![1]⟩
abbrev S192x1 : Shape := ⟨2, ![192, 1]⟩
abbrev S192x50176 : Shape := ⟨2, ![192, 50176]⟩
abbrev S4 : Shape := ⟨1, ![4]⟩
abbrev S8 : Shape := ⟨1, ![8]⟩
abbrev S192x48 : Shape := ⟨2, ![192, 48]⟩
abbrev S192x3584 : Shape := ⟨2, ![192, 3584]⟩
abbrev S48x48 : Shape := ⟨2, ![48, 48]⟩
abbrev S48x3584 : Shape := ⟨2, ![48, 3584]⟩
abbrev S192x16 : Shape := ⟨2, ![192, 16]⟩
abbrev S192x64 : Shape := ⟨2, ![192, 64]⟩
abbrev S192x63 : Shape := ⟨2, ![192, 63]⟩
abbrev S192x62 : Shape := ⟨2, ![192, 62]⟩
abbrev S192x2 : Shape := ⟨2, ![192, 2]⟩
abbrev S192x61 : Shape := ⟨2, ![192, 61]⟩
abbrev S192x3 : Shape := ⟨2, ![192, 3]⟩
abbrev S192x60 : Shape := ⟨2, ![192, 60]⟩
abbrev S192x4 : Shape := ⟨2, ![192, 4]⟩
abbrev S192x59 : Shape := ⟨2, ![192, 59]⟩
abbrev S192x5 : Shape := ⟨2, ![192, 5]⟩
abbrev S192x58 : Shape := ⟨2, ![192, 58]⟩
abbrev S192x6 : Shape := ⟨2, ![192, 6]⟩
abbrev S192x57 : Shape := ⟨2, ![192, 57]⟩
abbrev S192x7 : Shape := ⟨2, ![192, 7]⟩
abbrev S192x56 : Shape := ⟨2, ![192, 56]⟩
abbrev S192x8 : Shape := ⟨2, ![192, 8]⟩
abbrev S192x55 : Shape := ⟨2, ![192, 55]⟩
abbrev S192x9 : Shape := ⟨2, ![192, 9]⟩
abbrev S192x54 : Shape := ⟨2, ![192, 54]⟩
abbrev S192x10 : Shape := ⟨2, ![192, 10]⟩
abbrev S192x53 : Shape := ⟨2, ![192, 53]⟩
abbrev S192x11 : Shape := ⟨2, ![192, 11]⟩
abbrev S192x52 : Shape := ⟨2, ![192, 52]⟩
abbrev S192x12 : Shape := ⟨2, ![192, 12]⟩
abbrev S192x51 : Shape := ⟨2, ![192, 51]⟩
abbrev S192x13 : Shape := ⟨2, ![192, 13]⟩
abbrev S192x50 : Shape := ⟨2, ![192, 50]⟩
abbrev S192x14 : Shape := ⟨2, ![192, 14]⟩
abbrev S192x49 : Shape := ⟨2, ![192, 49]⟩
abbrev S192x15 : Shape := ⟨2, ![192, 15]⟩
abbrev S192x47 : Shape := ⟨2, ![192, 47]⟩
abbrev S192x17 : Shape := ⟨2, ![192, 17]⟩
abbrev S192x46 : Shape := ⟨2, ![192, 46]⟩
abbrev S192x18 : Shape := ⟨2, ![192, 18]⟩
abbrev S192x45 : Shape := ⟨2, ![192, 45]⟩
abbrev S192x19 : Shape := ⟨2, ![192, 19]⟩
abbrev S192x44 : Shape := ⟨2, ![192, 44]⟩
abbrev S192x20 : Shape := ⟨2, ![192, 20]⟩
abbrev S192x43 : Shape := ⟨2, ![192, 43]⟩
abbrev S192x21 : Shape := ⟨2, ![192, 21]⟩
abbrev S192x42 : Shape := ⟨2, ![192, 42]⟩
abbrev S192x22 : Shape := ⟨2, ![192, 22]⟩
abbrev S192x41 : Shape := ⟨2, ![192, 41]⟩
abbrev S192x23 : Shape := ⟨2, ![192, 23]⟩
abbrev S192x40 : Shape := ⟨2, ![192, 40]⟩
abbrev S192x24 : Shape := ⟨2, ![192, 24]⟩
abbrev S192x39 : Shape := ⟨2, ![192, 39]⟩
abbrev S192x25 : Shape := ⟨2, ![192, 25]⟩
abbrev S192x38 : Shape := ⟨2, ![192, 38]⟩
abbrev S192x26 : Shape := ⟨2, ![192, 26]⟩
abbrev S192x37 : Shape := ⟨2, ![192, 37]⟩
abbrev S192x27 : Shape := ⟨2, ![192, 27]⟩
abbrev S192x36 : Shape := ⟨2, ![192, 36]⟩
abbrev S192x28 : Shape := ⟨2, ![192, 28]⟩
abbrev S192x35 : Shape := ⟨2, ![192, 35]⟩
abbrev S192x29 : Shape := ⟨2, ![192, 29]⟩
abbrev S192x34 : Shape := ⟨2, ![192, 34]⟩
abbrev S192x30 : Shape := ⟨2, ![192, 30]⟩
abbrev S192x33 : Shape := ⟨2, ![192, 33]⟩
abbrev S192x31 : Shape := ⟨2, ![192, 31]⟩
abbrev S192x32 : Shape := ⟨2, ![192, 32]⟩
abbrev S192 : Shape := ⟨1, ![192]⟩

abbrev nBuf : Space → Nat
  | .hbm => 12
  | .vmem => 8
  | .smem => 1
  | _ => 0

abbrev bufTy : (tb : Table) → Fin (tcTables nBuf tb) → BufTy
  | .hbm, ⟨0, _⟩ => ⟨S4x1x1, .f32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S192x1, .f32⟩
  | .hbm, ⟨6, _⟩ => ⟨S192x1, .f32⟩
  | .hbm, ⟨7, _⟩ => ⟨S192x50176, .f32⟩
  | .hbm, ⟨8, _⟩ => ⟨S192x50176, .f32⟩
  | .hbm, ⟨9, _⟩ => ⟨S4, .f32⟩
  | .hbm, ⟨10, _⟩ => ⟨S8, .f32⟩
  | .hbm, ⟨11, _⟩ => ⟨S192x48, .f32⟩
  | .local _ .vmem, ⟨0, _⟩ => ⟨S192x1, .f32⟩
  | .local _ .vmem, ⟨1, _⟩ => ⟨S192x1, .f32⟩
  | .local _ .vmem, ⟨2, _⟩ => ⟨S192x3584, .f32⟩
  | .local _ .vmem, ⟨3, _⟩ => ⟨S192x3584, .f32⟩
  | .local _ .vmem, ⟨4, _⟩ => ⟨S192x3584, .f32⟩
  | .local _ .vmem, ⟨5, _⟩ => ⟨S192x3584, .f32⟩
  | .local _ .vmem, ⟨6, _⟩ => ⟨S192x48, .f32⟩
  | .local _ .vmem, ⟨7, _⟩ => ⟨S192x48, .f32⟩
  | .local _ .smem, ⟨0, _⟩ => ⟨S8, .f32⟩
  | _, _ => ⟨S4x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_scratch0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![14], ![false]⟩

def k0_cond2 (i : grid0.Coords) : BitVec 1 :=
  let arg0 : BitVec 32 := BitVec.ofNat 32 (i 0).val
  let c13_i32 : BitVec 32 := 13#32
  let v51 : BitVec 1 := Scalar.cmpi .eq arg0 c13_i32
  let v52 : BitVec 32 := Scalar.extui v51
  let c0_i32_26 : BitVec 32 := 0#32
  let v53 : BitVec 1 := Scalar.cmpi .ne v52 c0_i32_26
  v53

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S192x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S192x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ChannelRefIdeal.lean ====
abbrev S4x1x1 : Shape := ⟨3, ![4, 1, 1]⟩
abbrev S1 : Shape := ⟨1, ![1]⟩
abbrev S192x1 : Shape := ⟨2, ![192, 1]⟩
abbrev S192x50176 : Shape := ⟨2, ![192, 50176]⟩
abbrev S_ : Shape := ⟨0, ![]⟩
abbrev S4x48x50176 : Shape := ⟨3, ![4, 48, 50176]⟩
abbrev S4x50176x48 : Shape := ⟨3, ![4, 50176, 48]⟩
abbrev S4x48x48 : Shape := ⟨3, ![4, 48, 48]⟩
abbrev S4x48x24 : Shape := ⟨3, ![4, 48, 24]⟩
abbrev S192x48 : Shape := ⟨2, ![192, 48]⟩
abbrev S192 : Shape := ⟨1, ![192]⟩
abbrev S192x24 : Shape := ⟨2, ![192, 24]⟩
abbrev S192x24x1 : Shape := ⟨3, ![192, 24, 1]⟩
abbrev S192x24x2 : Shape := ⟨3, ![192, 24, 2]⟩
abbrev S4x48 : Shape := ⟨2, ![4, 48]⟩
abbrev S4x48x1 : Shape := ⟨3, ![4, 48, 1]⟩
abbrev S4x48x32 : Shape := ⟨3, ![4, 48, 32]⟩
abbrev S192x32 : Shape := ⟨2, ![192, 32]⟩
abbrev S192x32x1 : Shape := ⟨3, ![192, 32, 1]⟩
abbrev S192x32x2 : Shape := ⟨3, ![192, 32, 2]⟩
abbrev S4x48x36 : Shape := ⟨3, ![4, 48, 36]⟩
abbrev S192x36 : Shape := ⟨2, ![192, 36]⟩
abbrev S192x36x1 : Shape := ⟨3, ![192, 36, 1]⟩
abbrev S192x36x2 : Shape := ⟨3, ![192, 36, 2]⟩
abbrev S4x48x38 : Shape := ⟨3, ![4, 48, 38]⟩
abbrev S192x38 : Shape := ⟨2, ![192, 38]⟩
abbrev S192x38x1 : Shape := ⟨3, ![192, 38, 1]⟩
abbrev S192x38x2 : Shape := ⟨3, ![192, 38, 2]⟩
abbrev S1x1x1 : Shape := ⟨3, ![1, 1, 1]⟩

abbrev nBuf : Space → Nat
  | .hbm => 247
  | .vmem => 0
  | .smem => 0
  | _ => 0

abbrev hbmTy0_0 (i : Nat) : BufTy := match i % 128 with
  | 0 => ⟨S4x1x1, .f32⟩
  | 1 => ⟨S1, .f32⟩
  | 2 => ⟨S1, .f32⟩
  | 3 => ⟨S1, .f32⟩
  | 4 => ⟨S1, .f32⟩
  | 5 => ⟨S192x1, .f32⟩
  | 6 => ⟨S192x1, .f32⟩
  | 7 => ⟨S192x50176, .f32⟩
  | 8 => ⟨S192x50176, .f32⟩
  | 9 => ⟨S192x1, .f32⟩
  | 10 => ⟨S_, .f32⟩
  | 11 => ⟨S192x1, .f32⟩
  | 12 => ⟨S192x1, .f32⟩
  | 13 => ⟨S192x50176, .f32⟩
  | 14 => ⟨S192x50176, .f32⟩
  | 15 => ⟨S4x48x50176, .f32⟩
  | 16 => ⟨S192x1, .f32⟩
  | 17 => ⟨S_, .f32⟩
  | 18 => ⟨S192x1, .f32⟩
  | 19 => ⟨S192x1, .f32⟩
  | 20 => ⟨S192x50176, .f32⟩
  | 21 => ⟨S192x50176, .f32⟩
  | 22 => ⟨S4x48x50176, .f32⟩
  | 23 => ⟨S4x50176x48, .f32⟩
  | 24 => ⟨S4x48x48, .f32⟩
  | 25 => ⟨S4x48x48, .f32⟩
  | 26 => ⟨S4x48x48, .f32⟩
  | 27 => ⟨S4x48x24, .f32⟩
  | 28 => ⟨S4x48x24, .i32⟩
  | 29 => ⟨S192x48, .f32⟩
  | 30 => ⟨S192, .i32⟩
  | 31 => ⟨S192x1, .i32⟩
  | 32 => ⟨S_, .f32⟩
  | 33 => ⟨S192x48, .f32⟩
  | 34 => ⟨S192x24, .i32⟩
  | 35 => ⟨S_, .i32⟩
  | 36 => ⟨S192x1, .i32⟩
  | 37 => ⟨S192x1, .i1⟩
  | 38 => ⟨S_, .i32⟩
  | 39 => ⟨S192x1, .i32⟩
  | 40 => ⟨S192x1, .i32⟩
  | 41 => ⟨S192x1, .i32⟩
  | 42 => ⟨S_, .i32⟩
  | 43 => ⟨S192x24, .i32⟩
  | 44 => ⟨S192x24, .i1⟩
  | 45 => ⟨S_, .i32⟩
  | 46 => ⟨S192x24, .i32⟩
  | 47 => ⟨S192x24, .i32⟩
  | 48 => ⟨S192x24, .i32⟩
  | 49 => ⟨S192x24, .i32⟩
  | 50 => ⟨S192x24x1, .i32⟩
  | 51 => ⟨S192x24x1, .i32⟩
  | 52 => ⟨S192x24x2, .i32⟩
  | 53 => ⟨S_, .f32⟩
  | 54 => ⟨S192x24, .f32⟩
  | 55 => ⟨S192x48, .f32⟩
  | 56 => ⟨S4x48x48, .f32⟩
  | 57 => ⟨S_, .f32⟩
  | 58 => ⟨S4x48x48, .f32⟩
  | 59 => ⟨S4x48x48, .i1⟩
  | 60 => ⟨S_, .f32⟩
  | 61 => ⟨S_, .f32⟩
  | 62 => ⟨S4x48x48, .f32⟩
  | 63 => ⟨S4x48x48, .f32⟩
  | 64 => ⟨S_, .f32⟩
  | 65 => ⟨S4x48, .f32⟩
  | 66 => ⟨S_, .f32⟩
  | 67 => ⟨S4x48, .f32⟩
  | 68 => ⟨S4x48, .f32⟩
  | 69 => ⟨S4x48x1, .f32⟩
  | 70 => ⟨S4x48x48, .f32⟩
  | 71 => ⟨S4x48x48, .f32⟩
  | 72 => ⟨S4x48x48, .f32⟩
  | 73 => ⟨S_, .f32⟩
  | 74 => ⟨S4x48, .f32⟩
  | 75 => ⟨S4x48x1, .f32⟩
  | 76 => ⟨S4x48x48, .f32⟩
  | 77 => ⟨S4x48x48, .f32⟩
  | 78 => ⟨S4x48x32, .f32⟩
  | 79 => ⟨S4x48x32, .i32⟩
  | 80 => ⟨S192x48, .f32⟩
  | 81 => ⟨S192, .i32⟩
  | 82 => ⟨S192x1, .i32⟩
  | 83 => ⟨S_, .f32⟩
  | 84 => ⟨S192x48, .f32⟩
  | 85 => ⟨S192x32, .i32⟩
  | 86 => ⟨S_, .i32⟩
  | 87 => ⟨S192x1, .i32⟩
  | 88 => ⟨S192x1, .i1⟩
  | 89 => ⟨S_, .i32⟩
  | 90 => ⟨S192x1, .i32⟩
  | 91 => ⟨S192x1, .i32⟩
  | 92 => ⟨S192x1, .i32⟩
  | 93 => ⟨S_, .i32⟩
  | 94 => ⟨S192x32, .i32⟩
  | 95 => ⟨S192x32, .i1⟩
  | 96 => ⟨S_, .i32⟩
  | 97 => ⟨S192x32, .i32⟩
  | 98 => ⟨S192x32, .i32⟩
  | 99 => ⟨S192x32, .i32⟩
  | 100 => ⟨S192x32, .i32⟩
  | 101 => ⟨S192x32x1, .i32⟩
  | 102 => ⟨S192x32x1, .i32⟩
  | 103 => ⟨S192x32x2, .i32⟩
  | 104 => ⟨S_, .f32⟩
  | 105 => ⟨S192x32, .f32⟩
  | 106 => ⟨S192x48, .f32⟩
  | 107 => ⟨S4x48x48, .f32⟩
  | 108 => ⟨S_, .f32⟩
  | 109 => ⟨S4x48x48, .f32⟩
  | 110 => ⟨S4x48x48, .i1⟩
  | 111 => ⟨S_, .f32⟩
  | 112 => ⟨S_, .f32⟩
  | 113 => ⟨S4x48x48, .f32⟩
  | 114 => ⟨S4x48x48, .f32⟩
  | 115 => ⟨S_, .f32⟩
  | 116 => ⟨S4x48, .f32⟩
  | 117 => ⟨S_, .f32⟩
  | 118 => ⟨S4x48, .f32⟩
  | 119 => ⟨S4x48, .f32⟩
  | 120 => ⟨S4x48x1, .f32⟩
  | 121 => ⟨S4x48x48, .f32⟩
  | 122 => ⟨S4x48x48, .f32⟩
  | 123 => ⟨S4x48x48, .f32⟩
  | 124 => ⟨S_, .f32⟩
  | 125 => ⟨S4x48, .f32⟩
  | 126 => ⟨S4x48x1, .f32⟩
  | 127 => ⟨S4x48x48, .f32⟩
  | _ => ⟨S4x1x1, .f32⟩

abbrev hbmTy0_1 (i : Nat) : BufTy := match i % 128 with
  | 0 => ⟨S4x48x48, .f32⟩
  | 1 => ⟨S4x48x36, .f32⟩
  | 2 => ⟨S4x48x36, .i32⟩
  | 3 => ⟨S192x48, .f32⟩
  | 4 => ⟨S192, .i32⟩
  | 5 => ⟨S192x1, .i32⟩
  | 6 => ⟨S_, .f32⟩
  | 7 => ⟨S192x48, .f32⟩
  | 8 => ⟨S192x36, .i32⟩
  | 9 => ⟨S_, .i32⟩
  | 10 => ⟨S192x1, .i32⟩
  | 11 => ⟨S192x1, .i1⟩
  | 12 => ⟨S_, .i32⟩
  | 13 => ⟨S192x1, .i32⟩
  | 14 => ⟨S192x1, .i32⟩
  | 15 => ⟨S192x1, .i32⟩
  | 16 => ⟨S_, .i32⟩
  | 17 => ⟨S192x36, .i32⟩
  | 18 => ⟨S192x36, .i1⟩
  | 19 => ⟨S_, .i32⟩
  | 20 => ⟨S192x36, .i32⟩
  | 21 => ⟨S192x36, .i32⟩
  | 22 => ⟨S192x36, .i32⟩
  | 23 => ⟨S192x36, .i32⟩
  | 24 => ⟨S192x36x1, .i32⟩
  | 25 => ⟨S192x36x1, .i32⟩
  | 26 => ⟨S192x36x2, .i32⟩
  | 27 => ⟨S_, .f32⟩
  | 28 => ⟨S192x36, .f32⟩
  | 29 => ⟨S192x48, .f32⟩
  | 30 => ⟨S4x48x48, .f32⟩
  | 31 => ⟨S_, .f32⟩
  | 32 => ⟨S4x48x48, .f32⟩
  | 33 => ⟨S4x48x48, .i1⟩
  | 34 => ⟨S_, .f32⟩
  | 35 => ⟨S_, .f32⟩
  | 36 => ⟨S4x48x48, .f32⟩
  | 37 => ⟨S4x48x48, .f32⟩
  | 38 => ⟨S_, .f32⟩
  | 39 => ⟨S4x48, .f32⟩
  | 40 => ⟨S_, .f32⟩
  | 41 => ⟨S4x48, .f32⟩
  | 42 => ⟨S4x48, .f32⟩
  | 43 => ⟨S4x48x1, .f32⟩
  | 44 => ⟨S4x48x48, .f32⟩
  | 45 => ⟨S4x48x48, .f32⟩
  | 46 => ⟨S4x48x48, .f32⟩
  | 47 => ⟨S_, .f32⟩
  | 48 => ⟨S4x48, .f32⟩
  | 49 => ⟨S4x48x1, .f32⟩
  | 50 => ⟨S4x48x48, .f32⟩
  | 51 => ⟨S4x48x48, .f32⟩
  | 52 => ⟨S4x48x38, .f32⟩
  | 53 => ⟨S4x48x38, .i32⟩
  | 54 => ⟨S192x48, .f32⟩
  | 55 => ⟨S192, .i32⟩
  | 56 => ⟨S192x1, .i32⟩
  | 57 => ⟨S_, .f32⟩
  | 58 => ⟨S192x48, .f32⟩
  | 59 => ⟨S192x38, .i32⟩
  | 60 => ⟨S_, .i32⟩
  | 61 => ⟨S192x1, .i32⟩
  | 62 => ⟨S192x1, .i1⟩
  | 63 => ⟨S_, .i32⟩
  | 64 => ⟨S192x1, .i32⟩
  | 65 => ⟨S192x1, .i32⟩
  | 66 => ⟨S192x1, .i32⟩
  | 67 => ⟨S_, .i32⟩
  | 68 => ⟨S192x38, .i32⟩
  | 69 => ⟨S192x38, .i1⟩
  | 70 => ⟨S_, .i32⟩
  | 71 => ⟨S192x38, .i32⟩
  | 72 => ⟨S192x38, .i32⟩
  | 73 => ⟨S192x38, .i32⟩
  | 74 => ⟨S192x38, .i32⟩
  | 75 => ⟨S192x38x1, .i32⟩
  | 76 => ⟨S192x38x1, .i32⟩
  | 77 => ⟨S192x38x2, .i32⟩
  | 78 => ⟨S_, .f32⟩
  | 79 => ⟨S192x38, .f32⟩
  | 80 => ⟨S192x48, .f32⟩
  | 81 => ⟨S4x48x48, .f32⟩
  | 82 => ⟨S_, .f32⟩
  | 83 => ⟨S4x48x48, .f32⟩
  | 84 => ⟨S4x48x48, .i1⟩
  | 85 => ⟨S_, .f32⟩
  | 86 => ⟨S_, .f32⟩
  | 87 => ⟨S4x48x48, .f32⟩
  | 88 => ⟨S4x48x48, .f32⟩
  | 89 => ⟨S_, .f32⟩
  | 90 => ⟨S4x48, .f32⟩
  | 91 => ⟨S_, .f32⟩
  | 92 => ⟨S4x48, .f32⟩
  | 93 => ⟨S4x48, .f32⟩
  | 94 => ⟨S4x48x1, .f32⟩
  | 95 => ⟨S4x48x48, .f32⟩
  | 96 => ⟨S4x48x48, .f32⟩
  | 97 => ⟨S4x48x48, .f32⟩
  | 98 => ⟨S_, .f32⟩
  | 99 => ⟨S4x48, .f32⟩
  | 100 => ⟨S4x48x1, .f32⟩
  | 101 => ⟨S4x48x48, .f32⟩
  | 102 => ⟨S4x48x48, .f32⟩
  | 103 => ⟨S1x1x1, .f32⟩
  | 104 => ⟨S4x48x48, .f32⟩
  | 105 => ⟨S4x48x48, .f32⟩
  | 106 => ⟨S1x1x1, .f32⟩
  | 107 => ⟨S4x48x48, .f32⟩
  | 108 => ⟨S4x48x48, .f32⟩
  | 109 => ⟨S4x48x48, .f32⟩
  | 110 => ⟨S1x1x1, .f32⟩
  | 111 => ⟨S4x48x48, .f32⟩
  | 112 => ⟨S4x48x48, .f32⟩
  | 113 => ⟨S4x48x48, .f32⟩
  | 114 => ⟨S1x1x1, .f32⟩
  | 115 => ⟨S4x48x48, .f32⟩
  | 116 => ⟨S4x48x48, .f32⟩
  | 117 => ⟨S4x48x48, .f32⟩
  | 118 => ⟨S192x48, .f32⟩
  | _ => ⟨S4x1x1, .f32⟩

abbrev hbmTy (i : Nat) : BufTy := match i / 128 with
  | 0 => hbmTy0_0 i
  | 1 => hbmTy0_1 i
  | _ => ⟨S4x1x1, .f32⟩

abbrev bufTy : (tb : Table) → Fin (tcTables nBuf tb) → BufTy
  | .hbm, ⟨i, _⟩ => hbmTy i
  | _, _ => ⟨S4x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_values : Ref sig .tc := ⟨.hbm, 27, rfl⟩
abbrev main_indices : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_call0_v0 : Ref sig .tc := ⟨.hbm, 61, rfl⟩
abbrev main_call0_v1 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_values_11 : Ref sig .tc := ⟨.hbm, 78, rfl⟩
abbrev main_indices_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_13 : Ref sig .tc := ⟨.hbm, 83, rfl⟩
abbrev main_v55 : Ref sig .tc := ⟨.hbm, 84, rfl⟩
abbrev main_v56 : Ref sig .tc := ⟨.hbm, 85, rfl⟩
abbrev main_c_14 : Ref sig .tc := ⟨.hbm, 86, rfl⟩
abbrev main_v57 : Ref sig .tc := ⟨.hbm, 87, rfl⟩
abbrev main_v58 : Ref sig .tc := ⟨.hbm, 88, rfl⟩
abbrev main_c_15 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_16 : Ref sig .tc := ⟨.hbm, 93, rfl⟩
abbrev main_v62 : Ref sig .tc := ⟨.hbm, 94, rfl⟩
abbrev main_v63 : Ref sig .tc := ⟨.hbm, 95, rfl⟩
abbrev main_c_17 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_18 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_19 : Ref sig .tc := ⟨.hbm, 108, rfl⟩
abbrev main_v74 : Ref sig .tc := ⟨.hbm, 109, rfl⟩
abbrev main_v75 : Ref sig .tc := ⟨.hbm, 110, rfl⟩
abbrev main_cst_20 : Ref sig .tc := ⟨.hbm, 111, rfl⟩
abbrev main_call1_v0 : Ref sig .tc := ⟨.hbm, 112, rfl⟩
abbrev main_call1_v1 : Ref sig .tc := ⟨.hbm, 113, rfl⟩
abbrev main_v76 : Ref sig .tc := ⟨.hbm, 114, rfl⟩
abbrev main_cst_21 : Ref sig .tc := ⟨.hbm, 115, rfl⟩
abbrev main_v77 : Ref sig .tc := ⟨.hbm, 116, rfl⟩
abbrev main_cst_22 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_23 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_values_24 : Ref sig .tc := ⟨.hbm, 129, rfl⟩
abbrev main_indices_25 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_26 : Ref sig .tc := ⟨.hbm, 134, rfl⟩
abbrev main_v91 : Ref sig .tc := ⟨.hbm, 135, rfl⟩
abbrev main_v92 : Ref sig .tc := ⟨.hbm, 136, rfl⟩
abbrev main_c_27 : Ref sig .tc := ⟨.hbm, 137, rfl⟩
abbrev main_v93 : Ref sig .tc := ⟨.hbm, 138, rfl⟩
abbrev main_v94 : Ref sig .tc := ⟨.hbm, 139, rfl⟩
abbrev main_c_28 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_29 : Ref sig .tc := ⟨.hbm, 144, rfl⟩
abbrev main_v98 : Ref sig .tc := ⟨.hbm, 145, rfl⟩
abbrev main_v99 : Ref sig .tc := ⟨.hbm, 146, rfl⟩
abbrev main_c_30 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_31 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_32 : Ref sig .tc := ⟨.hbm, 159, rfl⟩
abbrev main_v110 : Ref sig .tc := ⟨.hbm, 160, rfl⟩
abbrev main_v111 : Ref sig .tc := ⟨.hbm, 161, rfl⟩
abbrev main_cst_33 : Ref sig .tc := ⟨.hbm, 162, rfl⟩
abbrev main_call2_v0 : Ref sig .tc := ⟨.hbm, 163, rfl⟩
abbrev main_call2_v1 : Ref sig .tc := ⟨.hbm, 164, rfl⟩
abbrev main_v112 : Ref sig .tc := ⟨.hbm, 165, rfl⟩
abbrev main_cst_34 : Ref sig .tc := ⟨.hbm, 166, rfl⟩
abbrev main_v113 : Ref sig .tc := ⟨.hbm, 167, rfl⟩
abbrev main_cst_35 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_cst_36 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_values_37 : Ref sig .tc := ⟨.hbm, 180, rfl⟩
abbrev main_indices_38 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_cst_39 : Ref sig .tc := ⟨.hbm, 185, rfl⟩
abbrev main_v127 : Ref sig .tc := ⟨.hbm, 186, rfl⟩
abbrev main_v128 : Ref sig .tc := ⟨.hbm, 187, rfl⟩
abbrev main_c_40 : Ref sig .tc := ⟨.hbm, 188, rfl⟩
abbrev main_v129 : Ref sig .tc := ⟨.hbm, 189, rfl⟩
abbrev main_v130 : Ref sig .tc := ⟨.hbm, 190, rfl⟩
abbrev main_c_41 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_c_42 : Ref sig .tc := ⟨.hbm, 195, rfl⟩
abbrev main_v134 : Ref sig .tc := ⟨.hbm, 196, rfl⟩
abbrev main_v135 : Ref sig .tc := ⟨.hbm, 197, rfl⟩
abbrev main_c_43 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_cst_44 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_cst_45 : Ref sig .tc := ⟨.hbm, 210, rfl⟩
abbrev main_v146 : Ref sig .tc := ⟨.hbm, 211, rfl⟩
abbrev main_v147 : Ref sig .tc := ⟨.hbm, 212, rfl⟩
abbrev main_cst_46 : Ref sig .tc := ⟨.hbm, 213, rfl⟩
abbrev main_call3_v0 : Ref sig .tc := ⟨.hbm, 214, rfl⟩
abbrev main_call3_v1 : Ref sig .tc := ⟨.hbm, 215, rfl⟩
abbrev main_v148 : Ref sig .tc := ⟨.hbm, 216, rfl⟩
abbrev main_cst_47 : Ref sig .tc := ⟨.hbm, 217, rfl⟩
abbrev main_v149 : Ref sig .tc := ⟨.hbm, 218, rfl⟩
abbrev main_cst_48 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_cst_49 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩

abbrev nD : Nat := 1
abbrev τ : Topo := Topo.v7x

variable {F : FTy → Type} [FloatOps F]
-- ==== Project.lean ====
abbrev S192x48 : Shape := ⟨2, ![192, 48]⟩
abbrev S192x50176 : Shape := ⟨2, ![192, 50176]⟩
abbrev S192x192x1x1 : Shape := ⟨4, ![192, 192, 1, 1]⟩
abbrev S192x192 : Shape := ⟨2, ![192, 192]⟩
abbrev S192x3584 : Shape := ⟨2, ![192, 3584]⟩
abbrev S192x512 : Shape := ⟨2, ![192, 512]⟩
abbrev S48x48 : Shape := ⟨2, ![48, 48]⟩
abbrev S48x512 : Shape := ⟨2, ![48, 512]⟩

abbrev nBuf : Space → Nat
  | .hbm => 6
  | .vmem => 8
  | .smem => 0
  | _ => 0

abbrev bufTy : (tb : Table) → Fin (tcTables nBuf tb) → BufTy
  | .hbm, ⟨0, _⟩ => ⟨S192x48, .f32⟩
  | .hbm, ⟨1, _⟩ => ⟨S192x50176, .bf16⟩
  | .hbm, ⟨2, _⟩ => ⟨S192x50176, .f32⟩
  | .hbm, ⟨3, _⟩ => ⟨S192x192x1x1, .f32⟩
  | .hbm, ⟨4, _⟩ => ⟨S192x192, .f32⟩
  | .hbm, ⟨5, _⟩ => ⟨S192x50176, .f32⟩
  | .local _ .vmem, ⟨0, _⟩ => ⟨S192x48, .f32⟩
  | .local _ .vmem, ⟨1, _⟩ => ⟨S192x3584, .bf16⟩
  | .local _ .vmem, ⟨2, _⟩ => ⟨S192x3584, .bf16⟩
  | .local _ .vmem, ⟨3, _⟩ => ⟨S192x3584, .f32⟩
  | .local _ .vmem, ⟨4, _⟩ => ⟨S192x3584, .f32⟩
  | .local _ .vmem, ⟨5, _⟩ => ⟨S192x192, .f32⟩
  | .local _ .vmem, ⟨6, _⟩ => ⟨S192x3584, .f32⟩
  | .local _ .vmem, ⟨7, _⟩ => ⟨S192x3584, .f32⟩
  | _, _ => ⟨S192x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S192x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S192x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjectRefIdeal.lean ====
abbrev S192x48 : Shape := ⟨2, ![192, 48]⟩
abbrev S192x50176 : Shape := ⟨2, ![192, 50176]⟩
abbrev S192x192x1x1 : Shape := ⟨4, ![192, 192, 1, 1]⟩
abbrev S4x48x50176 : Shape := ⟨3, ![4, 48, 50176]⟩
abbrev S4x48x48 : Shape := ⟨3, ![4, 48, 48]⟩
abbrev S192x192 : Shape := ⟨2, ![192, 192]⟩

abbrev nBuf : Space → Nat
  | .hbm => 12
  | .vmem => 0
  | .smem => 0
  | _ => 0

abbrev bufTy : (tb : Table) → Fin (tcTables nBuf tb) → BufTy
  | .hbm, ⟨0, _⟩ => ⟨S192x48, .f32⟩
  | .hbm, ⟨1, _⟩ => ⟨S192x50176, .bf16⟩
  | .hbm, ⟨2, _⟩ => ⟨S192x50176, .f32⟩
  | .hbm, ⟨3, _⟩ => ⟨S192x192x1x1, .f32⟩
  | .hbm, ⟨4, _⟩ => ⟨S192x50176, .f32⟩
  | .hbm, ⟨5, _⟩ => ⟨S4x48x50176, .f32⟩
  | .hbm, ⟨6, _⟩ => ⟨S4x48x48, .f32⟩
  | .hbm, ⟨7, _⟩ => ⟨S4x48x50176, .f32⟩
  | .hbm, ⟨8, _⟩ => ⟨S192x50176, .f32⟩
  | .hbm, ⟨9, _⟩ => ⟨S192x192, .f32⟩
  | .hbm, ⟨10, _⟩ => ⟨S192x50176, .f32⟩
  | .hbm, ⟨11, _⟩ => ⟨S192x50176, .f32⟩
  | _, _ => ⟨S192x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Conv.Value.lean ====
module

public import proofs.«01_k».proof.Proof.Gen.Pointwise1x1Ideal.Frame
public import proofs.«01_k».proof.Proof.Gen.Pointwise1x1RefIdeal
public import Idealize.ShloMosaic.Lib.Pipeline.ValueKit

@[expose] public section

set_option maxRecDepth 16384

noncomputable section

namespace Cert.ConvProof

open Idealize.ShloMosaic Idealize.ShloMosaic.TcCoe Idealize.SL.Sem
open Idealize.ShloMosaic.Pipeline (Dat)
open Cert.Pointwise1x1Ideal Cert.Pointwise1x1Ideal.Gen

variable (m : (ℓ : Loc nD τ sig) → Buf (Elt Ideal) ℓ)

/-- The 1x1 convolution as the reference composes it, over an image and a weight. -/
def conv (X : FVec Ideal S1x192x224x224 .f32) (W : FVec Ideal S576x192x1x1 .f32) :
    FVec Ideal S576x50176 .bf16 :=
  truncf .bf16 (shapeCast _ (transpose Cert.Pointwise1x1RefIdeal.S1x576x224x224 [0, 3, 1, 2]
    (Host.dotGeneral Cert.Pointwise1x1RefIdeal.dot_S1x192x224x224_S576x192_S1x224x224x576_1_1_023_0_n_n none X
      (shapeCast _ W Cert.Pointwise1x1RefIdeal.Gen.shapeCasts_S576x192x1x1_S576x192))
    Cert.Pointwise1x1RefIdeal.Gen.transposes_S1x224x224x576_S1x576x224x224_0_3_1_2)
    Cert.Pointwise1x1RefIdeal.Gen.shapeCasts_S1x576x224x224_S576x50176) Cert.Pointwise1x1RefIdeal.Gen.bitsLt_bf16_f32

/-- One block of the result, over the weight and a block of the image: the sum over the 192 input channels. -/
theorem block_at (w : FVec Ideal S576x192 .f32) (x : FVec Ideal S192x3584 .f32) (y : S576x3584.Idx) :
    out0_2 (F := Ideal) w x y = ∑ k : Fin 192, w (ix2 (y 0) k) * x (ix2 k (y 1)) := by
  unfold out0_2
  canon_tiles u h
  all_goals (open_payloads; pointwise; blk_point [])

/-- Where each window's block sits: the weight whole, the image and the result by blocks of 3584 columns. -/
theorem idx : ∀ t : Fin cfg0.N, win0_0.index t = ![0, 0] ∧ win0_1.index t = ![0, t.val] ∧ win0_2.index t = ![0, t.val] :=
  (by decide +kernel : ∀ t : Fin grid0.N, _)

/-- What the body leaves at position `y` of block `t` is the convolution at the array index where `y` sits. -/
theorem point (c : Dev nD) (t : Fin cfg0.N) (y : S576x3584.Idx) :
    out0_2 (iblk m c 0 t) (iblk m c 1 t) y
      = conv (m ((c : Thread nD τ).loc main_arg0)) (m ((c : Thread nD τ).loc main_arg1)) (((cfg0.win 2).blk t).view.emb y) := by
  rw [block_at]
  pointwise [conv]
  refine (Finset.sum_congr rfl fun k _ => mul_comm _ _).trans ?_
  blk_point [iblk, idx t]
  all_goals (entry_read; pointwise; blk_ext [idx t])

/-- The array the kernel leaves is the convolution. -/
theorem final (c : Dev nD) : (dats m 0 c).arrAt 2 (cfgs 0).N
    = conv (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.ConvProof

end
-- ==== Proof.Depthwise.Tiles.lean ====
module

public import proofs.«01_k».proof.Proof.Gen.DepthwiseIdeal.Frame
public import Idealize.ShloMosaic.Lib.Pipeline.ValueKit

@[expose] public section

set_option maxRecDepth 16384

noncomputable section

namespace Cert.DepthwiseProof

open Idealize.ShloMosaic Idealize.ShloMosaic.TcCoe Idealize.SL.Sem
open Idealize.ShloMosaic.Pipeline (Dat)
open Cert.DepthwiseIdeal Cert.DepthwiseIdeal.Gen

/-- The nine products of a 3 by 3 window at row `r`, column `w` of channel `c`, added up in order from zero. -/
def taps {n : ℕ} (P : Fin n → Fin 226 → Fin 226 → EReal) (W : Fin n → Fin 9 → EReal) (c : Fin n) (r w : Fin 224) : EReal :=
  0 + P c ⟨r, by omega⟩ ⟨w, by omega⟩ * W c 0 + P c ⟨r, by omega⟩ ⟨1 + w, by omega⟩ * W c 1 + P c ⟨r, by omega⟩ ⟨2 + w, by omega⟩ * W c 2
    + P c ⟨1 + r, by omega⟩ ⟨w, by omega⟩ * W c 3 + P c ⟨1 + r, by omega⟩ ⟨1 + w, by omega⟩ * W c 4 + P c ⟨1 + r, by omega⟩ ⟨2 + w, by omega⟩ * W c 5
    + P c ⟨2 + r, by omega⟩ ⟨w, by omega⟩ * W c 6 + P c ⟨2 + r, by omega⟩ ⟨1 + w, by omega⟩ * W c 7 + P c ⟨2 + r, by omega⟩ ⟨2 + w, by omega⟩ * W c 8

/-- The sums of one block of channels. -/
def sums (x0 : FVec Ideal S16x226x226 .bf16) (x1 : FVec Ideal S16x9 .f32) (c : Fin 16) (r w : Fin 224) : EReal :=
  taps (fun c a b => x0 (ix3 c a b)) (fun c k => x1 (ix2 c k)) c r w

/-- The 16 rows from row `16 b` on of the sums of one block of channels. -/
def tile (x0 : FVec Ideal S16x226x226 .bf16) (x1 : FVec Ideal S16x9 .f32) (b : Fin 14) : FVec Ideal S16x16x224 .f32 := fun y =>
  sums x0 x1 (y 0) ⟨16 * (b : ℕ) + y 1, by have h : (y 1 : ℕ) < 16 := (y 1).isLt; omega⟩ (y 2)

set_option maxHeartbeats 4000000 in
/-- The first 16 rows the body computes are those rows of the sums. -/
theorem tile_first (x0 : FVec Ideal S16x226x226 .bf16) (x1 : FVec Ideal S16x9 .f32) :
    k0_pay7 (k0_pay86 x0 x1) (View.ld x0 r0_16) (View.ld x1 r0_17) = tile x0 x1 0 := by
  funext y
  unfold tile sums taps
  pointwise [k0_pay4, k0_pay5, k0_pay6, k0_pay7, k0_pay86]

set_option maxHeartbeats 4000000 in
/-- The second 16 rows the body computes are those rows of the sums. -/
theorem tile_second (x0 : FVec Ideal S16x226x226 .bf16) (x1 : FVec Ideal S16x9 .f32) :
    k0_pay13 (k0_pay87 x0 x1) (k0_pay88 x0 x1) (View.ld x0 r0_26) (View.ld x1 r0_15) (View.ld x0 r0_27) (View.ld x1 r0_17) = tile x0 x1 1 := by
  funext y
  unfold tile sums taps
  pointwise [k0_pay9, k0_pay10, k0_pay11, k0_pay12, k0_pay13, k0_pay87, k0_pay88]
  simp only [← Nat.add_assoc, Nat.reduceAdd]
set_option maxHeartbeats 4000000 in
/-- The third 16 rows the body computes are those rows of the sums. -/
theorem tile_third (x0 : FVec Ideal S16x226x226 .bf16) (x1 : FVec Ideal S16x9 .f32) :
    k0_pay19 (k0_pay89 x0 x1) (k0_pay90 x0 x1) (View.ld x1 r0_11) (View.ld x0 r0_35) (View.ld x1 r0_13) (View.ld x0 r0_36) (View.ld x1 r0_15) (View.ld x0 r0_37) (View.ld x1 r0_17) = tile x0 x1 2 := by
  funext y
  unfold tile sums taps
  pointwise [k0_pay15, k0_pay16, k0_pay17, k0_pay18, k0_pay19, k0_pay89, k0_pay90]
  simp only [← Nat.add_assoc, Nat.reduceAdd]
set_option maxHeartbeats 4000000 in
/-- The fourth 16 rows the body computes are those rows of the sums. -/
theorem tile_fourth (x0 : FVec Ideal S16x226x226 .bf16) (x1 : FVec Ideal S16x9 .f32) :
    k0_pay26 (k0_pay91 x0 x1) (k0_pay92 x0 x1) (View.ld x1 r0_17) = tile x0 x1 3 := by
  funext y
  unfold tile sums taps
  pointwise [k0_pay21, k0_pay22, k0_pay23, k0_pay24, k0_pay25, k0_pay26, k0_pay91, k0_pay92]
  simp only [← Nat.add_assoc, Nat.reduceAdd]
set_option maxHeartbeats 4000000 in
/-- The fifth 16 rows the body computes are those rows of the sums. -/
theorem tile_fifth (x0 : FVec Ideal S16x226x226 .bf16) (x1 : FVec Ideal S16x9 .f32) :
    k0_pay31 (k0_pay93 x0 x1) (k0_pay94 x0 x1) (View.ld x1 r0_15) (View.ld x0 r0_57) (View.ld x1 r0_17) = tile x0 x1 4 := by
  funext y
  unfold tile sums taps
  pointwise [k0_pay28, k0_pay29, k0_pay30, k0_pay31, k0_pay93, k0_pay94]
  simp only [← Nat.add_assoc, Nat.reduceAdd]
set_option maxHeartbeats 4000000 in
/-- The sixth 16 rows the body computes are those rows of the sums. -/
theorem tile_sixth (x0 : FVec Ideal S16x226x226 .bf16) (x1 : FVec Ideal S16x9 .f32) :
    k0_pay37 (k0_pay95 x0 x1) (View.ld x0 r0_65) (View.ld x1 r0_13) (View.ld x0 r0_66) (View.ld x1 r0_15) (View.ld x0 r0_67) (View.ld x1 r0_17) = tile x0 x1 5 := by
  funext y
  unfold tile sums taps
  pointwise [k0_pay33, k0_pay34, k0_pay35, k0_pay36, k0_pay37, k0_pay95]
  simp only [← Nat.add_assoc, Nat.reduceAdd]
set_option maxHeartbeats 4000000 in
/-- The seventh 16 rows the body computes are those rows of the sums. -/
theorem tile_seventh (x0 : FVec Ideal S16x226x226 .bf16) (x1 : FVec Ideal S16x9 .f32) :
    k0_pay96 x0 x1 = tile x0 x1 6 := by
  funext y
  unfold tile sums taps
  pointwise [k0_pay39, k0_pay40, k0_pay41, k0_pay42, k0_pay43, k0_pay44, k0_pay96]
  simp only [← Nat.add_assoc, Nat.reduceAdd]
set_option maxHeartbeats 4000000 in
/-- The eighth 16 rows the body computes are those rows of the sums. -/
theorem tile_eighth (x0 : FVec Ideal S16x226x226 .bf16) (x1 : FVec Ideal S16x9 .f32) :
    k0_pay51 (k0_pay97 x0 x1) (k0_pay98 x0 x1) (k0_pay99 x0 x1) (View.ld x0 r0_87) (View.ld x1 r0_17) = tile x0 x1 7 := by
  funext y
  unfold tile sums taps
  pointwise [k0_pay46, k0_pay47, k0_pay48, k0_pay49, k0_pay50, k0_pay51, k0_pay97, k0_pay98, k0_pay99]
  simp only [← Nat.add_assoc, Nat.reduceAdd]
set_option maxHeartbeats 4000000 in
/-- The ninth 16 rows the body computes are those rows of the sums. -/
theorem tile_ninth (x0 : FVec Ideal S16x226x226 .bf16) (x1 : FVec Ideal S16x9 .f32) :
    k0_pay56 (k0_pay100 x0 x1) (k0_pay101 x0 x1) (View.ld x1 r0_13) (View.ld x0 r0_96) (View.ld x1 r0_15) (View.ld x0 r0_97) (View.ld x1 r0_17) = tile x0 x1 8 := by
  funext y
  unfold tile sums taps
  pointwise [k0_pay53, k0_pay54, k0_pay55, k0_pay56, k0_pay100, k0_pay101]
  simp only [← Nat.add_assoc, Nat.reduceAdd]
set_option maxHeartbeats 4000000 in
/-- The tenth 16 rows the body computes are those rows of the sums. -/
theorem tile_tenth (x0 : FVec Ideal S16x226x226 .bf16) (x1 : FVec Ideal S16x9 .f32) :
    k0_pay61 (k0_pay102 x0 x1) (View.ld x0 r0_104) (View.ld x1 r0_11) (View.ld x0 r0_105) (View.ld x1 r0_13) (View.ld x0 r0_106) (View.ld x1 r0_15) (View.ld x0 r0_107) (View.ld x1 r0_17) = tile x0 x1 9 := by
  funext y
  unfold tile sums taps
  pointwise [k0_pay58, k0_pay59, k0_pay60, k0_pay61, k0_pay102]
  simp only [← Nat.add_assoc, Nat.reduceAdd]
set_option maxHeartbeats 4000000 in
/-- The eleventh 16 rows the body computes are those rows of the sums. -/
theorem tile_eleventh (x0 : FVec Ideal S16x226x226 .bf16) (x1 : FVec Ideal S16x9 .f32) :
    k0_pay67 (k0_pay103 x0 x1) (View.ld x0 r0_117) (View.ld x1 r0_17) = tile x0 x1 10 := by
  funext y
  unfold tile sums taps
  pointwise [k0_pay64, k0_pay65, k0_pay66, k0_pay67, k0_pay103]
  simp only [← Nat.add_assoc, Nat.reduceAdd]
set_option maxHeartbeats 4000000 in
/-- The twelfth 16 rows the body computes are those rows of the sums. -/
theorem tile_twelfth (x0 : FVec Ideal S16x226x226 .bf16) (x1 : FVec Ideal S16x9 .f32) :
    k0_pay73 (k0_pay104 x0 x1) (k0_pay105 x0 x1) (View.ld x0 r0_126) (View.ld x1 r0_15) (View.ld x0 r0_127) (View.ld x1 r0_17) = tile x0 x1 11 := by
  funext y
  unfold tile sums taps
  pointwise [k0_pay69, k0_pay70, k0_pay71, k0_pay72, k0_pay73, k0_pay104, k0_pay105]
  simp only [← Nat.add_assoc, Nat.reduceAdd]
set_option maxHeartbeats 4000000 in
/-- The thirteenth 16 rows the body computes are those rows of the sums. -/
theorem tile_thirteenth (x0 : FVec Ideal S16x226x226 .bf16) (x1 : FVec Ideal S16x9 .f32) :
    k0_pay79 (k0_pay106 x0 x1) (k0_pay107 x0 x1) (View.ld x1 r0_11) (View.ld x0 r0_135) (View.ld x1 r0_13) (View.ld x0 r0_136) (View.ld x1 r0_15) (View.ld x0 r0_137) (View.ld x1 r0_17) = tile x0 x1 12 := by
  funext y
  unfold tile sums taps
  pointwise [k0_pay75, k0_pay76, k0_pay77, k0_pay78, k0_pay79, k0_pay106, k0_pay107]
  simp only [← Nat.add_assoc, Nat.reduceAdd]
set_option maxHeartbeats 4000000 in
/-- The fourteenth 16 rows the body computes are those rows of the sums. -/
theorem tile_fourteenth (x0 : FVec Ideal S16x226x226 .bf16) (x1 : FVec Ideal S16x9 .f32) :
    k0_pay1 (k0_pay108 x0 x1) (k0_pay109 x0 x1) (View.ld x1 r0_17) = tile x0 x1 13 := by
  funext y
  unfold tile sums taps
  pointwise [k0_pay1, k0_pay81, k0_pay82, k0_pay83, k0_pay84, k0_pay85, k0_pay108, k0_pay109]
  simp only [← Nat.add_assoc, Nat.reduceAdd]

end Cert.DepthwiseProof

end
-- ==== Proof.Depthwise.Block.lean ====
module

public import proofs.«01_k».proof.Proof.Gen.DepthwiseIdeal.Frame
public import proofs.«01_k».proof.Proof.Depthwise.Tiles
public import Idealize.ShloMosaic.Lib.Pipeline.ValueKit

@[expose] public section

set_option maxRecDepth 16384

noncomputable section

namespace Cert.DepthwiseProof

open Idealize.ShloMosaic Idealize.ShloMosaic.TcCoe Idealize.SL.Sem
open Idealize.ShloMosaic.Pipeline (Dat)
open Cert.DepthwiseIdeal Cert.DepthwiseIdeal.Gen

/-- A running sum of squares after the next 16 rows. -/
def step (s : FVec Ideal S16x1x1 .f32) (T : FVec Ideal S16x16x224 .f32) : FVec Ideal S16x1x1 .f32 :=
  addf s (shapeCast S16x1x1 (multiReduction .add [1, 2] S16 (mulf T T) 0x00000000#32 reduces_S16x16x224_S16 (.inl rfl) rfl) shapeCasts_S16_S16x1x1)

theorem step_first (v0 : FVec Ideal S16x1x1 .f32) (v73 : FVec Ideal S16x16x224 .f32) (v74 : Vec Ideal S16x16x224 .bf16) (v77 : Vec Ideal S16x1 .f32) :
    k0_pay8 v0 v73 v74 v77 = step v0 (k0_pay7 v73 v74 v77) := rfl
theorem step_second (v87 : FVec Ideal S16x1x1 .f32) (v142 : FVec Ideal S16x16x224 .f32) (v150 : FVec Ideal S16x16x224 .f32) (v152 : Vec Ideal S16x16x224 .bf16) (v155 : Vec Ideal S16x1 .f32) (v161 : Vec Ideal S16x16x224 .bf16) (v164 : Vec Ideal S16x1 .f32) :
    k0_pay14 v87 v142 v150 v152 v155 v161 v164 = step v87 (k0_pay13 v142 v150 v152 v155 v161 v164) := rfl
theorem step_third (v174 : FVec Ideal S16x1x1 .f32) (v220 : FVec Ideal S16x16x224 .f32) (v223 : FVec Ideal S16x16x224 .f32) (v224 : Vec Ideal S16x1 .f32) (v230 : Vec Ideal S16x16x224 .bf16) (v233 : Vec Ideal S16x1 .f32) (v239 : Vec Ideal S16x16x224 .bf16) (v242 : Vec Ideal S16x1 .f32) (v248 : Vec Ideal S16x16x224 .bf16) (v251 : Vec Ideal S16x1 .f32) :
    k0_pay20 v174 v220 v223 v224 v230 v233 v239 v242 v248 v251 = step v174 (k0_pay19 v220 v223 v224 v230 v233 v239 v242 v248 v251) := rfl
theorem step_fourth (v261 : FVec Ideal S16x1x1 .f32) (v334 : FVec Ideal S16x16x224 .f32) (v337 : FVec Ideal S16x16x224 .f32) (v338 : Vec Ideal S16x1 .f32) :
    k0_pay27 v261 v334 v337 v338 = step v261 (k0_pay26 v334 v337 v338) := rfl
theorem step_fifth (v348 : FVec Ideal S16x1x1 .f32) (v412 : FVec Ideal S16x16x224 .f32) (v414 : FVec Ideal S16x16x224 .bf16) (v416 : Vec Ideal S16x1 .f32) (v422 : Vec Ideal S16x16x224 .bf16) (v425 : Vec Ideal S16x1 .f32) :
    k0_pay32 v348 v412 v414 v416 v422 v425 = step v348 (k0_pay31 v412 v414 v416 v422 v425) := rfl
theorem step_sixth (v435 : FVec Ideal S16x1x1 .f32) (v490 : FVec Ideal S16x16x224 .f32) (v491 : Vec Ideal S16x16x224 .bf16) (v494 : Vec Ideal S16x1 .f32) (v500 : Vec Ideal S16x16x224 .bf16) (v503 : Vec Ideal S16x1 .f32) (v509 : Vec Ideal S16x16x224 .bf16) (v512 : Vec Ideal S16x1 .f32) :
    k0_pay38 v435 v490 v491 v494 v500 v503 v509 v512 = step v435 (k0_pay37 v490 v491 v494 v500 v503 v509 v512) := rfl
theorem step_seventh (v522 : FVec Ideal S16x1x1 .f32) (v604 : FVec Ideal S16x16x224 .f32) :
    k0_pay45 v522 v604 = step v522 v604 := rfl
theorem step_eighth (v609 : FVec Ideal S16x1x1 .f32) (v673 : FVec Ideal S16x16x224 .f32) (v676 : FVec Ideal S16x16x224 .f32) (v679 : FVec Ideal S16x1x1 .f32) (v683 : Vec Ideal S16x16x224 .bf16) (v686 : Vec Ideal S16x1 .f32) :
    k0_pay52 v609 v673 v676 v679 v683 v686 = step v609 (k0_pay51 v673 v676 v679 v683 v686) := rfl
theorem step_ninth (v696 : FVec Ideal S16x1x1 .f32) (v751 : FVec Ideal S16x16x224 .f32) (v754 : FVec Ideal S16x16x224 .f32) (v755 : Vec Ideal S16x1 .f32) (v761 : Vec Ideal S16x16x224 .bf16) (v764 : Vec Ideal S16x1 .f32) (v770 : Vec Ideal S16x16x224 .bf16) (v773 : Vec Ideal S16x1 .f32) :
    k0_pay57 v696 v751 v754 v755 v761 v764 v770 v773 = step v696 (k0_pay56 v751 v754 v755 v761 v764 v770 v773) := rfl
theorem step_tenth (v783 : FVec Ideal S16x1x1 .f32) (v829 : FVec Ideal S16x16x224 .f32) (v830 : Vec Ideal S16x16x224 .bf16) (v833 : Vec Ideal S16x1 .f32) (v839 : Vec Ideal S16x16x224 .bf16) (v842 : Vec Ideal S16x1 .f32) (v848 : Vec Ideal S16x16x224 .bf16) (v851 : Vec Ideal S16x1 .f32) (v857 : Vec Ideal S16x16x224 .bf16) (v860 : Vec Ideal S16x1 .f32) :
    k0_pay63 v783 (k0_pay62 v829 v830 v833 v839 v842 v848 v851 v857 v860) = step v783 (k0_pay61 v829 v830 v833 v839 v842 v848 v851 v857 v860) := rfl
theorem step_eleventh (v870 : FVec Ideal S16x1x1 .f32) (v943 : FVec Ideal S16x16x224 .f32) (v944 : Vec Ideal S16x16x224 .bf16) (v947 : Vec Ideal S16x1 .f32) :
    k0_pay68 v870 v943 v944 v947 = step v870 (k0_pay67 v943 v944 v947) := rfl
theorem step_twelfth (v957 : FVec Ideal S16x1x1 .f32) (v1012 : FVec Ideal S16x16x224 .f32) (v1020 : FVec Ideal S16x16x224 .f32) (v1022 : Vec Ideal S16x16x224 .bf16) (v1025 : Vec Ideal S16x1 .f32) (v1031 : Vec Ideal S16x16x224 .bf16) (v1034 : Vec Ideal S16x1 .f32) :
    k0_pay74 v957 v1012 v1020 v1022 v1025 v1031 v1034 = step v957 (k0_pay73 v1012 v1020 v1022 v1025 v1031 v1034) := rfl
theorem step_thirteenth (v1044 : FVec Ideal S16x1x1 .f32) (v1090 : FVec Ideal S16x16x224 .f32) (v1093 : FVec Ideal S16x16x224 .f32) (v1094 : Vec Ideal S16x1 .f32) (v1100 : Vec Ideal S16x16x224 .bf16) (v1103 : Vec Ideal S16x1 .f32) (v1109 : Vec Ideal S16x16x224 .bf16) (v1112 : Vec Ideal S16x1 .f32) (v1118 : Vec Ideal S16x16x224 .bf16) (v1121 : Vec Ideal S16x1 .f32) :
    k0_pay80 v1044 v1090 v1093 v1094 v1100 v1103 v1109 v1112 v1118 v1121 = step v1044 (k0_pay79 v1090 v1093 v1094 v1100 v1103 v1109 v1112 v1118 v1121) := rfl
theorem step_fourteenth (v1131 : FVec Ideal S16x1x1 .f32) (v1204 : FVec Ideal S16x16x224 .f32) (v1207 : FVec Ideal S16x16x224 .f32) (v1208 : Vec Ideal S16x1 .f32) :
    k0_pay2 v1131 v1204 v1207 v1208 = step v1131 (k0_pay1 v1204 v1207 v1208) := rfl

/-- The sums of squares of one block of channels. -/
def squares (x0 : FVec Ideal S16x226x226 .bf16) (x1 : FVec Ideal S16x9 .f32) (c : Fin 16) : EReal :=
  ∑ r : Fin 224, ∑ w : Fin 224, sums x0 x1 c r w * sums x0 x1 c r w

set_option maxHeartbeats 1600000 in
/-- What the body leaves in its block of sums. -/
theorem out_sums (x0 : FVec Ideal S16x226x226 .bf16) (x1 : FVec Ideal S16x9 .f32) (y : S16x224x224.Idx) : (out0_2 (F := Ideal) x0 x1 y : EReal) = sums x0 x1 (y 0) (y 1) (y 2) := by
  unfold out0_2
  rw [tile_first, tile_second, tile_third, tile_fourth, tile_fifth, tile_sixth, tile_seventh, tile_eighth, tile_ninth, tile_tenth, tile_eleventh, tile_twelfth, tile_thirteenth, tile_fourteenth]
  canon_tiles y h
  all_goals
    show sums x0 x1 _ _ _ = _
    congr 1 <;> apply Fin.ext <;> first | exact h0.symm | exact h1.symm | exact h2.symm | simpa using h1.symm

/-- The running sums of squares, one tile after the other. -/
def running (x0 : FVec Ideal S16x226x226 .bf16) (x1 : FVec Ideal S16x9 .f32) : FVec Ideal S16x1x1 .f32 := step (step (step (step (step (step (step (step (step (step (step (step (step (step (k0_pay3 (F := Ideal)) (tile x0 x1 0)) (tile x0 x1 1)) (tile x0 x1 2)) (tile x0 x1 3)) (tile x0 x1 4)) (tile x0 x1 5)) (tile x0 x1 6)) (tile x0 x1 7)) (tile x0 x1 8)) (tile x0 x1 9)) (tile x0 x1 10)) (tile x0 x1 11)) (tile x0 x1 12)) (tile x0 x1 13)

set_option maxHeartbeats 1600000 in
/-- What the body leaves in its block of sums of squares: the last running sum. -/
theorem out_running (x0 : FVec Ideal S16x226x226 .bf16) (x1 : FVec Ideal S16x9 .f32) : out0_3 (F := Ideal) x0 x1 = running x0 x1 := by
  funext y
  unfold out0_3
  rw [step_fourteenth, step_thirteenth, step_twelfth, step_eleventh, step_tenth, step_ninth, step_eighth, step_seventh, step_sixth, step_fifth, step_fourth, step_third, step_second, step_first]
  rw [tile_first, tile_second, tile_third, tile_fourth, tile_fifth, tile_sixth, tile_seventh, tile_eighth, tile_ninth, tile_tenth, tile_eleventh, tile_twelfth, tile_thirteenth, tile_fourteenth]
  change View.canon [(⟨r0_149, running x0 x1⟩ : View.Piece (Elt Ideal) S16x1x1 .f32)] y = _
  generalize running x0 x1 = R
  canon_tiles y h
  all_goals
    exact congrArg R (by funext d; apply Fin.ext; fin_cases d; exacts [h0.symm, h1.symm, h2.symm])

theorem step_at (s : FVec Ideal S16x1x1 .f32) (T : FVec Ideal S16x16x224 .f32) (y : S16x1x1.Idx) : step s T y = s y + ∑ i : Fin 16, ∑ w : Fin 224, T (ix3 (y 0) i w) * T (ix3 (y 0) i w) := by
  pointwise [step]

/-- A sum over 224 rows, 16 rows at a time. -/
theorem sum_rows (f : Fin 224 → EReal) : ∑ r, f r = ∑ b : Fin 14, ∑ i : Fin 16, f ⟨16 * (b : ℕ) + i, by omega⟩ := by
  rw [← (finProdFinEquiv (m := 14) (n := 16)).sum_comp, Fintype.sum_prod_type]
  refine Finset.sum_congr rfl fun b _ => Finset.sum_congr rfl fun i _ => congrArg f (Fin.ext ?_)
  exact Nat.add_comm _ _

theorem zero_at (y : S16x1x1.Idx) : (k0_pay3 (F := Ideal) y : EReal) = 0 := by
  pointwise [k0_pay3]

set_option maxHeartbeats 1600000 in
/-- The last running sum is the sum of all squares of the channel. -/
theorem running_at (x0 : FVec Ideal S16x226x226 .bf16) (x1 : FVec Ideal S16x9 .f32) (y : S16x1x1.Idx) : running x0 x1 y = squares x0 x1 (y 0) := by
  unfold running squares
  rw [sum_rows]
  iterate 14 rw [Fin.sum_univ_castSucc]
  rw [Fin.sum_univ_zero]
  iterate 14 rw [step_at]
  rw [zero_at]
  rfl

end Cert.DepthwiseProof

end
-- ==== Proof.Depthwise.Entry.lean ====
module

public import proofs.«01_k».proof.Proof.Gen.DepthwiseIdeal.Frame
public import proofs.«01_k».proof.Proof.Depthwise.Block
public import Idealize.ShloMosaic.Lib.Pipeline.ValueKit

@[expose] public section

set_option maxRecDepth 16384

noncomputable section

namespace Cert.DepthwiseProof

open Idealize.ShloMosaic Idealize.ShloMosaic.TcCoe Idealize.SL.Sem
open Idealize.ShloMosaic.Pipeline (Dat)
open Cert.DepthwiseIdeal Cert.DepthwiseIdeal.Gen

variable (m : (ℓ : Loc nD τ sig) → Buf (Elt Ideal) ℓ) (σ : Valuation τ sig (Elt Ideal))

open Idealize.ShloMosaic.StableHlo

/-- The image with a row and a column of zeros added on each side. -/
def padded (A : FVec Ideal S576x50176 .bf16) : FVec Ideal S576x226x226 .bf16 :=
  pad S576x226x226 ![0, 1, 1] ![0, 1, 1] ![0, 0, 0] (shapeCast S576x224x224 A shapeCasts_S576x50176_S576x224x224) (sitofp .bf16 (constantI S_ 32 0#32)) pads_S576x224x224_S576x226x226_000_110_110 h_S_

theorem s2_v2 : after (hostOps0_2 (F := Ideal)) σ (Proc.devRef .tc main_v2) = shapeCast S576x9 (σ (Proc.devRef .tc main_arg1)) shapeCasts_S576x1x3x3_S576x9 := by
  simp only [hostOps0_2]
  after_results_simp
  rfl
theorem s2_v1 : after (hostOps0_2 (F := Ideal)) σ (Proc.devRef .tc main_v1) = σ (Proc.devRef .tc main_v1) := by
  simp only [hostOps0_2]
  after_results_simp
theorem s1_v1 : after (hostOps0_1 (F := Ideal)) σ (Proc.devRef .tc main_v1) = pad S576x226x226 ![0, 1, 1] ![0, 1, 1] ![0, 0, 0] (σ (Proc.devRef .tc main_v0)) (sitofp (F := Ideal) .bf16 (σ (Proc.devRef .tc main_c))) pads_S576x224x224_S576x226x226_000_110_110 h_S_ := by
  simp only [hostOps0_1]
  after_results_simp
  simp only [TRef.ofBuf_toBuf, id]
  simp -implicitDefEqProofs only [TRef.toBuf, TRef.ofBuf, cast_cast, cast_eq]
theorem s1_arg1 : after (hostOps0_1 (F := Ideal)) σ (Proc.devRef .tc main_arg1) = σ (Proc.devRef .tc main_arg1) := by
  simp only [hostOps0_1]
  after_results_simp
theorem s0_v0 : after (hostOps0 (F := Ideal)) σ (Proc.devRef .tc main_v0) = shapeCast S576x224x224 (σ (Proc.devRef .tc main_arg0)) shapeCasts_S576x50176_S576x224x224 := by
  simp only [hostOps0]
  after_results_simp
  rfl
theorem s0_c : after (hostOps0 (F := Ideal)) σ (Proc.devRef .tc main_c) = constantI S_ 32 0#32 := by
  simp only [hostOps0]
  after_results_simp
theorem s0_arg1 : after (hostOps0 (F := Ideal)) σ (Proc.devRef .tc main_arg1) = σ (Proc.devRef .tc main_arg1) := by
  simp only [hostOps0]
  after_results_simp

theorem flat : after ([hostOps0, hostOps0_1, hostOps0_2] : List (List (HloOp τ sig (Elt Ideal)))).flatten σ
    = after hostOps0_2 (after hostOps0_1 (after hostOps0 σ)) := by
  simp only [List.flatten_cons, List.flatten_nil, List.append_nil, after_append]

/-- The padded image the kernel is handed. -/
theorem image_eq (c : Dev nD) : V m c main_v1 = padded (m ((c : Thread nD τ).loc main_arg0)) := by
  show after _ _ _ = _
  rw [flat, s2_v1, s1_v1, s0_v0, s0_c]
  rfl

/-- The weights the kernel is handed. -/
theorem weights_eq (c : Dev nD) : V m c main_v2 = shapeCast S576x9 (m ((c : Thread nD τ).loc main_arg1)) shapeCasts_S576x1x3x3_S576x9 := by
  show after _ _ _ = _
  rw [flat, s2_v2, s1_arg1, s0_arg1]

end Cert.DepthwiseProof

end
-- ==== Proof.Depthwise.Ref.lean ====
module

public import proofs.«01_k».proof.Proof.Gen.DepthwiseRefIdeal.Run
public import proofs.«01_k».proof.Proof.Depthwise.Tiles
public import Idealize.ShloMosaic.Lib.Pipeline.ValueKit

@[expose] public section

set_option maxRecDepth 16384

noncomputable section

namespace Cert.DepthwiseRef

open Idealize.ShloMosaic Idealize.ShloMosaic.TcCoe Idealize.SL.Sem
open Cert.DepthwiseRefIdeal Cert.DepthwiseRefIdeal.Gen

/-- The padded image, as the reference composes it. -/
def image (A : FVec Ideal S576x50176 .bf16) : FVec Ideal S576x226x226 .f32 :=
  pad S576x226x226 ![0, 1, 1] ![0, 1, 1] ![0, 0, 0] (extf .f32 (shapeCast S576x224x224 A shapeCasts_S576x50176_S576x224x224) bitsLt_bf16_f32) (sitofp .f32 (constantI S_ 32 0#32)) pads_S576x224x224_S576x226x226_000_110_110 h_S_

/-- The sum of the nine weighted windows of a padded image. -/
def windows (P : FVec Ideal S576x226x226 .f32) (W : FVec Ideal S576x1x3x3 .f32) : FVec Ideal S576x224x224 .f32 :=
  addf (addf (addf (addf (addf (addf (addf (addf (addf (broadcastInDim S576x224x224 ![] bcast_S_S576x224x224 (constant S_ .f32 0x00000000#32)) (mulf (extractStridedSlice S576x224x224 ![0, 0, 0] P slices_S576x226x226_S576x224x224_0_0_0) (broadcastInDim S576x224x224 ![0, 1, 2] bcast_S576x1x1_S576x224x224_0_1_2 (broadcastInDim S576x1x1 ![0] bcast_S576_S576x1x1_0 (shapeCast _ (extractStridedSlice S576x1x1x1 ![0, 0, 0, 0] W slices_S576x1x3x3_S576x1x1x1_0_0_0_0) shapeCasts_S576x1x1x1_S576))))) (mulf (extractStridedSlice S576x224x224 ![0, 0, 1] P slices_S576x226x226_S576x224x224_0_0_1) (broadcastInDim S576x224x224 ![0, 1, 2] bcast_S576x1x1_S576x224x224_0_1_2 (broadcastInDim S576x1x1 ![0] bcast_S576_S576x1x1_0 (shapeCast _ (extractStridedSlice S576x1x1x1 ![0, 0, 0, 1] W slices_S576x1x3x3_S576x1x1x1_0_0_0_1) shapeCasts_S576x1x1x1_S576))))) (mulf (extractStridedSlice S576x224x224 ![0, 0, 2] P slices_S576x226x226_S576x224x224_0_0_2) (broadcastInDim S576x224x224 ![0, 1, 2] bcast_S576x1x1_S576x224x224_0_1_2 (broadcastInDim S576x1x1 ![0] bcast_S576_S576x1x1_0 (shapeCast _ (extractStridedSlice S576x1x1x1 ![0, 0, 0, 2] W slices_S576x1x3x3_S576x1x1x1_0_0_0_2) shapeCasts_S576x1x1x1_S576))))) (mulf (extractStridedSlice S576x224x224 ![0, 1, 0] P slices_S576x226x226_S576x224x224_0_1_0) (broadcastInDim S576x224x224 ![0, 1, 2] bcast_S576x1x1_S576x224x224_0_1_2 (broadcastInDim S576x1x1 ![0] bcast_S576_S576x1x1_0 (shapeCast _ (extractStridedSlice S576x1x1x1 ![0, 0, 1, 0] W slices_S576x1x3x3_S576x1x1x1_0_0_1_0) shapeCasts_S576x1x1x1_S576))))) (mulf (extractStridedSlice S576x224x224 ![0, 1, 1] P slices_S576x226x226_S576x224x224_0_1_1) (broadcastInDim S576x224x224 ![0, 1, 2] bcast_S576x1x1_S576x224x224_0_1_2 (broadcastInDim S576x1x1 ![0] bcast_S576_S576x1x1_0 (shapeCast _ (extractStridedSlice S576x1x1x1 ![0, 0, 1, 1] W slices_S576x1x3x3_S576x1x1x1_0_0_1_1) shapeCasts_S576x1x1x1_S576))))) (mulf (extractStridedSlice S576x224x224 ![0, 1, 2] P slices_S576x226x226_S576x224x224_0_1_2) (broadcastInDim S576x224x224 ![0, 1, 2] bcast_S576x1x1_S576x224x224_0_1_2 (broadcastInDim S576x1x1 ![0] bcast_S576_S576x1x1_0 (shapeCast _ (extractStridedSlice S576x1x1x1 ![0, 0, 1, 2] W slices_S576x1x3x3_S576x1x1x1_0_0_1_2) shapeCasts_S576x1x1x1_S576))))) (mulf (extractStridedSlice S576x224x224 ![0, 2, 0] P slices_S576x226x226_S576x224x224_0_2_0) (broadcastInDim S576x224x224 ![0, 1, 2] bcast_S576x1x1_S576x224x224_0_1_2 (broadcastInDim S576x1x1 ![0] bcast_S576_S576x1x1_0 (shapeCast _ (extractStridedSlice S576x1x1x1 ![0, 0, 2, 0] W slices_S576x1x3x3_S576x1x1x1_0_0_2_0) shapeCasts_S576x1x1x1_S576))))) (mulf (extractStridedSlice S576x224x224 ![0, 2, 1] P slices_S576x226x226_S576x224x224_0_2_1) (broadcastInDim S576x224x224 ![0, 1, 2] bcast_S576x1x1_S576x224x224_0_1_2 (broadcastInDim S576x1x1 ![0] bcast_S576_S576x1x1_0 (shapeCast _ (extractStridedSlice S576x1x1x1 ![0, 0, 2, 1] W slices_S576x1x3x3_S576x1x1x1_0_0_2_1) shapeCasts_S576x1x1x1_S576))))) (mulf (extractStridedSlice S576x224x224 ![0, 2, 2] P slices_S576x226x226_S576x224x224_0_2_2) (broadcastInDim S576x224x224 ![0, 1, 2] bcast_S576x1x1_S576x224x224_0_1_2 (broadcastInDim S576x1x1 ![0] bcast_S576_S576x1x1_0 (shapeCast _ (extractStridedSlice S576x1x1x1 ![0, 0, 2, 2] W slices_S576x1x3x3_S576x1x1x1_0_0_2_2) shapeCasts_S576x1x1x1_S576))))

/-- Each channel's sum of squares. -/
def norms (x : FVec Ideal S576x224x224 .f32) : FVec Ideal S576x1x1 .f32 :=
  broadcastInDim S576x1x1 ![0] bcast_S576_S576x1x1_0 (Host.reduceAdd (mulf x x) (constant S_ .f32 0x00000000#32) reducesTo_S576x224x224_S576_d1_2 h_S_)

theorem v66_eq (m : (ℓ : Loc nD τ sig) → Buf (Elt Ideal) ℓ) (c : Dev nD) :
    Cert.DepthwiseRefIdeal.Value.res_main_v66 m c = windows (image (m ((c.tc : Thread nD τ).loc main_arg0))) (m ((c.tc : Thread nD τ).loc main_arg1)) := rfl

theorem v69_eq (m : (ℓ : Loc nD τ sig) → Buf (Elt Ideal) ℓ) (c : Dev nD) :
    Cert.DepthwiseRefIdeal.Value.res_main_v69 m c = norms (windows (image (m ((c.tc : Thread nD τ).loc main_arg0))) (m ((c.tc : Thread nD τ).loc main_arg1))) := rfl

set_option maxHeartbeats 1600000 in
/-- An entry of the nine windows' sum: the nine products, added up in order. -/
theorem windows_at (P : FVec Ideal S576x226x226 .f32) (W : FVec Ideal S576x1x3x3 .f32) (y : S576x224x224.Idx) :
    windows P W y = Cert.DepthwiseProof.taps (fun c a b => P (ix3 c a b)) (fun c k => W (ix4 c (0 : Fin 1) (⟨(k : ℕ) / 3, by omega⟩ : Fin 3) (⟨(k : ℕ) % 3, by omega⟩ : Fin 3))) (y 0) (y 1) (y 2) := by
  unfold Cert.DepthwiseProof.taps
  pointwise [windows]

/-- A channel's sum of squares, row by row. -/
theorem norms_at (x : FVec Ideal S576x224x224 .f32) (y : S576x1x1.Idx) : norms x y = ∑ r : Fin 224, ∑ w : Fin 224, x (ix3 (y 0) r w) * x (ix3 (y 0) r w) := by
  pointwise [norms]

end Cert.DepthwiseRef

end
-- ==== Proof.Depthwise.Value.lean ====
module

public import proofs.«01_k».proof.Proof.Depthwise.Entry
public import proofs.«01_k».proof.Proof.Depthwise.Ref
public import Idealize.ShloMosaic.Lib.Pipeline.ValueKit

@[expose] public section

set_option maxRecDepth 16384

noncomputable section

namespace Cert.DepthwiseProof

open Idealize.ShloMosaic Idealize.ShloMosaic.TcCoe Idealize.SL.Sem
open Idealize.ShloMosaic.Pipeline (Dat)
open Cert.DepthwiseIdeal Cert.DepthwiseIdeal.Gen

variable (m : (ℓ : Loc nD τ sig) → Buf (Elt Ideal) ℓ)

/-- Where each window's block sits: 16 channels after the other. -/
theorem idx : ∀ t : Fin cfg0.N, win0_0.index t = ![t.val, 0, 0] ∧ win0_1.index t = ![t.val, 0] ∧ win0_2.index t = ![t.val, 0, 0] ∧ win0_3.index t = ![t.val, 0, 0] :=
  (by decide +kernel : ∀ t : Fin grid0.N, _)

theorem count (t : Fin cfg0.N) : (t : ℕ) < 36 := t.isLt

theorem image_at (c : Dev nD) (t : Fin cfg0.N) (i : Fin 16) (a b : Fin 226) :
    (iblk m c 0 t : FVec Ideal S16x226x226 .bf16) (ix3 i a b) = padded (m ((c : Thread nD τ).loc main_arg0)) (ix3 (⟨(t : ℕ) * 16 + (i : ℕ), by have := count t; omega⟩ : Fin 576) a b) := by
  have e : (iblk m c 0 t : FVec Ideal S16x226x226 .bf16) (ix3 i a b) = V m c main_v1 (ix3 (⟨(t : ℕ) * 16 + (i : ℕ), by have := count t; omega⟩ : Fin 576) a b) := by
    blk_point [iblk, idx t]
  rw [e, image_eq]

theorem cast_at (W : FVec Ideal S576x1x3x3 .f32) (i : Fin 576) (k : Fin 9) :
    shapeCast S576x9 W shapeCasts_S576x1x3x3_S576x9 (ix2 i k) = W (ix4 i (0 : Fin 1) (⟨(k : ℕ) / 3, by omega⟩ : Fin 3) (⟨(k : ℕ) % 3, by omega⟩ : Fin 3)) := by
  pointwise

theorem weight_at (c : Dev nD) (t : Fin cfg0.N) (i : Fin 16) (k : Fin 9) :
    (iblk m c 1 t : FVec Ideal S16x9 .f32) (ix2 i k) = m ((c : Thread nD τ).loc main_arg1) (ix4 (⟨(t : ℕ) * 16 + (i : ℕ), by have := count t; omega⟩ : Fin 576) (0 : Fin 1) (⟨(k : ℕ) / 3, by omega⟩ : Fin 3) (⟨(k : ℕ) % 3, by omega⟩ : Fin 3)) := by
  have e : (iblk m c 1 t : FVec Ideal S16x9 .f32) (ix2 i k) = V m c main_v2 (ix2 (⟨(t : ℕ) * 16 + (i : ℕ), by have := count t; omega⟩ : Fin 576) k) := by
    blk_point [iblk, idx t]
  rw [e, weights_eq, cast_at]

/-- The convolution: the sum of the nine weighted windows. -/
def conv (A : FVec Ideal S576x50176 .bf16) (W : FVec Ideal S576x1x3x3 .f32) : FVec Ideal S576x224x224 .f32 :=
  Cert.DepthwiseRef.windows (Cert.DepthwiseRef.image A) W

theorem padded_eq (A : FVec Ideal S576x50176 .bf16) : (padded A : S576x226x226.Idx → EReal) = Cert.DepthwiseRef.image A := rfl

theorem taps_congr {n k : ℕ} (P : Fin n → Fin 226 → Fin 226 → EReal) (W : Fin n → Fin 9 → EReal) (P' : Fin k → Fin 226 → Fin 226 → EReal) (W' : Fin k → Fin 9 → EReal)
    (c : Fin n) (c' : Fin k) (r w : Fin 224) (hP : ∀ a b, P c a b = P' c' a b) (hW : ∀ k, W c k = W' c' k) : taps P W c r w = taps P' W' c' r w := by
  unfold taps
  simp only [hP, hW]

/-- The sums of block `t` are the convolution's entries of its 16 channels. -/
theorem sums_at (c : Dev nD) (t : Fin cfg0.N) (i : Fin 16) (r w : Fin 224) :
    sums (iblk m c 0 t) (iblk m c 1 t) i r w = conv (m ((c : Thread nD τ).loc main_arg0)) (m ((c : Thread nD τ).loc main_arg1)) (ix3 (⟨(t : ℕ) * 16 + (i : ℕ), by have := count t; omega⟩ : Fin 576) r w) := by
  unfold conv sums
  rw [Cert.DepthwiseRef.windows_at]
  exact taps_congr _ _ _ _ _ _ _ _ (fun a b => (image_at m c t i a b).trans (congrFun (padded_eq _) _)) fun k => weight_at m c t i k

/-- The array the kernel leaves is the convolution. -/
theorem final_conv (c : Dev nD) : (dats m 0 c).arrAt 2 (cfgs 0).N
    = conv (m ((c : Thread nD τ).loc main_arg0)) (m ((c : Thread nD τ).loc main_arg1)) := by
  refine (dats m 0 c).arrAt_eq_of_covers 2 _ (by decide +kernel) fun t _ y => ?_
  blk_simp
  rw [after0_2]
  refine (out_sums _ _ y).trans ((sums_at m c t _ _ _).trans (congrArg _ ?_))
  blk_ext [idx t]

/-- The sums of squares of block `t` are those of the convolution's 16 channels. -/
theorem squares_at (c : Dev nD) (t : Fin cfg0.N) (i : Fin 16) (C : FVec Ideal S576x224x224 .f32) (hC : C = conv (m ((c : Thread nD τ).loc main_arg0)) (m ((c : Thread nD τ).loc main_arg1))) :
    squares (iblk m c 0 t) (iblk m c 1 t) i = ∑ r : Fin 224, ∑ w : Fin 224, C (ix3 (⟨(t : ℕ) * 16 + (i : ℕ), by have := count t; omega⟩ : Fin 576) r w) * C (ix3 (⟨(t : ℕ) * 16 + (i : ℕ), by have := count t; omega⟩ : Fin 576) r w) := by
  unfold squares
  refine Finset.sum_congr rfl fun r _ => Finset.sum_congr rfl fun w _ => ?_
  rw [sums_at, hC]

theorem emb_channel (t : Fin cfg0.N) (y : S16x1x1.Idx) : (((cfg0.win 3).blk t).view.emb y 0 : ℕ) = (t : ℕ) * 16 + (y 0 : ℕ) := by
  blk_simp [idx t]

theorem norms_pt (C : FVec Ideal S576x224x224 .f32) (z : S576x1x1.Idx) (n : ℕ) (hn : n < 576) (h : (z 0 : ℕ) = n) :
    Cert.DepthwiseRef.norms C z = ∑ r : Fin 224, ∑ w : Fin 224, C (ix3 (⟨n, hn⟩ : Fin 576) r w) * C (ix3 (⟨n, hn⟩ : Fin 576) r w) := by
  rw [Cert.DepthwiseRef.norms_at]
  have e : z 0 = (⟨n, hn⟩ : Fin 576) := Fin.ext h
  rw [e]

theorem norms_point (c : Dev nD) (t : Fin cfg0.N) (y : S16x1x1.Idx) (C : FVec Ideal S576x224x224 .f32) (hC : C = conv (m ((c : Thread nD τ).loc main_arg0)) (m ((c : Thread nD τ).loc main_arg1))) :
    running (iblk m c 0 t) (iblk m c 1 t) y = Cert.DepthwiseRef.norms C (((cfg0.win 3).blk t).view.emb y) := by
  have hl := count t
  have hy : (y 0 : ℕ) < 16 := (y 0).isLt
  refine (running_at _ _ y).trans ((squares_at m c t _ C hC).trans ?_)
  exact (norms_pt C _ _ (by omega) (emb_channel t y)).symm

/-- The sums of squares the kernel leaves are the convolution's. -/
theorem final_norms (c : Dev nD) : (dats m 0 c).arrAt 3 (cfgs 0).N
    = Cert.DepthwiseRef.norms (conv (m ((c : Thread nD τ).loc main_arg0)) (m ((c : Thread nD τ).loc main_arg1))) := by
  refine (dats m 0 c).arrAt_eq_of_covers 3 _ (by decide +kernel) fun t _ y => ?_
  blk_simp
  rw [after0_3, out_running]
  exact norms_point m c t y _ rfl

end Cert.DepthwiseProof

end
-- ==== Proof.Depthwise.Claims.lean ====
module

public import proofs.«01_k».proof.Defs
public import proofs.«01_k».proof.Proof.Gen.Depthwise.Frame
public import proofs.«01_k».proof.Proof.Gen.DepthwiseIdeal.Frame
public import proofs.«01_k».proof.Proof.Gen.DepthwiseRefIdeal.Run
public import proofs.«01_k».proof.Proof.Depthwise.Value
public import Idealize.ShloMosaic.Lib.Claim
public import Idealize.ShloMosaic.Adequacy
public import Idealize.ShloMosaic.Init

@[expose] public section

set_option maxRecDepth 16384

noncomputable section

namespace Cert.DepthwiseProof

open Idealize.ShloMosaic Idealize.SL.Sem

theorem ref_frame : Cert.quiescent_DepthwiseRefIdeal (hDepthwiseRefIdeal := Cert.DepthwiseRefIdeal.Gen.facts) := by
  intro m g _
  refine (θ_run Cert.DepthwiseRefIdeal.defs _ _).mono (fun r h => ⟨fun c => (h c).2.2, sem_eq_zero_of_no_sems (by decide) r.2⟩)
    (Cert.DepthwiseRefIdeal.Value.run (F := Ideal) m g)

section
open Cert.DepthwiseRefIdeal

/-- What the reference ends with: the convolution and each channel's sum of squares. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v66) = conv (m ((c.tc : Thread nD τ).loc main_arg0)) (m ((c.tc : Thread nD τ).loc main_arg1))
      ∧ r.2.mem ((c.tc : Thread nD τ).loc main_v69) = Cert.DepthwiseRef.norms (conv (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (Cert.DepthwiseRef.v66_eq m c), (h c).2.1.trans (Cert.DepthwiseRef.v69_eq m c), (h c).2.2⟩)
    (Cert.DepthwiseRefIdeal.Value.run (F := Ideal) m ρ)
end

set_option maxHeartbeats 2000000 in
theorem algebraic : Cert.algebraic_DepthwiseIdeal_DepthwiseRefIdeal
    (hDepthwiseIdeal := Cert.DepthwiseIdeal.Gen.facts) (hDepthwiseRefIdeal := Cert.DepthwiseRefIdeal.Gen.facts) := by
  pair_intro
  · run_from Cert.DepthwiseIdeal.Gen.run_main m g & Cert.DepthwiseIdeal.Gen.unchanged m g
  · run_from ref_run m' g'
    · exact (final_conv m c).symm
    · exact (final_norms m c).symm

end Cert.DepthwiseProof

end
-- ==== Proof.Select.Rank.lean ====
module

public import Idealize.ShloMosaic.Lib.SortFacts
public import Idealize.ShloMosaic.Lib.Pipeline.ValueKit

@[expose] public section

noncomputable section

namespace Cert.Select

open Idealize.ShloMosaic

/-- Entry `i` stands before entry `j` in the descending order of the scores `a`, the earlier position first among equals. -/
def Ahead {n : ℕ} (a : Fin n → EReal) (i j : Fin n) : Prop := a j < a i ∨ (a i = a j ∧ i < j)

instance {n : ℕ} (a : Fin n → EReal) (i j : Fin n) : Decidable (Ahead a i j) := Classical.propDecidable _

/-- How many entries stand before entry `j`. -/
def place {n : ℕ} (a : Fin n → EReal) (j : Fin n) : ℕ := (Finset.univ.filter fun i => Ahead a i j).card

theorem ahead_asymm {n : ℕ} (a : Fin n → EReal) (i j : Fin n) (h : Ahead a i j) : ¬ Ahead a j i := by
  rintro (h' | ⟨e', h'⟩) <;> rcases h with h | ⟨e, h⟩
  · exact lt_asymm h h'
  · exact absurd h' (by rw [e]; exact lt_irrefl _)
  · exact absurd h (by rw [e']; exact lt_irrefl _)
  · exact lt_asymm h h'

theorem ahead_total {n : ℕ} (a : Fin n → EReal) (i j : Fin n) (hij : i ≠ j) : Ahead a i j ∨ Ahead a j i := by
  rcases lt_trichotomy (a i) (a j) with h | h | h
  · exact Or.inr (Or.inl h)
  · rcases lt_or_gt_of_ne hij with h' | h'
    · exact Or.inl (Or.inr ⟨h, h'⟩)
    · exact Or.inr (Or.inr ⟨h.symm, h'⟩)
  · exact Or.inl (Or.inl h)

theorem ahead_trans {n : ℕ} (a : Fin n → EReal) (i j k : Fin n) (h : Ahead a i j) (h' : Ahead a j k) : Ahead a i k := by
  rcases h with h | ⟨e, h⟩ <;> rcases h' with h' | ⟨e', h'⟩
  · exact Or.inl (lt_trans h' h)
  · exact Or.inl (e' ▸ h)
  · exact Or.inl (e ▸ h')
  · exact Or.inr ⟨e.trans e', lt_trans h h'⟩

theorem ahead_irrefl {n : ℕ} (a : Fin n → EReal) (i : Fin n) : ¬ Ahead a i i := fun h => ahead_asymm a i i h h

/-- Sorting positions in ascending order stably by a relation that ignores ties is sorting them by the relation that breaks ties by position. -/
theorem stableSort_tie {n : ℕ} (R B : Fin n → Fin n → Bool) (h : ∀ a b, a < b → R b a = B b a) (l : List (Fin n))
    (hl : l.Pairwise (· < ·)) : stableSort R l = stableSort B l := by
  induction l with
  | nil => rfl
  | cons a l ih =>
    rw [List.pairwise_cons] at hl
    unfold stableSort
    rw [ih hl.2]
    exact insertBefore_congr R B a _ fun b hb => h a b (hl.1 b ((perm_stableSort B l).mem_iff.mp hb))

/-- The order in which a stable descending sort leaves the positions. -/
def order {n : ℕ} (a : Fin n → EReal) : Fin n → Fin n := sortedFrom fun k k' => decide (a k' < a k)

theorem order_eq {n : ℕ} (a : Fin n → EReal) : order a = sortedFrom fun k k' => decide (Ahead a k k') := by
  have key : sortPositions n (fun k k' => decide (a k' < a k)) = sortPositions n (fun k k' => decide (Ahead a k k')) := by
    refine stableSort_tie _ _ (fun x y hxy => ?_) _ (List.pairwise_lt_finRange n)
    refine decide_eq_decide.mpr ⟨Or.inl, ?_⟩
    rintro (h | ⟨_, h⟩)
    · exact h
    · exact absurd h (lt_asymm hxy)
  unfold order
  funext k
  unfold sortedFrom
  rw [List.get_of_eq key]
  rfl

theorem order_ahead {n : ℕ} (a : Fin n → EReal) (p q : Fin n) (h : p < q) : Ahead a (order a p) (order a q) := by
  have hi : Function.Injective (order a) := by rw [order_eq]; exact sortedFrom_injective _
  have hne : order a p ≠ order a q := fun e => (ne_of_lt h) (hi e)
  have := sortedFrom_noInversion (fun k k' => decide (Ahead a k k')) (fun k k' => decide (Ahead a k k'))
    (fun x y hxy => decide_eq_false (ahead_asymm a x y (of_decide_eq_true hxy))) (fun _ _ h => h)
    (fun x y z hxy hyz => by
      refine decide_eq_false fun hxz => ?_
      have hxy := of_decide_eq_false hxy
      have hyz := of_decide_eq_false hyz
      by_cases e1 : x = y
      · subst e1; exact hyz hxz
      by_cases e2 : y = z
      · subst e2; exact hxy hxz
      have h1 := (ahead_total a x y e1).resolve_left hxy
      have h2 := (ahead_total a y z e2).resolve_left hyz
      exact ahead_asymm a x z hxz (ahead_trans a z y x h2 h1)) p q h
  rw [← order_eq] at this
  exact (ahead_total a _ _ hne).resolve_right (of_decide_eq_false this)

/-- The entry sorted to position `p` has exactly `p` entries before it. -/
theorem place_order {n : ℕ} (a : Fin n → EReal) (p : Fin n) : place a (order a p) = p := by
  have hi : Function.Injective (order a) := by rw [order_eq]; exact sortedFrom_injective _
  have hs : Function.Surjective (order a) := by rw [order_eq]; exact sortedFrom_surjective _
  have : (Finset.univ.filter fun i => Ahead a i (order a p)) = (Finset.Iio p).map ⟨order a, hi⟩ := by
    ext i
    obtain ⟨q, rfl⟩ := hs i
    simp only [Finset.mem_filter, Finset.mem_univ, true_and, Finset.mem_map, Finset.mem_Iio, Function.Embedding.coeFn_mk]
    constructor
    · intro h
      refine ⟨q, ?_, rfl⟩
      rcases lt_trichotomy q p with h' | h' | h'
      · exact h'
      · subst h'; exact absurd h (ahead_irrefl a _)
      · exact absurd h (ahead_asymm a _ _ (order_ahead a p q h'))
    · rintro ⟨r, hr, e⟩
      rw [← hi e]
      exact order_ahead a r p hr
  unfold place
  rw [this, Finset.card_map, Fin.card_Iio]

/-- Entry `j` is among the first `k` sorted positions exactly when fewer than `k` entries stand before it. -/
theorem mem_top {n : ℕ} (a : Fin n → EReal) (j : Fin n) (k : ℕ) : (∃ p : Fin n, (p : ℕ) < k ∧ order a p = j) ↔ place a j < k := by
  have hs : Function.Surjective (order a) := by rw [order_eq]; exact sortedFrom_surjective _
  constructor
  · rintro ⟨p, hp, rfl⟩
    rw [place_order]; exact hp
  · intro h
    obtain ⟨p, rfl⟩ := hs j
    rw [place_order] at h
    exact ⟨p, h, rfl⟩

/-- Some entry has no entry before it. -/
theorem exists_first {n : ℕ} (a : Fin n → EReal) (k : ℕ) (hk : 0 < k) (hn : 0 < n) : ∃ j, place a j < k :=
  ⟨order a ⟨0, hn⟩, by rw [place_order]; exact hk⟩

end Cert.Select

end
-- ==== Proof.Select.Real.lean ====
module

public import proofs.«01_k».proof.Proof.Select.Rank
public import Mathlib.Analysis.SpecialFunctions.Exp

@[expose] public section

noncomputable section

namespace Cert.Select

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A quotient of reals with a denominator off zero is the real quotient. -/
theorem div_real (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem real_of_finite {x : EReal} (h : max x (-x) < ⊤) : ∃ r : ℝ, x = r := by
  induction x using EReal.rec with
  | bot => simp at h
  | coe r => exact ⟨r, rfl⟩
  | top => simp at h

/-- An entry divided by the larger of its vector's Euclidean norm and a positive real is real, whatever the entries. -/
theorem unit_real {n : ℕ} (x : Fin n → EReal) (ε : ℝ) (hε : 0 < ε) :
    ∃ r : Fin n → ℝ, ∀ d, Ideal.div (x d) (max (Ideal.sqrt (∑ k, x k * x k)) (ε : EReal)) = (r d : EReal) := by
  by_cases h : ∃ f : Fin n → ℝ, ∀ k, x k = f k
  · obtain ⟨f, hf⟩ := h
    have e : (∑ k, x k * x k) = ((∑ k, f k * f k : ℝ) : EReal) := by
      rw [coe_sum]
      exact Finset.sum_congr rfl fun k _ => by rw [hf, EReal.coe_mul]
    have h0 : ¬ (∑ k, f k * f k) < 0 := not_lt.mpr (Finset.sum_nonneg fun k _ => mul_self_nonneg _)
    refine ⟨fun d => f d / max (Real.sqrt (∑ k, f k * f k)) ε, fun d => ?_⟩
    rw [e, Ideal.sqrt_coe, if_neg h0, ← EReal.coe_strictMono.monotone.map_max, hf, div_real _ _ (ne_of_gt (lt_max_of_lt_right hε))]
  · have hk : ∃ k, ∀ r : ℝ, x k ≠ r := by
      by_contra hc
      push Not at hc
      choose f hf using hc
      exact h ⟨f, hf⟩
    obtain ⟨k, hk⟩ := hk
    have hsq : x k * x k = ⊤ := by
      revert hk
      induction x k using EReal.rec with
      | bot => intro _; rfl
      | coe r => intro hk; exact absurd rfl (hk r)
      | top => intro _; rfl
    have hnn : ∀ z : EReal, 0 ≤ z * z := fun z => by
      induction z using EReal.rec with
      | bot => exact le_top
      | coe r => rw [← EReal.coe_mul]; exact_mod_cast mul_self_nonneg r
      | top => exact le_top
    have e : (∑ k, x k * x k) = ⊤ := by
      refine top_le_iff.mp (hsq ▸ ?_)
      exact Finset.single_le_sum (f := fun k => x k * x k) (fun i _ => hnn _) (Finset.mem_univ k)
    refine ⟨fun _ => 0, fun d => ?_⟩
    rw [e, Ideal.sqrt_top, max_eq_left le_top]
    unfold Ideal.div
    rw [if_neg (by simp), EReal.inv_top, mul_zero, EReal.coe_zero]

/-- A sum of products of reals, scaled by a real, is real. -/
theorem score_real {n : ℕ} (f g : Fin n → ℝ) (t : ℝ) :
    (∑ k, (f k : EReal) * (g k : EReal)) * (t : EReal) = (((∑ k, f k * g k) * t : ℝ) : EReal) := by
  rw [EReal.coe_mul, coe_sum]
  simp only [EReal.coe_mul]

/-! ## The masked softmax over real scores -/

/-- The scores as extended reals. -/
def up {n : ℕ} (α : Fin n → ℝ) : Fin n → EReal := fun j => (α j : EReal)

/-- The exponential of a score among the `k` best, zero for the others. -/
def weight {n : ℕ} (k : ℕ) (α : Fin n → ℝ) (j : Fin n) : ℝ := if place (up α) j < k then Real.exp (α j) else 0

/-- The sum of the weights. -/
def total {n : ℕ} (k : ℕ) (α : Fin n → ℝ) : ℝ := ∑ j, weight k α j

theorem weight_nonneg {n : ℕ} (k : ℕ) (α : Fin n → ℝ) (j : Fin n) : 0 ≤ weight k α j := by
  unfold weight
  split
  · exact (Real.exp_pos _).le
  · exact le_rfl

theorem total_pos {n : ℕ} (k : ℕ) (α : Fin n → ℝ) (hk : 0 < k) (hn : 0 < n) : 0 < total k α := by
  obtain ⟨j, hj⟩ := exists_first (up α) k hk hn
  refine Finset.sum_pos' (fun i _ => weight_nonneg k α i) ⟨j, Finset.mem_univ _, ?_⟩
  unfold weight
  rw [if_pos hj]
  exact Real.exp_pos _

/-- The scores kept by the selection, `-∞` elsewhere. -/
def masked {n : ℕ} (k : ℕ) (α : Fin n → ℝ) (j : Fin n) : EReal := if place (up α) j < k then (α j : EReal) else ⊥

/-- The largest kept score is real. -/
theorem masked_max_real {n : ℕ} (k : ℕ) (α : Fin n → ℝ) (hk : 0 < k) (hn : 0 < n) :
    ∃ μ : ℝ, Finset.univ.sup (masked k α) = (μ : EReal) := by
  obtain ⟨j, hj⟩ := exists_first (up α) k hk hn
  obtain ⟨i, -, hi⟩ := Finset.exists_mem_eq_sup Finset.univ ⟨j, Finset.mem_univ j⟩ (masked k α)
  rw [hi]
  by_cases h : place (up α) i < k
  · exact ⟨α i, by unfold masked; rw [if_pos h]⟩
  · exfalso
    have hle : masked k α j ≤ masked k α i := hi ▸ Finset.le_sup (Finset.mem_univ j)
    unfold masked at hle
    rw [if_pos hj, if_neg h] at hle
    exact absurd (le_bot_iff.mp hle) (EReal.coe_ne_bot _)

/-- The softmax of the masked scores, with any real subtracted from them, is the weight over the sum of the weights. -/
theorem softmax_masked {n : ℕ} (k : ℕ) (α : Fin n → ℝ) (hk : 0 < k) (hn : 0 < n) (μ : ℝ) (j : Fin n) :
    Ideal.div (Ideal.exp (masked k α j - (μ : EReal))) (∑ i, Ideal.exp (masked k α i - (μ : EReal)))
      = ((weight k α j / total k α : ℝ) : EReal) := by
  have e : ∀ i, Ideal.exp (masked k α i - (μ : EReal)) = ((weight k α i * Real.exp (-μ) : ℝ) : EReal) := fun i => by
    unfold masked weight
    split
    · rw [← EReal.coe_sub, Ideal.exp_coe, sub_eq_add_neg, Real.exp_add]
    · rw [EReal.bot_sub, Ideal.exp_bot, zero_mul, EReal.coe_zero]
  have hs : (∑ i, weight k α i * Real.exp (-μ)) = total k α * Real.exp (-μ) := by
    unfold total; rw [Finset.sum_mul]
  simp only [e]
  rw [← coe_sum, hs, div_real _ _ (mul_ne_zero (ne_of_gt (total_pos k α hk hn)) (Real.exp_ne_zero _)),
    mul_div_mul_right _ _ (Real.exp_ne_zero _)]

/-- The combined weights of four selections. -/
def mix {n : ℕ} (k₁ k₂ k₃ k₄ : ℕ) (c₁ c₂ c₃ c₄ : ℝ) (α : Fin n → ℝ) (j : Fin n) : ℝ :=
  weight k₁ α j / total k₁ α * c₁ + weight k₂ α j / total k₂ α * c₂ + weight k₃ α j / total k₃ α * c₃
    + weight k₄ α j / total k₄ α * c₄

/-- One selection of the kernel: the indicator times the coefficient over the sum of the exponentials kept. -/
theorem kept {n : ℕ} (k : ℕ) (α : Fin n → ℝ) (j : Fin n) :
    Real.exp (α j) * (if place (up α) j < k then 1 else 0) = weight k α j := by
  unfold weight
  split
  · rw [mul_one]
  · rw [mul_zero]

/-- The kernel's exponential times its summed coefficients is the combined weight. -/
theorem exp_mul_coef {n : ℕ} (k₁ k₂ k₃ k₄ : ℕ) (c₁ c₂ c₃ c₄ : ℝ) (α : Fin n → ℝ) (j : Fin n) :
    Real.exp (α j) * ((if place (up α) j < k₁ then 1 else 0) * (c₁ / total k₁ α) + (if place (up α) j < k₂ then 1 else 0) * (c₂ / total k₂ α)
      + (if place (up α) j < k₃ then 1 else 0) * (c₃ / total k₃ α) + (if place (up α) j < k₄ then 1 else 0) * (c₄ / total k₄ α))
      = mix k₁ k₂ k₃ k₄ c₁ c₂ c₃ c₄ α j := by
  unfold mix
  rw [← kept k₁, ← kept k₂, ← kept k₃, ← kept k₄]
  ring

/-- Four attended sums, each scaled, are one sum under the combined weights. -/
theorem mix_sum {n : ℕ} (k₁ k₂ k₃ k₄ : ℕ) (c₁ c₂ c₃ c₄ : ℝ) (α v : Fin n → ℝ) :
    (∑ j, weight k₁ α j / total k₁ α * v j) * c₁ + (∑ j, weight k₂ α j / total k₂ α * v j) * c₂
      + (∑ j, weight k₃ α j / total k₃ α * v j) * c₃ + (∑ j, weight k₄ α j / total k₄ α * v j) * c₄
      = ∑ j, mix k₁ k₂ k₃ k₄ c₁ c₂ c₃ c₄ α j * v j := by
  simp only [Finset.sum_mul, ← Finset.sum_add_distrib]
  refine Finset.sum_congr rfl fun j _ => ?_
  unfold mix
  ring

/-! ## Ranks by comparison with the 63 rotations of a row -/

/-- Whether the entry `s` places further round the row stands before entry `b`. -/
def turn (x : Fin 64 → EReal) (b : Fin 64) (s : ℕ) : EReal := if Ahead x (b + Fin.ofNat 64 s) b then 1 else 0

/-- Comparing an entry with the 63 others counts the entries before it. -/
theorem sum_turn (x : Fin 64 → EReal) (b : Fin 64) : (∑ s ∈ Finset.range 63, turn x b (s + 1)) = ((place x b : ℝ) : EReal) := by
  have h0 : turn x b 0 = 0 := by
    unfold turn
    rw [if_neg]
    have : b + Fin.ofNat 64 0 = b := by simp
    rw [this]
    exact ahead_irrefl x b
  have h1 : (∑ s ∈ Finset.range 64, turn x b s) = ∑ s ∈ Finset.range 63, turn x b (s + 1) := by
    rw [Finset.sum_range_succ' _ 63, h0, add_zero]
  have h2 : (∑ s ∈ Finset.range 64, turn x b s) = ∑ s : Fin 64, turn x b s := (Fin.sum_univ_eq_sum_range (turn x b) 64).symm
  have h3 : (∑ s : Fin 64, turn x b s) = ∑ s : Fin 64, if Ahead x (Equiv.addLeft b s) b then (1 : EReal) else 0 := by
    refine Finset.sum_congr rfl fun s _ => ?_
    unfold turn
    rw [Fin.ofNat_val_eq_self]
    rfl
  rw [← h1, h2, h3, Equiv.sum_comp (Equiv.addLeft b) fun i => if Ahead x i b then (1 : EReal) else 0]
  unfold place
  have : (((Finset.univ.filter fun i => Ahead x i b).card : ℝ)) = ∑ i : Fin 64, if Ahead x i b then (1 : ℝ) else 0 := by
    rw [Finset.sum_boole]
  rw [this, coe_sum]
  refine Finset.sum_congr rfl fun i _ => ?_
  split <;> simp

theorem ahead_of_lt {n : ℕ} (x : Fin n → EReal) (i b : Fin n) (h : i < b) : Ahead x i b ↔ x b ≤ x i := by
  unfold Ahead
  rw [le_iff_lt_or_eq]
  exact or_congr_right ⟨fun q => q.1.symm, fun q => ⟨q.symm, h⟩⟩

theorem ahead_of_not_lt {n : ℕ} (x : Fin n → EReal) (i b : Fin n) (h : ¬ i < b) : Ahead x i b ↔ x b < x i := by
  unfold Ahead
  exact ⟨fun q => q.resolve_right fun w => h w.2, Or.inl⟩

/-- The comparison with the entry `s` places round the row: at the end of the row the other entry is an earlier one, which wins a tie. -/
theorem turn_eq (x : Fin 64 → EReal) (b i : Fin 64) (s : ℕ) (h1 : 1 ≤ s) (h2 : s < 64) (hi : (i : ℕ) = ((b : ℕ) + s) % 64) :
    turn x b s = if 64 - s ≤ (b : ℕ) then (if x b ≤ x i then 1 else 0) else (if x b < x i then 1 else 0) := by
  have e : b + Fin.ofNat 64 s = i := by
    apply Fin.ext
    rw [Fin.val_add, hi]
    simp [Nat.mod_eq_of_lt h2]
  have hb := b.isLt
  unfold turn
  rw [e]
  by_cases h : 64 - s ≤ (b : ℕ)
  · rw [if_pos h]
    have : i < b := by
      show (i : ℕ) < b
      omega
    exact if_congr (ahead_of_lt x i b this) rfl rfl
  · rw [if_neg h]
    have : ¬ i < b := by
      show ¬ (i : ℕ) < b
      omega
    exact if_congr (ahead_of_not_lt x i b this) rfl rfl

end Cert.Select

end
-- ==== Proof.Spatial.Rank.lean ====
module

public import proofs.«01_k».proof.Proof.Gen.SpatialIdeal.Frame
public import proofs.«01_k».proof.Proof.Select.Real
public import Idealize.ShloMosaic.Lib.Pipeline.ValueKit

@[expose] public section

set_option maxRecDepth 16384

noncomputable section

namespace Cert.SpatialProof

open Idealize.ShloMosaic Idealize.ShloMosaic.TcCoe Idealize.SL.Sem
open Idealize.ShloMosaic.Pipeline (Dat)
open Cert.SpatialIdeal Cert.SpatialIdeal.Gen

open Cert.Select

/-- The lane numbers of a row of two windows. -/
abbrev lane : IVec S512x128 32 := iota Kind.tc S512x128 32 [1] iota_S512x128_d1_w32

/-- The lane numbers within a window. -/
abbrev lm : IVec S512x128 32 := k0_pay8 lane 63#32

/-- The window of a row's scores that position `y` lies in. -/
def part (a : FVec Ideal S512x128 .f32) (y : S512x128.Idx) : Fin 64 → EReal :=
  fun i => a (ix2 (y 0) ⟨(y 1 : ℕ) / 64 * 64 + i, by have h : (y 1 : ℕ) < 128 := (y 1).isLt; omega⟩)

/-- The lane of position `y` within its window. -/
def spot (y : S512x128.Idx) : Fin 64 := ⟨(y 1 : ℕ) % 64, Nat.mod_lt _ (by decide)⟩

/-- The comparisons of each score with the first `n` rotations of its window, summed. -/
def rk (a : FVec Ideal S512x128 .f32) (n : ℕ) : FVec Ideal S512x128 .f32 :=
  fun y => ∑ s ∈ Finset.range n, turn (part a y) (spot y) (s + 1)

theorem rk_succ (a : FVec Ideal S512x128 .f32) (n : ℕ) (y : S512x128.Idx) :
    rk a (n + 1) y = rk a n y + turn (part a y) (spot y) (n + 1) := Finset.sum_range_succ _ _

theorem rk_zero (a : FVec Ideal S512x128 .f32) (y : S512x128.Idx) : rk a 0 y = 0 := rfl

/-- All 63 comparisons count the scores of the window that stand before this one. -/
theorem rk_last (a : FVec Ideal S512x128 .f32) (y : S512x128.Idx) : rk a 63 y = ((place (part a y) (spot y) : ℝ) : EReal) :=
  sum_turn _ _

/-- Comparing a lane's number within its window with `64 - s`. -/
theorem sel_lane {α : Type} (l s : ℕ) (hl : l < 128) (h1 : 1 ≤ s) (h2 : s < 64) (u v : α) :
    Scalar.select (IntOp.cmpi CmpIPredicate.sge (IntOp.andi (BitVec.ofNat 32 l) 63#32) (BitVec.ofNat 32 (64 - s))) u v
      = if 64 - s ≤ l % 64 then u else v := by
  have key : ∀ l : Fin 128, ∀ s : Fin 64, 1 ≤ s.val →
      IntOp.cmpi CmpIPredicate.sge (IntOp.andi (BitVec.ofNat 32 l.val) 63#32) (BitVec.ofNat 32 (64 - s.val))
        = if 64 - s.val ≤ l.val % 64 then 1#1 else 0#1 := by decide +kernel
  rw [key ⟨l, hl⟩ ⟨s, h2⟩ h1]
  show Scalar.select (if 64 - s ≤ l % 64 then 1#1 else 0#1) u v = _
  split <;> rfl

/-- One comparison of the kernel: the row rotated by `s` places within each window, against the row itself. -/
theorem step_eq (a : FVec Ideal S512x128 .f32) (y : S512x128.Idx) (s : ℕ) (h1 : 1 ≤ s) (h2 : s < 64)
    (L : EReal) {d1 : Decidable (a y ≤ L)} {d2 : Decidable (a y < L)}
    (hL : L = a (ix2 (y 0) ⟨(y 1 : ℕ) / 64 * 64 + ((y 1 : ℕ) % 64 + s) % 64, by have h : (y 1 : ℕ) < 128 := (y 1).isLt; omega⟩)) :
    Scalar.select (IntOp.cmpi CmpIPredicate.sge (IntOp.andi (BitVec.ofNat 32 (y 1 : ℕ)) 63#32) (BitVec.ofNat 32 (64 - s)))
      (@ite _ (a y ≤ L) d1 (1 : EReal) 0) (@ite _ (a y < L) d2 (1 : EReal) 0) = turn (part a y) (spot y) s := by
  rw [sel_lane _ s (y 1).isLt h1 h2, turn_eq (part a y) (spot y) ⟨((y 1 : ℕ) % 64 + s) % 64, Nat.mod_lt _ (by decide)⟩ s h1 h2 rfl]
  have e1 : part a y (spot y) = a y := by
    unfold part spot
    refine congrArg a ?_
    rw [ValueIdx.eq_ix2 y]
    refine congrArg (ix2 (y 0)) (Fin.ext ?_)
    exact Nat.div_add_mod' _ _
  have e2 : part a y ⟨((y 1 : ℕ) % 64 + s) % 64, Nat.mod_lt _ (by decide)⟩ = L := hL.symm
  refine if_congr Iff.rfl (if_congr ?_ rfl rfl) (if_congr ?_ rfl rfl) <;> rw [e1, e2]

/-- The row rotated by `s` places within each window, as the kernel joins it from four slices. -/
theorem ladder (a : FVec Ideal S512x128 .f32) (y : S512x128.Idx) (s : ℕ) (h1 : 1 ≤ s) (h2 : s < 64)
    (p1 : (y 1 : ℕ) < 64 - s → s + (y 1 : ℕ) < 128) (p2 : ¬ (y 1 : ℕ) < 64 - s → (y 1 : ℕ) - (64 - s) < s → (y 1 : ℕ) - (64 - s) < 128)
    (p3 : ¬ (y 1 : ℕ) < 64 - s → ¬ (y 1 : ℕ) - (64 - s) < s → (y 1 : ℕ) - (64 - s) - s < 64 - s → (64 + s) + ((y 1 : ℕ) - (64 - s) - s) < 128)
    (p4 : ¬ (y 1 : ℕ) < 64 - s → ¬ (y 1 : ℕ) - (64 - s) < s → ¬ (y 1 : ℕ) - (64 - s) - s < 64 - s → 64 + ((y 1 : ℕ) - (64 - s) - s - (64 - s)) < 128) :
    (if h : (y 1 : ℕ) < 64 - s then a (ix2 (y 0) ⟨s + (y 1 : ℕ), p1 h⟩)
      else if h' : (y 1 : ℕ) - (64 - s) < s then a (ix2 (y 0) ⟨(y 1 : ℕ) - (64 - s), p2 h h'⟩)
      else if h'' : (y 1 : ℕ) - (64 - s) - s < 64 - s then a (ix2 (y 0) ⟨(64 + s) + ((y 1 : ℕ) - (64 - s) - s), p3 h h' h''⟩)
      else a (ix2 (y 0) ⟨64 + ((y 1 : ℕ) - (64 - s) - s - (64 - s)), p4 h h' h''⟩))
    = a (ix2 (y 0) ⟨(y 1 : ℕ) / 64 * 64 + ((y 1 : ℕ) % 64 + s) % 64, by have h : (y 1 : ℕ) < 128 := (y 1).isLt; omega⟩) := by
  have h : (y 1 : ℕ) < 128 := (y 1).isLt
  split_ifs <;> refine congrArg (fun l => a (ix2 (y 0) l)) (Fin.ext ?_) <;> dsimp only <;> omega

theorem k0_pay10_eq (a : FVec Ideal S512x128 .f32) : k0_pay10 (F := Ideal) a lane 63#32 = rk a 2 := by
  funext y
  rw [rk_succ, rk_succ, rk_zero, zero_add]
  pointwise [k0_pay10, k0_pay8]
  exact congrArg₂ (· + ·) (step_eq a y 1 (by decide) (by decide) _ (ladder a y 1 (by decide) (by decide) _ _ _ _)) (step_eq a y 2 (by decide) (by decide) _ (ladder a y 2 (by decide) (by decide) _ _ _ _))

theorem k0_pay13_eq (a : FVec Ideal S512x128 .f32) : k0_pay13 (F := Ideal) a lm (rk a 2) (k0_pay11 a) (k0_pay12 a) (FloatOps.ofBits .f32 0x3F800000#32) = rk a 5 := by
  funext y
  rw [rk_succ, rk_succ, rk_succ]
  pointwise [k0_pay13, k0_pay11, k0_pay12, k0_pay8]
  exact congrArg₂ (· + ·) (congrArg₂ (· + ·) (congrArg₂ (· + ·) (rfl) (step_eq a y 3 (by decide) (by decide) _ (ladder a y 3 (by decide) (by decide) _ _ _ _))) (step_eq a y 4 (by decide) (by decide) _ (ladder a y 4 (by decide) (by decide) _ _ _ _))) (step_eq a y 5 (by decide) (by decide) _ (ladder a y 5 (by decide) (by decide) _ _ _ _))

theorem k0_pay15_eq (a : FVec Ideal S512x128 .f32) : k0_pay15 (F := Ideal) a lm (rk a 5) (k0_pay14 a) = rk a 7 := by
  funext y
  rw [rk_succ, rk_succ]
  pointwise [k0_pay15, k0_pay14, k0_pay8]
  exact congrArg₂ (· + ·) (congrArg₂ (· + ·) (rfl) (step_eq a y 6 (by decide) (by decide) _ (ladder a y 6 (by decide) (by decide) _ _ _ _))) (step_eq a y 7 (by decide) (by decide) _ (ladder a y 7 (by decide) (by decide) _ _ _ _))

theorem k0_pay19_eq (a : FVec Ideal S512x128 .f32) : k0_pay19 (F := Ideal) a lm (rk a 7) (k0_pay17 a) (k0_pay18 a) = rk a 10 := by
  funext y
  rw [rk_succ, rk_succ, rk_succ]
  pointwise [k0_pay19, k0_pay17, k0_pay16, k0_pay18, k0_pay8]
  exact congrArg₂ (· + ·) (congrArg₂ (· + ·) (congrArg₂ (· + ·) (rfl) (step_eq a y 8 (by decide) (by decide) _ (ladder a y 8 (by decide) (by decide) _ _ _ _))) (step_eq a y 9 (by decide) (by decide) _ (ladder a y 9 (by decide) (by decide) _ _ _ _))) (step_eq a y 10 (by decide) (by decide) _ (ladder a y 10 (by decide) (by decide) _ _ _ _))

theorem k0_pay22_eq (a : FVec Ideal S512x128 .f32) : k0_pay22 (F := Ideal) a lm (rk a 10) (k0_pay20 a) (k0_pay21 a) = rk a 13 := by
  funext y
  rw [rk_succ, rk_succ, rk_succ]
  pointwise [k0_pay22, k0_pay20, k0_pay21, k0_pay8]
  exact congrArg₂ (· + ·) (congrArg₂ (· + ·) (congrArg₂ (· + ·) (rfl) (step_eq a y 11 (by decide) (by decide) _ (ladder a y 11 (by decide) (by decide) _ _ _ _))) (step_eq a y 12 (by decide) (by decide) _ (ladder a y 12 (by decide) (by decide) _ _ _ _))) (step_eq a y 13 (by decide) (by decide) _ (ladder a y 13 (by decide) (by decide) _ _ _ _))

theorem k0_pay24_eq (a : FVec Ideal S512x128 .f32) : k0_pay24 (F := Ideal) a lm (rk a 13) (k0_pay23 a) = rk a 15 := by
  funext y
  rw [rk_succ, rk_succ]
  pointwise [k0_pay24, k0_pay23, k0_pay8]
  exact congrArg₂ (· + ·) (congrArg₂ (· + ·) (rfl) (step_eq a y 14 (by decide) (by decide) _ (ladder a y 14 (by decide) (by decide) _ _ _ _))) (step_eq a y 15 (by decide) (by decide) _ (ladder a y 15 (by decide) (by decide) _ _ _ _))

theorem k0_pay26_eq (a : FVec Ideal S512x128 .f32) : k0_pay26 (F := Ideal) a lm (rk a 15) (k0_pay25 a lm) = rk a 18 := by
  funext y
  rw [rk_succ, rk_succ, rk_succ]
  pointwise [k0_pay26, k0_pay25, k0_pay8]
  exact congrArg₂ (· + ·) (congrArg₂ (· + ·) (congrArg₂ (· + ·) (rfl) (step_eq a y 16 (by decide) (by decide) _ (ladder a y 16 (by decide) (by decide) _ _ _ _))) (step_eq a y 17 (by decide) (by decide) _ (ladder a y 17 (by decide) (by decide) _ _ _ _))) (step_eq a y 18 (by decide) (by decide) _ (ladder a y 18 (by decide) (by decide) _ _ _ _))

theorem k0_pay31_eq (a : FVec Ideal S512x128 .f32) : k0_pay31 (F := Ideal) a lm (rk a 18) (k0_pay28 a) (k0_pay29 a) (FloatOps.ofBits .f32 0x00000000#32) k0_pay30 = rk a 21 := by
  funext y
  rw [rk_succ, rk_succ, rk_succ]
  pointwise [k0_pay31, k0_pay28, k0_pay27, k0_pay29, k0_pay30, k0_pay8]
  exact congrArg₂ (· + ·) (congrArg₂ (· + ·) (congrArg₂ (· + ·) (rfl) (step_eq a y 19 (by decide) (by decide) _ (ladder a y 19 (by decide) (by decide) _ _ _ _))) (step_eq a y 20 (by decide) (by decide) _ (ladder a y 20 (by decide) (by decide) _ _ _ _))) (step_eq a y 21 (by decide) (by decide) _ (ladder a y 21 (by decide) (by decide) _ _ _ _))

theorem k0_pay35_eq (a : FVec Ideal S512x128 .f32) : k0_pay35 (F := Ideal) a lm (rk a 21) (k0_pay32 a) (k0_pay33 a) (FloatOps.ofBits .f32 0x00000000#32) k0_pay34 = rk a 24 := by
  funext y
  rw [rk_succ, rk_succ, rk_succ]
  pointwise [k0_pay35, k0_pay32, k0_pay33, k0_pay34, k0_pay8]
  exact congrArg₂ (· + ·) (congrArg₂ (· + ·) (congrArg₂ (· + ·) (rfl) (step_eq a y 22 (by decide) (by decide) _ (ladder a y 22 (by decide) (by decide) _ _ _ _))) (step_eq a y 23 (by decide) (by decide) _ (ladder a y 23 (by decide) (by decide) _ _ _ _))) (step_eq a y 24 (by decide) (by decide) _ (ladder a y 24 (by decide) (by decide) _ _ _ _))

theorem k0_pay39_eq (a : FVec Ideal S512x128 .f32) : k0_pay39 (F := Ideal) a lm (rk a 24) (k0_pay36 a) (k0_pay37 a) (k0_pay38 a) = rk a 26 := by
  funext y
  rw [rk_succ, rk_succ]
  pointwise [k0_pay39, k0_pay36, k0_pay37, k0_pay38, k0_pay8]
  exact congrArg₂ (· + ·) (congrArg₂ (· + ·) (rfl) (step_eq a y 25 (by decide) (by decide) _ (ladder a y 25 (by decide) (by decide) _ _ _ _))) (step_eq a y 26 (by decide) (by decide) _ (ladder a y 26 (by decide) (by decide) _ _ _ _))

theorem k0_pay44_eq (a : FVec Ideal S512x128 .f32) : k0_pay44 (F := Ideal) a lm (rk a 26) (k0_pay41 a) (k0_pay42 a) k0_pay43 = rk a 29 := by
  funext y
  rw [rk_succ, rk_succ, rk_succ]
  pointwise [k0_pay44, k0_pay41, k0_pay40, k0_pay42, k0_pay43, k0_pay8]
  exact congrArg₂ (· + ·) (congrArg₂ (· + ·) (congrArg₂ (· + ·) (rfl) (step_eq a y 27 (by decide) (by decide) _ (ladder a y 27 (by decide) (by decide) _ _ _ _))) (step_eq a y 28 (by decide) (by decide) _ (ladder a y 28 (by decide) (by decide) _ _ _ _))) (step_eq a y 29 (by decide) (by decide) _ (ladder a y 29 (by decide) (by decide) _ _ _ _))

theorem k0_pay48_eq (a : FVec Ideal S512x128 .f32) : k0_pay48 (F := Ideal) a lm (rk a 29) (k0_pay46 a) (k0_pay47 a) (FloatOps.ofBits .f32 0x3F800000#32) = rk a 32 := by
  funext y
  rw [rk_succ, rk_succ, rk_succ]
  pointwise [k0_pay48, k0_pay46, k0_pay45, k0_pay47, k0_pay8]
  exact congrArg₂ (· + ·) (congrArg₂ (· + ·) (congrArg₂ (· + ·) (rfl) (step_eq a y 30 (by decide) (by decide) _ (ladder a y 30 (by decide) (by decide) _ _ _ _))) (step_eq a y 31 (by decide) (by decide) _ (ladder a y 31 (by decide) (by decide) _ _ _ _))) (step_eq a y 32 (by decide) (by decide) _ (ladder a y 32 (by decide) (by decide) _ _ _ _))

theorem k0_pay51_eq (a : FVec Ideal S512x128 .f32) : k0_pay51 (F := Ideal) a lm (rk a 32) (k0_pay49 a) (k0_pay50 a) (FloatOps.ofBits .f32 0x3F800000#32) = rk a 35 := by
  funext y
  rw [rk_succ, rk_succ, rk_succ]
  pointwise [k0_pay51, k0_pay49, k0_pay50, k0_pay8]
  exact congrArg₂ (· + ·) (congrArg₂ (· + ·) (congrArg₂ (· + ·) (rfl) (step_eq a y 33 (by decide) (by decide) _ (ladder a y 33 (by decide) (by decide) _ _ _ _))) (step_eq a y 34 (by decide) (by decide) _ (ladder a y 34 (by decide) (by decide) _ _ _ _))) (step_eq a y 35 (by decide) (by decide) _ (ladder a y 35 (by decide) (by decide) _ _ _ _))

theorem k0_pay53_eq (a : FVec Ideal S512x128 .f32) : k0_pay53 (F := Ideal) a lm (rk a 35) (k0_pay52 a) = rk a 37 := by
  funext y
  rw [rk_succ, rk_succ]
  pointwise [k0_pay53, k0_pay52, k0_pay8]
  exact congrArg₂ (· + ·) (congrArg₂ (· + ·) (rfl) (step_eq a y 36 (by decide) (by decide) _ (ladder a y 36 (by decide) (by decide) _ _ _ _))) (step_eq a y 37 (by decide) (by decide) _ (ladder a y 37 (by decide) (by decide) _ _ _ _))

theorem k0_pay57_eq (a : FVec Ideal S512x128 .f32) : k0_pay57 (F := Ideal) a lm (rk a 37) (k0_pay55 a) (k0_pay56 a) = rk a 40 := by
  funext y
  rw [rk_succ, rk_succ, rk_succ]
  pointwise [k0_pay57, k0_pay55, k0_pay54, k0_pay56, k0_pay8]
  exact congrArg₂ (· + ·) (congrArg₂ (· + ·) (congrArg₂ (· + ·) (rfl) (step_eq a y 38 (by decide) (by decide) _ (ladder a y 38 (by decide) (by decide) _ _ _ _))) (step_eq a y 39 (by decide) (by decide) _ (ladder a y 39 (by decide) (by decide) _ _ _ _))) (step_eq a y 40 (by decide) (by decide) _ (ladder a y 40 (by decide) (by decide) _ _ _ _))

theorem k0_pay60_eq (a : FVec Ideal S512x128 .f32) : k0_pay60 (F := Ideal) a lm (rk a 40) (k0_pay58 a) (k0_pay59 a) = rk a 43 := by
  funext y
  rw [rk_succ, rk_succ, rk_succ]
  pointwise [k0_pay60, k0_pay58, k0_pay59, k0_pay8]
  exact congrArg₂ (· + ·) (congrArg₂ (· + ·) (congrArg₂ (· + ·) (rfl) (step_eq a y 41 (by decide) (by decide) _ (ladder a y 41 (by decide) (by decide) _ _ _ _))) (step_eq a y 42 (by decide) (by decide) _ (ladder a y 42 (by decide) (by decide) _ _ _ _))) (step_eq a y 43 (by decide) (by decide) _ (ladder a y 43 (by decide) (by decide) _ _ _ _))

theorem k0_pay62_eq (a : FVec Ideal S512x128 .f32) : k0_pay62 (F := Ideal) a lm (rk a 43) (k0_pay61 a) = rk a 45 := by
  funext y
  rw [rk_succ, rk_succ]
  pointwise [k0_pay62, k0_pay61, k0_pay8]
  exact congrArg₂ (· + ·) (congrArg₂ (· + ·) (rfl) (step_eq a y 44 (by decide) (by decide) _ (ladder a y 44 (by decide) (by decide) _ _ _ _))) (step_eq a y 45 (by decide) (by decide) _ (ladder a y 45 (by decide) (by decide) _ _ _ _))

theorem k0_pay64_eq (a : FVec Ideal S512x128 .f32) : k0_pay64 (F := Ideal) a lm (rk a 45) (k0_pay63 a lm) = rk a 48 := by
  funext y
  rw [rk_succ, rk_succ, rk_succ]
  pointwise [k0_pay64, k0_pay63, k0_pay8]
  exact congrArg₂ (· + ·) (congrArg₂ (· + ·) (congrArg₂ (· + ·) (rfl) (step_eq a y 46 (by decide) (by decide) _ (ladder a y 46 (by decide) (by decide) _ _ _ _))) (step_eq a y 47 (by decide) (by decide) _ (ladder a y 47 (by decide) (by decide) _ _ _ _))) (step_eq a y 48 (by decide) (by decide) _ (ladder a y 48 (by decide) (by decide) _ _ _ _))

theorem k0_pay69_eq (a : FVec Ideal S512x128 .f32) : k0_pay69 (F := Ideal) a lm (rk a 48) (k0_pay66 a) (k0_pay67 a) (FloatOps.ofBits .f32 0x00000000#32) k0_pay68 = rk a 51 := by
  funext y
  rw [rk_succ, rk_succ, rk_succ]
  pointwise [k0_pay69, k0_pay66, k0_pay65, k0_pay67, k0_pay68, k0_pay8]
  exact congrArg₂ (· + ·) (congrArg₂ (· + ·) (congrArg₂ (· + ·) (rfl) (step_eq a y 49 (by decide) (by decide) _ (ladder a y 49 (by decide) (by decide) _ _ _ _))) (step_eq a y 50 (by decide) (by decide) _ (ladder a y 50 (by decide) (by decide) _ _ _ _))) (step_eq a y 51 (by decide) (by decide) _ (ladder a y 51 (by decide) (by decide) _ _ _ _))

theorem k0_pay73_eq (a : FVec Ideal S512x128 .f32) : k0_pay73 (F := Ideal) a lm (rk a 51) (k0_pay70 a) (k0_pay71 a) (FloatOps.ofBits .f32 0x00000000#32) k0_pay72 = rk a 54 := by
  funext y
  rw [rk_succ, rk_succ, rk_succ]
  pointwise [k0_pay73, k0_pay70, k0_pay71, k0_pay72, k0_pay8]
  exact congrArg₂ (· + ·) (congrArg₂ (· + ·) (congrArg₂ (· + ·) (rfl) (step_eq a y 52 (by decide) (by decide) _ (ladder a y 52 (by decide) (by decide) _ _ _ _))) (step_eq a y 53 (by decide) (by decide) _ (ladder a y 53 (by decide) (by decide) _ _ _ _))) (step_eq a y 54 (by decide) (by decide) _ (ladder a y 54 (by decide) (by decide) _ _ _ _))

theorem k0_pay77_eq (a : FVec Ideal S512x128 .f32) : k0_pay77 (F := Ideal) a lm (rk a 54) (k0_pay74 a) (k0_pay75 a) (k0_pay76 a) = rk a 56 := by
  funext y
  rw [rk_succ, rk_succ]
  pointwise [k0_pay77, k0_pay74, k0_pay75, k0_pay76, k0_pay8]
  exact congrArg₂ (· + ·) (congrArg₂ (· + ·) (rfl) (step_eq a y 55 (by decide) (by decide) _ (ladder a y 55 (by decide) (by decide) _ _ _ _))) (step_eq a y 56 (by decide) (by decide) _ (ladder a y 56 (by decide) (by decide) _ _ _ _))

theorem k0_pay82_eq (a : FVec Ideal S512x128 .f32) : k0_pay82 (F := Ideal) a lm (rk a 56) (k0_pay79 a) (k0_pay80 a) k0_pay81 = rk a 59 := by
  funext y
  rw [rk_succ, rk_succ, rk_succ]
  pointwise [k0_pay82, k0_pay79, k0_pay78, k0_pay80, k0_pay81, k0_pay8]
  exact congrArg₂ (· + ·) (congrArg₂ (· + ·) (congrArg₂ (· + ·) (rfl) (step_eq a y 57 (by decide) (by decide) _ (ladder a y 57 (by decide) (by decide) _ _ _ _))) (step_eq a y 58 (by decide) (by decide) _ (ladder a y 58 (by decide) (by decide) _ _ _ _))) (step_eq a y 59 (by decide) (by decide) _ (ladder a y 59 (by decide) (by decide) _ _ _ _))

theorem k0_pay86_eq (a : FVec Ideal S512x128 .f32) : k0_pay86 (F := Ideal) a lm (rk a 59) (k0_pay84 a) (k0_pay85 a) (FloatOps.ofBits .f32 0x3F800000#32) = rk a 62 := by
  funext y
  rw [rk_succ, rk_succ, rk_succ]
  pointwise [k0_pay86, k0_pay84, k0_pay83, k0_pay85, k0_pay8]
  exact congrArg₂ (· + ·) (congrArg₂ (· + ·) (congrArg₂ (· + ·) (rfl) (step_eq a y 60 (by decide) (by decide) _ (ladder a y 60 (by decide) (by decide) _ _ _ _))) (step_eq a y 61 (by decide) (by decide) _ (ladder a y 61 (by decide) (by decide) _ _ _ _))) (step_eq a y 62 (by decide) (by decide) _ (ladder a y 62 (by decide) (by decide) _ _ _ _))

theorem k0_pay89_eq (a : FVec Ideal S512x128 .f32) : k0_pay89 (F := Ideal) a lm (rk a 62) (k0_pay87 a) (k0_pay88 a) (FloatOps.ofBits .f32 0x3F800000#32) = rk a 63 := by
  funext y
  rw [rk_succ]
  pointwise [k0_pay89, k0_pay87, k0_pay88, k0_pay8]
  exact congrArg₂ (· + ·) (rfl) (step_eq a y 63 (by decide) (by decide) _ (ladder a y 63 (by decide) (by decide) _ _ _ _))

end Cert.SpatialProof

end
-- ==== Proof.Spatial.Coefs.lean ====
module

public import proofs.«01_k».proof.Proof.Gen.SpatialIdeal.Frame
public import proofs.«01_k».proof.Proof.Select.Real
public import proofs.«01_k».proof.Proof.Spatial.Rank
public import Idealize.ShloMosaic.Lib.Pipeline.ValueKit

@[expose] public section

set_option maxRecDepth 16384

noncomputable section

namespace Cert.SpatialProof

open Idealize.ShloMosaic Idealize.ShloMosaic.TcCoe Idealize.SL.Sem
open Idealize.ShloMosaic.Pipeline (Dat)
open Cert.SpatialIdeal Cert.SpatialIdeal.Gen

open Cert.Select

/-- The matrix of coefficients. -/
def pm (a : FVec Ideal S512x128 .f32) (p1 p2 p3 p4 : EReal) : FVec Ideal S512x128 .bf16 :=
  k0_pay98 p4 lane (k0_pay9 lane) (k0_pay90 a) (k0_pay95 p2 p3 lane (k0_pay9 lane) (k0_pay89 a lm (rk a 62) (k0_pay87 a) (k0_pay88 a) (FloatOps.ofBits .f32 0x3F800000#32)) (k0_pay90 a) (k0_pay91 a p1 lane lm (k0_pay9 lane) (rk a 62) (k0_pay87 a) (k0_pay88 a) (FloatOps.ofBits .f32 0x3F800000#32)) (k0_pay92 a lm (rk a 62) (k0_pay87 a) (k0_pay88 a) (FloatOps.ofBits .f32 0x3F800000#32)) (k0_pay93 a lm (rk a 62) (k0_pay87 a) (k0_pay88 a) (FloatOps.ofBits .f32 0x3F800000#32)) (k0_pay94 a lm (rk a 62) (k0_pay87 a) (k0_pay88 a) (FloatOps.ofBits .f32 0x3F800000#32))) (k0_pay96 (k0_pay89 a lm (rk a 62) (k0_pay87 a) (k0_pay88 a) (FloatOps.ofBits .f32 0x3F800000#32))) (k0_pay97 (k0_pay89 a lm (rk a 62) (k0_pay87 a) (k0_pay88 a) (FloatOps.ofBits .f32 0x3F800000#32)) (k0_pay90 a))

/-- The window of row values that lane `x` lies in. -/
def side (A : Fin 128 → ℝ) (x : Fin 128) : Fin 64 → ℝ := fun i => A ⟨(x : ℕ) / 64 * 64 + i, by omega⟩

/-- The lane within its window. -/
def low (x : Fin 128) : Fin 64 := ⟨(x : ℕ) % 64, Nat.mod_lt _ (by decide)⟩

theorem side_low (A : Fin 128 → ℝ) (x : Fin 128) : side A x (low x) = A x :=
  congrArg A (Fin.ext (Nat.div_add_mod' _ _))

theorem side_left (A : Fin 128 → ℝ) (x : Fin 128) (h : (x : ℕ) < 64) : side A x = side A 0 := by
  funext i
  refine congrArg A (Fin.ext ?_)
  show (x : ℕ) / 64 * 64 + i = 0 / 64 * 64 + i
  omega

theorem side_right (A : Fin 128 → ℝ) (x : Fin 128) (h : ¬ (x : ℕ) < 64) : side A x = side A 64 := by
  funext i
  refine congrArg A (Fin.ext ?_)
  show (x : ℕ) / 64 * 64 + i = 64 / 64 * 64 + i
  omega

/-- Choosing by whether a lane is in the left window. -/
theorem sel_left {α : Type} (l : ℕ) (hl : l < 128) (u v : α) :
    Scalar.select (IntOp.cmpi CmpIPredicate.slt (BitVec.ofNat 32 l) 64#32) u v = if l < 64 then u else v := by
  have key : ∀ l : Fin 128, IntOp.cmpi CmpIPredicate.slt (BitVec.ofNat 32 l.val) 64#32 = if l.val < 64 then 1#1 else 0#1 := by
    decide +kernel
  rw [key ⟨l, hl⟩]
  show Scalar.select (if l < 64 then 1#1 else 0#1) u v = _
  split <;> rfl

/-- The left window's indicator. -/
theorem left_one (x : Fin 128) : (FloatOps.sitofp (F := Ideal) FTy.f32 (BitVec.setWidth 32 (IntOp.cmpi CmpIPredicate.slt (BitVec.ofNat 32 (x : ℕ)) 64#32)))
    = if (x : ℕ) < 64 then (1 : EReal) else 0 := by
  have key : ∀ l : Fin 128, (BitVec.setWidth 32 (IntOp.cmpi CmpIPredicate.slt (BitVec.ofNat 32 l.val) 64#32)).toInt = if l.val < 64 then 1 else 0 := by
    decide +kernel
  show (((BitVec.setWidth 32 (IntOp.cmpi CmpIPredicate.slt (BitVec.ofNat 32 (x : ℕ)) 64#32)).toInt : ℝ) : EReal) = _
  rw [key x]
  split <;> simp

section stage

variable (a : FVec Ideal S512x128 .f32) (r : Fin 512) (A : Fin 128 → ℝ) (hA : ∀ x, a (ix2 r x) = (A x : EReal))
include hA

theorem rank_at (x : Fin 128) : rk a 63 (ix2 r x) = ((place (up (side A x)) (low x) : ℝ) : EReal) := by
  rw [rk_last]
  have e : part a (ix2 r x) = up (side A x) := funext fun i => hA _
  rw [e]
  rfl

theorem flag_at (k : ℕ) (K : EReal) (hK : K = ((k : ℝ) : EReal)) (x : Fin 128) {d : Decidable (rk a 63 (ix2 r x) < K)} :
    (@ite _ (rk a 63 (ix2 r x) < K) d (1 : EReal) 0) = ((if place (up (side A x)) (low x) < k then (1 : ℝ) else 0 : ℝ) : EReal) := by
  have h : rk a 63 (ix2 r x) < K ↔ place (up (side A x)) (low x) < k := by
    rw [rank_at a r A hA, hK, EReal.coe_lt_coe_iff, Nat.cast_lt]
  rw [if_congr h rfl rfl]
  split <;> simp

theorem kept_at (k : ℕ) (K : EReal) (hK : K = ((k : ℝ) : EReal)) (x : Fin 128) {d : Decidable (rk a 63 (ix2 r x) < K)} :
    Ideal.exp (a (ix2 r x)) * (@ite _ (rk a 63 (ix2 r x) < K) d (1 : EReal) 0) = ((weight k (side A x) (low x) : ℝ) : EReal) := by
  rw [flag_at a r A hA k K hK, hA, Ideal.exp_coe, ← EReal.coe_mul, ← kept k (side A x) (low x), side_low]

omit hA in
theorem split_sum (f : Fin 128 → ℝ) : ∑ x, f x = (∑ j : Fin 64, f ⟨j, by omega⟩) + ∑ j : Fin 64, f ⟨64 + j, by omega⟩ :=
  Fin.sum_univ_add (a := 64) (b := 64) f

omit hA in
theorem left_total (k : ℕ) : (∑ j : Fin 64, weight k (side A ⟨j, by omega⟩) (low ⟨j, by omega⟩)) = total k (side A 0) := by
  refine Finset.sum_congr rfl fun j _ => ?_
  rw [side_left A _ j.isLt]
  exact congrArg _ (Fin.ext (Nat.mod_eq_of_lt j.isLt))

omit hA in
theorem right_total (k : ℕ) : (∑ j : Fin 64, weight k (side A ⟨64 + j, by omega⟩) (low ⟨64 + j, by omega⟩)) = total k (side A 64) := by
  refine Finset.sum_congr rfl fun j _ => ?_
  have hj := j.isLt
  rw [side_right A _ (by show ¬ 64 + (j : ℕ) < 64; omega)]
  refine congrArg _ (Fin.ext ?_)
  show (64 + (j : ℕ)) % 64 = j
  omega

/-- One selection: the exponentials kept over the whole row, and over its left window. -/
theorem stage (k : ℕ) (hk : 0 < k) (K : EReal) (hK : K = ((k : ℝ) : EReal)) (c : ℝ) (x : Fin 128)
    {d : ∀ x, Decidable (rk a 63 (ix2 r x) < K)} :
    (@ite _ (rk a 63 (ix2 r x) < K) (d x) (1 : EReal) 0) *
      Scalar.select (IntOp.cmpi CmpIPredicate.slt (BitVec.ofNat 32 (x : ℕ)) 64#32)
        (Ideal.div (c : EReal) (∑ x : Fin 128, (Ideal.exp (a (ix2 r x)) * (@ite _ (rk a 63 (ix2 r x) < K) (d x) (1 : EReal) 0))
          * FloatOps.sitofp (F := Ideal) FTy.f32 (BitVec.setWidth 32 (IntOp.cmpi CmpIPredicate.slt (BitVec.ofNat 32 (x : ℕ)) 64#32))))
        (Ideal.div (c : EReal) ((∑ x : Fin 128, Ideal.exp (a (ix2 r x)) * (@ite _ (rk a 63 (ix2 r x) < K) (d x) (1 : EReal) 0))
          - ∑ x : Fin 128, (Ideal.exp (a (ix2 r x)) * (@ite _ (rk a 63 (ix2 r x) < K) (d x) (1 : EReal) 0))
          * FloatOps.sitofp (F := Ideal) FTy.f32 (BitVec.setWidth 32 (IntOp.cmpi CmpIPredicate.slt (BitVec.ofNat 32 (x : ℕ)) 64#32))))
      = (((if place (up (side A x)) (low x) < k then 1 else 0) * (c / total k (side A x)) : ℝ) : EReal) := by
  have e1 : (∑ x : Fin 128, Ideal.exp (a (ix2 r x)) * (@ite _ (rk a 63 (ix2 r x) < K) (d x) (1 : EReal) 0))
      = ((total k (side A 0) + total k (side A 64) : ℝ) : EReal) := by
    rw [← left_total A k, ← right_total A k, ← split_sum (fun x => weight k (side A x) (low x)), coe_sum]
    exact Finset.sum_congr rfl fun x _ => kept_at a r A hA k K hK x
  have e2 : (∑ x : Fin 128, (Ideal.exp (a (ix2 r x)) * (@ite _ (rk a 63 (ix2 r x) < K) (d x) (1 : EReal) 0))
          * FloatOps.sitofp (F := Ideal) FTy.f32 (BitVec.setWidth 32 (IntOp.cmpi CmpIPredicate.slt (BitVec.ofNat 32 (x : ℕ)) 64#32)))
      = ((total k (side A 0) : ℝ) : EReal) := by
    have h : (∑ x : Fin 128, weight k (side A x) (low x) * if (x : ℕ) < 64 then 1 else 0) = total k (side A 0) := by
      rw [split_sum, ← left_total A k]
      refine (congrArg₂ (· + ·) (Finset.sum_congr rfl fun j _ => ?_) (Finset.sum_eq_zero fun j _ => ?_)).trans (add_zero _)
      · rw [if_pos j.isLt, mul_one]
      · rw [if_neg (by show ¬ 64 + (j : ℕ) < 64; omega), mul_zero]
    rw [← h, coe_sum]
    refine Finset.sum_congr rfl fun x _ => ?_
    rw [kept_at a r A hA k K hK x, left_one, EReal.coe_mul]
    congr 1
    split <;> simp
  rw [e1, e2, sel_left _ x.isLt, flag_at a r A hA k K hK, ← EReal.coe_sub, add_sub_cancel_left, EReal.coe_mul]
  congr 1
  by_cases h : (x : ℕ) < 64
  · rw [if_pos h, side_left A x h, div_real _ _ (ne_of_gt (total_pos k _ hk (by decide)))]
  · rw [if_neg h, side_right A x h, div_real _ _ (ne_of_gt (total_pos k _ hk (by decide)))]

omit hA in
theorem lit32 : Ideal.ofBits FTy.f32 1107296256#32 = (((32 : ℕ) : ℝ) : EReal) := by
  simp [Ideal.ofBits, Ideal.ieee]; norm_num; rw [← EReal.coe_mul]; norm_num

omit hA in
theorem lit42 : Ideal.ofBits FTy.f32 1109917696#32 = (((42 : ℕ) : ℝ) : EReal) := by
  simp [Ideal.ofBits, Ideal.ieee]; norm_num; rw [← EReal.coe_mul]; norm_num

omit hA in
theorem lit48 : Ideal.ofBits FTy.f32 1111490560#32 = (((48 : ℕ) : ℝ) : EReal) := by
  simp [Ideal.ofBits, Ideal.ieee]; norm_num; rw [← EReal.coe_mul]; norm_num

omit hA in
theorem lit51 : Ideal.ofBits FTy.f32 1112276992#32 = (((51 : ℕ) : ℝ) : EReal) := by
  simp [Ideal.ofBits, Ideal.ieee]; norm_num; rw [← EReal.coe_mul]; norm_num

/-- On real scores and real weights of the four selections, the coefficients are the combined weights of the lane's window. -/
theorem pm_eq (c1 c2 c3 c4 : ℝ) (x : Fin 128) :
    pm a (c1 : EReal) (c2 : EReal) (c3 : EReal) (c4 : EReal) (ix2 r x)
      = ((mix 32 42 48 51 c1 c2 c3 c4 (side A x) (low x) : ℝ) : EReal) := by
  unfold pm
  simp only [k0_pay91, k0_pay92, k0_pay93, k0_pay94, k0_pay89_eq]
  pointwise [k0_pay98, k0_pay97, k0_pay96, k0_pay95, k0_pay90, k0_pay9]
  refine (congrArg₂ (· * ·) (congrArg Ideal.exp (hA x)) (congrArg₂ (· + ·) (congrArg₂ (· + ·) (congrArg₂ (· + ·)
    (stage a r A hA 32 (by decide) _ lit32 c1 x) (stage a r A hA 42 (by decide) _ lit42 c2 x))
    (stage a r A hA 48 (by decide) _ lit48 c3 x)) (stage a r A hA 51 (by decide) _ lit51 c4 x))).trans ?_
  rw [Ideal.exp_coe, ← EReal.coe_add, ← EReal.coe_add, ← EReal.coe_add, ← EReal.coe_mul, ← exp_mul_coef, side_low]

end stage

end Cert.SpatialProof

end
-- ==== Proof.Spatial.Att.lean ====
module

public import proofs.«01_k».proof.Proof.Gen.SpatialIdeal.Frame
public import proofs.«01_k».proof.Proof.Select.Real
public import Idealize.ShloMosaic.Lib.Pipeline.ValueKit

@[expose] public section

set_option maxRecDepth 16384

noncomputable section

namespace Cert.SpatialProof

open Idealize.ShloMosaic Idealize.ShloMosaic.TcCoe Idealize.SL.Sem
open Idealize.ShloMosaic.Pipeline (Dat)
open Cert.SpatialIdeal Cert.SpatialIdeal.Gen

/-- The scaled scores of a block's sixteen windows, two windows to a row. -/
def att (tm : FVec Ideal S512x128 .f32) (q k : FVec Ideal S1024x48 .f32) : FVec Ideal S512x128 .f32 :=
  k0_pay7 (k0_pay1 q) (k0_pay2 k) (k0_pay3 q k) (k0_pay4 q k) (k0_pay5 q k) (k0_pay6 q) tm

theorem ix2_ext {n k : ℕ} (a a' : Fin n) (b b' : Fin k) (h : (a : ℕ) = a') (h' : (b : ℕ) = b') : ix2 a b = ix2 a' b' := by
  rw [Fin.ext h, Fin.ext h']

/-- Row `R` of the block, divided by the larger of its Euclidean norm and the small constant, at column `d`. -/
def unit (x : FVec Ideal S1024x48 .f32) (R : Fin 1024) (d : Fin 48) : EReal :=
  Ideal.div (x (ix2 R d)) (max (Ideal.sqrt (∑ e : Fin 48, x (ix2 R e) * x (ix2 R e))) (Ideal.ofBits FTy.f32 0x2B8CBCCC#32))

theorem unit_q (q : FVec Ideal S1024x48 .f32) (R : Fin 1024) (d : Fin 48) : (k0_pay1 (F := Ideal) q (ix2 R d) : EReal) = unit q R d := by
  unfold unit
  pointwise [k0_pay1]

theorem unit_k (q : FVec Ideal S1024x48 .f32) (R : Fin 1024) (d : Fin 48) : (k0_pay2 (F := Ideal) q (ix2 R d) : EReal) = unit q R d := by
  unfold unit
  pointwise [k0_pay2]

theorem rows_eq (Q K : FVec Ideal S1024x48 .bf16) {R R' T T' : Fin 1024} (h : (R : ℕ) = R') (h' : (T : ℕ) = T') :
    (∑ d : Fin 48, Q (ix2 R d) * K (ix2 T d) : EReal) = ∑ d : Fin 48, Q (ix2 R' d) * K (ix2 T' d) := by
  rw [Fin.ext h, Fin.ext h']

/-- The first pair's products of rows, two windows side by side. -/
def duo_first (Q K : FVec Ideal S1024x48 .bf16) : FVec Ideal S64x128 .f32 :=
  concatenate S64x128 1 [⟨S64x64, matmul dot_S64x48_S64x48_S64x64_1_1_0_0_n_n none (extractStridedSlice S64x48 ![0, 0] Q slices_S1024x48_o0_0_S64x48) (extractStridedSlice S64x48 ![0, 0] K slices_S1024x48_o0_0_S64x48) (constant S64x64 .f32 0x00000000#32)⟩,
    ⟨S64x64, matmul dot_S64x48_S64x48_S64x64_1_1_0_0_n_n none (extractStridedSlice S64x48 ![64, 0] Q slices_S1024x48_o64_0_S64x48) (extractStridedSlice S64x48 ![64, 0] K slices_S1024x48_o64_0_S64x48) (constant S64x64 .f32 0x00000000#32)⟩] concatenates_S64x64_S64x64_S64x128_d1

theorem duo_first_at (Q K : FVec Ideal S1024x48 .bf16) (i : Fin 64) (l : Fin 128) :
    duo_first Q K (ix2 i l) = ∑ d : Fin 48, Q (ix2 ⟨0 + (l : ℕ) / 64 * 64 + (i : ℕ), by omega⟩ d) * K (ix2 ⟨0 + (l : ℕ), by omega⟩ d) := by
  pointwise [duo_first]
  by_cases hc : (l : ℕ) < 64
  · simp only [dif_pos hc]; exact rows_eq Q K (by first | (dsimp only; omega) | dsimp only) (by first | (dsimp only; omega) | dsimp only)
  · simp only [dif_neg hc]; exact rows_eq Q K (by first | (dsimp only; omega) | dsimp only) (by first | (dsimp only; omega) | dsimp only)

/-- The second pair's products of rows, two windows side by side. -/
def duo_second (Q K : FVec Ideal S1024x48 .bf16) : FVec Ideal S64x128 .f32 :=
  concatenate S64x128 1 [⟨S64x64, matmul dot_S64x48_S64x48_S64x64_1_1_0_0_n_n none (extractStridedSlice S64x48 ![128, 0] Q slices_S1024x48_o128_0_S64x48) (extractStridedSlice S64x48 ![128, 0] K slices_S1024x48_o128_0_S64x48) (constant S64x64 .f32 0x00000000#32)⟩,
    ⟨S64x64, matmul dot_S64x48_S64x48_S64x64_1_1_0_0_n_n none (extractStridedSlice S64x48 ![192, 0] Q slices_S1024x48_o192_0_S64x48) (extractStridedSlice S64x48 ![192, 0] K slices_S1024x48_o192_0_S64x48) (constant S64x64 .f32 0x00000000#32)⟩] concatenates_S64x64_S64x64_S64x128_d1

theorem duo_second_at (Q K : FVec Ideal S1024x48 .bf16) (i : Fin 64) (l : Fin 128) :
    duo_second Q K (ix2 i l) = ∑ d : Fin 48, Q (ix2 ⟨128 + (l : ℕ) / 64 * 64 + (i : ℕ), by omega⟩ d) * K (ix2 ⟨128 + (l : ℕ), by omega⟩ d) := by
  pointwise [duo_second]
  by_cases hc : (l : ℕ) < 64
  · simp only [dif_pos hc]; exact rows_eq Q K (by first | (dsimp only; omega) | dsimp only) (by first | (dsimp only; omega) | dsimp only)
  · simp only [dif_neg hc]; exact rows_eq Q K (by first | (dsimp only; omega) | dsimp only) (by first | (dsimp only; omega) | dsimp only)

/-- The third pair's products of rows, two windows side by side. -/
def duo_third (Q K : FVec Ideal S1024x48 .bf16) : FVec Ideal S64x128 .f32 :=
  concatenate S64x128 1 [⟨S64x64, matmul dot_S64x48_S64x48_S64x64_1_1_0_0_n_n none (extractStridedSlice S64x48 ![256, 0] Q slices_S1024x48_o256_0_S64x48) (extractStridedSlice S64x48 ![256, 0] K slices_S1024x48_o256_0_S64x48) (constant S64x64 .f32 0x00000000#32)⟩,
    ⟨S64x64, matmul dot_S64x48_S64x48_S64x64_1_1_0_0_n_n none (extractStridedSlice S64x48 ![320, 0] Q slices_S1024x48_o320_0_S64x48) (extractStridedSlice S64x48 ![320, 0] K slices_S1024x48_o320_0_S64x48) (constant S64x64 .f32 0x00000000#32)⟩] concatenates_S64x64_S64x64_S64x128_d1

theorem duo_third_at (Q K : FVec Ideal S1024x48 .bf16) (i : Fin 64) (l : Fin 128) :
    duo_third Q K (ix2 i l) = ∑ d : Fin 48, Q (ix2 ⟨256 + (l : ℕ) / 64 * 64 + (i : ℕ), by omega⟩ d) * K (ix2 ⟨256 + (l : ℕ), by omega⟩ d) := by
  pointwise [duo_third]
  by_cases hc : (l : ℕ) < 64
  · simp only [dif_pos hc]; exact rows_eq Q K (by first | (dsimp only; omega) | dsimp only) (by first | (dsimp only; omega) | dsimp only)
  · simp only [dif_neg hc]; exact rows_eq Q K (by first | (dsimp only; omega) | dsimp only) (by first | (dsimp only; omega) | dsimp only)

/-- The fourth pair's products of rows, two windows side by side. -/
def duo_fourth (Q K : FVec Ideal S1024x48 .bf16) : FVec Ideal S64x128 .f32 :=
  concatenate S64x128 1 [⟨S64x64, matmul dot_S64x48_S64x48_S64x64_1_1_0_0_n_n none (extractStridedSlice S64x48 ![384, 0] Q slices_S1024x48_o384_0_S64x48) (extractStridedSlice S64x48 ![384, 0] K slices_S1024x48_o384_0_S64x48) (constant S64x64 .f32 0x00000000#32)⟩,
    ⟨S64x64, matmul dot_S64x48_S64x48_S64x64_1_1_0_0_n_n none (extractStridedSlice S64x48 ![448, 0] Q slices_S1024x48_o448_0_S64x48) (extractStridedSlice S64x48 ![448, 0] K slices_S1024x48_o448_0_S64x48) (constant S64x64 .f32 0x00000000#32)⟩] concatenates_S64x64_S64x64_S64x128_d1

theorem duo_fourth_at (Q K : FVec Ideal S1024x48 .bf16) (i : Fin 64) (l : Fin 128) :
    duo_fourth Q K (ix2 i l) = ∑ d : Fin 48, Q (ix2 ⟨384 + (l : ℕ) / 64 * 64 + (i : ℕ), by omega⟩ d) * K (ix2 ⟨384 + (l : ℕ), by omega⟩ d) := by
  pointwise [duo_fourth]
  by_cases hc : (l : ℕ) < 64
  · simp only [dif_pos hc]; exact rows_eq Q K (by first | (dsimp only; omega) | dsimp only) (by first | (dsimp only; omega) | dsimp only)
  · simp only [dif_neg hc]; exact rows_eq Q K (by first | (dsimp only; omega) | dsimp only) (by first | (dsimp only; omega) | dsimp only)

/-- The fifth pair's products of rows, two windows side by side. -/
def duo_fifth (Q K : FVec Ideal S1024x48 .bf16) : FVec Ideal S64x128 .f32 :=
  concatenate S64x128 1 [⟨S64x64, matmul dot_S64x48_S64x48_S64x64_1_1_0_0_n_n none (extractStridedSlice S64x48 ![512, 0] Q slices_S1024x48_o512_0_S64x48) (extractStridedSlice S64x48 ![512, 0] K slices_S1024x48_o512_0_S64x48) (constant S64x64 .f32 0x00000000#32)⟩,
    ⟨S64x64, matmul dot_S64x48_S64x48_S64x64_1_1_0_0_n_n none (extractStridedSlice S64x48 ![576, 0] Q slices_S1024x48_o576_0_S64x48) (extractStridedSlice S64x48 ![576, 0] K slices_S1024x48_o576_0_S64x48) (constant S64x64 .f32 0x00000000#32)⟩] concatenates_S64x64_S64x64_S64x128_d1

theorem duo_fifth_at (Q K : FVec Ideal S1024x48 .bf16) (i : Fin 64) (l : Fin 128) :
    duo_fifth Q K (ix2 i l) = ∑ d : Fin 48, Q (ix2 ⟨512 + (l : ℕ) / 64 * 64 + (i : ℕ), by omega⟩ d) * K (ix2 ⟨512 + (l : ℕ), by omega⟩ d) := by
  pointwise [duo_fifth]
  by_cases hc : (l : ℕ) < 64
  · simp only [dif_pos hc]; exact rows_eq Q K (by first | (dsimp only; omega) | dsimp only) (by first | (dsimp only; omega) | dsimp only)
  · simp only [dif_neg hc]; exact rows_eq Q K (by first | (dsimp only; omega) | dsimp only) (by first | (dsimp only; omega) | dsimp only)

/-- The sixth pair's products of rows, two windows side by side. -/
def duo_sixth (Q K : FVec Ideal S1024x48 .bf16) : FVec Ideal S64x128 .f32 :=
  concatenate S64x128 1 [⟨S64x64, matmul dot_S64x48_S64x48_S64x64_1_1_0_0_n_n none (extractStridedSlice S64x48 ![640, 0] Q slices_S1024x48_o640_0_S64x48) (extractStridedSlice S64x48 ![640, 0] K slices_S1024x48_o640_0_S64x48) (constant S64x64 .f32 0x00000000#32)⟩,
    ⟨S64x64, matmul dot_S64x48_S64x48_S64x64_1_1_0_0_n_n none (extractStridedSlice S64x48 ![704, 0] Q slices_S1024x48_o704_0_S64x48) (extractStridedSlice S64x48 ![704, 0] K slices_S1024x48_o704_0_S64x48) (constant S64x64 .f32 0x00000000#32)⟩] concatenates_S64x64_S64x64_S64x128_d1

theorem duo_sixth_at (Q K : FVec Ideal S1024x48 .bf16) (i : Fin 64) (l : Fin 128) :
    duo_sixth Q K (ix2 i l) = ∑ d : Fin 48, Q (ix2 ⟨640 + (l : ℕ) / 64 * 64 + (i : ℕ), by omega⟩ d) * K (ix2 ⟨640 + (l : ℕ), by omega⟩ d) := by
  pointwise [duo_sixth]
  by_cases hc : (l : ℕ) < 64
  · simp only [dif_pos hc]; exact rows_eq Q K (by first | (dsimp only; omega) | dsimp only) (by first | (dsimp only; omega) | dsimp only)
  · simp only [dif_neg hc]; exact rows_eq Q K (by first | (dsimp only; omega) | dsimp only) (by first | (dsimp only; omega) | dsimp only)

/-- The seventh pair's products of rows, two windows side by side. -/
def duo_seventh (Q K : FVec Ideal S1024x48 .bf16) : FVec Ideal S64x128 .f32 :=
  concatenate S64x128 1 [⟨S64x64, matmul dot_S64x48_S64x48_S64x64_1_1_0_0_n_n none (extractStridedSlice S64x48 ![768, 0] Q slices_S1024x48_o768_0_S64x48) (extractStridedSlice S64x48 ![768, 0] K slices_S1024x48_o768_0_S64x48) (constant S64x64 .f32 0x00000000#32)⟩,
    ⟨S64x64, matmul dot_S64x48_S64x48_S64x64_1_1_0_0_n_n none (extractStridedSlice S64x48 ![832, 0] Q slices_S1024x48_o832_0_S64x48) (extractStridedSlice S64x48 ![832, 0] K slices_S1024x48_o832_0_S64x48) (constant S64x64 .f32 0x00000000#32)⟩] concatenates_S64x64_S64x64_S64x128_d1

theorem duo_seventh_at (Q K : FVec Ideal S1024x48 .bf16) (i : Fin 64) (l : Fin 128) :
    duo_seventh Q K (ix2 i l) = ∑ d : Fin 48, Q (ix2 ⟨768 + (l : ℕ) / 64 * 64 + (i : ℕ), by omega⟩ d) * K (ix2 ⟨768 + (l : ℕ), by omega⟩ d) := by
  pointwise [duo_seventh]
  by_cases hc : (l : ℕ) < 64
  · simp only [dif_pos hc]; exact rows_eq Q K (by first | (dsimp only; omega) | dsimp only) (by first | (dsimp only; omega) | dsimp only)
  · simp only [dif_neg hc]; exact rows_eq Q K (by first | (dsimp only; omega) | dsimp only) (by first | (dsimp only; omega) | dsimp only)

/-- The eighth pair's products of rows, two windows side by side. -/
def duo_eighth (Q K : FVec Ideal S1024x48 .bf16) : FVec Ideal S64x128 .f32 :=
  concatenate S64x128 1 [⟨S64x64, matmul dot_S64x48_S64x48_S64x64_1_1_0_0_n_n none (extractStridedSlice S64x48 ![896, 0] Q slices_S1024x48_o896_0_S64x48) (extractStridedSlice S64x48 ![896, 0] K slices_S1024x48_o896_0_S64x48) (constant S64x64 .f32 0x00000000#32)⟩,
    ⟨S64x64, matmul dot_S64x48_S64x48_S64x64_1_1_0_0_n_n none (extractStridedSlice S64x48 ![960, 0] Q slices_S1024x48_o960_0_S64x48) (extractStridedSlice S64x48 ![960, 0] K slices_S1024x48_o960_0_S64x48) (constant S64x64 .f32 0x00000000#32)⟩] concatenates_S64x64_S64x64_S64x128_d1

theorem duo_eighth_at (Q K : FVec Ideal S1024x48 .bf16) (i : Fin 64) (l : Fin 128) :
    duo_eighth Q K (ix2 i l) = ∑ d : Fin 48, Q (ix2 ⟨896 + (l : ℕ) / 64 * 64 + (i : ℕ), by omega⟩ d) * K (ix2 ⟨896 + (l : ℕ), by omega⟩ d) := by
  pointwise [duo_eighth]
  by_cases hc : (l : ℕ) < 64
  · simp only [dif_pos hc]; exact rows_eq Q K (by first | (dsimp only; omega) | dsimp only) (by first | (dsimp only; omega) | dsimp only)
  · simp only [dif_neg hc]; exact rows_eq Q K (by first | (dsimp only; omega) | dsimp only) (by first | (dsimp only; omega) | dsimp only)

/-- Eight blocks of rows one under the other. -/
def stack (T0 T1 T2 T3 T4 T5 T6 T7 : FVec Ideal S64x128 .f32) : FVec Ideal S512x128 .f32 :=
  concatenate S512x128 0 [⟨S64x128, T0⟩, ⟨S64x128, T1⟩, ⟨S64x128, T2⟩, ⟨S64x128, T3⟩, ⟨S64x128, T4⟩, ⟨S64x128, T5⟩, ⟨S64x128, T6⟩, ⟨S64x128, T7⟩] concatenates_S64x128_S64x128_S64x128_S64x128_S64x128_S64x128_S64x128_S64x128_S512x128_d0

theorem block_congr (T : FVec Ideal S64x128 .f32) {i i' : Fin 64} (l : Fin 128) (h : (i : ℕ) = i') : T (ix2 i l) = T (ix2 i' l) := by
  rw [Fin.ext h]

theorem stack_0 (T0 T1 T2 T3 T4 T5 T6 T7 : FVec Ideal S64x128 .f32) (r : Fin 512) (l : Fin 128) (i : Fin 64) (h : (r : ℕ) = 0 + i) :
    stack T0 T1 T2 T3 T4 T5 T6 T7 (ix2 r l) = T0 (ix2 i l) := by
  pointwise [stack]
  rw [dif_pos (by omega : (r : ℕ) < 64)]
  exact block_congr T0 l (by dsimp only; omega)

theorem stack_1 (T0 T1 T2 T3 T4 T5 T6 T7 : FVec Ideal S64x128 .f32) (r : Fin 512) (l : Fin 128) (i : Fin 64) (h : (r : ℕ) = 64 + i) :
    stack T0 T1 T2 T3 T4 T5 T6 T7 (ix2 r l) = T1 (ix2 i l) := by
  pointwise [stack]
  rw [dif_neg (by omega : ¬ (r : ℕ) < 64)]
  rw [dif_pos (by omega : (r : ℕ) - 64 < 64)]
  exact block_congr T1 l (by dsimp only; omega)

theorem stack_2 (T0 T1 T2 T3 T4 T5 T6 T7 : FVec Ideal S64x128 .f32) (r : Fin 512) (l : Fin 128) (i : Fin 64) (h : (r : ℕ) = 128 + i) :
    stack T0 T1 T2 T3 T4 T5 T6 T7 (ix2 r l) = T2 (ix2 i l) := by
  pointwise [stack]
  rw [dif_neg (by omega : ¬ (r : ℕ) < 64)]
  rw [dif_neg (by omega : ¬ (r : ℕ) - 64 < 64)]
  rw [dif_pos (by omega : (r : ℕ) - 64 - 64 < 64)]
  exact block_congr T2 l (by dsimp only; omega)

theorem stack_3 (T0 T1 T2 T3 T4 T5 T6 T7 : FVec Ideal S64x128 .f32) (r : Fin 512) (l : Fin 128) (i : Fin 64) (h : (r : ℕ) = 192 + i) :
    stack T0 T1 T2 T3 T4 T5 T6 T7 (ix2 r l) = T3 (ix2 i l) := by
  pointwise [stack]
  rw [dif_neg (by omega : ¬ (r : ℕ) < 64)]
  rw [dif_neg (by omega : ¬ (r : ℕ) - 64 < 64)]
  rw [dif_neg (by omega : ¬ (r : ℕ) - 64 - 64 < 64)]
  rw [dif_pos (by omega : (r : ℕ) - 64 - 64 - 64 < 64)]
  exact block_congr T3 l (by dsimp only; omega)

theorem stack_4 (T0 T1 T2 T3 T4 T5 T6 T7 : FVec Ideal S64x128 .f32) (r : Fin 512) (l : Fin 128) (i : Fin 64) (h : (r : ℕ) = 256 + i) :
    stack T0 T1 T2 T3 T4 T5 T6 T7 (ix2 r l) = T4 (ix2 i l) := by
  pointwise [stack]
  rw [dif_neg (by omega : ¬ (r : ℕ) < 64)]
  rw [dif_neg (by omega : ¬ (r : ℕ) - 64 < 64)]
  rw [dif_neg (by omega : ¬ (r : ℕ) - 64 - 64 < 64)]
  rw [dif_neg (by omega : ¬ (r : ℕ) - 64 - 64 - 64 < 64)]
  rw [dif_pos (by omega : (r : ℕ) - 64 - 64 - 64 - 64 < 64)]
  exact block_congr T4 l (by dsimp only; omega)

theorem stack_5 (T0 T1 T2 T3 T4 T5 T6 T7 : FVec Ideal S64x128 .f32) (r : Fin 512) (l : Fin 128) (i : Fin 64) (h : (r : ℕ) = 320 + i) :
    stack T0 T1 T2 T3 T4 T5 T6 T7 (ix2 r l) = T5 (ix2 i l) := by
  pointwise [stack]
  rw [dif_neg (by omega : ¬ (r : ℕ) < 64)]
  rw [dif_neg (by omega : ¬ (r : ℕ) - 64 < 64)]
  rw [dif_neg (by omega : ¬ (r : ℕ) - 64 - 64 < 64)]
  rw [dif_neg (by omega : ¬ (r : ℕ) - 64 - 64 - 64 < 64)]
  rw [dif_neg (by omega : ¬ (r : ℕ) - 64 - 64 - 64 - 64 < 64)]
  rw [dif_pos (by omega : (r : ℕ) - 64 - 64 - 64 - 64 - 64 < 64)]
  exact block_congr T5 l (by dsimp only; omega)

theorem stack_6 (T0 T1 T2 T3 T4 T5 T6 T7 : FVec Ideal S64x128 .f32) (r : Fin 512) (l : Fin 128) (i : Fin 64) (h : (r : ℕ) = 384 + i) :
    stack T0 T1 T2 T3 T4 T5 T6 T7 (ix2 r l) = T6 (ix2 i l) := by
  pointwise [stack]
  rw [dif_neg (by omega : ¬ (r : ℕ) < 64)]
  rw [dif_neg (by omega : ¬ (r : ℕ) - 64 < 64)]
  rw [dif_neg (by omega : ¬ (r : ℕ) - 64 - 64 < 64)]
  rw [dif_neg (by omega : ¬ (r : ℕ) - 64 - 64 - 64 < 64)]
  rw [dif_neg (by omega : ¬ (r : ℕ) - 64 - 64 - 64 - 64 < 64)]
  rw [dif_neg (by omega : ¬ (r : ℕ) - 64 - 64 - 64 - 64 - 64 < 64)]
  rw [dif_pos (by omega : (r : ℕ) - 64 - 64 - 64 - 64 - 64 - 64 < 64)]
  exact block_congr T6 l (by dsimp only; omega)

theorem stack_7 (T0 T1 T2 T3 T4 T5 T6 T7 : FVec Ideal S64x128 .f32) (r : Fin 512) (l : Fin 128) (i : Fin 64) (h : (r : ℕ) = 448 + i) :
    stack T0 T1 T2 T3 T4 T5 T6 T7 (ix2 r l) = T7 (ix2 i l) := by
  pointwise [stack]
  rw [dif_neg (by omega : ¬ (r : ℕ) < 64)]
  rw [dif_neg (by omega : ¬ (r : ℕ) - 64 < 64)]
  rw [dif_neg (by omega : ¬ (r : ℕ) - 64 - 64 < 64)]
  rw [dif_neg (by omega : ¬ (r : ℕ) - 64 - 64 - 64 < 64)]
  rw [dif_neg (by omega : ¬ (r : ℕ) - 64 - 64 - 64 - 64 < 64)]
  rw [dif_neg (by omega : ¬ (r : ℕ) - 64 - 64 - 64 - 64 - 64 < 64)]
  rw [dif_neg (by omega : ¬ (r : ℕ) - 64 - 64 - 64 - 64 - 64 - 64 < 64)]
  exact block_congr T7 l (by dsimp only; omega)

/-- The scaled scores of unit rows. -/
def scaled (Q K : FVec Ideal S1024x48 .bf16) (tm : FVec Ideal S512x128 .f32) : FVec Ideal S512x128 .f32 :=
  mulf (stack (duo_first Q K) (duo_second Q K) (duo_third Q K) (duo_fourth Q K) (duo_fifth Q K) (duo_sixth Q K) (duo_seventh Q K) (duo_eighth Q K)) (shapeCast S512x128 tm shapeCasts_S512x128_S512x128)

theorem att_scaled (tm : FVec Ideal S512x128 .f32) (q k : FVec Ideal S1024x48 .f32) : att tm q k = scaled (k0_pay1 q) (k0_pay2 k) tm := rfl

theorem times_at (S tm : FVec Ideal S512x128 .f32) (r : Fin 512) (l : Fin 128) :
    (mulf S (shapeCast S512x128 tm shapeCasts_S512x128_S512x128) : FVec Ideal S512x128 .f32) (ix2 r l) = S (ix2 r l) * tm (ix2 r l) := by
  pointwise

theorem scaled_at (Q K : FVec Ideal S1024x48 .bf16) (tm : FVec Ideal S512x128 .f32) (r : Fin 512) (l : Fin 128) :
    scaled Q K tm (ix2 r l) = (∑ d : Fin 48, Q (ix2 ⟨(r : ℕ) / 64 * 128 + (l : ℕ) / 64 * 64 + (r : ℕ) % 64, by omega⟩ d) * K (ix2 ⟨(r : ℕ) / 64 * 128 + (l : ℕ), by omega⟩ d)) * tm (ix2 r l) := by
  refine (times_at _ tm r l).trans (Ideal.mul_congr ?_ rfl)
  have hr := r.isLt
  have c : (r : ℕ) / 64 = 0 ∨ (r : ℕ) / 64 = 1 ∨ (r : ℕ) / 64 = 2 ∨ (r : ℕ) / 64 = 3 ∨ (r : ℕ) / 64 = 4 ∨ (r : ℕ) / 64 = 5 ∨ (r : ℕ) / 64 = 6 ∨ (r : ℕ) / 64 = 7 := by omega
  rcases c with c | c | c | c | c | c | c | c
  · rw [stack_0 _ _ _ _ _ _ _ _ r l ⟨(r : ℕ) % 64, by omega⟩ (by dsimp only; omega), duo_first_at]
    exact rows_eq Q K (by dsimp only; omega) (by dsimp only; omega)
  · rw [stack_1 _ _ _ _ _ _ _ _ r l ⟨(r : ℕ) % 64, by omega⟩ (by dsimp only; omega), duo_second_at]
    exact rows_eq Q K (by dsimp only; omega) (by dsimp only; omega)
  · rw [stack_2 _ _ _ _ _ _ _ _ r l ⟨(r : ℕ) % 64, by omega⟩ (by dsimp only; omega), duo_third_at]
    exact rows_eq Q K (by dsimp only; omega) (by dsimp only; omega)
  · rw [stack_3 _ _ _ _ _ _ _ _ r l ⟨(r : ℕ) % 64, by omega⟩ (by dsimp only; omega), duo_fourth_at]
    exact rows_eq Q K (by dsimp only; omega) (by dsimp only; omega)
  · rw [stack_4 _ _ _ _ _ _ _ _ r l ⟨(r : ℕ) % 64, by omega⟩ (by dsimp only; omega), duo_fifth_at]
    exact rows_eq Q K (by dsimp only; omega) (by dsimp only; omega)
  · rw [stack_5 _ _ _ _ _ _ _ _ r l ⟨(r : ℕ) % 64, by omega⟩ (by dsimp only; omega), duo_sixth_at]
    exact rows_eq Q K (by dsimp only; omega) (by dsimp only; omega)
  · rw [stack_6 _ _ _ _ _ _ _ _ r l ⟨(r : ℕ) % 64, by omega⟩ (by dsimp only; omega), duo_seventh_at]
    exact rows_eq Q K (by dsimp only; omega) (by dsimp only; omega)
  · rw [stack_7 _ _ _ _ _ _ _ _ r l ⟨(r : ℕ) % 64, by omega⟩ (by dsimp only; omega), duo_eighth_at]
    exact rows_eq Q K (by dsimp only; omega) (by dsimp only; omega)

/-- The scaled scores: the product of the two unit rows, times the temperature. -/
theorem att_at (tm : FVec Ideal S512x128 .f32) (q k : FVec Ideal S1024x48 .f32) (r : Fin 512) (l : Fin 128) :
    att tm q k (ix2 r l) = (∑ d : Fin 48, unit q ⟨(r : ℕ) / 64 * 128 + (l : ℕ) / 64 * 64 + (r : ℕ) % 64, by omega⟩ d
      * unit k ⟨(r : ℕ) / 64 * 128 + (l : ℕ), by omega⟩ d) * tm (ix2 r l) := by
  rw [att_scaled]
  refine (scaled_at _ _ tm r l).trans (Ideal.mul_congr ?_ rfl)
  exact Finset.sum_congr rfl fun d _ => congrArg₂ (· * ·) (unit_q q _ d) (unit_k k _ d)

end Cert.SpatialProof

end
-- ==== Proof.Spatial.Out.lean ====
module

public import proofs.«01_k».proof.Proof.Gen.SpatialIdeal.Frame
public import proofs.«01_k».proof.Proof.Select.Real
public import proofs.«01_k».proof.Proof.Spatial.Coefs
public import proofs.«01_k».proof.Proof.Spatial.Att
public import Idealize.ShloMosaic.Lib.Pipeline.ValueKit

@[expose] public section

set_option maxRecDepth 16384

noncomputable section

namespace Cert.SpatialProof

open Idealize.ShloMosaic Idealize.ShloMosaic.TcCoe Idealize.SL.Sem
open Idealize.ShloMosaic.Pipeline (Dat)
open Cert.SpatialIdeal Cert.SpatialIdeal.Gen

variable (m : (ℓ : Loc nD τ sig) → Buf (Elt Ideal) ℓ)

open Cert.Select

theorem pm_def (a : FVec Ideal S512x128 .f32) (p1 p2 p3 p4 : EReal) :
    k0_pay98 p4 lane (k0_pay9 lane) (k0_pay90 a) (k0_pay95 p2 p3 lane (k0_pay9 lane) (k0_pay89 a lm (rk a 62) (k0_pay87 a) (k0_pay88 a) (FloatOps.ofBits .f32 0x3F800000#32)) (k0_pay90 a) (k0_pay91 a p1 lane lm (k0_pay9 lane) (rk a 62) (k0_pay87 a) (k0_pay88 a) (FloatOps.ofBits .f32 0x3F800000#32)) (k0_pay92 a lm (rk a 62) (k0_pay87 a) (k0_pay88 a) (FloatOps.ofBits .f32 0x3F800000#32)) (k0_pay93 a lm (rk a 62) (k0_pay87 a) (k0_pay88 a) (FloatOps.ofBits .f32 0x3F800000#32)) (k0_pay94 a lm (rk a 62) (k0_pay87 a) (k0_pay88 a) (FloatOps.ofBits .f32 0x3F800000#32))) (k0_pay96 (k0_pay89 a lm (rk a 62) (k0_pay87 a) (k0_pay88 a) (FloatOps.ofBits .f32 0x3F800000#32))) (k0_pay97 (k0_pay89 a lm (rk a 62) (k0_pay87 a) (k0_pay88 a) (FloatOps.ofBits .f32 0x3F800000#32)) (k0_pay90 a)) = pm a p1 p2 p3 p4 := rfl

/-- The first pair of windows: its rows of the weights times its values side by side. -/
def tile_first (v : FVec Ideal S1024x48 .bf16) (P : FVec Ideal S512x128 .bf16) : FVec Ideal S64x96 .f32 :=
  have v1269 : FVec Ideal S64x48 .bf16 := extractStridedSlice S64x48 ![0, 0] v slices_S1024x48_o0_0_S64x48
  have v1270 : FVec Ideal S64x48 .bf16 := extractStridedSlice S64x48 ![64, 0] v slices_S1024x48_o64_0_S64x48
  have v1271 : FVec Ideal S64x96 .bf16 := concatenate S64x96 1 [⟨S64x48, v1269⟩, ⟨S64x48, k0_pay99 (F := Ideal)⟩] concatenates_S64x48_S64x48_S64x96_d1
  have v1272 : FVec Ideal S64x96 .bf16 := concatenate S64x96 1 [⟨S64x48, k0_pay99 (F := Ideal)⟩, ⟨S64x48, v1270⟩] concatenates_S64x48_S64x48_S64x96_d1
  have v1273 : FVec Ideal S128x96 .bf16 := concatenate S128x96 0 [⟨S64x96, v1271⟩, ⟨S64x96, v1272⟩] concatenates_S64x96_S64x96_S128x96_d0
  have v1274 : FVec Ideal S64x128 .bf16 := extractStridedSlice S64x128 ![0, 0] P slices_S512x128_o0_0_S64x128
  have cst_306 : FVec Ideal S64x96 .f32 := constant S64x96 .f32 0x00000000#32
  have v1275 : FVec Ideal S64x96 .f32 := matmul dot_S64x128_S128x96_S64x96_1_0_0_1_n_n none v1274 v1273 cst_306
  v1275

theorem tile_first_eq (v : FVec Ideal S1024x48 .bf16) (v84 : EReal) (v85 : IVec S512x128 32) (v91 v1164 v1240 v1245 v1246 : FVec Ideal S512x128 .f32) :
    k0_pay100 v v84 v85 v91 v1164 v1240 v1245 v1246 = tile_first v (k0_pay98 v84 v85 v91 v1164 v1240 v1245 v1246) := rfl

/-- The second pair of windows: its rows of the weights times its values side by side. -/
def tile_second (v : FVec Ideal S1024x48 .bf16) (P : FVec Ideal S512x128 .bf16) : FVec Ideal S64x96 .f32 :=
  have v1277 : FVec Ideal S64x48 .bf16 := extractStridedSlice S64x48 ![128, 0] v slices_S1024x48_o128_0_S64x48
  have v1278 : FVec Ideal S64x48 .bf16 := extractStridedSlice S64x48 ![192, 0] v slices_S1024x48_o192_0_S64x48
  have v1279 : FVec Ideal S64x96 .bf16 := concatenate S64x96 1 [⟨S64x48, v1277⟩, ⟨S64x48, k0_pay99 (F := Ideal)⟩] concatenates_S64x48_S64x48_S64x96_d1
  have v1280 : FVec Ideal S64x96 .bf16 := concatenate S64x96 1 [⟨S64x48, k0_pay99 (F := Ideal)⟩, ⟨S64x48, v1278⟩] concatenates_S64x48_S64x48_S64x96_d1
  have v1281 : FVec Ideal S128x96 .bf16 := concatenate S128x96 0 [⟨S64x96, v1279⟩, ⟨S64x96, v1280⟩] concatenates_S64x96_S64x96_S128x96_d0
  have v1282 : FVec Ideal S64x128 .bf16 := extractStridedSlice S64x128 ![64, 0] P slices_S512x128_o64_0_S64x128
  have cst_309 : FVec Ideal S64x96 .f32 := constant S64x96 .f32 0x00000000#32
  have v1283 : FVec Ideal S64x96 .f32 := matmul dot_S64x128_S128x96_S64x96_1_0_0_1_n_n none v1282 v1281 cst_309
  v1283

theorem tile_second_eq (v : FVec Ideal S1024x48 .bf16) (v84 : EReal) (v85 : IVec S512x128 32) (v91 v1164 v1240 v1245 v1246 : FVec Ideal S512x128 .f32) :
    k0_pay101 v v84 v85 v91 v1164 v1240 v1245 v1246 = tile_second v (k0_pay98 v84 v85 v91 v1164 v1240 v1245 v1246) := rfl

/-- The third pair of windows: its rows of the weights times its values side by side. -/
def tile_third (v : FVec Ideal S1024x48 .bf16) (P : FVec Ideal S512x128 .bf16) : FVec Ideal S64x96 .f32 :=
  have v1285 : FVec Ideal S64x48 .bf16 := extractStridedSlice S64x48 ![256, 0] v slices_S1024x48_o256_0_S64x48
  have v1286 : FVec Ideal S64x48 .bf16 := extractStridedSlice S64x48 ![320, 0] v slices_S1024x48_o320_0_S64x48
  have v1287 : FVec Ideal S64x96 .bf16 := concatenate S64x96 1 [⟨S64x48, v1285⟩, ⟨S64x48, k0_pay99 (F := Ideal)⟩] concatenates_S64x48_S64x48_S64x96_d1
  have v1288 : FVec Ideal S64x96 .bf16 := concatenate S64x96 1 [⟨S64x48, k0_pay99 (F := Ideal)⟩, ⟨S64x48, v1286⟩] concatenates_S64x48_S64x48_S64x96_d1
  have v1289 : FVec Ideal S128x96 .bf16 := concatenate S128x96 0 [⟨S64x96, v1287⟩, ⟨S64x96, v1288⟩] concatenates_S64x96_S64x96_S128x96_d0
  have v1290 : FVec Ideal S64x128 .bf16 := extractStridedSlice S64x128 ![128, 0] P slices_S512x128_o128_0_S64x128
  have cst_311 : FVec Ideal S64x96 .f32 := constant S64x96 .f32 0x00000000#32
  have v1291 : FVec Ideal S64x96 .f32 := matmul dot_S64x128_S128x96_S64x96_1_0_0_1_n_n none v1290 v1289 cst_311
  v1291

theorem tile_third_eq (v : FVec Ideal S1024x48 .bf16) (v84 : EReal) (v85 : IVec S512x128 32) (v91 v1164 v1240 v1245 v1246 : FVec Ideal S512x128 .f32) :
    k0_pay102 v v84 v85 v91 v1164 v1240 v1245 v1246 = tile_third v (k0_pay98 v84 v85 v91 v1164 v1240 v1245 v1246) := rfl

theorem att_def (tm : FVec Ideal S512x128 .f32) (q k : FVec Ideal S1024x48 .f32) :
    k0_pay7 (k0_pay1 q) (k0_pay2 k) (k0_pay3 q k) (k0_pay4 q k) (k0_pay5 q k) (k0_pay6 q) tm = att tm q k := rfl

/-- The weighted values: each row's weights times the values of its two windows, each window to its own 48 columns. -/
def spread (v : FVec Ideal S1024x48 .bf16) (P : FVec Ideal S512x128 .bf16) (y : S512x96.Idx) : EReal :=
  ∑ x : Fin 64, P (ix2 (y 0) ⟨(y 1 : ℕ) / 48 * 64 + x, by have h : (y 1 : ℕ) < 96 := (y 1).isLt; omega⟩)
    * v (ix2 ⟨(y 0 : ℕ) / 64 * 128 + (y 1 : ℕ) / 48 * 64 + x, by have h : (y 0 : ℕ) < 512 := (y 0).isLt; have h : (y 1 : ℕ) < 96 := (y 1).isLt; omega⟩
      ⟨(y 1 : ℕ) % 48, Nat.mod_lt _ (by decide)⟩)

set_option maxHeartbeats 1600000 in
/-- What the body leaves in its output block. -/
theorem block_eq (c : Dev nD) (t : Fin cfg0.N) (y : S512x96.Idx) : outsAt0 m c t y
    = spread (iblk m c 4 t) (pm (att (iblk m c 1 t) (iblk m c 2 t) (iblk m c 3 t))
        (iblk m c 0 t (ix1 4))
        (iblk m c 0 t (ix1 5))
        (iblk m c 0 t (ix1 6))
        (iblk m c 0 t (ix1 7))) y := by
  have e4 : ∀ h, View.ld (iblk m c 0 t) (Rect.unit ![4] ![1] inb_S8_S1_4) (Shape.Idx.first h) = iblk m c 0 t (ix1 4) := fun _ => congrArg (iblk m c 0 t) (by funext d; apply Fin.ext; fin_cases d; rfl)
  have e5 : ∀ h, View.ld (iblk m c 0 t) (Rect.unit ![5] ![1] inb_S8_S1_5) (Shape.Idx.first h) = iblk m c 0 t (ix1 5) := fun _ => congrArg (iblk m c 0 t) (by funext d; apply Fin.ext; fin_cases d; rfl)
  have e6 : ∀ h, View.ld (iblk m c 0 t) (Rect.unit ![6] ![1] inb_S8_S1_6) (Shape.Idx.first h) = iblk m c 0 t (ix1 6) := fun _ => congrArg (iblk m c 0 t) (by funext d; apply Fin.ext; fin_cases d; rfl)
  have e7 : ∀ h, View.ld (iblk m c 0 t) (Rect.unit ![7] ![1] inb_S8_S1_7) (Shape.Idx.first h) = iblk m c 0 t (ix1 7) := fun _ => congrArg (iblk m c 0 t) (by funext d; apply Fin.ext; fin_cases d; rfl)
  unfold outsAt0
  frame_out

  simp only [tile_first_eq, tile_second_eq, tile_third_eq, att_def, e4, e5, e6, e7]
  generalize att (iblk m c 1 t) (iblk m c 2 t) (iblk m c 3 t) = a

  rw [k0_pay10_eq, k0_pay13_eq, k0_pay15_eq, k0_pay19_eq, k0_pay22_eq, k0_pay24_eq, k0_pay26_eq, k0_pay31_eq, k0_pay35_eq, k0_pay39_eq, k0_pay44_eq, k0_pay48_eq, k0_pay51_eq, k0_pay53_eq, k0_pay57_eq, k0_pay60_eq, k0_pay62_eq, k0_pay64_eq, k0_pay69_eq, k0_pay73_eq, k0_pay77_eq, k0_pay82_eq, k0_pay86_eq]
  rw [pm_def]
  generalize pm a _ _ _ _ = P
  generalize iblk m c 4 t = v
  canon_tiles y h

  all_goals
    pointwise [tile_first, tile_second, tile_third, k0_pay99, k0_pay103, k0_pay104, k0_pay105, k0_pay106, k0_pay107]

  all_goals
    rename_i w
    unfold spread
    by_cases hc : (y 1 : ℕ) < 48
    · simp only [dif_pos hc, mul_zero, Finset.sum_const_zero, add_zero]
      refine Finset.sum_congr rfl fun x _ => Ideal.mul_congr (congrArg P (ix2_ext _ _ _ _ ?_ ?_)) (congrArg v (ix2_ext _ _ _ _ ?_ ?_)) <;> dsimp only <;> omega
    · simp only [dif_neg hc, mul_zero, Finset.sum_const_zero, zero_add]
      refine Finset.sum_congr rfl fun x _ => Ideal.mul_congr (congrArg P (ix2_ext _ _ _ _ ?_ ?_)) (congrArg v (ix2_ext _ _ _ _ ?_ ?_)) <;> dsimp only <;> omega

end Cert.SpatialProof

end
-- ==== Proof.Spatial.Entry.lean ====
module

public import proofs.«01_k».proof.Proof.Gen.SpatialIdeal.Frame
public import proofs.«01_k».proof.Proof.Select.Real
public import Idealize.ShloMosaic.Lib.Pipeline.ValueKit

@[expose] public section

set_option maxRecDepth 16384

noncomputable section

namespace Cert.SpatialProof

open Idealize.ShloMosaic Idealize.ShloMosaic.TcCoe Idealize.SL.Sem
open Idealize.ShloMosaic.Pipeline (Dat)
open Cert.SpatialIdeal Cert.SpatialIdeal.Gen

variable (m : (ℓ : Loc nD τ sig) → Buf (Elt Ideal) ℓ) (σ : Valuation τ sig (Elt Ideal))

open Idealize.ShloMosaic.StableHlo

/-- The remainder the host line takes of its indices, with the sign of the divisor. -/
def remOf (x : IVec S8 32) (n : IVec S_ 32) : IVec S8 32 :=
  have d : IVec S_ 32 := select (cmpi .eq n (constantI S_ 32 0#32)) (constantI S_ 32 1#32) n
  have r : IVec S8 32 := Host.remsi x (broadcastInDim S8 ![] bcast_S_S8 d)
  select (andi (cmpi .ne (cmpi .slt r (broadcastInDim S8 ![] bcast_S_S8 (constantI S_ 32 0#32))) (broadcastInDim S8 ![] bcast_S_S8 (cmpi .slt d (constantI S_ 32 0#32)))) (cmpi .ne r (broadcastInDim S8 ![] bcast_S_S8 (constantI S_ 32 0#32))))
    (addi r (broadcastInDim S8 ![] bcast_S_S8 d)) r

/-- A head's temperature at each index, repeated over 64 rows. -/
def pick (T : FVec Ideal S4 .f32) (x : IVec S8 32) : FVec Ideal S512x1 .f32 :=
  broadcastInDim S512x1 ![0] bcast_S512_S512x1_0 (shapeCast S512 (broadcastInDim S8x64 ![0] bcast_S8_S8x64_0
    (Host.gather gather_S4_S8x1_S8_n_0_n_n_0_1_1 T (broadcastInDim S8x1 ![0] bcast_S8_S8x1_0
      (select (cmpi .slt x (broadcastInDim S8 ![] bcast_S_S8 (constantI S_ 32 0#32))) (addi x (broadcastInDim S8 ![] bcast_S_S8 (constantI S_ 32 4#32))) x)))) shapeCasts_S8x64_S512)

/-- Two columns of temperatures, each across its own 64 columns. -/
def both (L R : FVec Ideal S512x1 .f32) : FVec Ideal S512x128 .f32 :=
  concatenate S512x128 1 [⟨S512x64, mulf (broadcastInDim S512x64 ![0, 1] bcast_S512x1_S512x64_0_1 L) (broadcastInDim S512x64 ![0, 1] bcast_S1x64_S512x64_0_1 (broadcastInDim S1x64 ![] bcast_S_S1x64 (constant S_ .f32 0x3F800000#32)))⟩,
    ⟨S512x64, mulf (broadcastInDim S512x64 ![0, 1] bcast_S512x1_S512x64_0_1 R) (broadcastInDim S512x64 ![0, 1] bcast_S1x64_S512x64_0_1 (broadcastInDim S1x64 ![] bcast_S_S1x64 (constant S_ .f32 0x3F800000#32)))⟩] concatenates_S512x64_S512x64_S512x128_d1

/-- The indices `b`, `b + 2`, …, `b + 14`. -/
def evens (b : BitVec 32) : IVec S8 32 :=
  addi (broadcastInDim S8 ![] bcast_S_S8 (constantI S_ 32 b)) (muli (broadcastInDim S8 ![] bcast_S_S8 (constantI S_ 32 2#32)) (iotaInDim S8 32 0))

theorem s4 : after (hostOps0_4 (F := Ideal)) σ (Proc.devRef .tc main_v42) = both (σ (Proc.devRef .tc main_v18)) (pick (σ (Proc.devRef .tc main_v2)) (σ (Proc.devRef .tc main_v24))) := by
  simp only [hostOps0_4]
  after_results_simp
  rfl
theorem s4_v1 : after (hostOps0_4 (F := Ideal)) σ (Proc.devRef .tc main_v1) = σ (Proc.devRef .tc main_v1) := by
  simp only [hostOps0_4]
  after_results_simp
theorem s3 : after (hostOps0_3 (F := Ideal)) σ (Proc.devRef .tc main_v24) = remOf (σ (Proc.devRef .tc main_v23)) (σ (Proc.devRef .tc main_c_6)) := by
  simp only [hostOps0_3]
  after_results_simp
  simp only [TRef.ofBuf_toBuf, id]
  simp -implicitDefEqProofs only [TRef.toBuf, TRef.ofBuf, cast_cast, cast_eq]
  rfl
theorem s3_v18 : after (hostOps0_3 (F := Ideal)) σ (Proc.devRef .tc main_v18) = σ (Proc.devRef .tc main_v18) := by
  simp only [hostOps0_3]
  after_results_simp
theorem s3_v2 : after (hostOps0_3 (F := Ideal)) σ (Proc.devRef .tc main_v2) = σ (Proc.devRef .tc main_v2) := by
  simp only [hostOps0_3]
  after_results_simp
theorem s3_v1 : after (hostOps0_3 (F := Ideal)) σ (Proc.devRef .tc main_v1) = σ (Proc.devRef .tc main_v1) := by
  simp only [hostOps0_3]
  after_results_simp
theorem s2 : after (hostOps0_2 (F := Ideal)) σ (Proc.devRef .tc main_v18) = pick (σ (Proc.devRef .tc main_v2)) (σ (Proc.devRef .tc main_v8)) := by
  simp only [hostOps0_2]
  after_results_simp
  rfl
theorem s2_v23 : after (hostOps0_2 (F := Ideal)) σ (Proc.devRef .tc main_v23) = evens 1#32 := by
  simp only [hostOps0_2]
  after_results_simp
  rfl
theorem s2_c6 : after (hostOps0_2 (F := Ideal)) σ (Proc.devRef .tc main_c_6) = constantI S_ 32 4#32 := by
  simp only [hostOps0_2]
  after_results_simp
theorem s2_v2 : after (hostOps0_2 (F := Ideal)) σ (Proc.devRef .tc main_v2) = σ (Proc.devRef .tc main_v2) := by
  simp only [hostOps0_2]
  after_results_simp
theorem s2_v1 : after (hostOps0_2 (F := Ideal)) σ (Proc.devRef .tc main_v1) = σ (Proc.devRef .tc main_v1) := by
  simp only [hostOps0_2]
  after_results_simp
theorem s1 : after (hostOps0_1 (F := Ideal)) σ (Proc.devRef .tc main_v8) = remOf (σ (Proc.devRef .tc main_v7)) (σ (Proc.devRef .tc main_c_1)) := by
  simp only [hostOps0_1]
  after_results_simp
  simp only [TRef.ofBuf_toBuf, id]
  simp -implicitDefEqProofs only [TRef.toBuf, TRef.ofBuf, cast_cast, cast_eq]
  rfl
theorem s1_v2 : after (hostOps0_1 (F := Ideal)) σ (Proc.devRef .tc main_v2) = σ (Proc.devRef .tc main_v2) := by
  simp only [hostOps0_1]
  after_results_simp
theorem s1_v1 : after (hostOps0_1 (F := Ideal)) σ (Proc.devRef .tc main_v1) = σ (Proc.devRef .tc main_v1) := by
  simp only [hostOps0_1]
  after_results_simp
theorem s0_v7 : after (hostOps0 (F := Ideal)) σ (Proc.devRef .tc main_v7) = evens 0#32 := by
  simp only [hostOps0]
  after_results_simp
  rfl
theorem s0_c1 : after (hostOps0 (F := Ideal)) σ (Proc.devRef .tc main_c_1) = constantI S_ 32 4#32 := by
  simp only [hostOps0]
  after_results_simp
theorem s0_v2 : after (hostOps0 (F := Ideal)) σ (Proc.devRef .tc main_v2) = shapeCast S4 (σ (Proc.devRef .tc main_arg3)) shapeCasts_S4x1x1_S4 := by
  simp only [hostOps0]
  after_results_simp
  rfl
theorem s0_v1 : after (hostOps0 (F := Ideal)) σ (Proc.devRef .tc main_v1) = concatenate S8 0 [⟨S4, shapeCast S4 (σ (Proc.devRef .tc main_arg3)) shapeCasts_S4x1x1_S4⟩, ⟨S1, σ (Proc.devRef .tc main_arg4)⟩, ⟨S1, σ (Proc.devRef .tc main_arg5)⟩, ⟨S1, σ (Proc.devRef .tc main_arg6)⟩, ⟨S1, σ (Proc.devRef .tc main_arg7)⟩] concatenates_S4_S1_S1_S1_S1_S8_d0 := by
  simp only [hostOps0]
  after_results_simp
  rfl

theorem flat : after ([hostOps0, hostOps0_1, hostOps0_2, hostOps0_3, hostOps0_4] : List (List (HloOp τ sig (Elt Ideal)))).flatten σ
    = after hostOps0_4 (after hostOps0_3 (after hostOps0_2 (after hostOps0_1 (after hostOps0 σ)))) := by
  simp only [List.flatten_cons, List.flatten_nil, List.append_nil, after_append]

/-- The temperature matrix the kernel is handed. -/
theorem tmat_eq (c : Dev nD) : V m c main_v42 = both (pick (shapeCast S4 (m ((c : Thread nD τ).loc main_arg3)) shapeCasts_S4x1x1_S4) (remOf (evens 0#32) (constantI S_ 32 4#32)))
    (pick (shapeCast S4 (m ((c : Thread nD τ).loc main_arg3)) shapeCasts_S4x1x1_S4) (remOf (evens 1#32) (constantI S_ 32 4#32))) := by
  show after _ _ _ = _
  rw [flat, s4, s3_v18, s2, s1_v2, s0_v2, s1, s0_v7, s0_c1, s3_v2, s2_v2, s1_v2, s0_v2, s3, s2_v23, s2_c6]

/-- The parameters the kernel is handed. -/
theorem params_eq (c : Dev nD) : V m c main_v1 = concatenate S8 0 [⟨S4, shapeCast S4 (m ((c : Thread nD τ).loc main_arg3)) shapeCasts_S4x1x1_S4⟩, ⟨S1, m ((c : Thread nD τ).loc main_arg4)⟩, ⟨S1, m ((c : Thread nD τ).loc main_arg5)⟩, ⟨S1, m ((c : Thread nD τ).loc main_arg6)⟩, ⟨S1, m ((c : Thread nD τ).loc main_arg7)⟩] concatenates_S4_S1_S1_S1_S1_S8_d0 := by
  show after _ _ _ = _
  rw [flat, s4_v1, s3_v1, s2_v1, s1_v1, s0_v1]

/-- The picked head of each index: the index modulo four. -/
theorem rem_even : ∀ i : Fin 8, remOf (evens 0#32) (constantI S_ 32 4#32) (ix1 i) = BitVec.ofNat 32 ((i : ℕ) * 2 % 4) := by decide +kernel
theorem rem_odd : ∀ i : Fin 8, remOf (evens 1#32) (constantI S_ 32 4#32) (ix1 i) = BitVec.ofNat 32 (((i : ℕ) * 2 + 1) % 4) := by decide +kernel

end Cert.SpatialProof

end
-- ==== Proof.Spatial.Blocks.lean ====
module

public import proofs.«01_k».proof.Proof.Gen.SpatialIdeal.Frame
public import proofs.«01_k».proof.Proof.Select.Real
public import proofs.«01_k».proof.Proof.Spatial.Entry
public import Idealize.ShloMosaic.Lib.Pipeline.ValueKit
public import Idealize.ShloMosaic.Lib.Routing.OpsSet

@[expose] public section

set_option maxRecDepth 16384

noncomputable section

namespace Cert.SpatialProof

open Idealize.ShloMosaic Idealize.ShloMosaic.TcCoe Idealize.SL.Sem
open Idealize.ShloMosaic.Pipeline (Dat)
open Cert.SpatialIdeal Cert.SpatialIdeal.Gen

variable (m : (ℓ : Loc nD τ sig) → Buf (Elt Ideal) ℓ)

/-- Where each window's block sits: the parameters and the temperatures whole, queries, keys and values by 1024 rows, the result by 512. -/
theorem idx : ∀ t : Fin cfg0.N, win0_0.index t = ![0] ∧ win0_1.index t = ![0, 0] ∧ win0_2.index t = ![t.val, 0] ∧ win0_3.index t = ![t.val, 0]
    ∧ win0_4.index t = ![t.val, 0] ∧ win0_5.index t = ![t.val, 0] :=
  (by decide +kernel : ∀ t : Fin grid0.N, _)

theorem steps (t : Fin cfg0.N) : (t : ℕ) < 196 := t.isLt

theorem q_at (c : Dev nD) (t : Fin cfg0.N) (R : Fin 1024) (d : Fin 48) :
    (iblk m c 2 t : FVec Ideal S1024x48 .f32) (ix2 R d) = m ((c : Thread nD τ).loc main_arg0) (ix2 (⟨(t : ℕ) * 1024 + (R : ℕ), by have := steps t; omega⟩ : Fin 200704) d) := by
  blk_point [iblk, idx t]

theorem k_at (c : Dev nD) (t : Fin cfg0.N) (R : Fin 1024) (d : Fin 48) :
    (iblk m c 3 t : FVec Ideal S1024x48 .f32) (ix2 R d) = m ((c : Thread nD τ).loc main_arg1) (ix2 (⟨(t : ℕ) * 1024 + (R : ℕ), by have := steps t; omega⟩ : Fin 200704) d) := by
  blk_point [iblk, idx t]

theorem v_at (c : Dev nD) (t : Fin cfg0.N) (R : Fin 1024) (d : Fin 48) :
    (iblk m c 4 t : FVec Ideal S1024x48 .bf16) (ix2 R d) = m ((c : Thread nD τ).loc main_arg2) (ix2 (⟨(t : ℕ) * 1024 + (R : ℕ), by have := steps t; omega⟩ : Fin 200704) d) := by
  blk_point [iblk, idx t]

/-- An index word that is not negative is kept by the wrap. -/
theorem wrap_small : ∀ b : Fin 4, ∀ w : BitVec 32, w = BitVec.ofNat 32 (b : ℕ) → (if BitVec.ofBool (w.slt 0#32) = 1#1 then w + 4#32 else w) = w := by
  intro b w h
  subst h
  revert b
  decide

/-- The picked temperature of row `r` is the one the index of its group of 64 rows names. -/
theorem pick_at (T : FVec Ideal S4 .f32) (x : IVec S8 32) (b : Fin 8 → Fin 4) (h : ∀ i, x (ix1 i) = BitVec.ofNat 32 (b i : ℕ)) (r : Fin 512) (z : Fin 1) :
    pick T x (ix2 r z) = T (ix1 (b ⟨(r : ℕ) / 64, by omega⟩)) := by
  have hw : ∀ i : Fin 8, (broadcastInDim S8x1 ![0] bcast_S8_S8x1_0
      (select (cmpi .slt x (broadcastInDim S8 ![] bcast_S_S8 (constantI S_ 32 0#32))) (addi x (broadcastInDim S8 ![] bcast_S_S8 (constantI S_ 32 4#32))) x) : IVec S8x1 32) (ix2 i (0 : Fin 1))
      = BitVec.ofNat 32 (b i : ℕ) := by
    intro i
    refine Eq.trans ?_ ((wrap_small (b i) (x (ix1 i)) (h i)).trans (h i))
    pointwise
    rfl
  have hg := fun i : Fin 8 => Routing.gather_take1 gather_S4_S8x1_S8_n_0_n_n_0_1_1 rfl rfl rfl rfl T _ i (b i) (hw i) (by norm_num)
  refine Eq.trans ?_ (hg ⟨(r : ℕ) / 64, by omega⟩)
  unfold pick
  generalize Host.gather gather_S4_S8x1_S8_n_0_n_n_0_1_1 T _ = G
  pointwise
  rfl

theorem both_at (L R : FVec Ideal S512x1 .f32) (r : Fin 512) (l : Fin 128) : both L R (ix2 r l) = if (l : ℕ) < 64 then L (ix2 r (0 : Fin 1)) else R (ix2 r (0 : Fin 1)) := by
  pointwise [both]
  by_cases hc : (l : ℕ) < 64
  · simp only [dif_pos hc, if_pos hc]
  · simp only [dif_neg hc, if_neg hc]

theorem heads_at (x : FVec Ideal S4x1x1 .f32) (b : Fin 4) : shapeCast S4 x shapeCasts_S4x1x1_S4 (ix1 b) = x (ix3 b (0 : Fin 1) (0 : Fin 1)) := by
  pointwise

theorem tm_at (c : Dev nD) (t : Fin cfg0.N) (r : Fin 512) (l : Fin 128) :
    (iblk m c 1 t : FVec Ideal S512x128 .f32) (ix2 r l) = m ((c : Thread nD τ).loc main_arg3) (ix3 (⟨((r : ℕ) / 64 * 2 + (l : ℕ) / 64) % 4, by omega⟩ : Fin 4) (0 : Fin 1) (0 : Fin 1)) := by
  have e : (iblk m c 1 t : FVec Ideal S512x128 .f32) (ix2 r l) = V m c main_v42 (ix2 r l) := by
    blk_simp [iblk, idx t]
    blk_ext
    all_goals (rw [(idx t).2.1]; simp)
  rw [e, tmat_eq, both_at, pick_at _ _ (fun i => ⟨(i : ℕ) * 2 % 4, by omega⟩) rem_even, pick_at _ _ (fun i => ⟨((i : ℕ) * 2 + 1) % 4, by omega⟩) rem_odd, heads_at, heads_at]
  split_ifs with hc
  · refine congrArg _ ?_
    congr 1
    exact Fin.ext (by dsimp only; omega)
  · refine congrArg _ ?_
    congr 1
    exact Fin.ext (by dsimp only; omega)

theorem params_at (A : FVec Ideal S4 .f32) (B C D E : FVec Ideal S1 .f32) :
    let P : FVec Ideal S8 .f32 := concatenate S8 0 [⟨S4, A⟩, ⟨S1, B⟩, ⟨S1, C⟩, ⟨S1, D⟩, ⟨S1, E⟩] concatenates_S4_S1_S1_S1_S1_S8_d0
    P (ix1 4) = B (ix1 0) ∧ P (ix1 5) = C (ix1 0) ∧ P (ix1 6) = D (ix1 0) ∧ P (ix1 7) = E (ix1 0) := by
  refine ⟨?_, ?_, ?_, ?_⟩
  · pointwise
  · pointwise
  · pointwise
  · pointwise

theorem c_at (c : Dev nD) (t : Fin cfg0.N) (i : Fin 8) : (iblk m c 0 t : FVec Ideal S8 .f32) (ix1 i) = V m c main_v1 (ix1 i) := by
  blk_simp [iblk, idx t]
  blk_ext
  all_goals (rw [(idx t).1]; simp)

theorem c1_at (c : Dev nD) (t : Fin cfg0.N) : (iblk m c 0 t : FVec Ideal S8 .f32) (ix1 4) = m ((c : Thread nD τ).loc main_arg4) (ix1 0) := by
  rw [c_at, params_eq]; exact (params_at _ _ _ _ _).1
theorem c2_at (c : Dev nD) (t : Fin cfg0.N) : (iblk m c 0 t : FVec Ideal S8 .f32) (ix1 5) = m ((c : Thread nD τ).loc main_arg5) (ix1 0) := by
  rw [c_at, params_eq]; exact (params_at _ _ _ _ _).2.1
theorem c3_at (c : Dev nD) (t : Fin cfg0.N) : (iblk m c 0 t : FVec Ideal S8 .f32) (ix1 6) = m ((c : Thread nD τ).loc main_arg6) (ix1 0) := by
  rw [c_at, params_eq]; exact (params_at _ _ _ _ _).2.2.1
theorem c4_at (c : Dev nD) (t : Fin cfg0.N) : (iblk m c 0 t : FVec Ideal S8 .f32) (ix1 7) = m ((c : Thread nD τ).loc main_arg7) (ix1 0) := by
  rw [c_at, params_eq]; exact (params_at _ _ _ _ _).2.2.2

end Cert.SpatialProof

end
-- ==== Proof.Select.Mask.lean ====
module

public import proofs.«01_k».proof.Proof.Select.Rank
public import Idealize.ShloMosaic.Lib.Routing.OpsSet
public import Idealize.ShloMosaic.Lib.Routing.OpsPair

@[expose] public section

noncomputable section

namespace Cert.Select

open Idealize.ShloMosaic

theorem word_gt (a b : EReal) : (FloatOps.cmpfTotal (F := Ideal) (φ := FTy.f32) .gt a b == 1#1) = decide (b < a) := by
  show (BitVec.ofBool (decide (b < a)) == 1#1) = decide (b < a)
  cases decide (b < a) <;> rfl

/-- The positions a top-k selection returns along the last axis are the first of the row's descending order. -/
theorem topK_four {a b c n k : ℕ} (hkn : k ≤ n) (x : FVec Ideal ⟨4, ![a, b, c, n]⟩ .f32) (h : Shape.Slices ⟨4, ![a, b, c, n]⟩ (fun _ => 0) ⟨4, ![a, b, c, k]⟩)
    (p : Fin a) (q : Fin b) (r : Fin c) (l : Fin k) :
    (Host.topK ⟨4, ![a, b, c, k]⟩ 3 (FloatOps.cmpfTotal (F := Ideal) (φ := FTy.f32) .gt) x h).2 (ix4 p q r l)
      = BitVec.ofNat 32 (order (fun j => x (ix4 p q r j)) ⟨l, lt_of_lt_of_le l.isLt hkn⟩ : ℕ) := by
  have hj : ∀ J : (⟨4, ![a, b, c, n]⟩ : Shape).Idx, J = ix4 p q r (J 3) → ∀ k : Fin n, J.along 3 k = ix4 p q r k := fun J e k => by
    rw [e]
    funext z
    fin_cases z <;> rfl
  have key : ∀ J : (⟨4, ![a, b, c, n]⟩ : Shape).Idx, J = ix4 p q r ⟨l, lt_of_lt_of_le l.isLt hkn⟩ →
      iotaInDim ⟨4, ![a, b, c, n]⟩ 32 3 (J.along 3 (sortedFrom (fun k k' => FloatOps.cmpfTotal (F := Ideal) (φ := FTy.f32) .gt (x (J.along 3 k)) (x (J.along 3 k')) == 1#1) (J 3)))
        = BitVec.ofNat 32 (order (fun j => x (ix4 p q r j)) ⟨l, lt_of_lt_of_le l.isLt hkn⟩ : ℕ) := by
    rintro J rfl
    have e : (fun k k' : Fin n => FloatOps.cmpfTotal (F := Ideal) (φ := FTy.f32) .gt (x ((ix4 p q r ⟨l, lt_of_lt_of_le l.isLt hkn⟩ : (⟨4, ![a, b, c, n]⟩ : Shape).Idx).along 3 k)) (x ((ix4 p q r ⟨l, lt_of_lt_of_le l.isLt hkn⟩ : (⟨4, ![a, b, c, n]⟩ : Shape).Idx).along 3 k')) == 1#1)
        = fun k k' => decide (x (ix4 p q r k') < x (ix4 p q r k)) := by
      funext k k'
      rw [word_gt, hj _ rfl, hj _ rfl]
    exact congrArg (fun z : Fin n => BitVec.ofNat 32 (z : ℕ)) (congrFun (congrArg sortedFrom e) ⟨l, lt_of_lt_of_le l.isLt hkn⟩)
  unfold Host.topK Host.sort2
  refine key _ ?_
  funext z
  fin_cases z <;> exact Fin.ext (Nat.zero_add _)

/-- A mask set to one at each row's first `k` positions holds one at the entries with fewer than `k` entries before them. -/
theorem mask_at {R n k : ℕ} (hkn : k ≤ n) (d : ScatterDims (Routing.shape2 R n) (Routing.shape3 R k 2) (Routing.shape2 R k)) (hiw : d.insertedWindowDims = [0, 1])
    (hsd : d.scatterDimsToOperandDims = [0, 1]) (hivd : d.indexVectorDim = 2) (x0 : (Routing.shape2 R n).Idx → EReal) (idx : IVec (Routing.shape3 R k 2) 32)
    (upd : (Routing.shape2 R k).Idx → EReal) (hx : ∀ i, x0 i = 0) (hu : ∀ i, upd i = 1) (f : Fin R → Fin n → EReal)
    (hr : ∀ (a : Fin R) (b : Fin k), (idx (ix3 a b 0)).toInt = (a : ℕ))
    (hc : ∀ (a : Fin R) (b : Fin k), (idx (ix3 a b 1)).toInt = (order (f a) ⟨b, lt_of_lt_of_le b.isLt hkn⟩ : ℕ)) (r : Fin R) (c : Fin n) :
    Host.scatter d (fun _ b => b) x0 idx upd (ix2 r c) = if place (f r) c < k then 1 else 0 := by
  by_cases h : place (f r) c < k
  · rw [if_pos h]
    obtain ⟨p, hp, e⟩ := (mem_top (f r) c k).mpr h
    refine Routing.scatter_set_hit d x0 idx upd _ _ (fun i _ => hu i) (ix2 r ⟨p, hp⟩) ?_
    exact (Routing.scatter_lands2 d hiw hsd hivd idx r ⟨p, hp⟩ r c).mpr ⟨hr _ _, (hc _ _).trans (by rw [← e])⟩
  · rw [if_neg h, ← hx (ix2 r c)]
    refine Routing.scatter_set_miss d x0 idx upd _ fun i => ?_
    intro hi
    rw [ValueIdx.eq_ix2 i] at hi
    obtain ⟨e1, e2⟩ := (Routing.scatter_lands2 d hiw hsd hivd idx (i 0) (i 1) r c).mp hi
    have e1 := (hr (i 0) (i 1)).symm.trans e1
    have e2 := (hc (i 0) (i 1)).symm.trans e2
    refine h ((mem_top (f r) c k).mp ⟨⟨i 1, lt_of_lt_of_le (i 1).isLt hkn⟩, (i 1).isLt, ?_⟩)
    have e1 : (i 0 : Fin R) = r := Fin.ext (by exact_mod_cast e1)
    rw [← e1]
    exact Fin.ext (by exact_mod_cast e2)

end Cert.Select

end
-- ==== Proof.Spatial.Ref.lean ====
module

public import proofs.«01_k».proof.Proof.Gen.SpatialRefIdeal
public import proofs.«01_k».proof.Proof.Select.Mask
public import proofs.«01_k».proof.Proof.Select.Real
public import Idealize.ShloMosaic.Lib.Pipeline.ValueKit

@[expose] public section

set_option maxRecDepth 16384

noncomputable section

namespace Cert.SpatialRef

open Idealize.ShloMosaic Idealize.ShloMosaic.TcCoe Idealize.SL.Sem
open Cert.Select
open Cert.SpatialRefIdeal Cert.SpatialRefIdeal.Gen

/-- The row numbers of the flattened scores. -/
def rowsOf : IVec S200704x1 32 := broadcastInDim S200704x1 ![0] bcast_S200704_S200704x1_0 (iotaInDim S200704 32 0)

/-- The softmax's exponentials: of the entries less their row's largest. -/
def exps (X : FVec Ideal S784x4x64x64 .f32) : FVec Ideal S784x4x64x64 .f32 :=
  Host.exp (subf X (broadcastInDim S784x4x64x64 ![0, 1, 2, 3] bcast_S784x4x64x1_S784x4x64x64_0_1_2_3 (broadcastInDim S784x4x64x1 ![0, 1, 2] bcast_S784x4x64_S784x4x64x1_0_1_2 (maximumf (broadcastInDim S784x4x64 ![] bcast_S_S784x4x64 (constant S_ .f32 0xFF800000#32)) (Host.reduce FloatOps.maximumf X (constant S_ .f32 0xFF800000#32) reducesTo_S784x4x64x64_S784x4x64_d3 h_S_)))))

/-- The softmax along the last axis. -/
def soft (X : FVec Ideal S784x4x64x64 .f32) : FVec Ideal S784x4x64x64 .f32 :=
  Host.divf (exps X) (broadcastInDim S784x4x64x64 ![0, 1, 2, 3] bcast_S784x4x64x1_S784x4x64x64_0_1_2_3 (broadcastInDim S784x4x64x1 ![0, 1, 2] bcast_S784x4x64_S784x4x64x1_0_1_2 (Host.reduceAdd (exps X) (constant S_ .f32 0x00000000#32) reducesTo_S784x4x64x64_S784x4x64_d3 h_S_)))

theorem bot_word : (Ideal.ofBits FTy.f32 0xFF800000#32) = (⊥ : EReal) := by
  simp [Ideal.ofBits, Ideal.ieee]

theorem rows_at (a : Fin 200704) (b : Fin 1) : rowsOf (ix2 a b) = BitVec.ofNat 32 a := by
  unfold rowsOf
  pointwise

/-- The softmax's exponentials over the rows' largest entries. -/
def expsOf (X : FVec Ideal S784x4x64x64 .f32) (T : FVec Ideal S784x4x64 .f32) : FVec Ideal S784x4x64x64 .f32 :=
  Host.exp (subf X (broadcastInDim S784x4x64x64 ![0, 1, 2, 3] bcast_S784x4x64x1_S784x4x64x64_0_1_2_3 (broadcastInDim S784x4x64x1 ![0, 1, 2] bcast_S784x4x64_S784x4x64x1_0_1_2 (maximumf (broadcastInDim S784x4x64 ![] bcast_S_S784x4x64 (constant S_ .f32 0xFF800000#32)) T))))

/-- The quotient of every entry by its row's sum. -/
def quotOf (X : FVec Ideal S784x4x64x64 .f32) (T : FVec Ideal S784x4x64 .f32) : FVec Ideal S784x4x64x64 .f32 :=
  Host.divf X (broadcastInDim S784x4x64x64 ![0, 1, 2, 3] bcast_S784x4x64x1_S784x4x64x64_0_1_2_3 (broadcastInDim S784x4x64x1 ![0, 1, 2] bcast_S784x4x64_S784x4x64x1_0_1_2 T))

theorem tops_at (X : FVec Ideal S784x4x64x64 .f32) (w : Fin 784) (h : Fin 4) (i : Fin 64) :
    (Host.reduce FloatOps.maximumf X (constant S_ .f32 0xFF800000#32) reducesTo_S784x4x64x64_S784x4x64_d3 h_S_) (ix3 w h i) = Finset.univ.sup fun e => X (ix4 w h i e) := by
  pointwise
  rw [bot_word]
  rfl

theorem sums_at (X : FVec Ideal S784x4x64x64 .f32) (w : Fin 784) (h : Fin 4) (i : Fin 64) :
    (Host.reduceAdd X (constant S_ .f32 0x00000000#32) reducesTo_S784x4x64x64_S784x4x64_d3 h_S_) (ix3 w h i) = ∑ e, X (ix4 w h i e) := by
  pointwise

theorem expsOf_at (X : FVec Ideal S784x4x64x64 .f32) (T : FVec Ideal S784x4x64 .f32) (w : Fin 784) (h : Fin 4) (i j : Fin 64) :
    expsOf X T (ix4 w h i j) = Ideal.exp (X (ix4 w h i j) - T (ix3 w h i)) := by
  pointwise [expsOf]
  rw [bot_word, max_eq_right bot_le]

theorem quotOf_at (X : FVec Ideal S784x4x64x64 .f32) (T : FVec Ideal S784x4x64 .f32) (w : Fin 784) (h : Fin 4) (i j : Fin 64) :
    quotOf X T (ix4 w h i j) = Ideal.div (X (ix4 w h i j)) (T (ix3 w h i)) := by
  pointwise [quotOf]

theorem exps_at (X : FVec Ideal S784x4x64x64 .f32) (w : Fin 784) (h : Fin 4) (i j : Fin 64) :
    exps X (ix4 w h i j) = Ideal.exp (X (ix4 w h i j) - Finset.univ.sup fun e => X (ix4 w h i e)) :=
  (expsOf_at X _ w h i j).trans (by rw [tops_at])

theorem soft_at (X : FVec Ideal S784x4x64x64 .f32) (w : Fin 784) (h : Fin 4) (i j : Fin 64) :
    soft X (ix4 w h i j) = Ideal.div (Ideal.exp (X (ix4 w h i j) - Finset.univ.sup fun e => X (ix4 w h i e)))
      (∑ d : Fin 64, Ideal.exp (X (ix4 w h i d) - Finset.univ.sup fun e => X (ix4 w h i e))) :=
  (quotOf_at (exps X) _ w h i j).trans (by
    rw [sums_at, exps_at]
    exact congrArg _ (Finset.sum_congr rfl fun d _ => exps_at X w h i d))

/-- Where a mask is above zero the entry is kept, elsewhere it is `-∞`. -/
theorem where_at (M A : FVec Ideal S784x4x64x64 .f32) (w : Fin 784) (h : Fin 4) (i j : Fin 64) :
    select (cmpf .ogt M (broadcastInDim S784x4x64x64 ![] bcast_S_S784x4x64x64 (constant S_ .f32 0x00000000#32))) A (broadcastInDim S784x4x64x64 ![] bcast_S_S784x4x64x64 (id (constant S_ .f32 0xFF800000#32))) (ix4 w h i j)
      = if 0 < M (ix4 w h i j) then A (ix4 w h i j) else ⊥ := by
  rw [← bot_word]
  pointwise
  rfl

theorem flat_at (M : FVec Ideal S200704x64 .f32) (w : Fin 784) (h : Fin 4) (i j : Fin 64) :
    (shapeCast S784x4x64x64 M shapeCasts_S200704x64_S784x4x64x64) (ix4 w h i j) = M (ix2 (⟨(w : ℕ) * 256 + (h : ℕ) * 64 + (i : ℕ), by omega⟩ : Fin 200704) j) := by
  pointwise

theorem zeros_at (i : S200704x64.Idx) : (broadcastInDim S200704x64 ![] bcast_S_S200704x64 (constant S_ .f32 0x00000000#32) : FVec Ideal S200704x64 .f32) i = 0 := by
  pointwise

theorem one_word : (Ideal.ofBits FTy.f32 0x3F800000#32) = (1 : EReal) := by
  simp [Ideal.ofBits, Ideal.ieee]; norm_num; rw [← EReal.coe_mul]; norm_num

theorem small (n : ℕ) (h : n < 2147483648) : (BitVec.ofNat 32 n).toNat < 2 ^ (32 - 1) := by
  rw [BitVec.toNat_ofNat]
  omega

theorem small_int (n : ℕ) (h : n < 2147483648) : (BitVec.ofNat 32 n).toInt = (n : ℤ) := by
  rw [BitVec.toInt_eq_toNat_of_lt (by rw [BitVec.toNat_ofNat]; omega), BitVec.toNat_ofNat]
  congr 1
  omega

/-- The positions of each row's 32 best scores. -/
def cols32 (A : FVec Ideal S784x4x64x64 .f32) : IVec S200704x32 32 :=
  shapeCast _ ((Host.topK S784x4x64x32 3 (FloatOps.cmpfTotal .gt) A sliceFits_S784x4x64x64_S784x4x64x32).2) shapeCasts_S784x4x64x32_S200704x32

/-- The pairs of a row and a column the mask is set at. -/
def words32 (I : IVec S200704x1 32) (J : IVec S200704x32 32) : IVec S200704x32x2 32 :=
  concatenate S200704x32x2 2 [⟨S200704x32x1, (broadcastInDim S200704x32x1 ![0, 1] bcast_S200704x32_S200704x32x1_0_1 (broadcastInDim S200704x32 ![0, 1] bcast_S200704x1_S200704x32_0_1 (select (cmpi .slt I (broadcastInDim S200704x1 ![] bcast_S_S200704x1 (constantI S_ 32 0#32))) (addi I (broadcastInDim S200704x1 ![] bcast_S_S200704x1 (constantI S_ 32 200704#32))) I)))⟩, ⟨S200704x32x1, (broadcastInDim S200704x32x1 ![0, 1] bcast_S200704x32_S200704x32x1_0_1 (select (cmpi .slt J (broadcastInDim S200704x32 ![] bcast_S_S200704x32 (constantI S_ 32 0#32))) (addi J (broadcastInDim S200704x32 ![] bcast_S_S200704x32 (constantI S_ 32 64#32))) J))⟩] concatenates_S200704x32x1_S200704x32x1_S200704x32x2_d2

/-- The mask of each row's 32 best scores. -/
def mask32 (A : FVec Ideal S784x4x64x64 .f32) : FVec Ideal S200704x64 .f32 :=
  Host.scatter scatter_S200704x64_S200704x32x2_S200704x32_n_01_01_2 (fun _ b => b) (broadcastInDim S200704x64 ![] bcast_S_S200704x64 (constant S_ .f32 0x00000000#32)) (words32 rowsOf (cols32 A)) (broadcastInDim S200704x32 ![] bcast_S_S200704x32 (constant S_ .f32 0x3F800000#32))

/-- The scores where the mask is set, `-∞` elsewhere. -/
def keep32 (A : FVec Ideal S784x4x64x64 .f32) : FVec Ideal S784x4x64x64 .f32 :=
  select (cmpf .ogt (shapeCast _ (mask32 A) shapeCasts_S200704x64_S784x4x64x64) (broadcastInDim S784x4x64x64 ![] bcast_S_S784x4x64x64 (constant S_ .f32 0x00000000#32))) A (broadcastInDim S784x4x64x64 ![] bcast_S_S784x4x64x64 (id (constant S_ .f32 0xFF800000#32)))

theorem cols32_at (A : FVec Ideal S784x4x64x64 .f32) (a : Fin 200704) (b : Fin 32) :
    cols32 A (ix2 a b) = BitVec.ofNat 32 (order (fun j => A (ix4 (⟨(a : ℕ) / 256, by omega⟩ : Fin 784) (⟨(a : ℕ) / 64 % 4, by omega⟩ : Fin 4) (⟨(a : ℕ) % 64, by omega⟩ : Fin 64) j)) ⟨b, by omega⟩ : ℕ) := by
  unfold cols32
  generalize hT : (Host.topK S784x4x64x32 3 (FloatOps.cmpfTotal .gt) A sliceFits_S784x4x64x64_S784x4x64x32).2 = T
  have e : shapeCast S200704x32 T shapeCasts_S784x4x64x32_S200704x32 (ix2 a b) = T (ix4 (⟨(a : ℕ) / 256, by omega⟩ : Fin 784) (⟨(a : ℕ) / 64 % 4, by omega⟩ : Fin 4) (⟨(a : ℕ) % 64, by omega⟩ : Fin 64) b) := by
    pointwise
  rw [e, ← hT]
  exact topK_four (by decide) A _ _ _ _ _

theorem words32_row (I : IVec S200704x1 32) (J : IVec S200704x32 32) (a : Fin 200704) (b : Fin 32) :
    words32 I J (ix3 a b 0) = Scalar.select (IntOp.cmpi .slt (I (ix2 a 0)) 0#32) (IntOp.addi (I (ix2 a 0)) 200704#32) (I (ix2 a 0)) := by
  unfold words32
  pointwise

theorem words32_col (I : IVec S200704x1 32) (J : IVec S200704x32 32) (a : Fin 200704) (b : Fin 32) :
    words32 I J (ix3 a b 1) = Scalar.select (IntOp.cmpi .slt (J (ix2 a b)) 0#32) (IntOp.addi (J (ix2 a b)) 64#32) (J (ix2 a b)) := by
  unfold words32
  pointwise

theorem ones32_at (i : S200704x32.Idx) : (broadcastInDim S200704x32 ![] bcast_S_S200704x32 (constant S_ .f32 0x3F800000#32) : FVec Ideal S200704x32 .f32) i = 1 := by
  rw [← one_word]
  pointwise

theorem mask32_at (A : FVec Ideal S784x4x64x64 .f32) (r : Fin 200704) (j : Fin 64) :
    mask32 A (ix2 r j) = if place (fun j => A (ix4 (⟨(r : ℕ) / 256, by omega⟩ : Fin 784) (⟨(r : ℕ) / 64 % 4, by omega⟩ : Fin 4) (⟨(r : ℕ) % 64, by omega⟩ : Fin 64) j)) j < 32 then 1 else 0 := by
  unfold mask32
  refine mask_at (by decide) scatter_S200704x64_S200704x32x2_S200704x32_n_01_01_2 rfl rfl rfl _ _ _ zeros_at ones32_at
    (fun r j => A (ix4 (⟨(r : ℕ) / 256, by omega⟩ : Fin 784) (⟨(r : ℕ) / 64 % 4, by omega⟩ : Fin 4) (⟨(r : ℕ) % 64, by omega⟩ : Fin 64) j)) (fun a b => ?_) (fun a b => ?_) r j
  · have ha := a.isLt
    exact (congrArg BitVec.toInt ((words32_row rowsOf (cols32 A) a b).trans ((Routing.wrap_of_lt _ _ (by rw [rows_at]; exact small _ (by omega))).trans (rows_at a 0)))).trans (small_int _ (by omega))
  · have hb : ∀ z : Fin 64, (z : ℕ) < 2147483648 := fun z => by omega
    exact (congrArg BitVec.toInt ((words32_col rowsOf (cols32 A) a b).trans ((Routing.wrap_of_lt _ _ (by rw [cols32_at]; exact small _ (hb _))).trans (cols32_at A a b)))).trans (small_int _ (hb _))

theorem keep32_at (A : FVec Ideal S784x4x64x64 .f32) (w : Fin 784) (h : Fin 4) (i j : Fin 64) :
    keep32 A (ix4 w h i j) = if place (fun j => A (ix4 w h i j)) j < 32 then A (ix4 w h i j) else ⊥ := by
  refine (where_at _ A w h i j).trans ?_
  rw [flat_at, mask32_at]
  have e1 : (⟨((w : ℕ) * 256 + (h : ℕ) * 64 + (i : ℕ)) / 256, by omega⟩ : Fin 784) = w := Fin.ext (by dsimp only; omega)
  have e2 : (⟨((w : ℕ) * 256 + (h : ℕ) * 64 + (i : ℕ)) / 64 % 4, by omega⟩ : Fin 4) = h := Fin.ext (by dsimp only; omega)
  have e3 : (⟨((w : ℕ) * 256 + (h : ℕ) * 64 + (i : ℕ)) % 64, by omega⟩ : Fin 64) = i := Fin.ext (by dsimp only; omega)
  rw [e1, e2, e3]
  by_cases hp : place (fun j => A (ix4 w h i j)) j < 32
  · rw [if_pos hp, if_pos hp, if_pos one_pos]
  · rw [if_neg hp, if_neg hp, if_neg (lt_irrefl _)]

/-- The softmax of the 32 best of real scores. -/
theorem soft32 (A : FVec Ideal S784x4x64x64 .f32) (w : Fin 784) (h : Fin 4) (i : Fin 64) (α : Fin 64 → ℝ) (hα : ∀ j, A (ix4 w h i j) = (α j : EReal)) (j : Fin 64) :
    soft (keep32 A) (ix4 w h i j) = ((weight 32 α j / total 32 α : ℝ) : EReal) := by
  have e : (fun j => A (ix4 w h i j)) = up α := funext hα
  have e' : (fun j => keep32 A (ix4 w h i j)) = masked 32 α := funext fun j => by
    rw [keep32_at, e, hα]
    rfl
  rw [soft_at]
  obtain ⟨μ, hμ⟩ := masked_max_real 32 α (by decide) (by decide)
  have q : ∀ j, keep32 A (ix4 w h i j) = masked 32 α j := fun j => congrFun e' j
  rw [e', hμ, q]
  simp only [q]
  exact softmax_masked 32 α (by decide) (by decide) μ j

/-- The positions of each row's 42 best scores. -/
def cols42 (A : FVec Ideal S784x4x64x64 .f32) : IVec S200704x42 32 :=
  shapeCast _ ((Host.topK S784x4x64x42 3 (FloatOps.cmpfTotal .gt) A sliceFits_S784x4x64x64_S784x4x64x42).2) shapeCasts_S784x4x64x42_S200704x42

/-- The pairs of a row and a column the mask is set at. -/
def words42 (I : IVec S200704x1 32) (J : IVec S200704x42 32) : IVec S200704x42x2 32 :=
  concatenate S200704x42x2 2 [⟨S200704x42x1, (broadcastInDim S200704x42x1 ![0, 1] bcast_S200704x42_S200704x42x1_0_1 (broadcastInDim S200704x42 ![0, 1] bcast_S200704x1_S200704x42_0_1 (select (cmpi .slt I (broadcastInDim S200704x1 ![] bcast_S_S200704x1 (constantI S_ 32 0#32))) (addi I (broadcastInDim S200704x1 ![] bcast_S_S200704x1 (constantI S_ 32 200704#32))) I)))⟩, ⟨S200704x42x1, (broadcastInDim S200704x42x1 ![0, 1] bcast_S200704x42_S200704x42x1_0_1 (select (cmpi .slt J (broadcastInDim S200704x42 ![] bcast_S_S200704x42 (constantI S_ 32 0#32))) (addi J (broadcastInDim S200704x42 ![] bcast_S_S200704x42 (constantI S_ 32 64#32))) J))⟩] concatenates_S200704x42x1_S200704x42x1_S200704x42x2_d2

/-- The mask of each row's 42 best scores. -/
def mask42 (A : FVec Ideal S784x4x64x64 .f32) : FVec Ideal S200704x64 .f32 :=
  Host.scatter scatter_S200704x64_S200704x42x2_S200704x42_n_01_01_2 (fun _ b => b) (broadcastInDim S200704x64 ![] bcast_S_S200704x64 (constant S_ .f32 0x00000000#32)) (words42 rowsOf (cols42 A)) (broadcastInDim S200704x42 ![] bcast_S_S200704x42 (constant S_ .f32 0x3F800000#32))

/-- The scores where the mask is set, `-∞` elsewhere. -/
def keep42 (A : FVec Ideal S784x4x64x64 .f32) : FVec Ideal S784x4x64x64 .f32 :=
  select (cmpf .ogt (shapeCast _ (mask42 A) shapeCasts_S200704x64_S784x4x64x64) (broadcastInDim S784x4x64x64 ![] bcast_S_S784x4x64x64 (constant S_ .f32 0x00000000#32))) A (broadcastInDim S784x4x64x64 ![] bcast_S_S784x4x64x64 (id (constant S_ .f32 0xFF800000#32)))

theorem cols42_at (A : FVec Ideal S784x4x64x64 .f32) (a : Fin 200704) (b : Fin 42) :
    cols42 A (ix2 a b) = BitVec.ofNat 32 (order (fun j => A (ix4 (⟨(a : ℕ) / 256, by omega⟩ : Fin 784) (⟨(a : ℕ) / 64 % 4, by omega⟩ : Fin 4) (⟨(a : ℕ) % 64, by omega⟩ : Fin 64) j)) ⟨b, by omega⟩ : ℕ) := by
  unfold cols42
  generalize hT : (Host.topK S784x4x64x42 3 (FloatOps.cmpfTotal .gt) A sliceFits_S784x4x64x64_S784x4x64x42).2 = T
  have e : shapeCast S200704x42 T shapeCasts_S784x4x64x42_S200704x42 (ix2 a b) = T (ix4 (⟨(a : ℕ) / 256, by omega⟩ : Fin 784) (⟨(a : ℕ) / 64 % 4, by omega⟩ : Fin 4) (⟨(a : ℕ) % 64, by omega⟩ : Fin 64) b) := by
    pointwise
  rw [e, ← hT]
  exact topK_four (by decide) A _ _ _ _ _

theorem words42_row (I : IVec S200704x1 32) (J : IVec S200704x42 32) (a : Fin 200704) (b : Fin 42) :
    words42 I J (ix3 a b 0) = Scalar.select (IntOp.cmpi .slt (I (ix2 a 0)) 0#32) (IntOp.addi (I (ix2 a 0)) 200704#32) (I (ix2 a 0)) := by
  unfold words42
  pointwise

theorem words42_col (I : IVec S200704x1 32) (J : IVec S200704x42 32) (a : Fin 200704) (b : Fin 42) :
    words42 I J (ix3 a b 1) = Scalar.select (IntOp.cmpi .slt (J (ix2 a b)) 0#32) (IntOp.addi (J (ix2 a b)) 64#32) (J (ix2 a b)) := by
  unfold words42
  pointwise

theorem ones42_at (i : S200704x42.Idx) : (broadcastInDim S200704x42 ![] bcast_S_S200704x42 (constant S_ .f32 0x3F800000#32) : FVec Ideal S200704x42 .f32) i = 1 := by
  rw [← one_word]
  pointwise

theorem mask42_at (A : FVec Ideal S784x4x64x64 .f32) (r : Fin 200704) (j : Fin 64) :
    mask42 A (ix2 r j) = if place (fun j => A (ix4 (⟨(r : ℕ) / 256, by omega⟩ : Fin 784) (⟨(r : ℕ) / 64 % 4, by omega⟩ : Fin 4) (⟨(r : ℕ) % 64, by omega⟩ : Fin 64) j)) j < 42 then 1 else 0 := by
  unfold mask42
  refine mask_at (by decide) scatter_S200704x64_S200704x42x2_S200704x42_n_01_01_2 rfl rfl rfl _ _ _ zeros_at ones42_at
    (fun r j => A (ix4 (⟨(r : ℕ) / 256, by omega⟩ : Fin 784) (⟨(r : ℕ) / 64 % 4, by omega⟩ : Fin 4) (⟨(r : ℕ) % 64, by omega⟩ : Fin 64) j)) (fun a b => ?_) (fun a b => ?_) r j
  · have ha := a.isLt
    exact (congrArg BitVec.toInt ((words42_row rowsOf (cols42 A) a b).trans ((Routing.wrap_of_lt _ _ (by rw [rows_at]; exact small _ (by omega))).trans (rows_at a 0)))).trans (small_int _ (by omega))
  · have hb : ∀ z : Fin 64, (z : ℕ) < 2147483648 := fun z => by omega
    exact (congrArg BitVec.toInt ((words42_col rowsOf (cols42 A) a b).trans ((Routing.wrap_of_lt _ _ (by rw [cols42_at]; exact small _ (hb _))).trans (cols42_at A a b)))).trans (small_int _ (hb _))

theorem keep42_at (A : FVec Ideal S784x4x64x64 .f32) (w : Fin 784) (h : Fin 4) (i j : Fin 64) :
    keep42 A (ix4 w h i j) = if place (fun j => A (ix4 w h i j)) j < 42 then A (ix4 w h i j) else ⊥ := by
  refine (where_at _ A w h i j).trans ?_
  rw [flat_at, mask42_at]
  have e1 : (⟨((w : ℕ) * 256 + (h : ℕ) * 64 + (i : ℕ)) / 256, by omega⟩ : Fin 784) = w := Fin.ext (by dsimp only; omega)
  have e2 : (⟨((w : ℕ) * 256 + (h : ℕ) * 64 + (i : ℕ)) / 64 % 4, by omega⟩ : Fin 4) = h := Fin.ext (by dsimp only; omega)
  have e3 : (⟨((w : ℕ) * 256 + (h : ℕ) * 64 + (i : ℕ)) % 64, by omega⟩ : Fin 64) = i := Fin.ext (by dsimp only; omega)
  rw [e1, e2, e3]
  by_cases hp : place (fun j => A (ix4 w h i j)) j < 42
  · rw [if_pos hp, if_pos hp, if_pos one_pos]
  · rw [if_neg hp, if_neg hp, if_neg (lt_irrefl _)]

/-- The softmax of the 42 best of real scores. -/
theorem soft42 (A : FVec Ideal S784x4x64x64 .f32) (w : Fin 784) (h : Fin 4) (i : Fin 64) (α : Fin 64 → ℝ) (hα : ∀ j, A (ix4 w h i j) = (α j : EReal)) (j : Fin 64) :
    soft (keep42 A) (ix4 w h i j) = ((weight 42 α j / total 42 α : ℝ) : EReal) := by
  have e : (fun j => A (ix4 w h i j)) = up α := funext hα
  have e' : (fun j => keep42 A (ix4 w h i j)) = masked 42 α := funext fun j => by
    rw [keep42_at, e, hα]
    rfl
  rw [soft_at]
  obtain ⟨μ, hμ⟩ := masked_max_real 42 α (by decide) (by decide)
  have q : ∀ j, keep42 A (ix4 w h i j) = masked 42 α j := fun j => congrFun e' j
  rw [e', hμ, q]
  simp only [q]
  exact softmax_masked 42 α (by decide) (by decide) μ j

/-- The positions of each row's 48 best scores. -/
def cols48 (A : FVec Ideal S784x4x64x64 .f32) : IVec S200704x48 32 :=
  shapeCast _ ((Host.topK S784x4x64x48 3 (FloatOps.cmpfTotal .gt) A sliceFits_S784x4x64x64_S784x4x64x48).2) shapeCasts_S784x4x64x48_S200704x48

/-- The pairs of a row and a column the mask is set at. -/
def words48 (I : IVec S200704x1 32) (J : IVec S200704x48 32) : IVec S200704x48x2 32 :=
  concatenate S200704x48x2 2 [⟨S200704x48x1, (broadcastInDim S200704x48x1 ![0, 1] bcast_S200704x48_S200704x48x1_0_1 (broadcastInDim S200704x48 ![0, 1] bcast_S200704x1_S200704x48_0_1 (select (cmpi .slt I (broadcastInDim S200704x1 ![] bcast_S_S200704x1 (constantI S_ 32 0#32))) (addi I (broadcastInDim S200704x1 ![] bcast_S_S200704x1 (constantI S_ 32 200704#32))) I)))⟩, ⟨S200704x48x1, (broadcastInDim S200704x48x1 ![0, 1] bcast_S200704x48_S200704x48x1_0_1 (select (cmpi .slt J (broadcastInDim S200704x48 ![] bcast_S_S200704x48 (constantI S_ 32 0#32))) (addi J (broadcastInDim S200704x48 ![] bcast_S_S200704x48 (constantI S_ 32 64#32))) J))⟩] concatenates_S200704x48x1_S200704x48x1_S200704x48x2_d2

/-- The mask of each row's 48 best scores. -/
def mask48 (A : FVec Ideal S784x4x64x64 .f32) : FVec Ideal S200704x64 .f32 :=
  Host.scatter scatter_S200704x64_S200704x48x2_S200704x48_n_01_01_2 (fun _ b => b) (broadcastInDim S200704x64 ![] bcast_S_S200704x64 (constant S_ .f32 0x00000000#32)) (words48 rowsOf (cols48 A)) (broadcastInDim S200704x48 ![] bcast_S_S200704x48 (constant S_ .f32 0x3F800000#32))

/-- The scores where the mask is set, `-∞` elsewhere. -/
def keep48 (A : FVec Ideal S784x4x64x64 .f32) : FVec Ideal S784x4x64x64 .f32 :=
  select (cmpf .ogt (shapeCast _ (mask48 A) shapeCasts_S200704x64_S784x4x64x64) (broadcastInDim S784x4x64x64 ![] bcast_S_S784x4x64x64 (constant S_ .f32 0x00000000#32))) A (broadcastInDim S784x4x64x64 ![] bcast_S_S784x4x64x64 (id (constant S_ .f32 0xFF800000#32)))

theorem cols48_at (A : FVec Ideal S784x4x64x64 .f32) (a : Fin 200704) (b : Fin 48) :
    cols48 A (ix2 a b) = BitVec.ofNat 32 (order (fun j => A (ix4 (⟨(a : ℕ) / 256, by omega⟩ : Fin 784) (⟨(a : ℕ) / 64 % 4, by omega⟩ : Fin 4) (⟨(a : ℕ) % 64, by omega⟩ : Fin 64) j)) ⟨b, by omega⟩ : ℕ) := by
  unfold cols48
  generalize hT : (Host.topK S784x4x64x48 3 (FloatOps.cmpfTotal .gt) A sliceFits_S784x4x64x64_S784x4x64x48).2 = T
  have e : shapeCast S200704x48 T shapeCasts_S784x4x64x48_S200704x48 (ix2 a b) = T (ix4 (⟨(a : ℕ) / 256, by omega⟩ : Fin 784) (⟨(a : ℕ) / 64 % 4, by omega⟩ : Fin 4) (⟨(a : ℕ) % 64, by omega⟩ : Fin 64) b) := by
    pointwise
  rw [e, ← hT]
  exact topK_four (by decide) A _ _ _ _ _

theorem words48_row (I : IVec S200704x1 32) (J : IVec S200704x48 32) (a : Fin 200704) (b : Fin 48) :
    words48 I J (ix3 a b 0) = Scalar.select (IntOp.cmpi .slt (I (ix2 a 0)) 0#32) (IntOp.addi (I (ix2 a 0)) 200704#32) (I (ix2 a 0)) := by
  unfold words48
  pointwise

theorem words48_col (I : IVec S200704x1 32) (J : IVec S200704x48 32) (a : Fin 200704) (b : Fin 48) :
    words48 I J (ix3 a b 1) = Scalar.select (IntOp.cmpi .slt (J (ix2 a b)) 0#32) (IntOp.addi (J (ix2 a b)) 64#32) (J (ix2 a b)) := by
  unfold words48
  pointwise

theorem ones48_at (i : S200704x48.Idx) : (broadcastInDim S200704x48 ![] bcast_S_S200704x48 (constant S_ .f32 0x3F800000#32) : FVec Ideal S200704x48 .f32) i = 1 := by
  rw [← one_word]
  pointwise

theorem mask48_at (A : FVec Ideal S784x4x64x64 .f32) (r : Fin 200704) (j : Fin 64) :
    mask48 A (ix2 r j) = if place (fun j => A (ix4 (⟨(r : ℕ) / 256, by omega⟩ : Fin 784) (⟨(r : ℕ) / 64 % 4, by omega⟩ : Fin 4) (⟨(r : ℕ) % 64, by omega⟩ : Fin 64) j)) j < 48 then 1 else 0 := by
  unfold mask48
  refine mask_at (by decide) scatter_S200704x64_S200704x48x2_S200704x48_n_01_01_2 rfl rfl rfl _ _ _ zeros_at ones48_at
    (fun r j => A (ix4 (⟨(r : ℕ) / 256, by omega⟩ : Fin 784) (⟨(r : ℕ) / 64 % 4, by omega⟩ : Fin 4) (⟨(r : ℕ) % 64, by omega⟩ : Fin 64) j)) (fun a b => ?_) (fun a b => ?_) r j
  · have ha := a.isLt
    exact (congrArg BitVec.toInt ((words48_row rowsOf (cols48 A) a b).trans ((Routing.wrap_of_lt _ _ (by rw [rows_at]; exact small _ (by omega))).trans (rows_at a 0)))).trans (small_int _ (by omega))
  · have hb : ∀ z : Fin 64, (z : ℕ) < 2147483648 := fun z => by omega
    exact (congrArg BitVec.toInt ((words48_col rowsOf (cols48 A) a b).trans ((Routing.wrap_of_lt _ _ (by rw [cols48_at]; exact small _ (hb _))).trans (cols48_at A a b)))).trans (small_int _ (hb _))

theorem keep48_at (A : FVec Ideal S784x4x64x64 .f32) (w : Fin 784) (h : Fin 4) (i j : Fin 64) :
    keep48 A (ix4 w h i j) = if place (fun j => A (ix4 w h i j)) j < 48 then A (ix4 w h i j) else ⊥ := by
  refine (where_at _ A w h i j).trans ?_
  rw [flat_at, mask48_at]
  have e1 : (⟨((w : ℕ) * 256 + (h : ℕ) * 64 + (i : ℕ)) / 256, by omega⟩ : Fin 784) = w := Fin.ext (by dsimp only; omega)
  have e2 : (⟨((w : ℕ) * 256 + (h : ℕ) * 64 + (i : ℕ)) / 64 % 4, by omega⟩ : Fin 4) = h := Fin.ext (by dsimp only; omega)
  have e3 : (⟨((w : ℕ) * 256 + (h : ℕ) * 64 + (i : ℕ)) % 64, by omega⟩ : Fin 64) = i := Fin.ext (by dsimp only; omega)
  rw [e1, e2, e3]
  by_cases hp : place (fun j => A (ix4 w h i j)) j < 48
  · rw [if_pos hp, if_pos hp, if_pos one_pos]
  · rw [if_neg hp, if_neg hp, if_neg (lt_irrefl _)]

/-- The softmax of the 48 best of real scores. -/
theorem soft48 (A : FVec Ideal S784x4x64x64 .f32) (w : Fin 784) (h : Fin 4) (i : Fin 64) (α : Fin 64 → ℝ) (hα : ∀ j, A (ix4 w h i j) = (α j : EReal)) (j : Fin 64) :
    soft (keep48 A) (ix4 w h i j) = ((weight 48 α j / total 48 α : ℝ) : EReal) := by
  have e : (fun j => A (ix4 w h i j)) = up α := funext hα
  have e' : (fun j => keep48 A (ix4 w h i j)) = masked 48 α := funext fun j => by
    rw [keep48_at, e, hα]
    rfl
  rw [soft_at]
  obtain ⟨μ, hμ⟩ := masked_max_real 48 α (by decide) (by decide)
  have q : ∀ j, keep48 A (ix4 w h i j) = masked 48 α j := fun j => congrFun e' j
  rw [e', hμ, q]
  simp only [q]
  exact softmax_masked 48 α (by decide) (by decide) μ j

/-- The positions of each row's 51 best scores. -/
def cols51 (A : FVec Ideal S784x4x64x64 .f32) : IVec S200704x51 32 :=
  shapeCast _ ((Host.topK S784x4x64x51 3 (FloatOps.cmpfTotal .gt) A sliceFits_S784x4x64x64_S784x4x64x51).2) shapeCasts_S784x4x64x51_S200704x51

/-- The pairs of a row and a column the mask is set at. -/
def words51 (I : IVec S200704x1 32) (J : IVec S200704x51 32) : IVec S200704x51x2 32 :=
  concatenate S200704x51x2 2 [⟨S200704x51x1, (broadcastInDim S200704x51x1 ![0, 1] bcast_S200704x51_S200704x51x1_0_1 (broadcastInDim S200704x51 ![0, 1] bcast_S200704x1_S200704x51_0_1 (select (cmpi .slt I (broadcastInDim S200704x1 ![] bcast_S_S200704x1 (constantI S_ 32 0#32))) (addi I (broadcastInDim S200704x1 ![] bcast_S_S200704x1 (constantI S_ 32 200704#32))) I)))⟩, ⟨S200704x51x1, (broadcastInDim S200704x51x1 ![0, 1] bcast_S200704x51_S200704x51x1_0_1 (select (cmpi .slt J (broadcastInDim S200704x51 ![] bcast_S_S200704x51 (constantI S_ 32 0#32))) (addi J (broadcastInDim S200704x51 ![] bcast_S_S200704x51 (constantI S_ 32 64#32))) J))⟩] concatenates_S200704x51x1_S200704x51x1_S200704x51x2_d2

/-- The mask of each row's 51 best scores. -/
def mask51 (A : FVec Ideal S784x4x64x64 .f32) : FVec Ideal S200704x64 .f32 :=
  Host.scatter scatter_S200704x64_S200704x51x2_S200704x51_n_01_01_2 (fun _ b => b) (broadcastInDim S200704x64 ![] bcast_S_S200704x64 (constant S_ .f32 0x00000000#32)) (words51 rowsOf (cols51 A)) (broadcastInDim S200704x51 ![] bcast_S_S200704x51 (constant S_ .f32 0x3F800000#32))

/-- The scores where the mask is set, `-∞` elsewhere. -/
def keep51 (A : FVec Ideal S784x4x64x64 .f32) : FVec Ideal S784x4x64x64 .f32 :=
  select (cmpf .ogt (shapeCast _ (mask51 A) shapeCasts_S200704x64_S784x4x64x64) (broadcastInDim S784x4x64x64 ![] bcast_S_S784x4x64x64 (constant S_ .f32 0x00000000#32))) A (broadcastInDim S784x4x64x64 ![] bcast_S_S784x4x64x64 (id (constant S_ .f32 0xFF800000#32)))

theorem cols51_at (A : FVec Ideal S784x4x64x64 .f32) (a : Fin 200704) (b : Fin 51) :
    cols51 A (ix2 a b) = BitVec.ofNat 32 (order (fun j => A (ix4 (⟨(a : ℕ) / 256, by omega⟩ : Fin 784) (⟨(a : ℕ) / 64 % 4, by omega⟩ : Fin 4) (⟨(a : ℕ) % 64, by omega⟩ : Fin 64) j)) ⟨b, by omega⟩ : ℕ) := by
  unfold cols51
  generalize hT : (Host.topK S784x4x64x51 3 (FloatOps.cmpfTotal .gt) A sliceFits_S784x4x64x64_S784x4x64x51).2 = T
  have e : shapeCast S200704x51 T shapeCasts_S784x4x64x51_S200704x51 (ix2 a b) = T (ix4 (⟨(a : ℕ) / 256, by omega⟩ : Fin 784) (⟨(a : ℕ) / 64 % 4, by omega⟩ : Fin 4) (⟨(a : ℕ) % 64, by omega⟩ : Fin 64) b) := by
    pointwise
  rw [e, ← hT]
  exact topK_four (by decide) A _ _ _ _ _

theorem words51_row (I : IVec S200704x1 32) (J : IVec S200704x51 32) (a : Fin 200704) (b : Fin 51) :
    words51 I J (ix3 a b 0) = Scalar.select (IntOp.cmpi .slt (I (ix2 a 0)) 0#32) (IntOp.addi (I (ix2 a 0)) 200704#32) (I (ix2 a 0)) := by
  unfold words51
  pointwise

theorem words51_col (I : IVec S200704x1 32) (J : IVec S200704x51 32) (a : Fin 200704) (b : Fin 51) :
    words51 I J (ix3 a b 1) = Scalar.select (IntOp.cmpi .slt (J (ix2 a b)) 0#32) (IntOp.addi (J (ix2 a b)) 64#32) (J (ix2 a b)) := by
  unfold words51
  pointwise

theorem ones51_at (i : S200704x51.Idx) : (broadcastInDim S200704x51 ![] bcast_S_S200704x51 (constant S_ .f32 0x3F800000#32) : FVec Ideal S200704x51 .f32) i = 1 := by
  rw [← one_word]
  pointwise

theorem mask51_at (A : FVec Ideal S784x4x64x64 .f32) (r : Fin 200704) (j : Fin 64) :
    mask51 A (ix2 r j) = if place (fun j => A (ix4 (⟨(r : ℕ) / 256, by omega⟩ : Fin 784) (⟨(r : ℕ) / 64 % 4, by omega⟩ : Fin 4) (⟨(r : ℕ) % 64, by omega⟩ : Fin 64) j)) j < 51 then 1 else 0 := by
  unfold mask51
  refine mask_at (by decide) scatter_S200704x64_S200704x51x2_S200704x51_n_01_01_2 rfl rfl rfl _ _ _ zeros_at ones51_at
    (fun r j => A (ix4 (⟨(r : ℕ) / 256, by omega⟩ : Fin 784) (⟨(r : ℕ) / 64 % 4, by omega⟩ : Fin 4) (⟨(r : ℕ) % 64, by omega⟩ : Fin 64) j)) (fun a b => ?_) (fun a b => ?_) r j
  · have ha := a.isLt
    exact (congrArg BitVec.toInt ((words51_row rowsOf (cols51 A) a b).trans ((Routing.wrap_of_lt _ _ (by rw [rows_at]; exact small _ (by omega))).trans (rows_at a 0)))).trans (small_int _ (by omega))
  · have hb : ∀ z : Fin 64, (z : ℕ) < 2147483648 := fun z => by omega
    exact (congrArg BitVec.toInt ((words51_col rowsOf (cols51 A) a b).trans ((Routing.wrap_of_lt _ _ (by rw [cols51_at]; exact small _ (hb _))).trans (cols51_at A a b)))).trans (small_int _ (hb _))

theorem keep51_at (A : FVec Ideal S784x4x64x64 .f32) (w : Fin 784) (h : Fin 4) (i j : Fin 64) :
    keep51 A (ix4 w h i j) = if place (fun j => A (ix4 w h i j)) j < 51 then A (ix4 w h i j) else ⊥ := by
  refine (where_at _ A w h i j).trans ?_
  rw [flat_at, mask51_at]
  have e1 : (⟨((w : ℕ) * 256 + (h : ℕ) * 64 + (i : ℕ)) / 256, by omega⟩ : Fin 784) = w := Fin.ext (by dsimp only; omega)
  have e2 : (⟨((w : ℕ) * 256 + (h : ℕ) * 64 + (i : ℕ)) / 64 % 4, by omega⟩ : Fin 4) = h := Fin.ext (by dsimp only; omega)
  have e3 : (⟨((w : ℕ) * 256 + (h : ℕ) * 64 + (i : ℕ)) % 64, by omega⟩ : Fin 64) = i := Fin.ext (by dsimp only; omega)
  rw [e1, e2, e3]
  by_cases hp : place (fun j => A (ix4 w h i j)) j < 51
  · rw [if_pos hp, if_pos hp, if_pos one_pos]
  · rw [if_neg hp, if_neg hp, if_neg (lt_irrefl _)]

/-- The softmax of the 51 best of real scores. -/
theorem soft51 (A : FVec Ideal S784x4x64x64 .f32) (w : Fin 784) (h : Fin 4) (i : Fin 64) (α : Fin 64 → ℝ) (hα : ∀ j, A (ix4 w h i j) = (α j : EReal)) (j : Fin 64) :
    soft (keep51 A) (ix4 w h i j) = ((weight 51 α j / total 51 α : ℝ) : EReal) := by
  have e : (fun j => A (ix4 w h i j)) = up α := funext hα
  have e' : (fun j => keep51 A (ix4 w h i j)) = masked 51 α := funext fun j => by
    rw [keep51_at, e, hα]
    rfl
  rw [soft_at]
  obtain ⟨μ, hμ⟩ := masked_max_real 51 α (by decide) (by decide)
  have q : ∀ j, keep51 A (ix4 w h i j) = masked 51 α j := fun j => congrFun e' j
  rw [e', hμ, q]
  simp only [q]
  exact softmax_masked 51 α (by decide) (by decide) μ j

/-- The rows by window, head and position, each entry divided by the larger of its row's Euclidean norm and the small constant. -/
def l2 (X : FVec Ideal S784x4x64x48 .f32) : FVec Ideal S784x4x64x48 .f32 :=
  Host.divf X (broadcastInDim S784x4x64x48 ![0, 1, 2, 3] bcast_S784x4x64x1_S784x4x64x48_0_1_2_3 (maximumf (Host.sqrt (broadcastInDim S784x4x64x1 ![0, 1, 2] bcast_S784x4x64_S784x4x64x1_0_1_2 (Host.reduceAdd (mulf X X) (constant S_ .f32 0x00000000#32) reducesTo_S784x4x64x48_S784x4x64_d3 h_S_))) (broadcastInDim S784x4x64x1 ![] bcast_S_S784x4x64x1 (constant S_ .f32 0x2B8CBCCC#32))))

def l2Of (X : FVec Ideal S784x4x64x48 .f32) (T : FVec Ideal S784x4x64 .f32) : FVec Ideal S784x4x64x48 .f32 :=
  Host.divf X (broadcastInDim S784x4x64x48 ![0, 1, 2, 3] bcast_S784x4x64x1_S784x4x64x48_0_1_2_3 (maximumf (Host.sqrt (broadcastInDim S784x4x64x1 ![0, 1, 2] bcast_S784x4x64_S784x4x64x1_0_1_2 T)) (broadcastInDim S784x4x64x1 ![] bcast_S_S784x4x64x1 (constant S_ .f32 0x2B8CBCCC#32))))

theorem l2Of_at (X : FVec Ideal S784x4x64x48 .f32) (T : FVec Ideal S784x4x64 .f32) (w : Fin 784) (h : Fin 4) (i : Fin 64) (d : Fin 48) :
    l2Of X T (ix4 w h i d) = Ideal.div (X (ix4 w h i d)) (max (Ideal.sqrt (T (ix3 w h i))) (Ideal.ofBits FTy.f32 0x2B8CBCCC#32)) := by
  pointwise [l2Of]

theorem squares_at (X : FVec Ideal S784x4x64x48 .f32) (w : Fin 784) (h : Fin 4) (i : Fin 64) :
    (Host.reduceAdd (mulf X X) (constant S_ .f32 0x00000000#32) reducesTo_S784x4x64x48_S784x4x64_d3 h_S_) (ix3 w h i) = ∑ e, X (ix4 w h i e) * X (ix4 w h i e) := by
  pointwise

theorem l2_at (X : FVec Ideal S784x4x64x48 .f32) (w : Fin 784) (h : Fin 4) (i : Fin 64) (d : Fin 48) :
    l2 X (ix4 w h i d) = Ideal.div (X (ix4 w h i d)) (max (Ideal.sqrt (∑ e, X (ix4 w h i e) * X (ix4 w h i e))) (Ideal.ofBits FTy.f32 0x2B8CBCCC#32)) :=
  (l2Of_at X _ w h i d).trans (by rw [squares_at])

/-- The row of the flat arrays that holds position `i` of head `h` of window `w`. -/
def row (w : Fin 784) (h : Fin 4) (i : Fin 64) : Fin 200704 := ⟨(w : ℕ) * 256 + (h : ℕ) * 64 + (i : ℕ), by omega⟩

theorem split_at (x : FVec Ideal S200704x48 .f32) (w : Fin 784) (h : Fin 4) (i : Fin 64) (d : Fin 48) :
    (shapeCast S784x4x64x48 x shapeCasts_S200704x48_S784x4x64x48) (ix4 w h i d) = x (ix2 (row w h i) d) := by
  unfold row
  pointwise

/-- A row of the flat array divided by the larger of its Euclidean norm and the small constant, at column `d`. -/
def unit (x : FVec Ideal S200704x48 .f32) (R : Fin 200704) (d : Fin 48) : EReal :=
  Ideal.div (x (ix2 R d)) (max (Ideal.sqrt (∑ e : Fin 48, x (ix2 R e) * x (ix2 R e))) (Ideal.ofBits FTy.f32 0x2B8CBCCC#32))

theorem l2_row (x : FVec Ideal S200704x48 .f32) (w : Fin 784) (h : Fin 4) (i : Fin 64) (d : Fin 48) :
    l2 (shapeCast S784x4x64x48 x shapeCasts_S200704x48_S784x4x64x48) (ix4 w h i d) = unit x (row w h i) d := by
  rw [l2_at]
  simp only [split_at]
  rfl

/-- The products of the unit rows, times the head's temperature. -/
def prods (Q K : FVec Ideal S784x4x64x48 .f32) (T : FVec Ideal S4x1x1 .f32) : FVec Ideal S784x4x64x64 .f32 :=
  mulf (Host.dotGeneral dot_S784x4x64x48_S784x4x48x64_S784x4x64x64_3_2_2_3_01_01 none Q (transpose S784x4x48x64 [0, 1, 3, 2] K transposes_S784x4x64x48_S784x4x48x64_0_1_3_2)) (broadcastInDim S784x4x64x64 ![0, 1, 2, 3] bcast_S1x4x1x1_S784x4x64x64_0_1_2_3 (broadcastInDim S1x4x1x1 ![1, 2, 3] bcast_S4x1x1_S1x4x1x1_1_2_3 T))

theorem prods_at (Q K : FVec Ideal S784x4x64x48 .f32) (T : FVec Ideal S4x1x1 .f32) (w : Fin 784) (h : Fin 4) (i j : Fin 64) :
    prods Q K T (ix4 w h i j) = (∑ d, Q (ix4 w h i d) * K (ix4 w h j d)) * T (ix3 h 0 0) := by
  pointwise [prods]

/-- The scores. -/
def scores (q k : FVec Ideal S200704x48 .f32) (T : FVec Ideal S4x1x1 .f32) : FVec Ideal S784x4x64x64 .f32 :=
  prods (l2 (shapeCast S784x4x64x48 q shapeCasts_S200704x48_S784x4x64x48)) (l2 (shapeCast S784x4x64x48 k shapeCasts_S200704x48_S784x4x64x48)) T

theorem scores_at (q k : FVec Ideal S200704x48 .f32) (T : FVec Ideal S4x1x1 .f32) (w : Fin 784) (h : Fin 4) (i j : Fin 64) :
    scores q k T (ix4 w h i j) = (∑ d, unit q (row w h i) d * unit k (row w h j) d) * T (ix3 h 0 0) := by
  refine (prods_at _ _ T w h i j).trans ?_
  simp only [l2_row]

/-- One selection's output: the softmax weights over the values, times the selection's coefficient. -/
def term (S : FVec Ideal S784x4x64x64 .f32) (V : FVec Ideal S784x4x64x48 .f32) (c : FVec Ideal S1 .f32) : FVec Ideal S784x4x64x48 .f32 :=
  mulf (Host.dotGeneral dot_S784x4x64x64_S784x4x64x48_S784x4x64x48_3_2_2_3_01_01 none S V) (broadcastInDim S784x4x64x48 ![0, 1, 2, 3] bcast_S1x1x1x1_S784x4x64x48_0_1_2_3 (broadcastInDim S1x1x1x1 ![3] bcast_S1_S1x1x1x1_3 c))

theorem term_at (S : FVec Ideal S784x4x64x64 .f32) (V : FVec Ideal S784x4x64x48 .f32) (c : FVec Ideal S1 .f32) (w : Fin 784) (h : Fin 4) (i : Fin 64) (d : Fin 48) :
    term S V c (ix4 w h i d) = (∑ j, S (ix4 w h i j) * V (ix4 w h j d)) * c (ix1 0) := by
  pointwise [term]

/-- The sum of the four outputs, two windows side by side. -/
def pairs (Y : FVec Ideal S784x4x64x48 .f32) : FVec Ideal S100352x96 .f32 :=
  shapeCast _ (transpose S1568x64x2x48 [0, 2, 1, 3] (shapeCast _ Y shapeCasts_S784x4x64x48_S1568x2x64x48) transposes_S1568x2x64x48_S1568x64x2x48_0_2_1_3) shapeCasts_S1568x64x2x48_S100352x96

theorem pairs_at (Y : FVec Ideal S784x4x64x48 .f32) (y : S100352x96.Idx) :
    pairs Y y = Y (ix4 (⟨((y 0 : ℕ) / 64 * 2 + (y 1 : ℕ) / 48) / 4, by have h : (y 0 : ℕ) < 100352 := (y 0).isLt; have h' : (y 1 : ℕ) < 96 := (y 1).isLt; omega⟩ : Fin 784)
      (⟨((y 0 : ℕ) / 64 * 2 + (y 1 : ℕ) / 48) % 4, by omega⟩ : Fin 4) (⟨(y 0 : ℕ) % 64, by omega⟩ : Fin 64) (⟨(y 1 : ℕ) % 48, by omega⟩ : Fin 48)) := by
  pointwise [pairs]
  try blk_ext

/-- The reference's result. -/
def result (q k : FVec Ideal S200704x48 .f32) (v : FVec Ideal S200704x48 .bf16) (T : FVec Ideal S4x1x1 .f32) (c1 c2 c3 c4 : FVec Ideal S1 .f32) : FVec Ideal S100352x96 .f32 :=
  pairs (addf (addf (addf
    (term (soft (keep32 (scores q k T))) (shapeCast _ (extf .f32 v bitsLt_bf16_f32) shapeCasts_S200704x48_S784x4x64x48) c1)
    (term (soft (keep42 (scores q k T))) (shapeCast _ (extf .f32 v bitsLt_bf16_f32) shapeCasts_S200704x48_S784x4x64x48) c2))
    (term (soft (keep48 (scores q k T))) (shapeCast _ (extf .f32 v bitsLt_bf16_f32) shapeCasts_S200704x48_S784x4x64x48) c3))
    (term (soft (keep51 (scores q k T))) (shapeCast _ (extf .f32 v bitsLt_bf16_f32) shapeCasts_S200704x48_S784x4x64x48) c4))

/-- An entry of a head's output over real scores, values and coefficients: the values weighted by the combined weights. -/
theorem sum_real (α β : Fin 64 → ℝ) (c1 c2 c3 c4 : ℝ) :
    (∑ j, ((weight 32 α j / total 32 α : ℝ) : EReal) * (β j : EReal)) * (c1 : EReal) + (∑ j, ((weight 42 α j / total 42 α : ℝ) : EReal) * (β j : EReal)) * (c2 : EReal)
      + (∑ j, ((weight 48 α j / total 48 α : ℝ) : EReal) * (β j : EReal)) * (c3 : EReal) + (∑ j, ((weight 51 α j / total 51 α : ℝ) : EReal) * (β j : EReal)) * (c4 : EReal)
      = ∑ j, ((mix 32 42 48 51 c1 c2 c3 c4 α j : ℝ) : EReal) * (β j : EReal) := by
  simp only [← EReal.coe_mul, ← coe_sum, ← EReal.coe_add]
  rw [mix_sum]

theorem value_at (v : FVec Ideal S200704x48 .bf16) (w : Fin 784) (h : Fin 4) (i : Fin 64) (d : Fin 48) :
    (shapeCast S784x4x64x48 (extf .f32 v bitsLt_bf16_f32) shapeCasts_S200704x48_S784x4x64x48) (ix4 w h i d) = v (ix2 (row w h i) d) :=
  (split_at _ w h i d).trans rfl

/-- The reference's result over real scores, values and coefficients. -/
theorem result_real (q k : FVec Ideal S200704x48 .f32) (v : FVec Ideal S200704x48 .bf16) (T : FVec Ideal S4x1x1 .f32) (c1 c2 c3 c4 : FVec Ideal S1 .f32)
    (γ1 γ2 γ3 γ4 : ℝ) (h1 : c1 (ix1 0) = (γ1 : EReal)) (h2 : c2 (ix1 0) = (γ2 : EReal)) (h3 : c3 (ix1 0) = (γ3 : EReal)) (h4 : c4 (ix1 0) = (γ4 : EReal))
    (w : Fin 784) (h : Fin 4) (i : Fin 64) (d : Fin 48) (y : S100352x96.Idx) (hw : ((y 0 : ℕ) / 64 * 2 + (y 1 : ℕ) / 48) / 4 = (w : ℕ)) (hh : ((y 0 : ℕ) / 64 * 2 + (y 1 : ℕ) / 48) % 4 = (h : ℕ))
    (hi : (y 0 : ℕ) % 64 = (i : ℕ)) (hd : (y 1 : ℕ) % 48 = (d : ℕ)) (α : Fin 64 → ℝ) (hα : ∀ j, (∑ d, unit q (row w h i) d * unit k (row w h j) d) * T (ix3 h 0 0) = (α j : EReal))
    (β : Fin 64 → ℝ) (hβ : ∀ j, v (ix2 (row w h j) d) = (β j : EReal)) :
    result q k v T c1 c2 c3 c4 y = ∑ j, ((mix 32 42 48 51 γ1 γ2 γ3 γ4 α j : ℝ) : EReal) * (β j : EReal) := by
  have ha : ∀ j, scores q k T (ix4 w h i j) = (α j : EReal) := fun j => (scores_at q k T w h i j).trans (hα j)
  have e1 : ∀ p, (⟨((y 0 : ℕ) / 64 * 2 + (y 1 : ℕ) / 48) / 4, p⟩ : Fin 784) = w := fun _ => Fin.ext hw
  have e2 : ∀ p, (⟨((y 0 : ℕ) / 64 * 2 + (y 1 : ℕ) / 48) % 4, p⟩ : Fin 4) = h := fun _ => Fin.ext hh
  have e3 : ∀ p, (⟨(y 0 : ℕ) % 64, p⟩ : Fin 64) = i := fun _ => Fin.ext hi
  have e4 : ∀ p, (⟨(y 1 : ℕ) % 48, p⟩ : Fin 48) = d := fun _ => Fin.ext hd
  have t : ∀ (S : FVec Ideal S784x4x64x64 .f32) (c : FVec Ideal S1 .f32), term S (shapeCast _ (extf .f32 v bitsLt_bf16_f32) shapeCasts_S200704x48_S784x4x64x48) c (ix4 w h i d)
      = (∑ j, S (ix4 w h i j) * (β j : EReal)) * c (ix1 0) := fun S c => by
    rw [term_at]
    simp only [value_at, hβ]
  unfold result
  rw [pairs_at, e1, e2, e3, e4]
  refine Eq.trans (congrArg₂ (· + ·) (congrArg₂ (· + ·) (congrArg₂ (· + ·) (t _ c1) (t _ c2)) (t _ c3)) (t _ c4)) ?_
  simp only [soft32 _ w h i α ha, soft42 _ w h i α ha, soft48 _ w h i α ha, soft51 _ w h i α ha]
  rw [h1, h2, h3, h4]
  exact sum_real α β γ1 γ2 γ3 γ4

end Cert.SpatialRef

end
-- ==== Proof.Spatial.Value.lean ====
module

public import proofs.«01_k».proof.Proof.Spatial.Out
public import proofs.«01_k».proof.Proof.Spatial.Blocks
public import proofs.«01_k».proof.Proof.Spatial.Ref
public import Idealize.ShloMosaic.Lib.Pipeline.ValueKit

@[expose] public section

set_option maxRecDepth 16384

noncomputable section

namespace Cert.SpatialProof

open Idealize.ShloMosaic Idealize.ShloMosaic.TcCoe Idealize.SL.Sem
open Idealize.ShloMosaic.Pipeline (Dat)
open Cert.SpatialIdeal Cert.SpatialIdeal.Gen
open Cert.Select

variable (m : (ℓ : Loc nD τ sig) → Buf (Elt Ideal) ℓ)

/-- The small constant under the norms is a positive real. -/
theorem eps_real : ∃ ε : ℝ, 0 < ε ∧ Ideal.ofBits FTy.f32 0x2B8CBCCC#32 = (ε : EReal) := by
  refine ⟨9223372 * 2 ^ (-63 : ℤ), by positivity, ?_⟩
  simp [Ideal.ofBits, Ideal.ieee]

/-- The unit rows are real, whatever the array. -/
theorem units_real (x : FVec Ideal S200704x48 .f32) : ∃ U : Fin 200704 → Fin 48 → ℝ, ∀ R d, Cert.SpatialRef.unit x R d = (U R d : EReal) := by
  obtain ⟨ε, hε, he⟩ := eps_real
  have h : ∀ R : Fin 200704, ∃ r : Fin 48 → ℝ, ∀ d, Cert.SpatialRef.unit x R d = (r d : EReal) := fun R => by
    unfold Cert.SpatialRef.unit
    rw [he]
    exact unit_real (fun d => x (ix2 R d)) ε hε
  choose U hU using h
  exact ⟨U, hU⟩

theorem unit_q_at (c : Dev nD) (t : Fin cfg0.N) (R : Fin 1024) (d : Fin 48) :
    unit (iblk m c 2 t) R d = Cert.SpatialRef.unit (m ((c : Thread nD τ).loc main_arg0)) (⟨(t : ℕ) * 1024 + (R : ℕ), by have := steps t; omega⟩ : Fin 200704) d := by
  unfold unit Cert.SpatialRef.unit
  simp only [q_at]

theorem unit_k_at (c : Dev nD) (t : Fin cfg0.N) (R : Fin 1024) (d : Fin 48) :
    unit (iblk m c 3 t) R d = Cert.SpatialRef.unit (m ((c : Thread nD τ).loc main_arg1)) (⟨(t : ℕ) * 1024 + (R : ℕ), by have := steps t; omega⟩ : Fin 200704) d := by
  unfold unit Cert.SpatialRef.unit
  simp only [k_at]

theorem emb_row (t : Fin cfg0.N) (y : S512x96.Idx) : (((cfg0.win 5).blk t).view.emb y 0 : ℕ) = (t : ℕ) * 512 + (y 0 : ℕ) := by
  blk_simp [idx t]

theorem emb_col (t : Fin cfg0.N) (y : S512x96.Idx) : (((cfg0.win 5).blk t).view.emb y 1 : ℕ) = (y 1 : ℕ) := by
  blk_simp [idx t]

/-- An entry whose absolute value lies below infinity is real. -/
theorem real_at {S : Shape} (x b : FVec Ideal S .f32) (hb : ∀ i, b i = (⊤ : EReal)) (h : cmpf .olt (Host.absf x) b = fun _ => 1#1) (i : S.Idx) : ∃ r : ℝ, x i = (r : EReal) := by
  have e := congrFun h i
  change BitVec.ofBool (decide (max (x i : EReal) (-(x i : EReal)) < b i)) = 1#1 at e
  rw [hb] at e
  refine real_of_finite (x := x i) ?_
  by_contra hn
  rw [decide_eq_false hn] at e
  exact absurd e (by decide)

theorem inf_word : Ideal.ofBits FTy.f32 0x7F800000#32 = (⊤ : EReal) := by
  simp [Ideal.ofBits, Ideal.ieee]

/-- With real temperatures, coefficients and values, what the body leaves at position `y` of block `t` is the reference's entry where `y` sits. -/
theorem point (c : Dev nD) (t : Fin cfg0.N) (y : S512x96.Idx)
    (hT : ∀ h : Fin 4, ∃ r : ℝ, m ((c : Thread nD τ).loc main_arg3) (ix3 h (0 : Fin 1) (0 : Fin 1)) = (r : EReal))
    (h1 : ∃ r : ℝ, m ((c : Thread nD τ).loc main_arg4) (ix1 0) = (r : EReal)) (h2 : ∃ r : ℝ, m ((c : Thread nD τ).loc main_arg5) (ix1 0) = (r : EReal))
    (h3 : ∃ r : ℝ, m ((c : Thread nD τ).loc main_arg6) (ix1 0) = (r : EReal)) (h4 : ∃ r : ℝ, m ((c : Thread nD τ).loc main_arg7) (ix1 0) = (r : EReal))
    (hv : ∀ R d, ∃ r : ℝ, m ((c : Thread nD τ).loc main_arg2) (ix2 R d) = (r : EReal)) :
    outsAt0 m c t y = Cert.SpatialRef.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (((cfg0.win 5).blk t).view.emb y) := by
  choose T hT using hT
  obtain ⟨γ1, h1⟩ := h1
  obtain ⟨γ2, h2⟩ := h2
  obtain ⟨γ3, h3⟩ := h3
  obtain ⟨γ4, h4⟩ := h4
  choose W hW using hv
  obtain ⟨Q, hQ⟩ := units_real (m ((c : Thread nD τ).loc main_arg0))
  obtain ⟨K, hK⟩ := units_real (m ((c : Thread nD τ).loc main_arg1))
  have ht := steps t
  have hr : (y 0 : ℕ) < 512 := (y 0).isLt
  have hl : (y 1 : ℕ) < 96 := (y 1).isLt
  set r : Fin 512 := y 0 with hrdef
  obtain ⟨A, hA'⟩ : ∃ A : Fin 128 → ℝ, ∀ l : Fin 128, A l = (∑ d : Fin 48, Q ⟨(t : ℕ) * 1024 + ((r : ℕ) / 64 * 128 + (l : ℕ) / 64 * 64 + (r : ℕ) % 64), by omega⟩ d
      * K ⟨(t : ℕ) * 1024 + ((r : ℕ) / 64 * 128 + (l : ℕ)), by omega⟩ d) * T ⟨((r : ℕ) / 64 * 2 + (l : ℕ) / 64) % 4, by omega⟩ := ⟨fun l => _, fun l => rfl⟩
  have hA : ∀ l, att (iblk m c 1 t) (iblk m c 2 t) (iblk m c 3 t) (ix2 r l) = (A l : EReal) := fun l => by
    rw [att_at, tm_at, hT, hA', ← score_real]
    refine congrArg (· * _) (Finset.sum_congr rfl fun d _ => ?_)
    rw [unit_q_at, unit_k_at, hQ, hK]
  rw [block_eq, c1_at, c2_at, c3_at, c4_at, h1, h2, h3, h4]
  have e0 := emb_row t y
  have e1 := emb_col t y
  generalize ((cfg0.win 5).blk t).view.emb y = z at e0 e1
  have hg : 16 * (t : ℕ) + 2 * ((r : ℕ) / 64) + (y 1 : ℕ) / 48 < 3136 := by omega
  refine Eq.trans ?_ (Cert.SpatialRef.result_real _ _ _ _ _ _ _ _ γ1 γ2 γ3 γ4 h1 h2 h3 h4
    ⟨(16 * (t : ℕ) + 2 * ((r : ℕ) / 64) + (y 1 : ℕ) / 48) / 4, by omega⟩ ⟨(16 * (t : ℕ) + 2 * ((r : ℕ) / 64) + (y 1 : ℕ) / 48) % 4, by omega⟩
    ⟨(r : ℕ) % 64, by omega⟩ ⟨(y 1 : ℕ) % 48, by omega⟩ z (by rw [e0, e1]; dsimp only; omega) (by rw [e0, e1]; dsimp only; omega) (by rw [e0]; dsimp only; omega) (by rw [e1])
    (fun j => A ⟨(y 1 : ℕ) / 48 * 64 + (j : ℕ), by omega⟩) (fun j => ?_)
    (fun j => W ⟨(t : ℕ) * 1024 + ((r : ℕ) / 64 * 128 + (y 1 : ℕ) / 48 * 64 + (j : ℕ)), by omega⟩ ⟨(y 1 : ℕ) % 48, by omega⟩) (fun j => ?_)).symm
  · unfold spread
    refine Finset.sum_congr rfl fun x _ => Ideal.mul_congr ?_ ?_
    · refine (pm_eq _ r A hA γ1 γ2 γ3 γ4 _).trans ?_
      have s : side A ⟨(y 1 : ℕ) / 48 * 64 + (x : ℕ), by omega⟩ = fun j : Fin 64 => A ⟨(y 1 : ℕ) / 48 * 64 + (j : ℕ), by omega⟩ := by
        funext j
        unfold side
        exact congrArg A (Fin.ext (by dsimp only; omega))
      have l : low ⟨(y 1 : ℕ) / 48 * 64 + (x : ℕ), by omega⟩ = x := by
        unfold low
        exact Fin.ext (by dsimp only; omega)
      rw [s, l]
    · rw [v_at]
      exact hW _ _
  · rw [hA', ← score_real, hT]
    have eh : (⟨(16 * (t : ℕ) + 2 * ((r : ℕ) / 64) + (y 1 : ℕ) / 48) % 4, by omega⟩ : Fin 4) = ⟨((r : ℕ) / 64 * 2 + ((y 1 : ℕ) / 48 * 64 + (j : ℕ)) / 64) % 4, by omega⟩ := Fin.ext (by dsimp only; omega)
    rw [eh]
    refine congrArg (· * _) (Finset.sum_congr rfl fun d _ => ?_)
    rw [hQ, hK]
    unfold Cert.SpatialRef.row
    refine Ideal.mul_congr (congrArg (fun R => ((Q R d : ℝ) : EReal)) (Fin.ext ?_)) (congrArg (fun R => ((K R d : ℝ) : EReal)) (Fin.ext ?_)) <;> dsimp only <;> omega
  · rw [hW]
    unfold Cert.SpatialRef.row
    refine congrArg (fun R => ((W R _ : ℝ) : EReal)) (Fin.ext ?_)
    dsimp only
    omega

/-- The array the kernel leaves is the reference's. -/
theorem final (c : Dev nD) (hT : ∀ h : Fin 4, ∃ r : ℝ, m ((c : Thread nD τ).loc main_arg3) (ix3 h (0 : Fin 1) (0 : Fin 1)) = (r : EReal))
    (h1 : ∃ r : ℝ, m ((c : Thread nD τ).loc main_arg4) (ix1 0) = (r : EReal)) (h2 : ∃ r : ℝ, m ((c : Thread nD τ).loc main_arg5) (ix1 0) = (r : EReal))
    (h3 : ∃ r : ℝ, m ((c : Thread nD τ).loc main_arg6) (ix1 0) = (r : EReal)) (h4 : ∃ r : ℝ, m ((c : Thread nD τ).loc main_arg7) (ix1 0) = (r : EReal))
    (hv : ∀ R d, ∃ r : ℝ, m ((c : Thread nD τ).loc main_arg2) (ix2 R d) = (r : EReal)) :
    (dats m 0 c).arrAt 5 (cfgs 0).N = Cert.SpatialRef.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) := by
  refine (dats m 0 c).arrAt_eq_of_covers 5 _ (by decide +kernel) fun t _ y => ?_
  blk_simp
  rw [after0_5]
  exact point m c t y hT h1 h2 h3 h4 hv

end Cert.SpatialProof

end
-- ==== Proof.Spatial.Claims.lean ====
module

public import proofs.«01_k».proof.Defs
public import proofs.«01_k».proof.Proof.Gen.Spatial.Frame
public import proofs.«01_k».proof.Proof.Gen.SpatialIdeal.Frame
public import proofs.«01_k».proof.Proof.Gen.SpatialRefIdeal.Run
public import proofs.«01_k».proof.Proof.Spatial.Value
public import Idealize.ShloMosaic.Lib.Claim
public import Idealize.ShloMosaic.Adequacy
public import Idealize.ShloMosaic.Init

@[expose] public section

set_option maxRecDepth 16384

noncomputable section

namespace Cert.SpatialProof

open Idealize.ShloMosaic Idealize.SL.Sem

/-- The precondition's program is well formed. -/
theorem pre_facts : Cert.Pre_finite3.Facts := ⟨by decide, by decide, by decide, by decide⟩

theorem ref_frame : Cert.quiescent_SpatialRefIdeal (hSpatialRefIdeal := Cert.SpatialRefIdeal.Gen.facts) := by
  intro m g _
  refine (θ_run Cert.SpatialRefIdeal.defs _ _).mono (fun r h => ⟨fun c => (h c).2, sem_eq_zero_of_no_sems (by decide) r.2⟩)
    (Cert.SpatialRefIdeal.Value.run (F := Ideal) m g)

section
open Cert.SpatialRefIdeal Cert.SpatialRefIdeal.Gen Cert.SpatialRefIdeal.Value Cert.SpatialRef
variable (V0 : Valuation τ sig (Elt Ideal))
theorem e24 : res_main_v24 V0 = scores (V0 (Proc.devRef .tc main_arg0)) (V0 (Proc.devRef .tc main_arg1)) (V0 (Proc.devRef .tc main_arg3)) := rfl
theorem e49 : res_main_v49 V0 = keep32 (res_main_v24 V0) := rfl
theorem e85 : res_main_v85 V0 = keep42 (res_main_v24 V0) := rfl
theorem e121 : res_main_v121 V0 = keep48 (res_main_v24 V0) := rfl
theorem e157 : res_main_v157 V0 = keep51 (res_main_v24 V0) := rfl
theorem e56 : res_main_v56 V0 = exps (res_main_v49 V0) := rfl
theorem e92 : res_main_v92 V0 = exps (res_main_v85 V0) := rfl
theorem e128 : res_main_v128 V0 = exps (res_main_v121 V0) := rfl
theorem e164 : res_main_v164 V0 = exps (res_main_v157 V0) := rfl

/-- What the reference ends with. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v190) = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ⟨(h c).1.trans ?_, (h c).2⟩) (Cert.SpatialRefIdeal.Value.run (F := Ideal) m ρ)
  rw [e56, e92, e128, e164, e49, e85, e121, e157, e24]
  rfl
end

/-- The precondition says the values, temperatures and coefficients are real. -/
theorem pre_real (m : (ℓ : Loc Cert.SpatialIdeal.nD Cert.SpatialIdeal.τ Cert.SpatialIdeal.sig) → Buf (Elt Ideal) ℓ)
    (h : Cert.Pre_SpatialIdeal_finite3 (hPre_finite3 := pre_facts) m) (c : Dev Cert.SpatialIdeal.nD) :
    (∀ i : Fin 4, ∃ r : ℝ, m ((c.tc : Thread Cert.SpatialIdeal.nD Cert.SpatialIdeal.τ).loc Cert.SpatialIdeal.main_arg3) (ix3 i (0 : Fin 1) (0 : Fin 1)) = (r : EReal))
    ∧ (∃ r : ℝ, m ((c.tc : Thread Cert.SpatialIdeal.nD Cert.SpatialIdeal.τ).loc Cert.SpatialIdeal.main_arg4) (ix1 0) = (r : EReal))
    ∧ (∃ r : ℝ, m ((c.tc : Thread Cert.SpatialIdeal.nD Cert.SpatialIdeal.τ).loc Cert.SpatialIdeal.main_arg5) (ix1 0) = (r : EReal))
    ∧ (∃ r : ℝ, m ((c.tc : Thread Cert.SpatialIdeal.nD Cert.SpatialIdeal.τ).loc Cert.SpatialIdeal.main_arg6) (ix1 0) = (r : EReal))
    ∧ (∃ r : ℝ, m ((c.tc : Thread Cert.SpatialIdeal.nD Cert.SpatialIdeal.τ).loc Cert.SpatialIdeal.main_arg7) (ix1 0) = (r : EReal))
    ∧ (∀ (R : Fin 200704) (d : Fin 48), ∃ r : ℝ, m ((c.tc : Thread Cert.SpatialIdeal.nD Cert.SpatialIdeal.τ).loc Cert.SpatialIdeal.main_arg2) (ix2 R d) = (r : EReal)) := by
  obtain ⟨h0, h1, h2, h3, h4, h5⟩ := h c
  exact ⟨fun i => real_at _ _ (fun _ => inf_word) h1 _, real_at _ _ (fun _ => inf_word) h2 _, real_at _ _ (fun _ => inf_word) h3 _,
    real_at _ _ (fun _ => inf_word) h4 _, real_at _ _ (fun _ => inf_word) h5 _,
    fun R d => real_at (extf .f32 (m ((c.tc : Thread Cert.SpatialIdeal.nD Cert.SpatialIdeal.τ).loc Cert.SpatialIdeal.main_arg2)) (by decide)) _ (fun _ => inf_word) h0 (ix2 R d)⟩

set_option maxHeartbeats 2000000 in
theorem algebraic : Cert.algebraic_SpatialIdeal_SpatialRefIdeal_pre_finite3
    (hSpatialIdeal := Cert.SpatialIdeal.Gen.facts) (hSpatialRefIdeal := Cert.SpatialRefIdeal.Gen.facts) (hPre_finite3 := pre_facts) := by
  pair_intro
  · run_from Cert.SpatialIdeal.Gen.run_main m g & Cert.SpatialIdeal.Gen.unchanged m g
  · run_from ref_run m' g'
    obtain ⟨hT, h1, h2, h3, h4, hv⟩ := pre_real m hpre c
    exact (final m c hT h1 h2 h3 h4 hv).symm

end Cert.SpatialProof

end
-- ==== Proof.Channel.Acc.lean ====
module

public import proofs.«01_k».proof.Proof.Gen.ChannelIdeal.Frame
public import proofs.«01_k».proof.Proof.Select.Real
public import Idealize.ShloMosaic.Lib.Pipeline.ValueKit
public import Idealize.ShloMosaic.Lib.Pipeline.ReadBack

@[expose] public section

set_option maxRecDepth 16384

noncomputable section

namespace Cert.ChannelProof

open Idealize.ShloMosaic Idealize.ShloMosaic.TcCoe Idealize.SL.Sem
open Idealize.ShloMosaic.Pipeline (Dat)
open Cert.ChannelIdeal Cert.ChannelIdeal.Gen

variable (m : (ℓ : Loc nD τ sig) → Buf (Elt Ideal) ℓ)

theorem ix2_ext {n k : ℕ} (a a' : Fin n) (b b' : Fin k) (h : (a : ℕ) = a') (h' : (b : ℕ) = b') : ix2 a b = ix2 a' b' := by
  rw [Fin.ext h, Fin.ext h']

/-- The products of two rows of one head over one block of columns. -/
def inc (A B : FVec Ideal S192x3584 .bf16) (y : S192x48.Idx) : EReal :=
  ∑ p : Fin 3584, A (ix2 (y 0) p) * B (ix2 ⟨(y 0 : ℕ) / 48 * 48 + (y 1 : ℕ), by have h : (y 0 : ℕ) < 192 := (y 0).isLt; have h' : (y 1 : ℕ) < 48 := (y 1).isLt; omega⟩ p)

/-- The running products after one more block of columns. -/
def acc (X : FVec Ideal S192x48 .f32) (A B : FVec Ideal S192x3584 .bf16) : FVec Ideal S192x48 .f32 := fun y => X y + inc A B y

/-- A head's own rows of a table. -/
abbrev tile (X : FVec Ideal S192x48 .f32) (off : Fin 2 → ℕ) (h : ∀ a, off a + S48x48.size a ≤ S192x48.size a) : FVec Ideal S48x48 .f32 :=
  View.ld (Val := Elt Ideal) (S := S192x48) (e' := .f32) X (Rect.unit (s := S192x48) off S48x48.size h)

/-- A head's own rows, entry by entry. -/
theorem tile_at (X : FVec Ideal S192x48 .f32) (o : ℕ) (h : ∀ a, (![o, 0] : Fin 2 → ℕ) a + S48x48.size a ≤ S192x48.size a) (x : S48x48.Idx) :
    tile X ![o, 0] h x = X (ix2 ⟨o + (x 0 : ℕ), by have h' : o + 48 ≤ 192 := h 0; have h'' : (x 0 : ℕ) < 48 := (x 0).isLt; omega⟩ (x 1)) := by
  refine congrArg X (funext fun d => Fin.ext ?_)
  fin_cases d
  · show o + 1 * (x 0 : ℕ) = o + (x 0 : ℕ)
    omega
  · show 0 + 1 * (x 1 : ℕ) = (x 1 : ℕ)
    omega

/-- The block of products from row 0 on, with the running ones added. -/
theorem tile_0 (s s' : FVec Ideal S192x1 .f32) (q k : FVec Ideal S192x3584 .f32) (X : FVec Ideal S192x48 .f32) :
    k0_pay69 (F := Ideal) s s' q k (tile X ![0, 0] inb_S192x48_S48x48_0_0) = tile (acc X (k0_pay67 (F := Ideal) s q) (k0_pay68 (F := Ideal) s' k)) ![0, 0] inb_S192x48_S48x48_0_0 := by
  unfold k0_pay69
  generalize k0_pay67 (F := Ideal) s q = A
  generalize k0_pay68 (F := Ideal) s' k = B
  funext x
  pointwise []
  rw [tile_at, tile_at]
  unfold acc inc
  have h0 : (x 0 : ℕ) < 48 := (x 0).isLt
  refine congrArg₂ (· + ·) rfl (Finset.sum_congr rfl fun p _ => Ideal.mul_congr (congrArg A (ix2_ext _ _ _ _ ?_ rfl)) (congrArg B (ix2_ext _ _ _ _ ?_ rfl)))
  · show (x 0 : ℕ) = 0 + (x 0 : ℕ)
    omega
  · show (x 1 : ℕ) = (0 + (x 0 : ℕ)) / 48 * 48 + (x 1 : ℕ)
    omega

/-- The block of products from row 48 on, with the running ones added. -/
theorem tile_48 (s s' : FVec Ideal S192x1 .f32) (q k : FVec Ideal S192x3584 .f32) (X : FVec Ideal S192x48 .f32) :
    k0_pay70 (F := Ideal) s s' q k (tile X ![48, 0] inb_S192x48_S48x48_48_0) = tile (acc X (k0_pay67 (F := Ideal) s q) (k0_pay68 (F := Ideal) s' k)) ![48, 0] inb_S192x48_S48x48_48_0 := by
  unfold k0_pay70
  generalize k0_pay67 (F := Ideal) s q = A
  generalize k0_pay68 (F := Ideal) s' k = B
  funext x
  pointwise []
  rw [tile_at, tile_at]
  unfold acc inc
  have h0 : (x 0 : ℕ) < 48 := (x 0).isLt
  refine congrArg₂ (· + ·) rfl (Finset.sum_congr rfl fun p _ => Ideal.mul_congr (congrArg A (ix2_ext _ _ _ _ ?_ rfl)) (congrArg B (ix2_ext _ _ _ _ ?_ rfl)))
  · show 48 + (x 0 : ℕ) = 48 + (x 0 : ℕ)
    omega
  · show 48 + (x 1 : ℕ) = (48 + (x 0 : ℕ)) / 48 * 48 + (x 1 : ℕ)
    omega

/-- The block of products from row 96 on, with the running ones added. -/
theorem tile_96 (s s' : FVec Ideal S192x1 .f32) (q k : FVec Ideal S192x3584 .f32) (X : FVec Ideal S192x48 .f32) :
    k0_pay1 (F := Ideal) (k0_pay67 (F := Ideal) s q) (k0_pay68 (F := Ideal) s' k) (tile X ![96, 0] inb_S192x48_S48x48_96_0) = tile (acc X (k0_pay67 (F := Ideal) s q) (k0_pay68 (F := Ideal) s' k)) ![96, 0] inb_S192x48_S48x48_96_0 := by
  unfold k0_pay1
  generalize k0_pay67 (F := Ideal) s q = A
  generalize k0_pay68 (F := Ideal) s' k = B
  funext x
  pointwise []
  rw [tile_at, tile_at]
  unfold acc inc
  have h0 : (x 0 : ℕ) < 48 := (x 0).isLt
  refine congrArg₂ (· + ·) rfl (Finset.sum_congr rfl fun p _ => Ideal.mul_congr (congrArg A (ix2_ext _ _ _ _ ?_ rfl)) (congrArg B (ix2_ext _ _ _ _ ?_ rfl)))
  · show 96 + (x 0 : ℕ) = 96 + (x 0 : ℕ)
    omega
  · show 96 + (x 1 : ℕ) = (96 + (x 0 : ℕ)) / 48 * 48 + (x 1 : ℕ)
    omega

/-- The block of products from row 144 on, with the running ones added. -/
theorem tile_144 (s s' : FVec Ideal S192x1 .f32) (q k : FVec Ideal S192x3584 .f32) (X : FVec Ideal S192x48 .f32) :
    k0_pay2 (F := Ideal) (k0_pay67 (F := Ideal) s q) (k0_pay68 (F := Ideal) s' k) (tile X ![144, 0] inb_S192x48_S48x48_144_0) = tile (acc X (k0_pay67 (F := Ideal) s q) (k0_pay68 (F := Ideal) s' k)) ![144, 0] inb_S192x48_S48x48_144_0 := by
  unfold k0_pay2
  generalize k0_pay67 (F := Ideal) s q = A
  generalize k0_pay68 (F := Ideal) s' k = B
  funext x
  pointwise []
  rw [tile_at, tile_at]
  unfold acc inc
  have h0 : (x 0 : ℕ) < 48 := (x 0).isLt
  refine congrArg₂ (· + ·) rfl (Finset.sum_congr rfl fun p _ => Ideal.mul_congr (congrArg A (ix2_ext _ _ _ _ ?_ rfl)) (congrArg B (ix2_ext _ _ _ _ ?_ rfl)))
  · show 144 + (x 0 : ℕ) = 144 + (x 0 : ℕ)
    omega
  · show 144 + (x 1 : ℕ) = (144 + (x 0 : ℕ)) / 48 * 48 + (x 1 : ℕ)
    omega

theorem in_tile (y : S192x48.Idx) (o : ℕ) (h : ∀ a, (![o, 0] : Fin 2 → ℕ) a + S48x48.size a ≤ S192x48.size a) (h' : o ≤ (y 0 : ℕ) ∧ (y 0 : ℕ) < o + 48) :
    y ∈ (Rect.unit (s := S192x48) ![o, 0] S48x48.size h).set :=
  Rect.mem_set_unit.mpr (Fin.forall_fin_two.mpr ⟨h', Nat.zero_le _, by have h1 : (y 1 : ℕ) < 48 := (y 1).isLt; show (y 1 : ℕ) < 0 + 48; omega⟩)

/-- The four blocks of products make the table, whatever was stored before. -/
theorem tiles_eq (s s' : FVec Ideal S192x1 .f32) (q k : FVec Ideal S192x3584 .f32) (X : FVec Ideal S192x48 .f32) (L : List (View.Piece (Elt Ideal) S192x48 .f32)) (y : S192x48.Idx) :
    (View.canon (Val := Elt Ideal) (s := S192x48) (e := .f32) ([⟨Rect.unit (s := S192x48) ![144, 0] S48x48.size inb_S192x48_S48x48_144_0, k0_pay2 (F := Ideal) (k0_pay67 (F := Ideal) s q) (k0_pay68 (F := Ideal) s' k) (tile X ![144, 0] inb_S192x48_S48x48_144_0)⟩,
        ⟨Rect.unit (s := S192x48) ![96, 0] S48x48.size inb_S192x48_S48x48_96_0, k0_pay1 (F := Ideal) (k0_pay67 (F := Ideal) s q) (k0_pay68 (F := Ideal) s' k) (tile X ![96, 0] inb_S192x48_S48x48_96_0)⟩,
        ⟨Rect.unit (s := S192x48) ![48, 0] S48x48.size inb_S192x48_S48x48_48_0, k0_pay70 (F := Ideal) s s' q k (tile X ![48, 0] inb_S192x48_S48x48_48_0)⟩,
        ⟨Rect.unit (s := S192x48) ![0, 0] S48x48.size inb_S192x48_S48x48_0_0, k0_pay69 (F := Ideal) s s' q k (tile X ![0, 0] inb_S192x48_S48x48_0_0)⟩] ++ L) y : EReal)
      = acc X (k0_pay67 (F := Ideal) s q) (k0_pay68 (F := Ideal) s' k) y := by
  rw [tile_0, tile_48, tile_96, tile_144]
  generalize acc X _ _ = Y
  refine View.canon_append_of_piecesOf (Val := Elt Ideal) (e := .f32) Y L _ ?_ y ?_
  · exact ⟨fun _ => rfl, fun _ => rfl, fun _ => rfl, fun _ => rfl, trivial⟩
  have h0 : (y 0 : ℕ) < 192 := (y 0).isLt
  by_cases h1 : (y 0 : ℕ) < 48
  · exact ⟨_, .tail _ (.tail _ (.tail _ (.head _))), in_tile y 0 inb_S192x48_S48x48_0_0 (by omega)⟩
  by_cases h2 : (y 0 : ℕ) < 96
  · exact ⟨_, .tail _ (.tail _ (.head _)), in_tile y 48 inb_S192x48_S48x48_48_0 (by omega)⟩
  by_cases h3 : (y 0 : ℕ) < 144
  · exact ⟨_, .tail _ (.head _), in_tile y 96 inb_S192x48_S48x48_96_0 (by omega)⟩
  · exact ⟨_, .head _, in_tile y 144 inb_S192x48_S48x48_144_0 (by omega)⟩

/-- The first block of columns. -/
theorem accA (c : Dev nD) (t : Fin cfg0.N) (h0 : t.val % 14 = 0) (h1 : ¬t.val % 14 = 13) (y : S192x48.Idx) :
    ((outsAt0 m c t.val t.isLt).2 y : EReal) = acc (k0_pay66 (F := Ideal)) (k0_pay67 (F := Ideal) (iblk m c 1 t) (iblk m c 3 t)) (k0_pay68 (F := Ideal) (iblk m c 2 t) (iblk m c 4 t)) y := by
  rw [outsAt0_A m c t h0 h1]
  frame_open
  simp (disch := decide) only [↓View.readCov_skip, ↓View.readCov_fill]
  frame_out
  exact tiles_eq _ _ _ _ _ [_] y

/-- A middle block of columns. -/
theorem accB (c : Dev nD) (t : Fin cfg0.N) (h0 : ¬t.val % 14 = 0) (h1 : ¬t.val % 14 = 13) (y : S192x48.Idx) :
    ((outsAt0 m c t.val t.isLt).2 y : EReal) = acc (outsAt0 m c (t.val - 1) (Nat.lt_of_le_of_lt (Nat.sub_le _ _) t.isLt)).2
      (k0_pay67 (F := Ideal) (iblk m c 1 t) (iblk m c 3 t)) (k0_pay68 (F := Ideal) (iblk m c 2 t) (iblk m c 4 t)) y := by
  rw [outsAt0_B m c t h0 h1]
  frame_open
  simp (disch := decide) only [↓View.readCov_skip]
  frame_out
  simp only [read_unread_whole]
  exact tiles_eq _ _ _ _ _ [] y

end Cert.ChannelProof

end
-- ==== Proof.Channel.Rank.lean ====
module

public import proofs.«01_k».proof.Proof.Gen.ChannelIdeal.Frame
public import proofs.«01_k».proof.Proof.Select.Real
public import Idealize.ShloMosaic.Lib.Pipeline.ValueKit

@[expose] public section

set_option maxRecDepth 16384

noncomputable section

namespace Cert.ChannelProof

open Idealize.ShloMosaic Idealize.ShloMosaic.TcCoe Idealize.SL.Sem
open Idealize.ShloMosaic.Pipeline (Dat)
open Cert.ChannelIdeal Cert.ChannelIdeal.Gen
open Cert.Select

/-- The lane numbers of a row. -/
abbrev lane : IVec S192x64 32 := iota Kind.tc S192x64 32 [1] iota_S192x64_d1_w32

/-- The row of scores that position `y` lies in. -/
def part (a : FVec Ideal S192x64 .f32) (y : S192x64.Idx) : Fin 64 → EReal := fun i => a (ix2 (y 0) i)

/-- The lane of position `y`. -/
def spot (y : S192x64.Idx) : Fin 64 := y 1

/-- The comparisons of each score with the first `n` rotations of its row, summed. -/
def rk (a : FVec Ideal S192x64 .f32) (n : ℕ) : FVec Ideal S192x64 .f32 :=
  fun y => ∑ s ∈ Finset.range n, turn (part a y) (spot y) (s + 1)

theorem rk_succ (a : FVec Ideal S192x64 .f32) (n : ℕ) (y : S192x64.Idx) :
    rk a (n + 1) y = rk a n y + turn (part a y) (spot y) (n + 1) := Finset.sum_range_succ _ _

theorem rk_zero (a : FVec Ideal S192x64 .f32) (y : S192x64.Idx) : rk a 0 y = 0 := rfl

/-- All 63 comparisons count the scores of the row that stand before this one. -/
theorem rk_last (a : FVec Ideal S192x64 .f32) (y : S192x64.Idx) : rk a 63 y = ((place (part a y) (spot y) : ℝ) : EReal) :=
  sum_turn _ _

/-- The word of a disjunction with a conjunction, read as a choice. -/
theorem pick (p q r : Prop) {dp : Decidable p} {dq : Decidable q} {dr : Decidable r} {d : Decidable (p ∨ (q ∧ r))} :
    Scalar.select (IntOp.ori (BitVec.ofBool (@decide p dp)) (IntOp.andi (BitVec.ofBool (@decide q dq)) (if r then 1#1 else 0#1))) (1 : EReal) 0
      = @ite _ (p ∨ (q ∧ r)) d 1 0 := by
  have h1 : Scalar.select (1#1) (1 : EReal) 0 = 1 := rfl
  have h0 : Scalar.select (0#1) (1 : EReal) 0 = 0 := rfl
  by_cases hp : p <;> by_cases hq : q <;> by_cases hr : r <;> simp only [hp, hq, hr, decide_true, decide_false, if_true, if_false, true_or, false_or, or_false, or_true, and_true, true_and, and_false, false_and, and_self, or_self]
  all_goals first | exact h1 | exact h0

/-- Comparing a lane's number with `64 - s`. -/
theorem lane_word (l s : ℕ) (hl : l < 64) (h1 : 1 ≤ s) (h2 : s < 64) :
    IntOp.cmpi CmpIPredicate.sge (BitVec.ofNat 32 l) (BitVec.ofNat 32 (64 - s)) = if 64 - s ≤ l then 1#1 else 0#1 := by
  have key : ∀ l : Fin 64, ∀ s : Fin 64, 1 ≤ s.val →
      IntOp.cmpi CmpIPredicate.sge (BitVec.ofNat 32 l.val) (BitVec.ofNat 32 (64 - s.val)) = if 64 - s.val ≤ l.val then 1#1 else 0#1 := by decide +kernel
  exact key ⟨l, hl⟩ ⟨s, h2⟩ h1

/-- One comparison of the kernel: the row rotated by `s` places, against the row itself. -/
theorem step_eq (a : FVec Ideal S192x64 .f32) (y : S192x64.Idx) (s : ℕ) (h1 : 1 ≤ s) (h2 : s < 64)
    (L : EReal) {d1 : Decidable (a y < L)} {d2 : Decidable (L = a y)}
    (hL : L = a (ix2 (y 0) ⟨((y 1 : ℕ) + s) % 64, Nat.mod_lt _ (by decide)⟩)) :
    Scalar.select (IntOp.ori (BitVec.ofBool (@decide (a y < L) d1)) (IntOp.andi (BitVec.ofBool (@decide (L = a y) d2))
      (IntOp.cmpi CmpIPredicate.sge (BitVec.ofNat 32 (y 1 : ℕ)) (BitVec.ofNat 32 (64 - s))))) (1 : EReal) 0 = turn (part a y) (spot y) s := by
  have hb : (y 1 : ℕ) < 64 := (y 1).isLt
  have e : spot y + Fin.ofNat 64 s = ⟨((y 1 : ℕ) + s) % 64, Nat.mod_lt _ (by decide)⟩ := by
    apply Fin.ext
    rw [Fin.val_add]
    show ((y 1 : ℕ) + s % 64) % 64 = _
    rw [Nat.mod_eq_of_lt h2]
  have e1 : part a y (spot y) = a y := congrArg a (ValueIdx.eq_ix2 y).symm
  have e2 : part a y ⟨((y 1 : ℕ) + s) % 64, Nat.mod_lt _ (by decide)⟩ = L := hL.symm
  rw [lane_word _ s hb h1 h2, pick]
  unfold turn
  rw [e]
  have hlt : (⟨((y 1 : ℕ) + s) % 64, Nat.mod_lt _ (by decide)⟩ : Fin 64) < spot y ↔ 64 - s ≤ (y 1 : ℕ) := by
    show ((y 1 : ℕ) + s) % 64 < (y 1 : ℕ) ↔ 64 - s ≤ (y 1 : ℕ)
    omega
  have hA : Ahead (part a y) ⟨((y 1 : ℕ) + s) % 64, Nat.mod_lt _ (by decide)⟩ (spot y) ↔ (a y < L ∨ (L = a y ∧ 64 - s ≤ (y 1 : ℕ))) := by
    unfold Ahead
    rw [e1, e2, hlt]
  exact if_congr hA.symm rfl rfl

/-- The row rotated by `s` places, as the kernel joins it from two slices. -/
theorem ladder (a : FVec Ideal S192x64 .f32) (y : S192x64.Idx) (s : ℕ) (h1 : 1 ≤ s) (h2 : s < 64)
    (p1 : (y 1 : ℕ) < 64 - s → s + (y 1 : ℕ) < 64) (p2 : ¬ (y 1 : ℕ) < 64 - s → (y 1 : ℕ) - (64 - s) < 64) :
    (if h : (y 1 : ℕ) < 64 - s then a (ix2 (y 0) ⟨s + (y 1 : ℕ), p1 h⟩) else a (ix2 (y 0) ⟨(y 1 : ℕ) - (64 - s), p2 h⟩))
    = a (ix2 (y 0) ⟨((y 1 : ℕ) + s) % 64, Nat.mod_lt _ (by decide)⟩) := by
  have h : (y 1 : ℕ) < 64 := (y 1).isLt
  split_ifs <;> refine congrArg (fun l => a (ix2 (y 0) l)) (Fin.ext ?_) <;> dsimp only <;> omega

/-- The first comparison. -/
theorem first_eq (a : FVec Ideal S192x64 .f32) :
    addf (F := Ideal) (broadcast S192x64 (FloatOps.ofBits .f32 0x00000000#32))
      (select (ori (cmpf .ogt (concatenate S192x64 1 [⟨S192x63, extractStridedSlice S192x63 ![0, 1] a slices_S192x64_o0_1_S192x63⟩, ⟨S192x1, extractStridedSlice S192x1 ![0, 0] a slices_S192x64_o0_0_S192x1⟩] concatenates_S192x63_S192x1_S192x64_d1) a)
        (andi (cmpf .oeq (concatenate S192x64 1 [⟨S192x63, extractStridedSlice S192x63 ![0, 1] a slices_S192x64_o0_1_S192x63⟩, ⟨S192x1, extractStridedSlice S192x1 ![0, 0] a slices_S192x64_o0_0_S192x1⟩] concatenates_S192x63_S192x1_S192x64_d1) a) (cmpi .sge lane (broadcast S192x64 63#32))))
        (broadcast S192x64 (FloatOps.ofBits .f32 0x3F800000#32)) (broadcast S192x64 (FloatOps.ofBits .f32 0x00000000#32))) = rk a 1 := by
  funext y
  rw [rk_succ, rk_zero, zero_add]
  pointwise
  exact step_eq a y 1 (by decide) (by decide) _ (ladder a y 1 (by decide) (by decide) _ _)

theorem k0_pay7_eq (a : FVec Ideal S192x64 .f32) : k0_pay7 (F := Ideal) a lane (rk a 1) (extractStridedSlice S192x62 ![0, 2] a slices_S192x64_o0_2_S192x62) = rk a 4 := by
  funext y
  rw [rk_succ, rk_succ, rk_succ]
  pointwise [k0_pay7]
  exact congrArg₂ (· + ·) (congrArg₂ (· + ·) (congrArg₂ (· + ·) (rfl) (step_eq a y 2 (by decide) (by decide) _ (ladder a y 2 (by decide) (by decide) _ _))) (step_eq a y 3 (by decide) (by decide) _ (ladder a y 3 (by decide) (by decide) _ _))) (step_eq a y 4 (by decide) (by decide) _ (ladder a y 4 (by decide) (by decide) _ _))

theorem k0_pay10_eq (a : FVec Ideal S192x64 .f32) : k0_pay10 (F := Ideal) a lane (rk a 4) (k0_pay8 a lane) (FloatOps.ofBits .f32 0x00000000#32) (k0_pay9 (F := Ideal)) = rk a 8 := by
  funext y
  rw [rk_succ, rk_succ, rk_succ, rk_succ]
  pointwise [k0_pay10, k0_pay8, k0_pay9]
  exact congrArg₂ (· + ·) (congrArg₂ (· + ·) (congrArg₂ (· + ·) (congrArg₂ (· + ·) (rfl) (step_eq a y 5 (by decide) (by decide) _ (ladder a y 5 (by decide) (by decide) _ _))) (step_eq a y 6 (by decide) (by decide) _ (ladder a y 6 (by decide) (by decide) _ _))) (step_eq a y 7 (by decide) (by decide) _ (ladder a y 7 (by decide) (by decide) _ _))) (step_eq a y 8 (by decide) (by decide) _ (ladder a y 8 (by decide) (by decide) _ _))

theorem k0_pay14_eq (a : FVec Ideal S192x64 .f32) : k0_pay14 (F := Ideal) a lane (rk a 8) (k0_pay12 a) (k0_pay13 a lane) = rk a 12 := by
  funext y
  rw [rk_succ, rk_succ, rk_succ, rk_succ]
  pointwise [k0_pay14, k0_pay11, k0_pay12, k0_pay13]
  exact congrArg₂ (· + ·) (congrArg₂ (· + ·) (congrArg₂ (· + ·) (congrArg₂ (· + ·) (rfl) (step_eq a y 9 (by decide) (by decide) _ (ladder a y 9 (by decide) (by decide) _ _))) (step_eq a y 10 (by decide) (by decide) _ (ladder a y 10 (by decide) (by decide) _ _))) (step_eq a y 11 (by decide) (by decide) _ (ladder a y 11 (by decide) (by decide) _ _))) (step_eq a y 12 (by decide) (by decide) _ (ladder a y 12 (by decide) (by decide) _ _))

theorem k0_pay18_eq (a : FVec Ideal S192x64 .f32) : k0_pay18 (F := Ideal) a lane (rk a 12) (k0_pay16 a) (k0_pay17 a) = rk a 16 := by
  funext y
  rw [rk_succ, rk_succ, rk_succ, rk_succ]
  pointwise [k0_pay18, k0_pay15, k0_pay16, k0_pay17]
  exact congrArg₂ (· + ·) (congrArg₂ (· + ·) (congrArg₂ (· + ·) (congrArg₂ (· + ·) (rfl) (step_eq a y 13 (by decide) (by decide) _ (ladder a y 13 (by decide) (by decide) _ _))) (step_eq a y 14 (by decide) (by decide) _ (ladder a y 14 (by decide) (by decide) _ _))) (step_eq a y 15 (by decide) (by decide) _ (ladder a y 15 (by decide) (by decide) _ _))) (step_eq a y 16 (by decide) (by decide) _ (ladder a y 16 (by decide) (by decide) _ _))

theorem k0_pay20_eq (a : FVec Ideal S192x64 .f32) : k0_pay20 (F := Ideal) a lane (rk a 16) (k0_pay19 a) = rk a 19 := by
  funext y
  rw [rk_succ, rk_succ, rk_succ]
  pointwise [k0_pay20, k0_pay19]
  exact congrArg₂ (· + ·) (congrArg₂ (· + ·) (congrArg₂ (· + ·) (rfl) (step_eq a y 17 (by decide) (by decide) _ (ladder a y 17 (by decide) (by decide) _ _))) (step_eq a y 18 (by decide) (by decide) _ (ladder a y 18 (by decide) (by decide) _ _))) (step_eq a y 19 (by decide) (by decide) _ (ladder a y 19 (by decide) (by decide) _ _))

theorem k0_pay23_eq (a : FVec Ideal S192x64 .f32) : k0_pay23 (F := Ideal) a lane (rk a 19) (k0_pay21 a lane) (FloatOps.ofBits .f32 0x00000000#32) (k0_pay22 (F := Ideal)) = rk a 23 := by
  funext y
  rw [rk_succ, rk_succ, rk_succ, rk_succ]
  pointwise [k0_pay23, k0_pay21, k0_pay22]
  exact congrArg₂ (· + ·) (congrArg₂ (· + ·) (congrArg₂ (· + ·) (congrArg₂ (· + ·) (rfl) (step_eq a y 20 (by decide) (by decide) _ (ladder a y 20 (by decide) (by decide) _ _))) (step_eq a y 21 (by decide) (by decide) _ (ladder a y 21 (by decide) (by decide) _ _))) (step_eq a y 22 (by decide) (by decide) _ (ladder a y 22 (by decide) (by decide) _ _))) (step_eq a y 23 (by decide) (by decide) _ (ladder a y 23 (by decide) (by decide) _ _))

theorem k0_pay27_eq (a : FVec Ideal S192x64 .f32) : k0_pay27 (F := Ideal) a lane (rk a 23) (k0_pay25 a) (k0_pay26 a lane) = rk a 27 := by
  funext y
  rw [rk_succ, rk_succ, rk_succ, rk_succ]
  pointwise [k0_pay27, k0_pay24, k0_pay25, k0_pay26]
  exact congrArg₂ (· + ·) (congrArg₂ (· + ·) (congrArg₂ (· + ·) (congrArg₂ (· + ·) (rfl) (step_eq a y 24 (by decide) (by decide) _ (ladder a y 24 (by decide) (by decide) _ _))) (step_eq a y 25 (by decide) (by decide) _ (ladder a y 25 (by decide) (by decide) _ _))) (step_eq a y 26 (by decide) (by decide) _ (ladder a y 26 (by decide) (by decide) _ _))) (step_eq a y 27 (by decide) (by decide) _ (ladder a y 27 (by decide) (by decide) _ _))

theorem k0_pay31_eq (a : FVec Ideal S192x64 .f32) : k0_pay31 (F := Ideal) a lane (rk a 27) (k0_pay29 a) (k0_pay30 a) = rk a 31 := by
  funext y
  rw [rk_succ, rk_succ, rk_succ, rk_succ]
  pointwise [k0_pay31, k0_pay28, k0_pay29, k0_pay30]
  exact congrArg₂ (· + ·) (congrArg₂ (· + ·) (congrArg₂ (· + ·) (congrArg₂ (· + ·) (rfl) (step_eq a y 28 (by decide) (by decide) _ (ladder a y 28 (by decide) (by decide) _ _))) (step_eq a y 29 (by decide) (by decide) _ (ladder a y 29 (by decide) (by decide) _ _))) (step_eq a y 30 (by decide) (by decide) _ (ladder a y 30 (by decide) (by decide) _ _))) (step_eq a y 31 (by decide) (by decide) _ (ladder a y 31 (by decide) (by decide) _ _))

theorem k0_pay33_eq (a : FVec Ideal S192x64 .f32) : k0_pay33 (F := Ideal) a lane (rk a 31) (k0_pay32 a) = rk a 34 := by
  funext y
  rw [rk_succ, rk_succ, rk_succ]
  pointwise [k0_pay33, k0_pay32]
  exact congrArg₂ (· + ·) (congrArg₂ (· + ·) (congrArg₂ (· + ·) (rfl) (step_eq a y 32 (by decide) (by decide) _ (ladder a y 32 (by decide) (by decide) _ _))) (step_eq a y 33 (by decide) (by decide) _ (ladder a y 33 (by decide) (by decide) _ _))) (step_eq a y 34 (by decide) (by decide) _ (ladder a y 34 (by decide) (by decide) _ _))

theorem k0_pay36_eq (a : FVec Ideal S192x64 .f32) : k0_pay36 (F := Ideal) a lane (rk a 34) (k0_pay34 a lane) (FloatOps.ofBits .f32 0x00000000#32) (k0_pay35 (F := Ideal)) = rk a 38 := by
  funext y
  rw [rk_succ, rk_succ, rk_succ, rk_succ]
  pointwise [k0_pay36, k0_pay34, k0_pay35]
  exact congrArg₂ (· + ·) (congrArg₂ (· + ·) (congrArg₂ (· + ·) (congrArg₂ (· + ·) (rfl) (step_eq a y 35 (by decide) (by decide) _ (ladder a y 35 (by decide) (by decide) _ _))) (step_eq a y 36 (by decide) (by decide) _ (ladder a y 36 (by decide) (by decide) _ _))) (step_eq a y 37 (by decide) (by decide) _ (ladder a y 37 (by decide) (by decide) _ _))) (step_eq a y 38 (by decide) (by decide) _ (ladder a y 38 (by decide) (by decide) _ _))

theorem k0_pay40_eq (a : FVec Ideal S192x64 .f32) : k0_pay40 (F := Ideal) a lane (rk a 38) (k0_pay38 a) (k0_pay39 a lane) = rk a 42 := by
  funext y
  rw [rk_succ, rk_succ, rk_succ, rk_succ]
  pointwise [k0_pay40, k0_pay37, k0_pay38, k0_pay39]
  exact congrArg₂ (· + ·) (congrArg₂ (· + ·) (congrArg₂ (· + ·) (congrArg₂ (· + ·) (rfl) (step_eq a y 39 (by decide) (by decide) _ (ladder a y 39 (by decide) (by decide) _ _))) (step_eq a y 40 (by decide) (by decide) _ (ladder a y 40 (by decide) (by decide) _ _))) (step_eq a y 41 (by decide) (by decide) _ (ladder a y 41 (by decide) (by decide) _ _))) (step_eq a y 42 (by decide) (by decide) _ (ladder a y 42 (by decide) (by decide) _ _))

theorem k0_pay44_eq (a : FVec Ideal S192x64 .f32) : k0_pay44 (F := Ideal) a lane (rk a 42) (k0_pay42 a) (k0_pay43 a) = rk a 46 := by
  funext y
  rw [rk_succ, rk_succ, rk_succ, rk_succ]
  pointwise [k0_pay44, k0_pay41, k0_pay42, k0_pay43]
  exact congrArg₂ (· + ·) (congrArg₂ (· + ·) (congrArg₂ (· + ·) (congrArg₂ (· + ·) (rfl) (step_eq a y 43 (by decide) (by decide) _ (ladder a y 43 (by decide) (by decide) _ _))) (step_eq a y 44 (by decide) (by decide) _ (ladder a y 44 (by decide) (by decide) _ _))) (step_eq a y 45 (by decide) (by decide) _ (ladder a y 45 (by decide) (by decide) _ _))) (step_eq a y 46 (by decide) (by decide) _ (ladder a y 46 (by decide) (by decide) _ _))

theorem k0_pay46_eq (a : FVec Ideal S192x64 .f32) : k0_pay46 (F := Ideal) a lane (rk a 46) (k0_pay45 a) = rk a 49 := by
  funext y
  rw [rk_succ, rk_succ, rk_succ]
  pointwise [k0_pay46, k0_pay45]
  exact congrArg₂ (· + ·) (congrArg₂ (· + ·) (congrArg₂ (· + ·) (rfl) (step_eq a y 47 (by decide) (by decide) _ (ladder a y 47 (by decide) (by decide) _ _))) (step_eq a y 48 (by decide) (by decide) _ (ladder a y 48 (by decide) (by decide) _ _))) (step_eq a y 49 (by decide) (by decide) _ (ladder a y 49 (by decide) (by decide) _ _))

theorem k0_pay49_eq (a : FVec Ideal S192x64 .f32) : k0_pay49 (F := Ideal) a lane (rk a 49) (k0_pay47 a lane) (FloatOps.ofBits .f32 0x00000000#32) (k0_pay48 (F := Ideal)) = rk a 53 := by
  funext y
  rw [rk_succ, rk_succ, rk_succ, rk_succ]
  pointwise [k0_pay49, k0_pay47, k0_pay48]
  exact congrArg₂ (· + ·) (congrArg₂ (· + ·) (congrArg₂ (· + ·) (congrArg₂ (· + ·) (rfl) (step_eq a y 50 (by decide) (by decide) _ (ladder a y 50 (by decide) (by decide) _ _))) (step_eq a y 51 (by decide) (by decide) _ (ladder a y 51 (by decide) (by decide) _ _))) (step_eq a y 52 (by decide) (by decide) _ (ladder a y 52 (by decide) (by decide) _ _))) (step_eq a y 53 (by decide) (by decide) _ (ladder a y 53 (by decide) (by decide) _ _))

theorem k0_pay53_eq (a : FVec Ideal S192x64 .f32) : k0_pay53 (F := Ideal) a lane (rk a 53) (k0_pay51 a) (k0_pay52 a lane) = rk a 57 := by
  funext y
  rw [rk_succ, rk_succ, rk_succ, rk_succ]
  pointwise [k0_pay53, k0_pay50, k0_pay51, k0_pay52]
  exact congrArg₂ (· + ·) (congrArg₂ (· + ·) (congrArg₂ (· + ·) (congrArg₂ (· + ·) (rfl) (step_eq a y 54 (by decide) (by decide) _ (ladder a y 54 (by decide) (by decide) _ _))) (step_eq a y 55 (by decide) (by decide) _ (ladder a y 55 (by decide) (by decide) _ _))) (step_eq a y 56 (by decide) (by decide) _ (ladder a y 56 (by decide) (by decide) _ _))) (step_eq a y 57 (by decide) (by decide) _ (ladder a y 57 (by decide) (by decide) _ _))

theorem k0_pay57_eq (a : FVec Ideal S192x64 .f32) : k0_pay57 (F := Ideal) a lane (rk a 57) (k0_pay55 a) (k0_pay56 a) = rk a 61 := by
  funext y
  rw [rk_succ, rk_succ, rk_succ, rk_succ]
  pointwise [k0_pay57, k0_pay54, k0_pay55, k0_pay56]
  exact congrArg₂ (· + ·) (congrArg₂ (· + ·) (congrArg₂ (· + ·) (congrArg₂ (· + ·) (rfl) (step_eq a y 58 (by decide) (by decide) _ (ladder a y 58 (by decide) (by decide) _ _))) (step_eq a y 59 (by decide) (by decide) _ (ladder a y 59 (by decide) (by decide) _ _))) (step_eq a y 60 (by decide) (by decide) _ (ladder a y 60 (by decide) (by decide) _ _))) (step_eq a y 61 (by decide) (by decide) _ (ladder a y 61 (by decide) (by decide) _ _))

theorem k0_pay59_eq (a : FVec Ideal S192x64 .f32) : k0_pay59 (F := Ideal) a lane (rk a 61) (k0_pay58 a) = rk a 63 := by
  funext y
  rw [rk_succ, rk_succ]
  pointwise [k0_pay59, k0_pay58]
  exact congrArg₂ (· + ·) (congrArg₂ (· + ·) (rfl) (step_eq a y 62 (by decide) (by decide) _ (ladder a y 62 (by decide) (by decide) _ _))) (step_eq a y 63 (by decide) (by decide) _ (ladder a y 63 (by decide) (by decide) _ _))

end Cert.ChannelProof

end
-- ==== Proof.Channel.Out.lean ====
module

public import proofs.«01_k».proof.Proof.Gen.ChannelIdeal.Frame
public import proofs.«01_k».proof.Proof.Channel.Acc
public import proofs.«01_k».proof.Proof.Channel.Rank
public import Idealize.ShloMosaic.Lib.Pipeline.ValueKit
public import Idealize.ShloMosaic.Lib.Pipeline.ReadBack

@[expose] public section

set_option maxRecDepth 16384

noncomputable section

namespace Cert.ChannelProof

open Idealize.ShloMosaic Idealize.ShloMosaic.TcCoe Idealize.SL.Sem
open Idealize.ShloMosaic.Pipeline (Dat)
open Cert.ChannelIdeal Cert.ChannelIdeal.Gen

open Cert.Select

variable (m : (ℓ : Loc nD τ sig) → Buf (Elt Ideal) ℓ)

/-- The table of products, each head scaled by its own factor, filled up to 64 lanes. -/
def mat (Y : FVec Ideal S192x48 .f32) (p0 p1 p2 p3 : EReal) : FVec Ideal S192x64 .f32 :=
  k0_pay4 (F := Ideal) (tile Y ![0, 0] inb_S192x48_S48x48_0_0) p0 (tile Y ![48, 0] inb_S192x48_S48x48_48_0) p1 (tile Y ![96, 0] inb_S192x48_S48x48_96_0) p2 (tile Y ![144, 0] inb_S192x48_S48x48_144_0) p3

theorem mat_def (Y : FVec Ideal S192x48 .f32) (p0 p1 p2 p3 : EReal) :
    k0_pay4 (F := Ideal) (tile Y ![0, 0] inb_S192x48_S48x48_0_0) p0 (tile Y ![48, 0] inb_S192x48_S48x48_48_0) p1 (tile Y ![96, 0] inb_S192x48_S48x48_96_0) p2 (tile Y ![144, 0] inb_S192x48_S48x48_144_0) p3 = mat Y p0 p1 p2 p3 := rfl

theorem mat_first (Y : FVec Ideal S192x48 .f32) (p0 p1 p2 p3 : EReal) :
    k0_pay5 (F := Ideal) (tile Y ![0, 0] inb_S192x48_S48x48_0_0) p0 (tile Y ![48, 0] inb_S192x48_S48x48_48_0) p1 (tile Y ![96, 0] inb_S192x48_S48x48_96_0) p2 (tile Y ![144, 0] inb_S192x48_S48x48_144_0) p3 = rk (mat Y p0 p1 p2 p3) 1 := first_eq (mat Y p0 p1 p2 p3)

theorem mat_second (Y : FVec Ideal S192x48 .f32) (p0 p1 p2 p3 : EReal) :
    k0_pay6 (F := Ideal) (tile Y ![0, 0] inb_S192x48_S48x48_0_0) p0 (tile Y ![48, 0] inb_S192x48_S48x48_48_0) p1 (tile Y ![96, 0] inb_S192x48_S48x48_96_0) p2 (tile Y ![144, 0] inb_S192x48_S48x48_144_0) p3 = extractStridedSlice S192x62 ![0, 2] (mat Y p0 p1 p2 p3) slices_S192x64_o0_2_S192x62 := rfl

/-- The matrix of coefficients. -/
def pm (a : FVec Ideal S192x64 .f32) (c1 c2 c3 c4 : EReal) : FVec Ideal S192x48 .f32 :=
  k0_pay3 (F := Ideal) c4 (k0_pay60 a) (k0_pay63 (F := Ideal) c2 c3 (rk a 63) (k0_pay60 a) (k0_pay61 (F := Ideal) a c1 lane (rk a 61) (k0_pay58 a)) (k0_pay62 a lane (rk a 61) (k0_pay58 a)) (FloatOps.ofBits .f32 0x3F800000#32)) (k0_pay64 (rk a 63)) (k0_pay65 (rk a 63) (k0_pay60 a))

theorem pm_def (a : FVec Ideal S192x64 .f32) (c1 c2 c3 c4 : EReal) :
    k0_pay3 (F := Ideal) c4 (k0_pay60 a) (k0_pay63 (F := Ideal) c2 c3 (rk a 63) (k0_pay60 a) (k0_pay61 (F := Ideal) a c1 lane (rk a 61) (k0_pay58 a)) (k0_pay62 a lane (rk a 61) (k0_pay58 a)) (FloatOps.ofBits .f32 0x3F800000#32)) (k0_pay64 (rk a 63)) (k0_pay65 (rk a 63) (k0_pay60 a)) = pm a c1 c2 c3 c4 := rfl

set_option maxHeartbeats 1600000 in
/-- What the last point leaves in the output block. -/
theorem outC (c : Dev nD) (t : Fin cfg0.N) (h0 : ¬t.val % 14 = 0) (h1 : t.val % 14 = 13) (y : S192x48.Idx) :
    ((outsAt0 m c t.val t.isLt).1 y : EReal) = pm (mat (acc (outsAt0 m c (t.val - 1) (Nat.lt_of_le_of_lt (Nat.sub_le _ _) t.isLt)).2
      (k0_pay67 (F := Ideal) (iblk m c 1 t) (iblk m c 3 t)) (k0_pay68 (F := Ideal) (iblk m c 2 t) (iblk m c 4 t)))
      (iblk m c 0 t (ix1 0)) (iblk m c 0 t (ix1 1)) (iblk m c 0 t (ix1 2)) (iblk m c 0 t (ix1 3)))
      (iblk m c 0 t (ix1 4)) (iblk m c 0 t (ix1 5)) (iblk m c 0 t (ix1 6)) (iblk m c 0 t (ix1 7)) y := by
  have e0 : ∀ h, View.ld (iblk m c 0 t) (Rect.unit ![0] ![1] inb_S8_S1_0) (Shape.Idx.first h) = iblk m c 0 t (ix1 0) := fun _ => congrArg (iblk m c 0 t) (by funext d; apply Fin.ext; fin_cases d; rfl)
  have e1 : ∀ h, View.ld (iblk m c 0 t) (Rect.unit ![1] ![1] inb_S8_S1_1) (Shape.Idx.first h) = iblk m c 0 t (ix1 1) := fun _ => congrArg (iblk m c 0 t) (by funext d; apply Fin.ext; fin_cases d; rfl)
  have e2 : ∀ h, View.ld (iblk m c 0 t) (Rect.unit ![2] ![1] inb_S8_S1_2) (Shape.Idx.first h) = iblk m c 0 t (ix1 2) := fun _ => congrArg (iblk m c 0 t) (by funext d; apply Fin.ext; fin_cases d; rfl)
  have e3 : ∀ h, View.ld (iblk m c 0 t) (Rect.unit ![3] ![1] inb_S8_S1_3) (Shape.Idx.first h) = iblk m c 0 t (ix1 3) := fun _ => congrArg (iblk m c 0 t) (by funext d; apply Fin.ext; fin_cases d; rfl)
  have e4 : ∀ h, View.ld (iblk m c 0 t) (Rect.unit ![4] ![1] inb_S8_S1_4) (Shape.Idx.first h) = iblk m c 0 t (ix1 4) := fun _ => congrArg (iblk m c 0 t) (by funext d; apply Fin.ext; fin_cases d; rfl)
  have e5 : ∀ h, View.ld (iblk m c 0 t) (Rect.unit ![5] ![1] inb_S8_S1_5) (Shape.Idx.first h) = iblk m c 0 t (ix1 5) := fun _ => congrArg (iblk m c 0 t) (by funext d; apply Fin.ext; fin_cases d; rfl)
  have e6 : ∀ h, View.ld (iblk m c 0 t) (Rect.unit ![6] ![1] inb_S8_S1_6) (Shape.Idx.first h) = iblk m c 0 t (ix1 6) := fun _ => congrArg (iblk m c 0 t) (by funext d; apply Fin.ext; fin_cases d; rfl)
  have e7 : ∀ h, View.ld (iblk m c 0 t) (Rect.unit ![7] ![1] inb_S8_S1_7) (Shape.Idx.first h) = iblk m c 0 t (ix1 7) := fun _ => congrArg (iblk m c 0 t) (by funext d; apply Fin.ext; fin_cases d; rfl)
  rw [outsAt0_C m c t h0 h1]
  frame_open
  simp (disch := decide) only [↓View.readCov_skip, ↓View.readCov_cons_toLoadRect]
  frame_out
  simp only [read_unread_whole, e0, e1, e2, e3, e4, e5, e6, e7]
  generalize iblk m c 0 t (ix1 0) = p0
  generalize iblk m c 0 t (ix1 1) = p1
  generalize iblk m c 0 t (ix1 2) = p2
  generalize iblk m c 0 t (ix1 3) = p3
  generalize iblk m c 0 t (ix1 4) = p4
  generalize iblk m c 0 t (ix1 5) = p5
  generalize iblk m c 0 t (ix1 6) = p6
  generalize iblk m c 0 t (ix1 7) = p7
  generalize iblk m c 1 t = s
  generalize iblk m c 2 t = s'
  generalize iblk m c 3 t = q
  generalize iblk m c 4 t = k
  generalize (outsAt0 m c (t.val - 1) _).2 = X
  have w0 := tile_0 s s' q k X
  have w1 := tile_48 s s' q k X
  have w2 := tile_96 s s' q k X
  have w3 := tile_144 s s' q k X
  unfold tile at w0 w1 w2 w3
  simp only [w0, w1, w2, w3]
  have v0 := mat_def (acc X (k0_pay67 (F := Ideal) s q) (k0_pay68 (F := Ideal) s' k)) p0 p1 p2 p3
  have v1 := mat_first (acc X (k0_pay67 (F := Ideal) s q) (k0_pay68 (F := Ideal) s' k)) p0 p1 p2 p3
  have v2 := mat_second (acc X (k0_pay67 (F := Ideal) s q) (k0_pay68 (F := Ideal) s' k)) p0 p1 p2 p3
  unfold tile at v0 v1 v2
  simp only [v0, v1, v2]
  generalize mat (acc X (k0_pay67 (F := Ideal) s q) (k0_pay68 (F := Ideal) s' k)) p0 p1 p2 p3 = a
  rw [k0_pay7_eq, k0_pay10_eq, k0_pay14_eq, k0_pay18_eq, k0_pay20_eq, k0_pay23_eq, k0_pay27_eq, k0_pay31_eq, k0_pay33_eq, k0_pay36_eq, k0_pay40_eq, k0_pay44_eq, k0_pay46_eq, k0_pay49_eq, k0_pay53_eq, k0_pay57_eq, k0_pay59_eq]
  exact congrFun (pm_def a p4 p5 p6 p7) y

end Cert.ChannelProof

end
-- ==== Proof.Channel.Coefs.lean ====
module

public import proofs.«01_k».proof.Proof.Gen.ChannelIdeal.Frame
public import proofs.«01_k».proof.Proof.Channel.Out
public import proofs.«01_k».proof.Proof.Channel.Rank
public import Idealize.ShloMosaic.Lib.Pipeline.ValueKit
public import Idealize.ShloMosaic.Lib.Pipeline.ReadBack

@[expose] public section

set_option maxRecDepth 16384

noncomputable section

namespace Cert.ChannelProof

open Idealize.ShloMosaic Idealize.ShloMosaic.TcCoe Idealize.SL.Sem
open Idealize.ShloMosaic.Pipeline (Dat)
open Cert.ChannelIdeal Cert.ChannelIdeal.Gen

open Cert.Select

/-- A row of 48 real scores, filled up to 64 lanes. -/
def wide (A : Fin 48 → ℝ) (l : Fin 64) : EReal := if h : (l : ℕ) < 48 then (A ⟨l, h⟩ : EReal) else ⊥

theorem wide_pos (A : Fin 48 → ℝ) (j : Fin 48) : wide A ⟨j, by omega⟩ = (A j : EReal) := dif_pos j.isLt

/-- The filling never stands before a score. -/
theorem place_wide (A : Fin 48 → ℝ) (j : Fin 48) : place (wide A) ⟨j, by omega⟩ = place (up A) j := by
  have e : (Finset.univ.filter fun i => Ahead (wide A) i ⟨j, by omega⟩) = (Finset.univ.filter fun i => Ahead (up A) i j).map (Fin.castLEEmb (by decide : 48 ≤ 64)) := by
    ext i
    simp only [Finset.mem_filter, Finset.mem_univ, true_and, Finset.mem_map]
    have hw : ∀ i : Fin 48, Ahead (wide A) ⟨i, by omega⟩ ⟨j, by omega⟩ ↔ Ahead (up A) i j := fun i => by
      unfold Ahead
      rw [wide_pos, wide_pos]
      rfl
    constructor
    · intro h
      by_cases hi : (i : ℕ) < 48
      · exact ⟨⟨i, hi⟩, (hw ⟨i, hi⟩).mp h, rfl⟩
      · exfalso
        have hb : wide A i = ⊥ := dif_neg hi
        unfold Ahead at h
        rw [wide_pos, hb] at h
        rcases h with h | h
        · exact absurd h not_lt_bot
        · exact EReal.coe_ne_bot _ h.1.symm
    · rintro ⟨i', h, rfl⟩
      exact (hw i').mpr h
  unfold place
  rw [e, Finset.card_map]

theorem fill_word : Ideal.ofBits FTy.f32 4286578688#32 = (⊥ : EReal) := by
  simp [Ideal.ofBits, Ideal.ieee]

/-- The largest entry of a row is real. -/
theorem wide_max (A : Fin 48 → ℝ) : ∃ μ : ℝ, Finset.fold max (Ideal.ofBits FTy.f32 4286578688#32) (wide A) Finset.univ = (μ : EReal) := by
  rw [fill_word]
  obtain ⟨l, -, hl⟩ := Finset.exists_mem_eq_sup Finset.univ ⟨(0 : Fin 64), Finset.mem_univ _⟩ (wide A)
  have e : Finset.fold max (⊥ : EReal) (wide A) Finset.univ = wide A l := hl
  rw [e]
  by_cases h : (l : ℕ) < 48
  · exact ⟨A ⟨l, h⟩, dif_pos h⟩
  · exfalso
    have hle : wide A (0 : Fin 64) ≤ wide A l := hl ▸ Finset.le_sup (Finset.mem_univ _)
    have hb : wide A l = ⊥ := dif_neg h
    rw [hb] at hle
    exact EReal.coe_ne_bot _ ((wide_pos A 0).symm.trans (le_bot_iff.mp hle))

/-- The exponential of a row's entry, a real having been subtracted. -/
theorem wide_exp (A : Fin 48 → ℝ) (μ : ℝ) (l : Fin 64) :
    Ideal.exp (wide A l - (μ : EReal)) = ((if h : (l : ℕ) < 48 then Real.exp (A ⟨l, h⟩) * Real.exp (-μ) else 0 : ℝ) : EReal) := by
  unfold wide
  split
  · rw [← EReal.coe_sub, Ideal.exp_coe, sub_eq_add_neg, Real.exp_add]
  · rw [EReal.bot_sub, Ideal.exp_bot, EReal.coe_zero]

section stage

variable (A : Fin 48 → ℝ) (μ : ℝ) (R : Fin 64 → EReal) (hR : ∀ l, R l = ((place (wide A) l : ℝ) : EReal))
include hR

/-- The indicator of the entries among the `k` first. -/
theorem flag_at (k : ℕ) (K : EReal) (hK : K = ((k : ℝ) : EReal)) (l : Fin 64) {d : Decidable (R l < K)} :
    (@ite _ (R l < K) d (1 : EReal) 0) = ((if place (wide A) l < k then (1 : ℝ) else 0 : ℝ) : EReal) := by
  have h : R l < K ↔ place (wide A) l < k := by
    rw [hR, hK, EReal.coe_lt_coe_iff, Nat.cast_lt]
  rw [if_congr h rfl rfl]
  split <;> simp

/-- The sum of the exponentials kept. -/
theorem kept_sum (k : ℕ) (K : EReal) (hK : K = ((k : ℝ) : EReal)) {d : ∀ l, Decidable (R l < K)} :
    (∑ l, Ideal.exp (wide A l - (μ : EReal)) * (@ite _ (R l < K) (d l) (1 : EReal) 0)) = ((total k A * Real.exp (-μ) : ℝ) : EReal) := by
  have h : (∑ l : Fin 64, (if h : (l : ℕ) < 48 then Real.exp (A ⟨l, h⟩) * Real.exp (-μ) else 0) * (if place (wide A) l < k then (1 : ℝ) else 0)) = total k A * Real.exp (-μ) := by
    refine (Fin.sum_univ_add (a := 48) (b := 16) _).trans ?_
    refine (congrArg₂ (· + ·) ?_ (Finset.sum_eq_zero fun j _ => ?_)).trans (add_zero _)
    · unfold total
      rw [Finset.sum_mul]
      refine Finset.sum_congr rfl fun j _ => ?_
      have e : (Fin.castAdd 16 j : Fin 64) = ⟨j, by omega⟩ := rfl
      rw [e, place_wide, dif_pos j.isLt, ← kept]
      ring
    · rw [dif_neg (by show ¬ 48 + (j : ℕ) < 48; omega), zero_mul]
  rw [← h, coe_sum]
  refine Finset.sum_congr rfl fun l _ => ?_
  rw [flag_at A R hR k K hK, wide_exp, EReal.coe_mul]

/-- One selection: the exponential times the indicator times the coefficient over the sum of the exponentials kept. -/
theorem stage (k : ℕ) (hk : 0 < k) (K : EReal) (hK : K = ((k : ℝ) : EReal)) (c : EReal) (j : Fin 48) {d : ∀ l, Decidable (R l < K)} :
    ((Real.exp (A j) * Real.exp (-μ) : ℝ) : EReal) * ((@ite _ (R ⟨j, by omega⟩ < K) (d ⟨j, by omega⟩) (1 : EReal) 0) *
      Ideal.div c (∑ l, Ideal.exp (wide A l - (μ : EReal)) * (@ite _ (R l < K) (d l) (1 : EReal) 0)))
      = ((weight k A j / total k A : ℝ) : EReal) * c := by
  have ht := total_pos k A hk (by decide)
  have hp : 0 < total k A * Real.exp (-μ) := mul_pos ht (Real.exp_pos _)
  rw [kept_sum A μ R hR k K hK, flag_at A R hR k K hK, place_wide]
  have hd : Ideal.div c ((total k A * Real.exp (-μ) : ℝ) : EReal) = (((total k A * Real.exp (-μ))⁻¹ : ℝ) : EReal) * c := by
    unfold Ideal.div
    rw [if_neg (by exact_mod_cast ne_of_gt hp), EReal.coe_inv, mul_comm]
  rw [hd, ← mul_assoc, ← mul_assoc, ← EReal.coe_mul, ← EReal.coe_mul]
  refine congrArg (fun z : ℝ => (z : EReal) * c) ?_
  rw [← kept]
  have := Real.exp_ne_zero (-μ)
  have := ne_of_gt ht
  field_simp

omit hR in
theorem lit24 : Ideal.ofBits FTy.f32 1103101952#32 = (((24 : ℕ) : ℝ) : EReal) := by
  simp [Ideal.ofBits, Ideal.ieee]; norm_num; rw [← EReal.coe_mul]; norm_num

omit hR in
theorem lit32 : Ideal.ofBits FTy.f32 1107296256#32 = (((32 : ℕ) : ℝ) : EReal) := by
  simp [Ideal.ofBits, Ideal.ieee]; norm_num; rw [← EReal.coe_mul]; norm_num

omit hR in
theorem lit36 : Ideal.ofBits FTy.f32 1108344832#32 = (((36 : ℕ) : ℝ) : EReal) := by
  simp [Ideal.ofBits, Ideal.ieee]; norm_num; rw [← EReal.coe_mul]; norm_num

omit hR in
theorem lit38 : Ideal.ofBits FTy.f32 1108869120#32 = (((38 : ℕ) : ℝ) : EReal) := by
  simp [Ideal.ofBits, Ideal.ieee]; norm_num; rw [← EReal.coe_mul]; norm_num

omit hR in
/-- A nonnegative real times a sum of four terms. -/
theorem spread_four (e : ℝ) (he : 0 ≤ e) (x1 x2 x3 x4 : EReal) :
    (e : EReal) * (x1 + x2 + x3 + x4) = (e : EReal) * x1 + (e : EReal) * x2 + (e : EReal) * x3 + (e : EReal) * x4 := by
  have h0 : (0 : EReal) ≤ (e : EReal) := by exact_mod_cast he
  have ht : (e : EReal) ≠ ⊤ := EReal.coe_ne_top e
  rw [EReal.left_distrib_of_nonneg_of_ne_top h0 ht, EReal.left_distrib_of_nonneg_of_ne_top h0 ht, EReal.left_distrib_of_nonneg_of_ne_top h0 ht]

end stage

set_option maxHeartbeats 800000 in
/-- On a row of real scores the coefficients are the four selections' weights, each over its sum and times its coefficient. -/
theorem pm_eq (a : FVec Ideal S192x64 .f32) (r : Fin 192) (A : Fin 48 → ℝ) (hA : ∀ l, a (ix2 r l) = wide A l) (c1 c2 c3 c4 : EReal) (j : Fin 48) :
    pm a c1 c2 c3 c4 (ix2 r j) = ((weight 24 A j / total 24 A : ℝ) : EReal) * c1 + ((weight 32 A j / total 32 A : ℝ) : EReal) * c2
      + ((weight 36 A j / total 36 A : ℝ) : EReal) * c3 + ((weight 38 A j / total 38 A : ℝ) : EReal) * c4 := by
  have hR : ∀ l, rk a 63 (ix2 r l) = ((place (wide A) l : ℝ) : EReal) := fun l => by
    rw [rk_last]
    have e : part a (ix2 r l) = wide A := funext fun i => hA _
    rw [e]
    rfl
  unfold pm
  have e61 : k0_pay59 (F := Ideal) a lane (rk a 61) (k0_pay58 a) = rk a 63 := k0_pay59_eq a
  simp only [k0_pay61, k0_pay62, e61]
  generalize rk a 63 = R at hR
  pointwise [k0_pay3, k0_pay60, k0_pay63, k0_pay64, k0_pay65]
  obtain ⟨μ, hμ⟩ := wide_max A
  simp only [hA, hμ]
  have e : Ideal.exp (wide A ⟨j, by omega⟩ - (μ : EReal)) = ((Real.exp (A j) * Real.exp (-μ) : ℝ) : EReal) := by
    rw [wide_exp, dif_pos j.isLt]
  rw [e, spread_four _ (mul_nonneg (Real.exp_pos _).le (Real.exp_pos _).le)]
  exact congrArg₂ (· + ·) (congrArg₂ (· + ·) (congrArg₂ (· + ·)
    (stage A μ (fun l => R (ix2 r l)) hR 24 (by decide) _ lit24 c1 j) (stage A μ (fun l => R (ix2 r l)) hR 32 (by decide) _ lit32 c2 j))
    (stage A μ (fun l => R (ix2 r l)) hR 36 (by decide) _ lit36 c3 j)) (stage A μ (fun l => R (ix2 r l)) hR 38 (by decide) _ lit38 c4 j)

end Cert.ChannelProof

end
-- ==== Proof.Channel.Ref.lean ====
module

public import proofs.«01_k».proof.Proof.Gen.ChannelRefIdeal
public import proofs.«01_k».proof.Proof.Select.Mask
public import proofs.«01_k».proof.Proof.Select.Real
public import Idealize.ShloMosaic.Lib.Pipeline.ValueKit

@[expose] public section

set_option maxRecDepth 16384

noncomputable section

namespace Cert.ChannelRef

open Idealize.ShloMosaic Idealize.ShloMosaic.TcCoe Idealize.SL.Sem
open Cert.Select
open Cert.ChannelRefIdeal Cert.ChannelRefIdeal.Gen

/-- The positions a top-k selection returns along the last axis of three are the first of the row's descending order. -/
theorem topK_three {a b n k : ℕ} (hkn : k ≤ n) (x : FVec Ideal ⟨3, ![a, b, n]⟩ .f32) (h : Shape.Slices ⟨3, ![a, b, n]⟩ (fun _ => 0) ⟨3, ![a, b, k]⟩)
    (p : Fin a) (q : Fin b) (l : Fin k) :
    (Host.topK ⟨3, ![a, b, k]⟩ 2 (FloatOps.cmpfTotal (F := Ideal) (φ := FTy.f32) .gt) x h).2 (ix3 p q l)
      = BitVec.ofNat 32 (order (fun j => x (ix3 p q j)) ⟨l, lt_of_lt_of_le l.isLt hkn⟩ : ℕ) := by
  have hj : ∀ J : (⟨3, ![a, b, n]⟩ : Shape).Idx, J = ix3 p q (J 2) → ∀ k : Fin n, J.along 2 k = ix3 p q k := fun J e k => by
    rw [e]
    funext z
    fin_cases z <;> rfl
  have key : ∀ J : (⟨3, ![a, b, n]⟩ : Shape).Idx, J = ix3 p q ⟨l, lt_of_lt_of_le l.isLt hkn⟩ →
      iotaInDim ⟨3, ![a, b, n]⟩ 32 2 (J.along 2 (sortedFrom (fun k k' => FloatOps.cmpfTotal (F := Ideal) (φ := FTy.f32) .gt (x (J.along 2 k)) (x (J.along 2 k')) == 1#1) (J 2)))
        = BitVec.ofNat 32 (order (fun j => x (ix3 p q j)) ⟨l, lt_of_lt_of_le l.isLt hkn⟩ : ℕ) := by
    rintro J rfl
    have e : (fun k k' : Fin n => FloatOps.cmpfTotal (F := Ideal) (φ := FTy.f32) .gt (x ((ix3 p q ⟨l, lt_of_lt_of_le l.isLt hkn⟩ : (⟨3, ![a, b, n]⟩ : Shape).Idx).along 2 k)) (x ((ix3 p q ⟨l, lt_of_lt_of_le l.isLt hkn⟩ : (⟨3, ![a, b, n]⟩ : Shape).Idx).along 2 k')) == 1#1)
        = fun k k' => decide (x (ix3 p q k') < x (ix3 p q k)) := by
      funext k k'
      rw [word_gt, hj _ rfl, hj _ rfl]
    exact congrArg (fun z : Fin n => BitVec.ofNat 32 (z : ℕ)) (congrFun (congrArg sortedFrom e) ⟨l, lt_of_lt_of_le l.isLt hkn⟩)
  unfold Host.topK Host.sort2
  refine key _ ?_
  funext z
  fin_cases z <;> exact Fin.ext (Nat.zero_add _)

/-- The row numbers of the flattened scores. -/
def rowsOf : IVec S192x1 32 := broadcastInDim S192x1 ![0] bcast_S192_S192x1_0 (iotaInDim S192 32 0)

/-- The softmax's exponentials over the rows' largest entries. -/
def expsOf (X : FVec Ideal S4x48x48 .f32) (T : FVec Ideal S4x48 .f32) : FVec Ideal S4x48x48 .f32 :=
  Host.exp (subf X (broadcastInDim S4x48x48 ![0, 1, 2] bcast_S4x48x1_S4x48x48_0_1_2 (broadcastInDim S4x48x1 ![0, 1] bcast_S4x48_S4x48x1_0_1 (maximumf (broadcastInDim S4x48 ![] bcast_S_S4x48 (constant S_ .f32 0xFF800000#32)) T))))

/-- The softmax's exponentials: of the entries less their row's largest. -/
def exps (X : FVec Ideal S4x48x48 .f32) : FVec Ideal S4x48x48 .f32 :=
  expsOf X (Host.reduce FloatOps.maximumf X (constant S_ .f32 0xFF800000#32) reducesTo_S4x48x48_S4x48_d2 h_S_)

/-- The quotient of every entry by its row's sum. -/
def quotOf (X : FVec Ideal S4x48x48 .f32) (T : FVec Ideal S4x48 .f32) : FVec Ideal S4x48x48 .f32 :=
  Host.divf X (broadcastInDim S4x48x48 ![0, 1, 2] bcast_S4x48x1_S4x48x48_0_1_2 (broadcastInDim S4x48x1 ![0, 1] bcast_S4x48_S4x48x1_0_1 T))

/-- The softmax along the last axis. -/
def soft (X : FVec Ideal S4x48x48 .f32) : FVec Ideal S4x48x48 .f32 :=
  quotOf (exps X) (Host.reduceAdd (exps X) (constant S_ .f32 0x00000000#32) reducesTo_S4x48x48_S4x48_d2 h_S_)

theorem bot_word : (Ideal.ofBits FTy.f32 0xFF800000#32) = (⊥ : EReal) := by
  simp [Ideal.ofBits, Ideal.ieee]

theorem rows_at (a : Fin 192) (b : Fin 1) : rowsOf (ix2 a b) = BitVec.ofNat 32 a := by
  unfold rowsOf
  pointwise

theorem tops_at (X : FVec Ideal S4x48x48 .f32) (h : Fin 4) (i : Fin 48) :
    (Host.reduce FloatOps.maximumf X (constant S_ .f32 0xFF800000#32) reducesTo_S4x48x48_S4x48_d2 h_S_) (ix2 h i) = Finset.univ.sup fun e => X (ix3 h i e) := by
  pointwise
  rw [bot_word]
  rfl

theorem sums_at (X : FVec Ideal S4x48x48 .f32) (h : Fin 4) (i : Fin 48) :
    (Host.reduceAdd X (constant S_ .f32 0x00000000#32) reducesTo_S4x48x48_S4x48_d2 h_S_) (ix2 h i) = ∑ e, X (ix3 h i e) := by
  pointwise

theorem expsOf_at (X : FVec Ideal S4x48x48 .f32) (T : FVec Ideal S4x48 .f32) (h : Fin 4) (i j : Fin 48) :
    expsOf X T (ix3 h i j) = Ideal.exp (X (ix3 h i j) - T (ix2 h i)) := by
  pointwise [expsOf]
  rw [bot_word, max_eq_right bot_le]

theorem quotOf_at (X : FVec Ideal S4x48x48 .f32) (T : FVec Ideal S4x48 .f32) (h : Fin 4) (i j : Fin 48) :
    quotOf X T (ix3 h i j) = Ideal.div (X (ix3 h i j)) (T (ix2 h i)) := by
  pointwise [quotOf]

theorem exps_at (X : FVec Ideal S4x48x48 .f32) (h : Fin 4) (i j : Fin 48) :
    exps X (ix3 h i j) = Ideal.exp (X (ix3 h i j) - Finset.univ.sup fun e => X (ix3 h i e)) :=
  (expsOf_at X _ h i j).trans (by rw [tops_at])

theorem soft_at (X : FVec Ideal S4x48x48 .f32) (h : Fin 4) (i j : Fin 48) :
    soft X (ix3 h i j) = Ideal.div (Ideal.exp (X (ix3 h i j) - Finset.univ.sup fun e => X (ix3 h i e)))
      (∑ d : Fin 48, Ideal.exp (X (ix3 h i d) - Finset.univ.sup fun e => X (ix3 h i e))) :=
  (quotOf_at (exps X) _ h i j).trans (by
    rw [sums_at, exps_at]
    exact congrArg _ (Finset.sum_congr rfl fun d _ => exps_at X h i d))

/-- Where a mask is above zero the entry is kept, elsewhere it is `-∞`. -/
theorem where_at (M A : FVec Ideal S4x48x48 .f32) (h : Fin 4) (i j : Fin 48) :
    select (cmpf .ogt M (broadcastInDim S4x48x48 ![] bcast_S_S4x48x48 (constant S_ .f32 0x00000000#32))) A (broadcastInDim S4x48x48 ![] bcast_S_S4x48x48 (id (constant S_ .f32 0xFF800000#32))) (ix3 h i j)
      = if 0 < M (ix3 h i j) then A (ix3 h i j) else ⊥ := by
  rw [← bot_word]
  pointwise
  rfl

theorem flat_at (M : FVec Ideal S192x48 .f32) (h : Fin 4) (i j : Fin 48) :
    (shapeCast S4x48x48 M shapeCasts_S192x48_S4x48x48) (ix3 h i j) = M (ix2 (⟨(h : ℕ) * 48 + (i : ℕ), by omega⟩ : Fin 192) j) := by
  pointwise

theorem zeros_at (i : S192x48.Idx) : (broadcastInDim S192x48 ![] bcast_S_S192x48 (constant S_ .f32 0x00000000#32) : FVec Ideal S192x48 .f32) i = 0 := by
  pointwise

theorem one_word : (Ideal.ofBits FTy.f32 0x3F800000#32) = (1 : EReal) := by
  simp [Ideal.ofBits, Ideal.ieee]; norm_num; rw [← EReal.coe_mul]; norm_num

theorem small (n : ℕ) (h : n < 2147483648) : (BitVec.ofNat 32 n).toNat < 2 ^ (32 - 1) := by
  rw [BitVec.toNat_ofNat]
  omega

theorem small_int (n : ℕ) (h : n < 2147483648) : (BitVec.ofNat 32 n).toInt = (n : ℤ) := by
  rw [BitVec.toInt_eq_toNat_of_lt (by rw [BitVec.toNat_ofNat]; omega), BitVec.toNat_ofNat]
  congr 1
  omega

/-- The positions of each row's 24 best scores. -/
def cols24 (A : FVec Ideal S4x48x48 .f32) : IVec S192x24 32 :=
  shapeCast _ ((Host.topK S4x48x24 2 (FloatOps.cmpfTotal .gt) A sliceFits_S4x48x48_S4x48x24).2) shapeCasts_S4x48x24_S192x24

/-- The pairs of a row and a column the mask is set at. -/
def words24 (I : IVec S192x1 32) (J : IVec S192x24 32) : IVec S192x24x2 32 :=
  concatenate S192x24x2 2 [⟨S192x24x1, (broadcastInDim S192x24x1 ![0, 1] bcast_S192x24_S192x24x1_0_1 (broadcastInDim S192x24 ![0, 1] bcast_S192x1_S192x24_0_1 (select (cmpi .slt I (broadcastInDim S192x1 ![] bcast_S_S192x1 (constantI S_ 32 0#32))) (addi I (broadcastInDim S192x1 ![] bcast_S_S192x1 (constantI S_ 32 192#32))) I)))⟩, ⟨S192x24x1, (broadcastInDim S192x24x1 ![0, 1] bcast_S192x24_S192x24x1_0_1 (select (cmpi .slt J (broadcastInDim S192x24 ![] bcast_S_S192x24 (constantI S_ 32 0#32))) (addi J (broadcastInDim S192x24 ![] bcast_S_S192x24 (constantI S_ 32 48#32))) J))⟩] concatenates_S192x24x1_S192x24x1_S192x24x2_d2

/-- The mask of each row's 24 best scores. -/
def mask24 (A : FVec Ideal S4x48x48 .f32) : FVec Ideal S192x48 .f32 :=
  Host.scatter scatter_S192x48_S192x24x2_S192x24_n_01_01_2 (fun _ b => b) (broadcastInDim S192x48 ![] bcast_S_S192x48 (constant S_ .f32 0x00000000#32)) (words24 rowsOf (cols24 A)) (broadcastInDim S192x24 ![] bcast_S_S192x24 (constant S_ .f32 0x3F800000#32))

/-- The scores where the mask is set, `-∞` elsewhere. -/
def keep24 (A : FVec Ideal S4x48x48 .f32) : FVec Ideal S4x48x48 .f32 :=
  select (cmpf .ogt (shapeCast _ (mask24 A) shapeCasts_S192x48_S4x48x48) (broadcastInDim S4x48x48 ![] bcast_S_S4x48x48 (constant S_ .f32 0x00000000#32))) A (broadcastInDim S4x48x48 ![] bcast_S_S4x48x48 (id (constant S_ .f32 0xFF800000#32)))

theorem cols24_at (A : FVec Ideal S4x48x48 .f32) (a : Fin 192) (b : Fin 24) :
    cols24 A (ix2 a b) = BitVec.ofNat 32 (order (fun j => A (ix3 (⟨(a : ℕ) / 48, by omega⟩ : Fin 4) (⟨(a : ℕ) % 48, by omega⟩ : Fin 48) j)) ⟨b, by omega⟩ : ℕ) := by
  unfold cols24
  generalize hT : (Host.topK S4x48x24 2 (FloatOps.cmpfTotal .gt) A sliceFits_S4x48x48_S4x48x24).2 = T
  have e : shapeCast S192x24 T shapeCasts_S4x48x24_S192x24 (ix2 a b) = T (ix3 (⟨(a : ℕ) / 48, by omega⟩ : Fin 4) (⟨(a : ℕ) % 48, by omega⟩ : Fin 48) b) := by
    pointwise
  rw [e, ← hT]
  exact topK_three (by decide) A _ _ _ _

theorem words24_row (I : IVec S192x1 32) (J : IVec S192x24 32) (a : Fin 192) (b : Fin 24) :
    words24 I J (ix3 a b 0) = Scalar.select (IntOp.cmpi .slt (I (ix2 a 0)) 0#32) (IntOp.addi (I (ix2 a 0)) 192#32) (I (ix2 a 0)) := by
  unfold words24
  pointwise

theorem words24_col (I : IVec S192x1 32) (J : IVec S192x24 32) (a : Fin 192) (b : Fin 24) :
    words24 I J (ix3 a b 1) = Scalar.select (IntOp.cmpi .slt (J (ix2 a b)) 0#32) (IntOp.addi (J (ix2 a b)) 48#32) (J (ix2 a b)) := by
  unfold words24
  pointwise

theorem ones24_at (i : S192x24.Idx) : (broadcastInDim S192x24 ![] bcast_S_S192x24 (constant S_ .f32 0x3F800000#32) : FVec Ideal S192x24 .f32) i = 1 := by
  rw [← one_word]
  pointwise

theorem mask24_at (A : FVec Ideal S4x48x48 .f32) (r : Fin 192) (j : Fin 48) :
    mask24 A (ix2 r j) = if place (fun j => A (ix3 (⟨(r : ℕ) / 48, by omega⟩ : Fin 4) (⟨(r : ℕ) % 48, by omega⟩ : Fin 48) j)) j < 24 then 1 else 0 := by
  unfold mask24
  refine mask_at (by decide) scatter_S192x48_S192x24x2_S192x24_n_01_01_2 rfl rfl rfl _ _ _ zeros_at ones24_at
    (fun r j => A (ix3 (⟨(r : ℕ) / 48, by omega⟩ : Fin 4) (⟨(r : ℕ) % 48, by omega⟩ : Fin 48) j)) (fun a b => ?_) (fun a b => ?_) r j
  · have ha := a.isLt
    exact (congrArg BitVec.toInt ((words24_row rowsOf (cols24 A) a b).trans ((Routing.wrap_of_lt _ _ (by rw [rows_at]; exact small _ (by omega))).trans (rows_at a 0)))).trans (small_int _ (by omega))
  · have hb : ∀ z : Fin 48, (z : ℕ) < 2147483648 := fun z => by omega
    exact (congrArg BitVec.toInt ((words24_col rowsOf (cols24 A) a b).trans ((Routing.wrap_of_lt _ _ (by rw [cols24_at]; exact small _ (hb _))).trans (cols24_at A a b)))).trans (small_int _ (hb _))

theorem keep24_at (A : FVec Ideal S4x48x48 .f32) (h : Fin 4) (i j : Fin 48) :
    keep24 A (ix3 h i j) = if place (fun j => A (ix3 h i j)) j < 24 then A (ix3 h i j) else ⊥ := by
  refine (where_at _ A h i j).trans ?_
  rw [flat_at, mask24_at]
  have e2 : (⟨((h : ℕ) * 48 + (i : ℕ)) / 48, by omega⟩ : Fin 4) = h := Fin.ext (by dsimp only; omega)
  have e3 : (⟨((h : ℕ) * 48 + (i : ℕ)) % 48, by omega⟩ : Fin 48) = i := Fin.ext (by dsimp only; omega)
  rw [e2, e3]
  by_cases hp : place (fun j => A (ix3 h i j)) j < 24
  · rw [if_pos hp, if_pos hp, if_pos one_pos]
  · rw [if_neg hp, if_neg hp, if_neg (lt_irrefl _)]

/-- The softmax of the 24 best of real scores. -/
theorem soft24 (A : FVec Ideal S4x48x48 .f32) (h : Fin 4) (i : Fin 48) (α : Fin 48 → ℝ) (hα : ∀ j, A (ix3 h i j) = (α j : EReal)) (j : Fin 48) :
    soft (keep24 A) (ix3 h i j) = ((weight 24 α j / total 24 α : ℝ) : EReal) := by
  have e : (fun j => A (ix3 h i j)) = up α := funext hα
  have e' : (fun j => keep24 A (ix3 h i j)) = masked 24 α := funext fun j => by
    rw [keep24_at, e, hα]
    rfl
  rw [soft_at]
  obtain ⟨μ, hμ⟩ := masked_max_real 24 α (by decide) (by decide)
  have q : ∀ j, keep24 A (ix3 h i j) = masked 24 α j := fun j => congrFun e' j
  rw [e', hμ, q]
  simp only [q]
  exact softmax_masked 24 α (by decide) (by decide) μ j

/-- The positions of each row's 32 best scores. -/
def cols32 (A : FVec Ideal S4x48x48 .f32) : IVec S192x32 32 :=
  shapeCast _ ((Host.topK S4x48x32 2 (FloatOps.cmpfTotal .gt) A sliceFits_S4x48x48_S4x48x32).2) shapeCasts_S4x48x32_S192x32

/-- The pairs of a row and a column the mask is set at. -/
def words32 (I : IVec S192x1 32) (J : IVec S192x32 32) : IVec S192x32x2 32 :=
  concatenate S192x32x2 2 [⟨S192x32x1, (broadcastInDim S192x32x1 ![0, 1] bcast_S192x32_S192x32x1_0_1 (broadcastInDim S192x32 ![0, 1] bcast_S192x1_S192x32_0_1 (select (cmpi .slt I (broadcastInDim S192x1 ![] bcast_S_S192x1 (constantI S_ 32 0#32))) (addi I (broadcastInDim S192x1 ![] bcast_S_S192x1 (constantI S_ 32 192#32))) I)))⟩, ⟨S192x32x1, (broadcastInDim S192x32x1 ![0, 1] bcast_S192x32_S192x32x1_0_1 (select (cmpi .slt J (broadcastInDim S192x32 ![] bcast_S_S192x32 (constantI S_ 32 0#32))) (addi J (broadcastInDim S192x32 ![] bcast_S_S192x32 (constantI S_ 32 48#32))) J))⟩] concatenates_S192x32x1_S192x32x1_S192x32x2_d2

/-- The mask of each row's 32 best scores. -/
def mask32 (A : FVec Ideal S4x48x48 .f32) : FVec Ideal S192x48 .f32 :=
  Host.scatter scatter_S192x48_S192x32x2_S192x32_n_01_01_2 (fun _ b => b) (broadcastInDim S192x48 ![] bcast_S_S192x48 (constant S_ .f32 0x00000000#32)) (words32 rowsOf (cols32 A)) (broadcastInDim S192x32 ![] bcast_S_S192x32 (constant S_ .f32 0x3F800000#32))

/-- The scores where the mask is set, `-∞` elsewhere. -/
def keep32 (A : FVec Ideal S4x48x48 .f32) : FVec Ideal S4x48x48 .f32 :=
  select (cmpf .ogt (shapeCast _ (mask32 A) shapeCasts_S192x48_S4x48x48) (broadcastInDim S4x48x48 ![] bcast_S_S4x48x48 (constant S_ .f32 0x00000000#32))) A (broadcastInDim S4x48x48 ![] bcast_S_S4x48x48 (id (constant S_ .f32 0xFF800000#32)))

theorem cols32_at (A : FVec Ideal S4x48x48 .f32) (a : Fin 192) (b : Fin 32) :
    cols32 A (ix2 a b) = BitVec.ofNat 32 (order (fun j => A (ix3 (⟨(a : ℕ) / 48, by omega⟩ : Fin 4) (⟨(a : ℕ) % 48, by omega⟩ : Fin 48) j)) ⟨b, by omega⟩ : ℕ) := by
  unfold cols32
  generalize hT : (Host.topK S4x48x32 2 (FloatOps.cmpfTotal .gt) A sliceFits_S4x48x48_S4x48x32).2 = T
  have e : shapeCast S192x32 T shapeCasts_S4x48x32_S192x32 (ix2 a b) = T (ix3 (⟨(a : ℕ) / 48, by omega⟩ : Fin 4) (⟨(a : ℕ) % 48, by omega⟩ : Fin 48) b) := by
    pointwise
  rw [e, ← hT]
  exact topK_three (by decide) A _ _ _ _

theorem words32_row (I : IVec S192x1 32) (J : IVec S192x32 32) (a : Fin 192) (b : Fin 32) :
    words32 I J (ix3 a b 0) = Scalar.select (IntOp.cmpi .slt (I (ix2 a 0)) 0#32) (IntOp.addi (I (ix2 a 0)) 192#32) (I (ix2 a 0)) := by
  unfold words32
  pointwise

theorem words32_col (I : IVec S192x1 32) (J : IVec S192x32 32) (a : Fin 192) (b : Fin 32) :
    words32 I J (ix3 a b 1) = Scalar.select (IntOp.cmpi .slt (J (ix2 a b)) 0#32) (IntOp.addi (J (ix2 a b)) 48#32) (J (ix2 a b)) := by
  unfold words32
  pointwise

theorem ones32_at (i : S192x32.Idx) : (broadcastInDim S192x32 ![] bcast_S_S192x32 (constant S_ .f32 0x3F800000#32) : FVec Ideal S192x32 .f32) i = 1 := by
  rw [← one_word]
  pointwise

theorem mask32_at (A : FVec Ideal S4x48x48 .f32) (r : Fin 192) (j : Fin 48) :
    mask32 A (ix2 r j) = if place (fun j => A (ix3 (⟨(r : ℕ) / 48, by omega⟩ : Fin 4) (⟨(r : ℕ) % 48, by omega⟩ : Fin 48) j)) j < 32 then 1 else 0 := by
  unfold mask32
  refine mask_at (by decide) scatter_S192x48_S192x32x2_S192x32_n_01_01_2 rfl rfl rfl _ _ _ zeros_at ones32_at
    (fun r j => A (ix3 (⟨(r : ℕ) / 48, by omega⟩ : Fin 4) (⟨(r : ℕ) % 48, by omega⟩ : Fin 48) j)) (fun a b => ?_) (fun a b => ?_) r j
  · have ha := a.isLt
    exact (congrArg BitVec.toInt ((words32_row rowsOf (cols32 A) a b).trans ((Routing.wrap_of_lt _ _ (by rw [rows_at]; exact small _ (by omega))).trans (rows_at a 0)))).trans (small_int _ (by omega))
  · have hb : ∀ z : Fin 48, (z : ℕ) < 2147483648 := fun z => by omega
    exact (congrArg BitVec.toInt ((words32_col rowsOf (cols32 A) a b).trans ((Routing.wrap_of_lt _ _ (by rw [cols32_at]; exact small _ (hb _))).trans (cols32_at A a b)))).trans (small_int _ (hb _))

theorem keep32_at (A : FVec Ideal S4x48x48 .f32) (h : Fin 4) (i j : Fin 48) :
    keep32 A (ix3 h i j) = if place (fun j => A (ix3 h i j)) j < 32 then A (ix3 h i j) else ⊥ := by
  refine (where_at _ A h i j).trans ?_
  rw [flat_at, mask32_at]
  have e2 : (⟨((h : ℕ) * 48 + (i : ℕ)) / 48, by omega⟩ : Fin 4) = h := Fin.ext (by dsimp only; omega)
  have e3 : (⟨((h : ℕ) * 48 + (i : ℕ)) % 48, by omega⟩ : Fin 48) = i := Fin.ext (by dsimp only; omega)
  rw [e2, e3]
  by_cases hp : place (fun j => A (ix3 h i j)) j < 32
  · rw [if_pos hp, if_pos hp, if_pos one_pos]
  · rw [if_neg hp, if_neg hp, if_neg (lt_irrefl _)]

/-- The softmax of the 32 best of real scores. -/
theorem soft32 (A : FVec Ideal S4x48x48 .f32) (h : Fin 4) (i : Fin 48) (α : Fin 48 → ℝ) (hα : ∀ j, A (ix3 h i j) = (α j : EReal)) (j : Fin 48) :
    soft (keep32 A) (ix3 h i j) = ((weight 32 α j / total 32 α : ℝ) : EReal) := by
  have e : (fun j => A (ix3 h i j)) = up α := funext hα
  have e' : (fun j => keep32 A (ix3 h i j)) = masked 32 α := funext fun j => by
    rw [keep32_at, e, hα]
    rfl
  rw [soft_at]
  obtain ⟨μ, hμ⟩ := masked_max_real 32 α (by decide) (by decide)
  have q : ∀ j, keep32 A (ix3 h i j) = masked 32 α j := fun j => congrFun e' j
  rw [e', hμ, q]
  simp only [q]
  exact softmax_masked 32 α (by decide) (by decide) μ j

/-- The positions of each row's 36 best scores. -/
def cols36 (A : FVec Ideal S4x48x48 .f32) : IVec S192x36 32 :=
  shapeCast _ ((Host.topK S4x48x36 2 (FloatOps.cmpfTotal .gt) A sliceFits_S4x48x48_S4x48x36).2) shapeCasts_S4x48x36_S192x36

/-- The pairs of a row and a column the mask is set at. -/
def words36 (I : IVec S192x1 32) (J : IVec S192x36 32) : IVec S192x36x2 32 :=
  concatenate S192x36x2 2 [⟨S192x36x1, (broadcastInDim S192x36x1 ![0, 1] bcast_S192x36_S192x36x1_0_1 (broadcastInDim S192x36 ![0, 1] bcast_S192x1_S192x36_0_1 (select (cmpi .slt I (broadcastInDim S192x1 ![] bcast_S_S192x1 (constantI S_ 32 0#32))) (addi I (broadcastInDim S192x1 ![] bcast_S_S192x1 (constantI S_ 32 192#32))) I)))⟩, ⟨S192x36x1, (broadcastInDim S192x36x1 ![0, 1] bcast_S192x36_S192x36x1_0_1 (select (cmpi .slt J (broadcastInDim S192x36 ![] bcast_S_S192x36 (constantI S_ 32 0#32))) (addi J (broadcastInDim S192x36 ![] bcast_S_S192x36 (constantI S_ 32 48#32))) J))⟩] concatenates_S192x36x1_S192x36x1_S192x36x2_d2

/-- The mask of each row's 36 best scores. -/
def mask36 (A : FVec Ideal S4x48x48 .f32) : FVec Ideal S192x48 .f32 :=
  Host.scatter scatter_S192x48_S192x36x2_S192x36_n_01_01_2 (fun _ b => b) (broadcastInDim S192x48 ![] bcast_S_S192x48 (constant S_ .f32 0x00000000#32)) (words36 rowsOf (cols36 A)) (broadcastInDim S192x36 ![] bcast_S_S192x36 (constant S_ .f32 0x3F800000#32))

/-- The scores where the mask is set, `-∞` elsewhere. -/
def keep36 (A : FVec Ideal S4x48x48 .f32) : FVec Ideal S4x48x48 .f32 :=
  select (cmpf .ogt (shapeCast _ (mask36 A) shapeCasts_S192x48_S4x48x48) (broadcastInDim S4x48x48 ![] bcast_S_S4x48x48 (constant S_ .f32 0x00000000#32))) A (broadcastInDim S4x48x48 ![] bcast_S_S4x48x48 (id (constant S_ .f32 0xFF800000#32)))

theorem cols36_at (A : FVec Ideal S4x48x48 .f32) (a : Fin 192) (b : Fin 36) :
    cols36 A (ix2 a b) = BitVec.ofNat 32 (order (fun j => A (ix3 (⟨(a : ℕ) / 48, by omega⟩ : Fin 4) (⟨(a : ℕ) % 48, by omega⟩ : Fin 48) j)) ⟨b, by omega⟩ : ℕ) := by
  unfold cols36
  generalize hT : (Host.topK S4x48x36 2 (FloatOps.cmpfTotal .gt) A sliceFits_S4x48x48_S4x48x36).2 = T
  have e : shapeCast S192x36 T shapeCasts_S4x48x36_S192x36 (ix2 a b) = T (ix3 (⟨(a : ℕ) / 48, by omega⟩ : Fin 4) (⟨(a : ℕ) % 48, by omega⟩ : Fin 48) b) := by
    pointwise
  rw [e, ← hT]
  exact topK_three (by decide) A _ _ _ _

theorem words36_row (I : IVec S192x1 32) (J : IVec S192x36 32) (a : Fin 192) (b : Fin 36) :
    words36 I J (ix3 a b 0) = Scalar.select (IntOp.cmpi .slt (I (ix2 a 0)) 0#32) (IntOp.addi (I (ix2 a 0)) 192#32) (I (ix2 a 0)) := by
  unfold words36
  pointwise

theorem words36_col (I : IVec S192x1 32) (J : IVec S192x36 32) (a : Fin 192) (b : Fin 36) :
    words36 I J (ix3 a b 1) = Scalar.select (IntOp.cmpi .slt (J (ix2 a b)) 0#32) (IntOp.addi (J (ix2 a b)) 48#32) (J (ix2 a b)) := by
  unfold words36
  pointwise

theorem ones36_at (i : S192x36.Idx) : (broadcastInDim S192x36 ![] bcast_S_S192x36 (constant S_ .f32 0x3F800000#32) : FVec Ideal S192x36 .f32) i = 1 := by
  rw [← one_word]
  pointwise

theorem mask36_at (A : FVec Ideal S4x48x48 .f32) (r : Fin 192) (j : Fin 48) :
    mask36 A (ix2 r j) = if place (fun j => A (ix3 (⟨(r : ℕ) / 48, by omega⟩ : Fin 4) (⟨(r : ℕ) % 48, by omega⟩ : Fin 48) j)) j < 36 then 1 else 0 := by
  unfold mask36
  refine mask_at (by decide) scatter_S192x48_S192x36x2_S192x36_n_01_01_2 rfl rfl rfl _ _ _ zeros_at ones36_at
    (fun r j => A (ix3 (⟨(r : ℕ) / 48, by omega⟩ : Fin 4) (⟨(r : ℕ) % 48, by omega⟩ : Fin 48) j)) (fun a b => ?_) (fun a b => ?_) r j
  · have ha := a.isLt
    exact (congrArg BitVec.toInt ((words36_row rowsOf (cols36 A) a b).trans ((Routing.wrap_of_lt _ _ (by rw [rows_at]; exact small _ (by omega))).trans (rows_at a 0)))).trans (small_int _ (by omega))
  · have hb : ∀ z : Fin 48, (z : ℕ) < 2147483648 := fun z => by omega
    exact (congrArg BitVec.toInt ((words36_col rowsOf (cols36 A) a b).trans ((Routing.wrap_of_lt _ _ (by rw [cols36_at]; exact small _ (hb _))).trans (cols36_at A a b)))).trans (small_int _ (hb _))

theorem keep36_at (A : FVec Ideal S4x48x48 .f32) (h : Fin 4) (i j : Fin 48) :
    keep36 A (ix3 h i j) = if place (fun j => A (ix3 h i j)) j < 36 then A (ix3 h i j) else ⊥ := by
  refine (where_at _ A h i j).trans ?_
  rw [flat_at, mask36_at]
  have e2 : (⟨((h : ℕ) * 48 + (i : ℕ)) / 48, by omega⟩ : Fin 4) = h := Fin.ext (by dsimp only; omega)
  have e3 : (⟨((h : ℕ) * 48 + (i : ℕ)) % 48, by omega⟩ : Fin 48) = i := Fin.ext (by dsimp only; omega)
  rw [e2, e3]
  by_cases hp : place (fun j => A (ix3 h i j)) j < 36
  · rw [if_pos hp, if_pos hp, if_pos one_pos]
  · rw [if_neg hp, if_neg hp, if_neg (lt_irrefl _)]

/-- The softmax of the 36 best of real scores. -/
theorem soft36 (A : FVec Ideal S4x48x48 .f32) (h : Fin 4) (i : Fin 48) (α : Fin 48 → ℝ) (hα : ∀ j, A (ix3 h i j) = (α j : EReal)) (j : Fin 48) :
    soft (keep36 A) (ix3 h i j) = ((weight 36 α j / total 36 α : ℝ) : EReal) := by
  have e : (fun j => A (ix3 h i j)) = up α := funext hα
  have e' : (fun j => keep36 A (ix3 h i j)) = masked 36 α := funext fun j => by
    rw [keep36_at, e, hα]
    rfl
  rw [soft_at]
  obtain ⟨μ, hμ⟩ := masked_max_real 36 α (by decide) (by decide)
  have q : ∀ j, keep36 A (ix3 h i j) = masked 36 α j := fun j => congrFun e' j
  rw [e', hμ, q]
  simp only [q]
  exact softmax_masked 36 α (by decide) (by decide) μ j

/-- The positions of each row's 38 best scores. -/
def cols38 (A : FVec Ideal S4x48x48 .f32) : IVec S192x38 32 :=
  shapeCast _ ((Host.topK S4x48x38 2 (FloatOps.cmpfTotal .gt) A sliceFits_S4x48x48_S4x48x38).2) shapeCasts_S4x48x38_S192x38

/-- The pairs of a row and a column the mask is set at. -/
def words38 (I : IVec S192x1 32) (J : IVec S192x38 32) : IVec S192x38x2 32 :=
  concatenate S192x38x2 2 [⟨S192x38x1, (broadcastInDim S192x38x1 ![0, 1] bcast_S192x38_S192x38x1_0_1 (broadcastInDim S192x38 ![0, 1] bcast_S192x1_S192x38_0_1 (select (cmpi .slt I (broadcastInDim S192x1 ![] bcast_S_S192x1 (constantI S_ 32 0#32))) (addi I (broadcastInDim S192x1 ![] bcast_S_S192x1 (constantI S_ 32 192#32))) I)))⟩, ⟨S192x38x1, (broadcastInDim S192x38x1 ![0, 1] bcast_S192x38_S192x38x1_0_1 (select (cmpi .slt J (broadcastInDim S192x38 ![] bcast_S_S192x38 (constantI S_ 32 0#32))) (addi J (broadcastInDim S192x38 ![] bcast_S_S192x38 (constantI S_ 32 48#32))) J))⟩] concatenates_S192x38x1_S192x38x1_S192x38x2_d2

/-- The mask of each row's 38 best scores. -/
def mask38 (A : FVec Ideal S4x48x48 .f32) : FVec Ideal S192x48 .f32 :=
  Host.scatter scatter_S192x48_S192x38x2_S192x38_n_01_01_2 (fun _ b => b) (broadcastInDim S192x48 ![] bcast_S_S192x48 (constant S_ .f32 0x00000000#32)) (words38 rowsOf (cols38 A)) (broadcastInDim S192x38 ![] bcast_S_S192x38 (constant S_ .f32 0x3F800000#32))

/-- The scores where the mask is set, `-∞` elsewhere. -/
def keep38 (A : FVec Ideal S4x48x48 .f32) : FVec Ideal S4x48x48 .f32 :=
  select (cmpf .ogt (shapeCast _ (mask38 A) shapeCasts_S192x48_S4x48x48) (broadcastInDim S4x48x48 ![] bcast_S_S4x48x48 (constant S_ .f32 0x00000000#32))) A (broadcastInDim S4x48x48 ![] bcast_S_S4x48x48 (id (constant S_ .f32 0xFF800000#32)))

theorem cols38_at (A : FVec Ideal S4x48x48 .f32) (a : Fin 192) (b : Fin 38) :
    cols38 A (ix2 a b) = BitVec.ofNat 32 (order (fun j => A (ix3 (⟨(a : ℕ) / 48, by omega⟩ : Fin 4) (⟨(a : ℕ) % 48, by omega⟩ : Fin 48) j)) ⟨b, by omega⟩ : ℕ) := by
  unfold cols38
  generalize hT : (Host.topK S4x48x38 2 (FloatOps.cmpfTotal .gt) A sliceFits_S4x48x48_S4x48x38).2 = T
  have e : shapeCast S192x38 T shapeCasts_S4x48x38_S192x38 (ix2 a b) = T (ix3 (⟨(a : ℕ) / 48, by omega⟩ : Fin 4) (⟨(a : ℕ) % 48, by omega⟩ : Fin 48) b) := by
    pointwise
  rw [e, ← hT]
  exact topK_three (by decide) A _ _ _ _

theorem words38_row (I : IVec S192x1 32) (J : IVec S192x38 32) (a : Fin 192) (b : Fin 38) :
    words38 I J (ix3 a b 0) = Scalar.select (IntOp.cmpi .slt (I (ix2 a 0)) 0#32) (IntOp.addi (I (ix2 a 0)) 192#32) (I (ix2 a 0)) := by
  unfold words38
  pointwise

theorem words38_col (I : IVec S192x1 32) (J : IVec S192x38 32) (a : Fin 192) (b : Fin 38) :
    words38 I J (ix3 a b 1) = Scalar.select (IntOp.cmpi .slt (J (ix2 a b)) 0#32) (IntOp.addi (J (ix2 a b)) 48#32) (J (ix2 a b)) := by
  unfold words38
  pointwise

theorem ones38_at (i : S192x38.Idx) : (broadcastInDim S192x38 ![] bcast_S_S192x38 (constant S_ .f32 0x3F800000#32) : FVec Ideal S192x38 .f32) i = 1 := by
  rw [← one_word]
  pointwise

theorem mask38_at (A : FVec Ideal S4x48x48 .f32) (r : Fin 192) (j : Fin 48) :
    mask38 A (ix2 r j) = if place (fun j => A (ix3 (⟨(r : ℕ) / 48, by omega⟩ : Fin 4) (⟨(r : ℕ) % 48, by omega⟩ : Fin 48) j)) j < 38 then 1 else 0 := by
  unfold mask38
  refine mask_at (by decide) scatter_S192x48_S192x38x2_S192x38_n_01_01_2 rfl rfl rfl _ _ _ zeros_at ones38_at
    (fun r j => A (ix3 (⟨(r : ℕ) / 48, by omega⟩ : Fin 4) (⟨(r : ℕ) % 48, by omega⟩ : Fin 48) j)) (fun a b => ?_) (fun a b => ?_) r j
  · have ha := a.isLt
    exact (congrArg BitVec.toInt ((words38_row rowsOf (cols38 A) a b).trans ((Routing.wrap_of_lt _ _ (by rw [rows_at]; exact small _ (by omega))).trans (rows_at a 0)))).trans (small_int _ (by omega))
  · have hb : ∀ z : Fin 48, (z : ℕ) < 2147483648 := fun z => by omega
    exact (congrArg BitVec.toInt ((words38_col rowsOf (cols38 A) a b).trans ((Routing.wrap_of_lt _ _ (by rw [cols38_at]; exact small _ (hb _))).trans (cols38_at A a b)))).trans (small_int _ (hb _))

theorem keep38_at (A : FVec Ideal S4x48x48 .f32) (h : Fin 4) (i j : Fin 48) :
    keep38 A (ix3 h i j) = if place (fun j => A (ix3 h i j)) j < 38 then A (ix3 h i j) else ⊥ := by
  refine (where_at _ A h i j).trans ?_
  rw [flat_at, mask38_at]
  have e2 : (⟨((h : ℕ) * 48 + (i : ℕ)) / 48, by omega⟩ : Fin 4) = h := Fin.ext (by dsimp only; omega)
  have e3 : (⟨((h : ℕ) * 48 + (i : ℕ)) % 48, by omega⟩ : Fin 48) = i := Fin.ext (by dsimp only; omega)
  rw [e2, e3]
  by_cases hp : place (fun j => A (ix3 h i j)) j < 38
  · rw [if_pos hp, if_pos hp, if_pos one_pos]
  · rw [if_neg hp, if_neg hp, if_neg (lt_irrefl _)]

/-- The softmax of the 38 best of real scores. -/
theorem soft38 (A : FVec Ideal S4x48x48 .f32) (h : Fin 4) (i : Fin 48) (α : Fin 48 → ℝ) (hα : ∀ j, A (ix3 h i j) = (α j : EReal)) (j : Fin 48) :
    soft (keep38 A) (ix3 h i j) = ((weight 38 α j / total 38 α : ℝ) : EReal) := by
  have e : (fun j => A (ix3 h i j)) = up α := funext hα
  have e' : (fun j => keep38 A (ix3 h i j)) = masked 38 α := funext fun j => by
    rw [keep38_at, e, hα]
    rfl
  rw [soft_at]
  obtain ⟨μ, hμ⟩ := masked_max_real 38 α (by decide) (by decide)
  have q : ∀ j, keep38 A (ix3 h i j) = masked 38 α j := fun j => congrFun e' j
  rw [e', hμ, q]
  simp only [q]
  exact softmax_masked 38 α (by decide) (by decide) μ j

/-- A coefficient times an attention matrix. -/
def term (S : FVec Ideal S4x48x48 .f32) (c : FVec Ideal S1 .f32) : FVec Ideal S4x48x48 .f32 :=
  mulf S (broadcastInDim S4x48x48 ![0, 1, 2] bcast_S1x1x1_S4x48x48_0_1_2 (broadcastInDim S1x1x1 ![2] bcast_S1_S1x1x1_2 c))

theorem term_at (S : FVec Ideal S4x48x48 .f32) (c : FVec Ideal S1 .f32) (h : Fin 4) (i j : Fin 48) :
    term S c (ix3 h i j) = S (ix3 h i j) * c (ix1 0) := by
  pointwise [term]

/-- The rows divided by their Euclidean norms, given the squares' sums. -/
def normed (s : FVec Ideal S192x1 .f32) (q : FVec Ideal S192x50176 .f32) : FVec Ideal S192x50176 .f32 :=
  Host.divf q (broadcastInDim S192x50176 ![0, 1] bcast_S192x1_S192x50176_0_1 (maximumf (Host.sqrt s) (broadcastInDim S192x1 ![] bcast_S_S192x1 (constant S_ .f32 0x2B8CBCCC#32))))

/-- An entry of the normalised rows. -/
def unit (s : FVec Ideal S192x1 .f32) (q : FVec Ideal S192x50176 .f32) (r : Fin 192) (p : Fin 50176) : EReal :=
  Ideal.div (q (ix2 r p)) (max (Ideal.sqrt (s (ix2 r 0))) (Ideal.ofBits FTy.f32 0x2B8CBCCC#32))

theorem normed_at (s : FVec Ideal S192x1 .f32) (q : FVec Ideal S192x50176 .f32) (r : Fin 192) (p : Fin 50176) :
    normed s q (ix2 r p) = unit s q r p := by
  unfold unit
  pointwise [normed]

/-- The row a head's channel lies in. -/
def row (h : Fin 4) (i : Fin 48) : Fin 192 := ⟨(h : ℕ) * 48 + (i : ℕ), by omega⟩

/-- The scaled products of every two channels of a head. -/
def prods (x y : FVec Ideal S192x50176 .f32) (T : FVec Ideal S4x1x1 .f32) : FVec Ideal S4x48x48 .f32 :=
  mulf (Host.dotGeneral dot_S4x48x50176_S4x50176x48_S4x48x48_2_1_1_2_0_0 none (shapeCast _ x shapeCasts_S192x50176_S4x48x50176) (transpose S4x50176x48 [0, 2, 1] (shapeCast _ y shapeCasts_S192x50176_S4x48x50176) transposes_S4x48x50176_S4x50176x48_0_2_1)) (broadcastInDim S4x48x48 ![0, 1, 2] bcast_S4x1x1_S4x48x48_0_1_2 T)

/-- The scores: the products of the normalised rows, scaled by the head's temperature. -/
def scores (s s' : FVec Ideal S192x1 .f32) (q k : FVec Ideal S192x50176 .f32) (T : FVec Ideal S4x1x1 .f32) : FVec Ideal S4x48x48 .f32 :=
  prods (normed s q) (normed s' k) T

theorem prods_at (x y : FVec Ideal S192x50176 .f32) (T : FVec Ideal S4x1x1 .f32) (h : Fin 4) (i j : Fin 48) :
    prods x y T (ix3 h i j) = (∑ p : Fin 50176, x (ix2 (row h i) p) * y (ix2 (row h j) p)) * T (ix3 h 0 0) := by
  pointwise [prods]
  rfl

theorem scores_at (s s' : FVec Ideal S192x1 .f32) (q k : FVec Ideal S192x50176 .f32) (T : FVec Ideal S4x1x1 .f32) (h : Fin 4) (i j : Fin 48) :
    scores s s' q k T (ix3 h i j) = (∑ p : Fin 50176, unit s q (row h i) p * unit s' k (row h j) p) * T (ix3 h 0 0) := by
  refine (prods_at _ _ T h i j).trans (congrArg (fun z : EReal => z * T (ix3 h 0 0)) (Finset.sum_congr rfl fun p _ => ?_))
  rw [normed_at, normed_at]

/-- The reference's result. -/
def result (T : FVec Ideal S4x1x1 .f32) (c1 c2 c3 c4 : FVec Ideal S1 .f32) (s s' : FVec Ideal S192x1 .f32) (q k : FVec Ideal S192x50176 .f32) : FVec Ideal S192x48 .f32 :=
  shapeCast _ (addf (addf (addf
    (term (soft (keep24 (scores s s' q k T))) c1)
    (term (soft (keep32 (scores s s' q k T))) c2))
    (term (soft (keep36 (scores s s' q k T))) c3))
    (term (soft (keep38 (scores s s' q k T))) c4)) shapeCasts_S4x48x48_S192x48

theorem back_at (M : FVec Ideal S4x48x48 .f32) (y : S192x48.Idx) :
    (shapeCast S192x48 M shapeCasts_S4x48x48_S192x48) y = M (ix3 (⟨(y 0 : ℕ) / 48, by have h : (y 0 : ℕ) < 192 := (y 0).isLt; omega⟩ : Fin 4) (⟨(y 0 : ℕ) % 48, by omega⟩ : Fin 48) (y 1)) := by
  pointwise
  try blk_ext

/-- The reference's result over real scores. -/
theorem result_real (T : FVec Ideal S4x1x1 .f32) (c1 c2 c3 c4 : FVec Ideal S1 .f32) (s s' : FVec Ideal S192x1 .f32) (q k : FVec Ideal S192x50176 .f32)
    (h : Fin 4) (i j : Fin 48) (y : S192x48.Idx) (hh : (y 0 : ℕ) / 48 = (h : ℕ)) (hi : (y 0 : ℕ) % 48 = (i : ℕ)) (hj : (y 1 : ℕ) = (j : ℕ))
    (α : Fin 48 → ℝ) (hα : ∀ j, (∑ p : Fin 50176, unit s q (row h i) p * unit s' k (row h j) p) * T (ix3 h 0 0) = (α j : EReal)) :
    result T c1 c2 c3 c4 s s' q k y = ((weight 24 α j / total 24 α : ℝ) : EReal) * c1 (ix1 0) + ((weight 32 α j / total 32 α : ℝ) : EReal) * c2 (ix1 0)
      + ((weight 36 α j / total 36 α : ℝ) : EReal) * c3 (ix1 0) + ((weight 38 α j / total 38 α : ℝ) : EReal) * c4 (ix1 0) := by
  have ha : ∀ j, scores s s' q k T (ix3 h i j) = (α j : EReal) := fun j => (scores_at s s' q k T h i j).trans (hα j)
  have e2 : ∀ p, (⟨(y 0 : ℕ) / 48, p⟩ : Fin 4) = h := fun _ => Fin.ext hh
  have e3 : ∀ p, (⟨(y 0 : ℕ) % 48, p⟩ : Fin 48) = i := fun _ => Fin.ext hi
  have e4 : (y 1 : Fin 48) = j := Fin.ext hj
  unfold result
  refine (back_at _ y).trans ?_
  rw [e2, e3, e4]
  refine Eq.trans (congrArg₂ (· + ·) (congrArg₂ (· + ·) (congrArg₂ (· + ·) (term_at _ c1 h i j) (term_at _ c2 h i j)) (term_at _ c3 h i j)) (term_at _ c4 h i j)) ?_
  rw [soft24 _ h i α ha, soft32 _ h i α ha, soft36 _ h i α ha, soft38 _ h i α ha]

end Cert.ChannelRef

end
-- ==== Proof.Channel.Blocks.lean ====
module

public import proofs.«01_k».proof.Proof.Gen.ChannelIdeal.Frame
public import proofs.«01_k».proof.Proof.Channel.Coefs
public import proofs.«01_k».proof.Proof.Channel.Ref
public import proofs.«01_k».proof.Proof.Channel.Rank
public import Idealize.ShloMosaic.Lib.Pipeline.ValueKit
public import Idealize.ShloMosaic.Lib.Pipeline.ReadBack

@[expose] public section

set_option maxRecDepth 16384

noncomputable section

namespace Cert.ChannelProof

open Idealize.ShloMosaic Idealize.ShloMosaic.TcCoe Idealize.SL.Sem
open Idealize.ShloMosaic.Pipeline (Dat)
open Cert.ChannelIdeal Cert.ChannelIdeal.Gen

open Cert.Select

variable (m : (ℓ : Loc nD τ sig) → Buf (Elt Ideal) ℓ)

/-- Where each window's block sits: the parameters and the sums of squares whole, queries and keys by 3584 columns, the result whole. -/
theorem idx : ∀ t : Fin cfg0.N, win0_0.index t = ![0] ∧ win0_1.index t = ![0, 0] ∧ win0_2.index t = ![0, 0] ∧ win0_3.index t = ![0, t.val]
    ∧ win0_4.index t = ![0, t.val] ∧ win0_5.index t = ![0, 0] :=
  (by decide +kernel : ∀ t : Fin grid0.N, _)

theorem steps (t : Fin cfg0.N) : (t : ℕ) < 14 := t.isLt

theorem sq_at (c : Dev nD) (t : Fin cfg0.N) (R : Fin 192) (z : Fin 1) :
    (iblk m c 1 t : FVec Ideal S192x1 .f32) (ix2 R z) = m ((c : Thread nD τ).loc main_arg5) (ix2 R z) := by
  blk_point [iblk, idx t]

theorem sk_at (c : Dev nD) (t : Fin cfg0.N) (R : Fin 192) (z : Fin 1) :
    (iblk m c 2 t : FVec Ideal S192x1 .f32) (ix2 R z) = m ((c : Thread nD τ).loc main_arg6) (ix2 R z) := by
  blk_point [iblk, idx t]

theorem q_at (c : Dev nD) (t : Fin cfg0.N) (R : Fin 192) (p : Fin 3584) :
    (iblk m c 3 t : FVec Ideal S192x3584 .f32) (ix2 R p) = m ((c : Thread nD τ).loc main_arg7) (ix2 R (⟨(t : ℕ) * 3584 + (p : ℕ), by have := steps t; omega⟩ : Fin 50176)) := by
  blk_point [iblk, idx t]

theorem k_at (c : Dev nD) (t : Fin cfg0.N) (R : Fin 192) (p : Fin 3584) :
    (iblk m c 4 t : FVec Ideal S192x3584 .f32) (ix2 R p) = m ((c : Thread nD τ).loc main_arg8) (ix2 R (⟨(t : ℕ) * 3584 + (p : ℕ), by have := steps t; omega⟩ : Fin 50176)) := by
  blk_point [iblk, idx t]

open Idealize.ShloMosaic.StableHlo in
/-- The parameters the kernel is handed. -/
theorem params_eq (c : Dev nD) : V m c main_v1 = concatenate S8 0 [⟨S4, shapeCast S4 (m ((c : Thread nD τ).loc main_arg0)) shapeCasts_S4x1x1_S4⟩, ⟨S1, (m ((c : Thread nD τ).loc main_arg1))⟩, ⟨S1, (m ((c : Thread nD τ).loc main_arg2))⟩, ⟨S1, (m ((c : Thread nD τ).loc main_arg3))⟩, ⟨S1, (m ((c : Thread nD τ).loc main_arg4))⟩] concatenates_S4_S1_S1_S1_S1_S8_d0 := by
  show after (hostOps0 (F := Ideal)) _ _ = _
  simp only [hostOps0]
  after_results_simp
  rfl

theorem c_at (c : Dev nD) (t : Fin cfg0.N) (i : Fin 8) : (iblk m c 0 t : FVec Ideal S8 .f32) (ix1 i) = V m c main_v1 (ix1 i) := by
  blk_simp [iblk, idx t]
  blk_ext
  all_goals (rw [(idx t).1]; simp)

theorem params_at (A : FVec Ideal S4x1x1 .f32) (B C D E : FVec Ideal S1 .f32) :
    let P : FVec Ideal S8 .f32 := concatenate S8 0 [⟨S4, shapeCast S4 A shapeCasts_S4x1x1_S4⟩, ⟨S1, B⟩, ⟨S1, C⟩, ⟨S1, D⟩, ⟨S1, E⟩] concatenates_S4_S1_S1_S1_S1_S8_d0
    (P (ix1 0) = A (ix3 (0 : Fin 4) (0 : Fin 1) (0 : Fin 1)) ∧ P (ix1 1) = A (ix3 (1 : Fin 4) (0 : Fin 1) (0 : Fin 1)) ∧ P (ix1 2) = A (ix3 (2 : Fin 4) (0 : Fin 1) (0 : Fin 1)) ∧ P (ix1 3) = A (ix3 (3 : Fin 4) (0 : Fin 1) (0 : Fin 1)))
      ∧ P (ix1 4) = B (ix1 0) ∧ P (ix1 5) = C (ix1 0) ∧ P (ix1 6) = D (ix1 0) ∧ P (ix1 7) = E (ix1 0) := by
  refine ⟨⟨?_, ?_, ?_, ?_⟩, ?_, ?_, ?_, ?_⟩
  · pointwise
  · pointwise
  · pointwise
  · pointwise
  · pointwise
  · pointwise
  · pointwise
  · pointwise

/-- One block's unit rows of queries are the reference's. -/
theorem unit_q (c : Dev nD) (t : Fin cfg0.N) (R : Fin 192) (p : Fin 3584) :
    k0_pay67 (F := Ideal) (iblk m c 1 t) (iblk m c 3 t) (ix2 R p)
      = Cert.ChannelRef.unit (m ((c : Thread nD τ).loc main_arg5)) (m ((c : Thread nD τ).loc main_arg7)) R (⟨(t : ℕ) * 3584 + (p : ℕ), by have := steps t; omega⟩ : Fin 50176) := by
  unfold Cert.ChannelRef.unit
  rw [← sq_at m c t R 0, ← q_at m c t R p]
  generalize iblk m c 1 t = s
  generalize iblk m c 3 t = q
  pointwise [k0_pay67]

/-- One block's unit rows of keys are the reference's. -/
theorem unit_k (c : Dev nD) (t : Fin cfg0.N) (R : Fin 192) (p : Fin 3584) :
    k0_pay68 (F := Ideal) (iblk m c 2 t) (iblk m c 4 t) (ix2 R p)
      = Cert.ChannelRef.unit (m ((c : Thread nD τ).loc main_arg6)) (m ((c : Thread nD τ).loc main_arg8)) R (⟨(t : ℕ) * 3584 + (p : ℕ), by have := steps t; omega⟩ : Fin 50176) := by
  unfold Cert.ChannelRef.unit
  rw [← sk_at m c t R 0, ← k_at m c t R p]
  generalize iblk m c 2 t = s
  generalize iblk m c 4 t = q
  pointwise [k0_pay68]

/-- The column of keys an entry of the table multiplies. -/
def mate (y : S192x48.Idx) : Fin 192 := ⟨(y 0 : ℕ) / 48 * 48 + (y 1 : ℕ), by have h : (y 0 : ℕ) < 192 := (y 0).isLt; have h' : (y 1 : ℕ) < 48 := (y 1).isLt; omega⟩

/-- The product under an entry of the table at one of the 50176 columns. -/
def prod (c : Dev nD) (y : S192x48.Idx) (p : Fin 50176) : EReal :=
  Cert.ChannelRef.unit (m ((c : Thread nD τ).loc main_arg5)) (m ((c : Thread nD τ).loc main_arg7)) (y 0) p * Cert.ChannelRef.unit (m ((c : Thread nD τ).loc main_arg6)) (m ((c : Thread nD τ).loc main_arg8)) (mate y) p

/-- The sum over one block of columns, zero past the last. -/
def blockSum (f : Fin 50176 → EReal) (b : ℕ) : EReal := if h : b < 14 then ∑ p : Fin 3584, f ⟨b * 3584 + (p : ℕ), by omega⟩ else 0

/-- The blocks make the whole row. -/
theorem blockSum_sum (f : Fin 50176 → EReal) : ∑ b ∈ Finset.range 14, blockSum f b = ∑ p, f p := by
  rw [← Fin.sum_univ_eq_sum_range (blockSum f) 14, ← (finProdFinEquiv (m := 14) (n := 3584)).sum_comp, Fintype.sum_prod_type]
  refine Finset.sum_congr rfl fun b _ => ?_
  unfold blockSum
  rw [dif_pos b.isLt]
  refine Finset.sum_congr rfl fun i _ => congrArg f (Fin.ext ?_)
  show (b : ℕ) * 3584 + (i : ℕ) = (i : ℕ) + 3584 * (b : ℕ)
  omega

theorem inc_eq (c : Dev nD) (t : Fin cfg0.N) (y : S192x48.Idx) :
    inc (k0_pay67 (F := Ideal) (iblk m c 1 t) (iblk m c 3 t)) (k0_pay68 (F := Ideal) (iblk m c 2 t) (iblk m c 4 t)) y = blockSum (prod m c y) (t : ℕ) := by
  unfold inc blockSum prod
  rw [dif_pos (steps t)]
  refine Finset.sum_congr rfl fun p _ => ?_
  exact congrArg₂ (· * ·) (unit_q m c t (y 0) p) (unit_k m c t (mate y) p)

theorem zero_at (y : S192x48.Idx) : (k0_pay66 (F := Ideal) y : EReal) = 0 := by
  pointwise [k0_pay66]

/-- What the running table holds after each point but the last. -/
theorem running (c : Dev nD) (y : S192x48.Idx) : ∀ (n : ℕ) (h : n < 13) (hN : n < cfg0.N), ((outsAt0 m c n hN).2 y : EReal) = ∑ b ∈ Finset.range (n + 1), blockSum (prod m c y) b
  | 0, h, hN => by
    refine (accA m c ⟨0, hN⟩ (by dsimp only) (by dsimp only; omega) y).trans ?_
    unfold acc
    rw [inc_eq, zero_at, Finset.sum_range_one, zero_add]
  | n + 1, h, hN => by
    refine (accB m c ⟨n + 1, hN⟩ (by dsimp only; omega) (by dsimp only; omega) y).trans ?_
    unfold acc
    rw [inc_eq, Finset.sum_range_succ _ (n + 1)]
    exact congrArg (· + _) (running c y n (by omega) (by omega))

/-- The table the last point scales. -/
theorem whole (c : Dev nD) (t : Fin cfg0.N) (ht : (t : ℕ) = 13) (y : S192x48.Idx) :
    (acc (outsAt0 m c (t.val - 1) (Nat.lt_of_le_of_lt (Nat.sub_le _ _) t.isLt)).2
      (k0_pay67 (F := Ideal) (iblk m c 1 t) (iblk m c 3 t)) (k0_pay68 (F := Ideal) (iblk m c 2 t) (iblk m c 4 t)) y : EReal) = ∑ p, prod m c y p := by
  unfold acc
  rw [inc_eq, running m c y (t.val - 1) (by omega), ← blockSum_sum, ht]
  exact (Finset.sum_range_succ _ 13).symm

/-- The scaled table, entry by entry. -/
theorem mat_at (Y : FVec Ideal S192x48 .f32) (P : Fin 4 → EReal) (r : Fin 192) (l : Fin 64) :
    mat Y (P 0) (P 1) (P 2) (P 3) (ix2 r l) = if h : (l : ℕ) < 48 then Y (ix2 r ⟨l, h⟩) * P ⟨(r : ℕ) / 48, by omega⟩ else ⊥ := by
  pointwise [mat, k0_pay4]
  have hr := r.isLt
  by_cases h : (l : ℕ) < 48
  · rw [dif_pos h, dif_pos h]
    by_cases h0 : (r : ℕ) < 48
    · rw [dif_pos h0]
      refine Ideal.mul_congr ((tile_at _ _ _ _).trans (congrArg Y (ix2_ext _ _ _ _ ?_ rfl))) (congrArg P (Fin.ext ?_))
      · show 0 + (r : ℕ) = r
        omega
      · show 0 = (r : ℕ) / 48
        omega
    rw [dif_neg h0]
    by_cases h1 : (r : ℕ) - 48 < 48
    · rw [dif_pos h1]
      refine Ideal.mul_congr ((tile_at _ _ _ _).trans (congrArg Y (ix2_ext _ _ _ _ ?_ rfl))) (congrArg P (Fin.ext ?_))
      · show 48 + ((r : ℕ) - 48) = r
        omega
      · show 1 = (r : ℕ) / 48
        omega
    rw [dif_neg h1]
    by_cases h2 : (r : ℕ) - 48 - 48 < 48
    · rw [dif_pos h2]
      refine Ideal.mul_congr ((tile_at _ _ _ _).trans (congrArg Y (ix2_ext _ _ _ _ ?_ rfl))) (congrArg P (Fin.ext ?_))
      · show 96 + ((r : ℕ) - 48 - 48) = r
        omega
      · show 2 = (r : ℕ) / 48
        omega
    rw [dif_neg h2]
    refine Ideal.mul_congr ((tile_at _ _ _ _).trans (congrArg Y (ix2_ext _ _ _ _ ?_ rfl))) (congrArg P (Fin.ext ?_))
    · show 144 + ((r : ℕ) - 48 - 48 - 48) = r
      omega
    · show 3 = (r : ℕ) / 48
      omega
  · rw [dif_neg h, dif_neg h]
    exact fill_word

end Cert.ChannelProof

end
-- ==== Proof.Channel.Value.lean ====
module

public import proofs.«01_k».proof.Proof.Gen.ChannelIdeal.Frame
public import proofs.«01_k».proof.Proof.Channel.Blocks
public import proofs.«01_k».proof.Proof.Channel.Ref
public import proofs.«01_k».proof.Proof.Channel.Rank
public import Idealize.ShloMosaic.Lib.Pipeline.ValueKit
public import Idealize.ShloMosaic.Lib.Pipeline.ReadBack

@[expose] public section

set_option maxRecDepth 16384

noncomputable section

namespace Cert.ChannelProof

open Idealize.ShloMosaic Idealize.ShloMosaic.TcCoe Idealize.SL.Sem
open Idealize.ShloMosaic.Pipeline (Dat)
open Cert.ChannelIdeal Cert.ChannelIdeal.Gen

open Cert.Select

variable (m : (ℓ : Loc nD τ sig) → Buf (Elt Ideal) ℓ)

/-- The small constant under the norms is a positive real. -/
theorem eps_real : ∃ ε : ℝ, 0 < ε ∧ Ideal.ofBits FTy.f32 0x2B8CBCCC#32 = (ε : EReal) := by
  refine ⟨9223372 * 2 ^ (-63 : ℤ), by positivity, ?_⟩
  simp [Ideal.ofBits, Ideal.ieee]

/-- A real entry over the larger of a root and a positive real is real, whatever stands under the root. -/
theorem unit_real (s : FVec Ideal S192x1 .f32) (q : FVec Ideal S192x50176 .f32) (hq : ∀ R p, ∃ r : ℝ, q (ix2 R p) = (r : EReal)) :
    ∃ U : Fin 192 → Fin 50176 → ℝ, ∀ R p, Cert.ChannelRef.unit s q R p = (U R p : EReal) := by
  obtain ⟨ε, hε, he⟩ := eps_real
  choose Q hQ using hq
  have h : ∀ R p, ∃ u : ℝ, Cert.ChannelRef.unit s q R p = (u : EReal) := fun R p => by
    unfold Cert.ChannelRef.unit
    rw [he, hQ]
    generalize Ideal.sqrt (s (ix2 R 0)) = z
    induction z using EReal.rec with
    | bot =>
      rw [max_eq_right bot_le]
      exact ⟨_, div_real _ _ (ne_of_gt hε)⟩
    | coe z =>
      rw [← EReal.coe_strictMono.monotone.map_max]
      exact ⟨_, div_real _ _ (ne_of_gt (lt_max_of_lt_right hε))⟩
    | top =>
      refine ⟨0, ?_⟩
      rw [max_eq_left le_top]
      unfold Ideal.div
      rw [if_neg (by simp), EReal.inv_top, mul_zero, EReal.coe_zero]
  choose U hU using h
  exact ⟨U, hU⟩

/-- A scaled sum of products of reals, term by term. -/
theorem sum_scaled {n : ℕ} (f g : Fin n → EReal) (F G : Fin n → ℝ) (t : EReal) (T : ℝ) (hf : ∀ p, f p = (F p : EReal)) (hg : ∀ p, g p = (G p : EReal)) (ht : t = (T : EReal)) :
    (∑ p, f p * g p) * t = (((∑ p, F p * G p) * T : ℝ) : EReal) := by
  rw [ht, ← score_real]
  exact congrArg (· * _) (Finset.sum_congr rfl fun p _ => by rw [hf, hg])

/-- With real temperatures, queries and keys, what the last point leaves is the reference's result. -/
theorem point (c : Dev nD) (t : Fin cfg0.N) (ht : (t : ℕ) = 13) (y : S192x48.Idx)
    (hT : ∀ h : Fin 4, ∃ r : ℝ, m ((c : Thread nD τ).loc main_arg0) (ix3 h (0 : Fin 1) (0 : Fin 1)) = (r : EReal))
    (hq : ∀ R p, ∃ r : ℝ, m ((c : Thread nD τ).loc main_arg7) (ix2 R p) = (r : EReal))
    (hk : ∀ R p, ∃ r : ℝ, m ((c : Thread nD τ).loc main_arg8) (ix2 R p) = (r : EReal)) :
    ((outsAt0 m c t.val t.isLt).1 y : EReal) = Cert.ChannelRef.result (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) y := by
  choose T hT using hT
  obtain ⟨U, hU⟩ := unit_real (m ((c : Thread nD τ).loc main_arg5)) (m ((c : Thread nD τ).loc main_arg7)) hq
  obtain ⟨W, hW⟩ := unit_real (m ((c : Thread nD τ).loc main_arg6)) (m ((c : Thread nD τ).loc main_arg8)) hk
  have h0 : (y 0 : ℕ) < 192 := (y 0).isLt
  have h1 : (y 1 : ℕ) < 48 := (y 1).isLt
  have hp := fun i => c_at m c t i
  have hv := params_at (m ((c : Thread nD τ).loc main_arg0)) (m ((c : Thread nD τ).loc main_arg1)) (m ((c : Thread nD τ).loc main_arg2)) (m ((c : Thread nD τ).loc main_arg3)) (m ((c : Thread nD τ).loc main_arg4))
  simp only [params_eq] at hp
  obtain ⟨⟨v0, v1, v2, v3⟩, v4, v5, v6, v7⟩ := hv
  obtain ⟨α, hα⟩ : ∃ α : Fin 48 → ℝ, ∀ j, α j = (∑ p : Fin 50176, U (y 0) p * W (Cert.ChannelRef.row ⟨(y 0 : ℕ) / 48, by omega⟩ j) p) * T ⟨(y 0 : ℕ) / 48, by omega⟩ := ⟨fun j => _, fun j => rfl⟩
  have hy : y = ix2 (y 0) (y 1) := by
    funext d
    fin_cases d <;> rfl
  refine (outC m c t (by omega) (by omega) y).trans ?_
  rw [(hp 0).trans v0, (hp 1).trans v1, (hp 2).trans v2, (hp 3).trans v3, (hp 4).trans v4, (hp 5).trans v5, (hp 6).trans v6, (hp 7).trans v7]
  have hA : ∀ l, mat (acc (outsAt0 m c (t.val - 1) (Nat.lt_of_le_of_lt (Nat.sub_le _ _) t.isLt)).2
      (k0_pay67 (F := Ideal) (iblk m c 1 t) (iblk m c 3 t)) (k0_pay68 (F := Ideal) (iblk m c 2 t) (iblk m c 4 t)))
      ((m ((c : Thread nD τ).loc main_arg0)) (ix3 (0 : Fin 4) (0 : Fin 1) (0 : Fin 1))) ((m ((c : Thread nD τ).loc main_arg0)) (ix3 (1 : Fin 4) (0 : Fin 1) (0 : Fin 1)))
      ((m ((c : Thread nD τ).loc main_arg0)) (ix3 (2 : Fin 4) (0 : Fin 1) (0 : Fin 1))) ((m ((c : Thread nD τ).loc main_arg0)) (ix3 (3 : Fin 4) (0 : Fin 1) (0 : Fin 1))) (ix2 (y 0) l) = wide α l := fun l => by
    refine (mat_at _ (fun h => (m ((c : Thread nD τ).loc main_arg0)) (ix3 h (0 : Fin 1) (0 : Fin 1))) (y 0) l).trans ?_
    unfold wide
    by_cases hl : (l : ℕ) < 48
    · rw [dif_pos hl, dif_pos hl, whole m c t ht, hα]
      unfold prod
      exact sum_scaled _ _ _ _ _ _ (fun p => hU _ p) (fun p => hW _ p) (hT _)
    · rw [dif_neg hl, dif_neg hl]
  have hR := Cert.ChannelRef.result_real (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ⟨(y 0 : ℕ) / 48, by omega⟩ ⟨(y 0 : ℕ) % 48, by omega⟩ (y 1) y rfl rfl rfl α (fun j => ?_)
  · refine Eq.trans ?_ hR.symm
    refine (congrArg (pm _ _ _ _ _) hy).trans ?_
    exact pm_eq _ (y 0) α hA _ _ _ _ (y 1)
  · have e : Cert.ChannelRef.row ⟨(y 0 : ℕ) / 48, by omega⟩ ⟨(y 0 : ℕ) % 48, by omega⟩ = (y 0 : Fin 192) := Fin.ext (by unfold Cert.ChannelRef.row; dsimp only; omega)
    rw [hα, e]
    exact sum_scaled _ _ _ _ _ _ (fun p => hU _ p) (fun p => hW _ p) (hT _)

/-- The array the kernel leaves is the reference's. -/
theorem final (c : Dev nD) (hT : ∀ h : Fin 4, ∃ r : ℝ, m ((c : Thread nD τ).loc main_arg0) (ix3 h (0 : Fin 1) (0 : Fin 1)) = (r : EReal))
    (hq : ∀ R p, ∃ r : ℝ, m ((c : Thread nD τ).loc main_arg7) (ix2 R p) = (r : EReal))
    (hk : ∀ R p, ∃ r : ℝ, m ((c : Thread nD τ).loc main_arg8) (ix2 R p) = (r : EReal)) :
    (dats m 0 c).arrAt 5 (cfgs 0).N = Cert.ChannelRef.result (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) := by
  refine (dats m 0 c).arrAt_eq_of_covers 5 _ (by decide +kernel) fun t hf y => ?_
  have ht : (t : ℕ) = 13 := (by decide +kernel : ∀ t : Fin grid0.N, win0_5.flush t = true → t.val = 13) t hf
  blk_simp
  rw [after0_5]
  have e : ((cfg0.win 5).blk t).view.emb y = y := by
    funext d
    fin_cases d <;> (apply Fin.ext; blk_simp [idx t])
  refine (point m c t ht y hT hq hk).trans ?_
  exact congrArg _ e.symm

end Cert.ChannelProof

end
-- ==== Proof.Channel.Claims.lean ====
module

public import proofs.«01_k».proof.Defs
public import proofs.«01_k».proof.Proof.Gen.Channel.Frame
public import proofs.«01_k».proof.Proof.Gen.ChannelIdeal.Frame
public import proofs.«01_k».proof.Proof.Gen.ChannelRefIdeal.Run
public import proofs.«01_k».proof.Proof.Channel.Value
public import Idealize.ShloMosaic.Lib.Claim
public import Idealize.ShloMosaic.Adequacy
public import Idealize.ShloMosaic.Init

@[expose] public section

set_option maxRecDepth 16384

noncomputable section

namespace Cert.ChannelProof

open Idealize.ShloMosaic Idealize.SL.Sem

/-- The precondition's program is well formed. -/
theorem pre_facts : Cert.Pre_finite4.Facts := ⟨by decide, by decide⟩

theorem ref_frame : Cert.quiescent_ChannelRefIdeal (hChannelRefIdeal := Cert.ChannelRefIdeal.Gen.facts) := by
  intro m g _
  refine (θ_run Cert.ChannelRefIdeal.defs _ _).mono (fun r h => ⟨fun c => (h c).2, sem_eq_zero_of_no_sems (by decide) r.2⟩)
    (Cert.ChannelRefIdeal.Value.run (F := Ideal) m g)

section
open Cert.ChannelRefIdeal Cert.ChannelRefIdeal.Gen Cert.ChannelRefIdeal.Value Cert.ChannelRef
variable (V0 : Valuation τ sig (Elt Ideal))
theorem e15 : res_main_v15 V0 = scores (V0 (Proc.devRef .tc main_arg5)) (V0 (Proc.devRef .tc main_arg6)) (V0 (Proc.devRef .tc main_arg7)) (V0 (Proc.devRef .tc main_arg8)) (V0 (Proc.devRef .tc main_arg0)) := rfl
theorem e40 : res_main_v40 V0 = keep24 (res_main_v15 V0) := rfl
theorem e76 : res_main_v76 V0 = keep32 (res_main_v15 V0) := rfl
theorem e112 : res_main_v112 V0 = keep36 (res_main_v15 V0) := rfl
theorem e148 : res_main_v148 V0 = keep38 (res_main_v15 V0) := rfl
theorem e47 : res_main_v47 V0 = exps (res_main_v40 V0) := rfl
theorem e83 : res_main_v83 V0 = exps (res_main_v76 V0) := rfl
theorem e119 : res_main_v119 V0 = exps (res_main_v112 V0) := rfl
theorem e155 : res_main_v155 V0 = exps (res_main_v148 V0) := rfl

/-- What the reference ends with. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v175) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨(h c).1.trans ?_, (h c).2⟩) (Cert.ChannelRefIdeal.Value.run (F := Ideal) m ρ)
  rw [e47, e83, e119, e155, e40, e76, e112, e148, e15]
  rfl
end

/-- An entry whose absolute value lies below infinity is real. -/
theorem real_at {S : Shape} (x b : FVec Ideal S .f32) (hb : ∀ i, b i = (⊤ : EReal)) (h : cmpf .olt (Host.absf x) b = fun _ => 1#1) (i : S.Idx) : ∃ r : ℝ, x i = (r : EReal) := by
  have e := congrFun h i
  change BitVec.ofBool (decide (max (x i : EReal) (-(x i : EReal)) < b i)) = 1#1 at e
  rw [hb] at e
  refine Cert.Select.real_of_finite (x := x i) ?_
  by_contra hn
  rw [decide_eq_false hn] at e
  exact absurd e (by decide)

theorem inf_word : Ideal.ofBits FTy.f32 0x7F800000#32 = (⊤ : EReal) := by
  simp [Ideal.ofBits, Ideal.ieee]

/-- The precondition says the temperatures, the queries and the keys are real. -/
theorem pre_real (m : (ℓ : Loc Cert.ChannelIdeal.nD Cert.ChannelIdeal.τ Cert.ChannelIdeal.sig) → Buf (Elt Ideal) ℓ)
    (h : Cert.Pre_ChannelIdeal_finite4 (hPre_finite4 := pre_facts) m) (c : Dev Cert.ChannelIdeal.nD) :
    (∀ i : Fin 4, ∃ r : ℝ, m ((c.tc : Thread Cert.ChannelIdeal.nD Cert.ChannelIdeal.τ).loc Cert.ChannelIdeal.main_arg0) (ix3 i (0 : Fin 1) (0 : Fin 1)) = (r : EReal))
    ∧ (∀ (R : Fin 192) (p : Fin 50176), ∃ r : ℝ, m ((c.tc : Thread Cert.ChannelIdeal.nD Cert.ChannelIdeal.τ).loc Cert.ChannelIdeal.main_arg7) (ix2 R p) = (r : EReal))
    ∧ (∀ (R : Fin 192) (p : Fin 50176), ∃ r : ℝ, m ((c.tc : Thread Cert.ChannelIdeal.nD Cert.ChannelIdeal.τ).loc Cert.ChannelIdeal.main_arg8) (ix2 R p) = (r : EReal)) := by
  obtain ⟨h0, h1, h2⟩ := h c
  exact ⟨fun i => real_at _ _ (fun _ => inf_word) h0 _, fun R p => real_at _ _ (fun _ => inf_word) h1 (ix2 R p), fun R p => real_at _ _ (fun _ => inf_word) h2 (ix2 R p)⟩

set_option maxHeartbeats 2000000 in
theorem algebraic : Cert.algebraic_ChannelIdeal_ChannelRefIdeal_pre_finite4
    (hChannelIdeal := Cert.ChannelIdeal.Gen.facts) (hChannelRefIdeal := Cert.ChannelRefIdeal.Gen.facts) (hPre_finite4 := pre_facts) := by
  pair_intro
  · run_from Cert.ChannelIdeal.Gen.run_main m g & Cert.ChannelIdeal.Gen.unchanged m g
  · run_from ref_run m' g'
    obtain ⟨hT, hq, hk⟩ := pre_real m hpre c
    exact (final m c hT hq hk).symm

end Cert.ChannelProof

end
-- ==== Proof.Project.Value.lean ====
module

public import proofs.«01_k».proof.Proof.Gen.ProjectIdeal.Frame
public import proofs.«01_k».proof.Proof.Gen.ProjectRefIdeal
public import Idealize.ShloMosaic.Lib.Pipeline.ValueKit

@[expose] public section

set_option maxRecDepth 16384

noncomputable section

namespace Cert.ProjectProof

open Idealize.ShloMosaic Idealize.ShloMosaic.TcCoe Idealize.SL.Sem
open Idealize.ShloMosaic.Pipeline (Dat)
open Cert.ProjectIdeal Cert.ProjectIdeal.Gen

variable (m : (ℓ : Loc nD τ sig) → Buf (Elt Ideal) ℓ)

/-- The projection as the reference composes it: the weight times the sum of the spatial and the channel output. -/
def project (P : FVec Ideal S192x48 .f32) (W : FVec Ideal S192x50176 .bf16) (X : FVec Ideal S192x50176 .f32)
    (A : FVec Ideal S192x192x1x1 .f32) : FVec Ideal S192x50176 .f32 :=
  Host.dotGeneral Cert.ProjectRefIdeal.dot_S192x192_S192x50176_S192x50176_1_0_0_1_n_n none
    (shapeCast _ A Cert.ProjectRefIdeal.Gen.shapeCasts_S192x192x1x1_S192x192)
    (addf X (shapeCast _
      (Host.dotGeneral Cert.ProjectRefIdeal.dot_S4x48x48_S4x48x50176_S4x48x50176_2_1_1_2_0_0 none
        (shapeCast _ P Cert.ProjectRefIdeal.Gen.shapeCasts_S192x48_S4x48x48)
        (shapeCast _ (extf .f32 W Cert.ProjectRefIdeal.Gen.bitsLt_bf16_f32)
          Cert.ProjectRefIdeal.Gen.shapeCasts_S192x50176_S4x48x50176))
      Cert.ProjectRefIdeal.Gen.shapeCasts_S4x48x50176_S192x50176))

set_option maxHeartbeats 1600000 in
/-- One block of the result: over the 192 channels, the weight times the sum of the channel output (the head's 48
    by 48 weights times its values) and the spatial output. -/
theorem block_at (p : FVec Ideal S192x48 .f32) (w : FVec Ideal S192x3584 .bf16) (x : FVec Ideal S192x3584 .f32)
    (a : FVec Ideal S192x192 .f32) (y : S192x3584.Idx) :
    out0_4 (F := Ideal) p w x a y = ∑ k : Fin 192, a (ix2 (y 0) k)
      * ((∑ d : Fin 48, p (ix2 k d) * w (ix2 ⟨k / 48 * 48 + d, by omega⟩ (y 1))) + x (ix2 k (y 1))) := by
  unfold_out out0_4
  canon_tiles u h
  all_goals
    open_payloads
    pointwise
    refine Finset.sum_congr rfl fun k _ => ?_
    refine Ideal.mul_congr (by blk_ext) ?_
    by_cases k1 : (k : ℕ) < 48
    · rw [dif_pos k1]; blk_point []
    rw [dif_neg k1]
    by_cases k2 : (k : ℕ) - 48 < 48
    · rw [dif_pos k2]; blk_point []
    rw [dif_neg k2]
    by_cases k3 : (k : ℕ) - 48 - 48 < 48
    · rw [dif_pos k3]; blk_point []
    rw [dif_neg k3]; blk_point []

/-- Where each window's block sits: weights whole, the images and the result by blocks of 3584 columns. -/
theorem idx : ∀ t : Fin cfg0.N, win0_0.index t = ![0, 0] ∧ win0_1.index t = ![0, t.val] ∧ win0_2.index t = ![0, t.val]
    ∧ win0_3.index t = ![0, 0] ∧ win0_4.index t = ![0, t.val] :=
  (by decide +kernel : ∀ t : Fin grid0.N, _)

/-- What the body leaves at position `y` of block `t` is the projection at the array index where `y` sits. -/
theorem point (c : Dev nD) (t : Fin cfg0.N) (y : S192x3584.Idx) :
    out0_4 (iblk m c 0 t) (iblk m c 1 t) (iblk m c 2 t) (iblk m c 3 t) y
      = project (m ((c : Thread nD τ).loc main_arg0)) (m ((c : Thread nD τ).loc main_arg1))
        (m ((c : Thread nD τ).loc main_arg2)) (m ((c : Thread nD τ).loc main_arg3)) (((cfg0.win 4).blk t).view.emb y) := by
  rw [block_at]
  pointwise [project]
  blk_point [iblk, idx t]
  all_goals (first | done | (entry_read; pointwise; blk_ext [idx t]))

/-- The array the kernel leaves is the projection. -/
theorem final (c : Dev nD) : (dats m 0 c).arrAt 4 (cfgs 0).N
    = project (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Cert.ProjectProof

end
-- ==== Proof.lean ====
module

public import proofs.«01_k».proof.Defs
public import proofs.«01_k».proof.Proof.Gen.Pointwise1x1.Frame
public import proofs.«01_k».proof.Proof.Gen.Pointwise1x1Ideal.Frame
public import proofs.«01_k».proof.Proof.Gen.Pointwise1x1RefIdeal.Run
public import proofs.«01_k».proof.Proof.Gen.Depthwise.Frame
public import proofs.«01_k».proof.Proof.Gen.DepthwiseIdeal.Frame
public import proofs.«01_k».proof.Proof.Gen.DepthwiseRefIdeal.Run
public import proofs.«01_k».proof.Proof.Gen.Spatial.Frame
public import proofs.«01_k».proof.Proof.Gen.SpatialIdeal.Frame
public import proofs.«01_k».proof.Proof.Gen.SpatialRefIdeal.Run
public import proofs.«01_k».proof.Proof.Gen.Channel.Frame
public import proofs.«01_k».proof.Proof.Gen.ChannelIdeal.Frame
public import proofs.«01_k».proof.Proof.Gen.ChannelRefIdeal.Run
public import proofs.«01_k».proof.Proof.Gen.Project.Frame
public import proofs.«01_k».proof.Proof.Gen.ProjectIdeal.Frame
public import proofs.«01_k».proof.Proof.Gen.ProjectRefIdeal.Run
public import proofs.«01_k».proof.Proof.Conv.Value
public import proofs.«01_k».proof.Proof.Depthwise.Claims
public import proofs.«01_k».proof.Proof.Spatial.Claims
public import proofs.«01_k».proof.Proof.Channel.Claims
public import proofs.«01_k».proof.Proof.Project.Value
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem conv_ref_frame : Cert.quiescent_Pointwise1x1RefIdeal (hPointwise1x1RefIdeal := Cert.Pointwise1x1RefIdeal.Gen.facts) := by
  intro m g _
  refine (θ_run Cert.Pointwise1x1RefIdeal.defs _ _).mono (fun r h => ⟨fun c => (h c).2, sem_eq_zero_of_no_sems (by decide) r.2⟩)
    (Cert.Pointwise1x1RefIdeal.Value.run (F := Ideal) m g)

theorem conv_algebraic : Cert.algebraic_Pointwise1x1Ideal_Pointwise1x1RefIdeal
    (hPointwise1x1Ideal := Cert.Pointwise1x1Ideal.Gen.facts) (hPointwise1x1RefIdeal := Cert.Pointwise1x1RefIdeal.Gen.facts) := by
  pair_intro
  · run_from Cert.Pointwise1x1Ideal.Gen.run_main m g
  · hlo_run
    exact (Cert.ConvProof.final m c).symm

theorem project_ref_frame : Cert.quiescent_ProjectRefIdeal (hProjectRefIdeal := Cert.ProjectRefIdeal.Gen.facts) := by
  intro m g _
  refine (θ_run Cert.ProjectRefIdeal.defs _ _).mono (fun r h => ⟨fun c => (h c).2, sem_eq_zero_of_no_sems (by decide) r.2⟩)
    (Cert.ProjectRefIdeal.Value.run (F := Ideal) m g)

theorem project_algebraic : Cert.algebraic_ProjectIdeal_ProjectRefIdeal
    (hProjectIdeal := Cert.ProjectIdeal.Gen.facts) (hProjectRefIdeal := Cert.ProjectRefIdeal.Gen.facts) := by
  pair_intro
  · run_from Cert.ProjectIdeal.Gen.run_main m g
  · hlo_run
    exact (Cert.ProjectProof.final m c).symm

theorem claim : Cert.Claim := ⟨Cert.Pointwise1x1.Gen.facts, Cert.Pointwise1x1Ideal.Gen.facts, Cert.Pointwise1x1RefIdeal.Gen.facts,
  Cert.Depthwise.Gen.facts, Cert.DepthwiseIdeal.Gen.facts, Cert.DepthwiseRefIdeal.Gen.facts,
  Cert.Spatial.Gen.facts, Cert.SpatialIdeal.Gen.facts, Cert.SpatialRefIdeal.Gen.facts,
  Cert.Channel.Gen.facts, Cert.ChannelIdeal.Gen.facts, Cert.ChannelRefIdeal.Gen.facts,
  Cert.Project.Gen.facts, Cert.ProjectIdeal.Gen.facts, Cert.ProjectRefIdeal.Gen.facts, Cert.SpatialProof.pre_facts, Cert.ChannelProof.pre_facts,
  fun m ρ _ => Cert.Pointwise1x1.Gen.frame m ρ, fun m ρ _ => Cert.Pointwise1x1Ideal.Gen.frame m ρ, conv_ref_frame,
  fun m ρ _ => Cert.Depthwise.Gen.frame m ρ, fun m ρ _ => Cert.DepthwiseIdeal.Gen.frame m ρ, Cert.DepthwiseProof.ref_frame,
  fun m ρ _ => Cert.Spatial.Gen.frame m ρ, fun m ρ _ => Cert.SpatialIdeal.Gen.frame m ρ, fun m ρ _ => Cert.SpatialIdeal.Gen.frame m ρ,
  Cert.SpatialProof.ref_frame, fun m ρ _ => Cert.SpatialProof.ref_frame m ρ trivial,
  fun m ρ _ => Cert.Channel.Gen.frame m ρ, fun m ρ _ => Cert.ChannelIdeal.Gen.frame m ρ, fun m ρ _ => Cert.ChannelIdeal.Gen.frame m ρ,
  Cert.ChannelProof.ref_frame, fun m ρ _ => Cert.ChannelProof.ref_frame m ρ trivial,
  fun m ρ _ => Cert.Project.Gen.frame m ρ, fun m ρ _ => Cert.ProjectIdeal.Gen.frame m ρ, project_ref_frame,
  trivial, conv_algebraic, trivial, Cert.DepthwiseProof.algebraic, trivial, Cert.SpatialProof.algebraic, trivial, Cert.ChannelProof.algebraic, trivial, project_algebraic⟩

end Cert.Proof

end
